-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "exp2_scale" .f32 0x3DB8AA3B#32 (((1 / 16) * (Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S4x4x32x256 : Shape := ⟨4, ![4, 4, 32, 256]⟩
abbrev S4x4x2x256 : Shape := ⟨4, ![4, 4, 2, 256]⟩
abbrev S4x16384x2x256 : Shape := ⟨4, ![4, 16384, 2, 256]⟩
abbrev S4x2x256 : Shape := ⟨3, ![4, 2, 256]⟩
abbrev S4x16384x2 : Shape := ⟨3, ![4, 16384, 2]⟩
abbrev S4 : Shape := ⟨1, ![4]⟩
abbrev S_ : Shape := ⟨0, ![]⟩

class Facts : Prop where
  bcast_S_S4 : S_.BroadcastsInDim S4 (![] : Fin 0 → Fin S4.rank)
  bcast_S_S4x4x32x256 : S_.BroadcastsInDim S4x4x32x256 (![] : Fin 0 → Fin S4x4x32x256.rank)
  bcast_S_S4x4x2x256 : S_.BroadcastsInDim S4x4x2x256 (![] : Fin 0 → Fin S4x4x2x256.rank)
  bcast_S_S4x2x256 : S_.BroadcastsInDim S4x2x256 (![] : Fin 0 → Fin S4x2x256.rank)

variable [Facts]

def fn {F : FTy → Type} [FloatOps F] (main_arg0 : FVec F S4x4x32x256 .bf16) (main_arg1 : FVec F S4x4x2x256 .bf16) (main_arg2 : FVec F S4x4x2x256 .bf16) (main_arg3 : IVec S4x16384x2x256 8) (main_arg4 : FVec F S4x2x256 .f32) (main_arg5 : IVec S4x16384x2x256 8) (main_arg6 : FVec F S4x16384x2 .f32) (main_arg7 : IVec S4 32) : IVec S4 1 × IVec S4x4x32x256 1 × IVec S4x4x2x256 1 × IVec S4x2x256 1 :=
  let main_c : IVec S_ 32 := constantI S_ 32 1024#32
  let main_v0 : IVec S4 32 := broadcastInDim S4 ![] bcast_S_S4 main_c
  let main_v1 : IVec S4 1 := cmpi .sge main_arg7 main_v0
  let main_c_0 : IVec S_ 32 := constantI S_ 32 16384#32
  let main_v2 : IVec S4 32 := broadcastInDim S4 ![] bcast_S_S4 main_c_0
  let main_v3 : IVec S4 1 := cmpi .sle main_arg7 main_v2
  let main_v4 : IVec S4 1 := andi main_v1 main_v3
  let main_v5 : FVec F S4x4x32x256 .bf16 := Host.absf main_arg0
  let main_cst : FVec F S_ .bf16 := constant S_ .bf16 0x7F80#16
  let main_v6 : FVec F S4x4x32x256 .bf16 := broadcastInDim S4x4x32x256 ![] bcast_S_S4x4x32x256 main_cst
  let main_v7 : IVec S4x4x32x256 1 := cmpf .olt main_v5 main_v6
  let main_v8 : FVec F S4x4x2x256 .bf16 := Host.absf main_arg1
  let main_cst_1 : FVec F S_ .bf16 := constant S_ .bf16 0x7F80#16
  let main_v9 : FVec F S4x4x2x256 .bf16 := broadcastInDim S4x4x2x256 ![] bcast_S_S4x4x2x256 main_cst_1
  let main_v10 : IVec S4x4x2x256 1 := cmpf .olt main_v8 main_v9
  let main_v11 : FVec F S4x2x256 .f32 := Host.absf main_arg4
  let main_cst_2 : FVec F S_ .f32 := constant S_ .f32 0x7F800000#32
  let main_v12 : FVec F S4x2x256 .f32 := broadcastInDim S4x2x256 ![] bcast_S_S4x2x256 main_cst_2
  let main_v13 : IVec S4x2x256 1 := cmpf .olt main_v11 main_v12
  (main_v4, main_v7, main_v10, main_v13)
-- ==== Kernel.lean ====
abbrev S4x4x32x256 : Shape := ⟨4, ![4, 4, 32, 256]⟩
abbrev S4x4x2x256 : Shape := ⟨4, ![4, 4, 2, 256]⟩
abbrev S4x16384x2x256 : Shape := ⟨4, ![4, 16384, 2, 256]⟩
abbrev S4x2x256 : Shape := ⟨3, ![4, 2, 256]⟩
abbrev S4x16384x2 : Shape := ⟨3, ![4, 16384, 2]⟩
abbrev S4 : Shape := ⟨1, ![4]⟩
abbrev S4x2x16384x256 : Shape := ⟨4, ![4, 2, 16384, 256]⟩
abbrev S4x2x16384 : Shape := ⟨3, ![4, 2, 16384]⟩
abbrev S4x2x4x256 : Shape := ⟨4, ![4, 2, 4, 256]⟩
abbrev S4x2x4 : Shape := ⟨3, ![4, 2, 4]⟩
abbrev S4x2x1056x256 : Shape := ⟨4, ![4, 2, 1056, 256]⟩
abbrev S4x2x1152 : Shape := ⟨3, ![4, 2, 1152]⟩
abbrev S_ : Shape := ⟨0, ![]⟩
abbrev S4x2 : Shape := ⟨2, ![4, 2]⟩
abbrev S3 : Shape := ⟨1, ![3]⟩
abbrev S1 : Shape := ⟨1, ![1]⟩
abbrev S1x2x1152 : Shape := ⟨3, ![1, 2, 1152]⟩
abbrev S2x1152 : Shape := ⟨2, ![2, 1152]⟩
abbrev S1x1 : Shape := ⟨2, ![1, 1]⟩
abbrev S1x1x1056x256 : Shape := ⟨4, ![1, 1, 1056, 256]⟩
abbrev S1056x256 : Shape := ⟨2, ![1056, 256]⟩
abbrev S1x1x256 : Shape := ⟨3, ![1, 1, 256]⟩
abbrev S1x256 : Shape := ⟨2, ![1, 256]⟩
abbrev S1x4x1x256 : Shape := ⟨4, ![1, 4, 1, 256]⟩
abbrev S4x256 : Shape := ⟨2, ![4, 256]⟩
abbrev S1x1x4x256 : Shape := ⟨4, ![1, 1, 4, 256]⟩
abbrev S4x1 : Shape := ⟨2, ![4, 1]⟩
abbrev S4x4 : Shape := ⟨2, ![4, 4]⟩
abbrev S1x4 : Shape := ⟨2, ![1, 4]⟩
abbrev S1x1x4 : Shape := ⟨3, ![1, 1, 4]⟩
abbrev S64x1 : Shape := ⟨2, ![64, 1]⟩
abbrev S8x256 : Shape := ⟨2, ![8, 256]⟩
abbrev S1x128 : Shape := ⟨2, ![1, 128]⟩
abbrev S2x128 : Shape := ⟨2, ![2, 128]⟩
abbrev S2x896 : Shape := ⟨2, ![2, 896]⟩
abbrev S2x1024 : Shape := ⟨2, ![2, 1024]⟩
abbrev S64x128 : Shape := ⟨2, ![64, 128]⟩
abbrev S64x4 : Shape := ⟨2, ![64, 4]⟩
abbrev S1x4x16x256 : Shape := ⟨4, ![1, 4, 16, 256]⟩
abbrev S4x16x256 : Shape := ⟨3, ![4, 16, 256]⟩
abbrev S64x256 : Shape := ⟨2, ![64, 256]⟩
abbrev S32x256 : Shape := ⟨2, ![32, 256]⟩
abbrev S1x1x32x256 : Shape := ⟨4, ![1, 1, 32, 256]⟩
abbrev S1x1x1024x256 : Shape := ⟨4, ![1, 1, 1024, 256]⟩
abbrev S1024x256 : Shape := ⟨2, ![1024, 256]⟩
abbrev S64x1024 : Shape := ⟨2, ![64, 1024]⟩
abbrev S64x896 : Shape := ⟨2, ![64, 896]⟩
abbrev S64 : Shape := ⟨1, ![64]⟩
abbrev S1x1024 : Shape := ⟨2, ![1, 1024]⟩
abbrev S1x4x32x256 : Shape := ⟨4, ![1, 4, 32, 256]⟩
abbrev S4x32x256 : Shape := ⟨3, ![4, 32, 256]⟩
abbrev S4x4x2 : Shape := ⟨3, ![4, 4, 2]⟩

abbrev nBuf : Space → Nat
  | .hbm => 18
  | .vmem => 13
  | .smem => 1
  | _ => 0

abbrev bufTy : (tb : Table) → Fin (tcTables nBuf tb) → BufTy
  | .hbm, ⟨0, _⟩ => ⟨S4x4x32x256, .bf16⟩
  | .hbm, ⟨1, _⟩ => ⟨S4x4x2x256, .bf16⟩
  | .hbm, ⟨2, _⟩ => ⟨S4x4x2x256, .bf16⟩
  | .hbm, ⟨3, _⟩ => ⟨S4x16384x2x256, .i8⟩
  | .hbm, ⟨4, _⟩ => ⟨S4x2x256, .f32⟩
  | .hbm, ⟨5, _⟩ => ⟨S4x16384x2x256, .i8⟩
  | .hbm, ⟨6, _⟩ => ⟨S4x16384x2, .f32⟩
  | .hbm, ⟨7, _⟩ => ⟨S4, .i32⟩
  | .hbm, ⟨8, _⟩ => ⟨S4x2x16384x256, .i8⟩
  | .hbm, ⟨9, _⟩ => ⟨S4x2x16384x256, .i8⟩
  | .hbm, ⟨10, _⟩ => ⟨S4x2x16384, .f32⟩
  | .hbm, ⟨11, _⟩ => ⟨S4x4x32x256, .bf16⟩
  | .hbm, ⟨12, _⟩ => ⟨S4x2x4x256, .i8⟩
  | .hbm, ⟨13, _⟩ => ⟨S4x2x4x256, .i8⟩
  | .hbm, ⟨14, _⟩ => ⟨S4x2x4, .f32⟩
  | .hbm, ⟨15, _⟩ => ⟨S4x4x2x256, .i8⟩
  | .hbm, ⟨16, _⟩ => ⟨S4x4x2x256, .i8⟩
  | .hbm, ⟨17, _⟩ => ⟨S4x4x2, .f32⟩
  | .local _ .vmem, ⟨0, _⟩ => ⟨S4x4x32x256, .bf16⟩
  | .local _ .vmem, ⟨1, _⟩ => ⟨S4x4x2x256, .bf16⟩
  | .local _ .vmem, ⟨2, _⟩ => ⟨S4x4x2x256, .bf16⟩
  | .local _ .vmem, ⟨3, _⟩ => ⟨S4x2x256, .f32⟩
  | .local _ .vmem, ⟨4, _⟩ => ⟨S4x2x1056x256, .i8⟩
  | .local _ .vmem, ⟨5, _⟩ => ⟨S4x2x1056x256, .i8⟩
  | .local _ .vmem, ⟨6, _⟩ => ⟨S4x2x1152, .f32⟩
  | .local _ .vmem, ⟨7, _⟩ => ⟨S4x4x2x256, .f32⟩
  | .local _ .vmem, ⟨8, _⟩ => ⟨S4x4x2x256, .f32⟩
  | .local _ .vmem, ⟨9, _⟩ => ⟨S4x4x32x256, .bf16⟩
  | .local _ .vmem, ⟨10, _⟩ => ⟨S4x2x4x256, .i8⟩
  | .local _ .vmem, ⟨11, _⟩ => ⟨S4x2x4x256, .i8⟩
  | .local _ .vmem, ⟨12, _⟩ => ⟨S4x2x4, .f32⟩
  | .local _ .smem, ⟨0, _⟩ => ⟨S4, .i32⟩
  | _, _ => ⟨S4x4x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch0 : Ref sig .tc := ⟨.smem, 0, rfl⟩

abbrev nD : Nat := 1
abbrev τ : Topo := Topo.v7x

variable {F : FTy → Type} [FloatOps F]

abbrev grid0 : Pipeline.Grid := .none

def k0_mult1 (v8 : BitVec 32) : BitVec 32 :=
  let c15360_i32 : BitVec 32 := 15360#32
  let c0_i32_0 : BitVec 32 := 0#32
  let c1024_i32 : BitVec 32 := 1024#32
  let v9 : BitVec 32 := Scalar.subi v8 c1024_i32
  let v10 : BitVec 32 := Scalar.maxsi c0_i32_0 v9
  let v11 : BitVec 32 := Scalar.minsi c15360_i32 v10
  let c5_i32 : BitVec 32 := 5#32
  let v12 : BitVec 32 := Scalar.shrui v11 c5_i32
  let c5_i32_1 : BitVec 32 := 5#32
  let v13 : BitVec 32 := Scalar.shli v12 c5_i32_1
  let c15328_i32 : BitVec 32 := 15328#32
  let v14 : BitVec 32 := Scalar.minsi v13 c15328_i32
  v14

def k0_mult2 (v8 : BitVec 32) : BitVec 32 :=
  let c15360_i32 : BitVec 32 := 15360#32
  let c0_i32_0 : BitVec 32 := 0#32
  let c1024_i32 : BitVec 32 := 1024#32
  let v9 : BitVec 32 := Scalar.subi v8 c1024_i32
  let v10 : BitVec 32 := Scalar.maxsi c0_i32_0 v9
  let v11 : BitVec 32 := Scalar.minsi c15360_i32 v10
  let c5_i32 : BitVec 32 := 5#32
  let v12 : BitVec 32 := Scalar.shrui v11 c5_i32
  let c5_i32_1 : BitVec 32 := 5#32
  let v13 : BitVec 32 := Scalar.shli v12 c5_i32_1
  let c15328_i32 : BitVec 32 := 15328#32
  let v14 : BitVec 32 := Scalar.minsi v13 c15328_i32
  let v15 : BitVec 32 := v14
  let c7_i32 : BitVec 32 := 7#32
  let v16 : BitVec 32 := Scalar.shrui v15 c7_i32
  let c7_i32_2 : BitVec 32 := 7#32
  let v17 : BitVec 32 := Scalar.shli v16 c7_i32_2
  let c15232_i32 : BitVec 32 := 15232#32
  let v18 : BitVec 32 := Scalar.minsi v17 c15232_i32
  v18
def k0_off1 (v8 : BitVec 32) : Fin 3 → Nat :=
  let c0_i32_3 : BitVec 32 := 0#32
  let c0_i32_8 : BitVec 32 := 0#32
  let c15360_i32 : BitVec 32 := 15360#32
  let c0_i32_0 : BitVec 32 := 0#32
  let c1024_i32 : BitVec 32 := 1024#32
  let v9 : BitVec 32 := Scalar.subi v8 c1024_i32
  let v10 : BitVec 32 := Scalar.maxsi c0_i32_0 v9
  let v11 : BitVec 32 := Scalar.minsi c15360_i32 v10
  let c5_i32 : BitVec 32 := 5#32
  let v12 : BitVec 32 := Scalar.shrui v11 c5_i32
  let c5_i32_1 : BitVec 32 := 5#32
  let v13 : BitVec 32 := Scalar.shli v12 c5_i32_1
  let c15328_i32 : BitVec 32 := 15328#32
  let v14 : BitVec 32 := Scalar.minsi v13 c15328_i32
  let v15 : BitVec 32 := v14
  let c7_i32 : BitVec 32 := 7#32
  let v16 : BitVec 32 := Scalar.shrui v15 c7_i32
  let c7_i32_2 : BitVec 32 := 7#32
  let v17 : BitVec 32 := Scalar.shli v16 c7_i32_2
  let c15232_i32 : BitVec 32 := 15232#32
  let v18 : BitVec 32 := Scalar.minsi v17 c15232_i32
  let v19 : BitVec 32 := v18
  ![0, 0, v19.toNat]
def k0_off2 (v8 : BitVec 32) : Fin 4 → Nat :=
  let c0_i32_9 : BitVec 32 := 0#32
  let c0_i32_10 : BitVec 32 := 0#32
  let c15360_i32 : BitVec 32 := 15360#32
  let c0_i32_0 : BitVec 32 := 0#32
  let c1024_i32 : BitVec 32 := 1024#32
  let v9 : BitVec 32 := Scalar.subi v8 c1024_i32
  let v10 : BitVec 32 := Scalar.maxsi c0_i32_0 v9
  let v11 : BitVec 32 := Scalar.minsi c15360_i32 v10
  let c5_i32 : BitVec 32 := 5#32
  let v12 : BitVec 32 := Scalar.shrui v11 c5_i32
  let c5_i32_1 : BitVec 32 := 5#32
  let v13 : BitVec 32 := Scalar.shli v12 c5_i32_1
  let c15328_i32 : BitVec 32 := 15328#32
  let v14 : BitVec 32 := Scalar.minsi v13 c15328_i32
  let v15 : BitVec 32 := v14
  let c0_i32_17 : BitVec 32 := 0#32
  ![0, 0, v15.toNat, 0]
def k0_off3 (v8 : BitVec 32) : Fin 4 → Nat :=
  let c0_i32_27 : BitVec 32 := 0#32
  let c1_i32_28 : BitVec 32 := 1#32
  let c15360_i32 : BitVec 32 := 15360#32
  let c0_i32_0 : BitVec 32 := 0#32
  let c1024_i32 : BitVec 32 := 1024#32
  let v9 : BitVec 32 := Scalar.subi v8 c1024_i32
  let v10 : BitVec 32 := Scalar.maxsi c0_i32_0 v9
  let v11 : BitVec 32 := Scalar.minsi c15360_i32 v10
  let c5_i32 : BitVec 32 := 5#32
  let v12 : BitVec 32 := Scalar.shrui v11 c5_i32
  let c5_i32_1 : BitVec 32 := 5#32
  let v13 : BitVec 32 := Scalar.shli v12 c5_i32_1
  let c15328_i32 : BitVec 32 := 15328#32
  let v14 : BitVec 32 := Scalar.minsi v13 c15328_i32
  let v15 : BitVec 32 := v14
  let c0_i32_35 : BitVec 32 := 0#32
  ![0, 1, v15.toNat, 0]
def k0_mult3 (v52 : BitVec 32) : BitVec 32 :=
  let c15360_i32_47 : BitVec 32 := 15360#32
  let c0_i32_46 : BitVec 32 := 0#32
  let c1024_i32_45 : BitVec 32 := 1024#32
  let v53 : BitVec 32 := Scalar.subi v52 c1024_i32_45
  let v54 : BitVec 32 := Scalar.maxsi c0_i32_46 v53
  let v55 : BitVec 32 := Scalar.minsi c15360_i32_47 v54
  let c5_i32_48 : BitVec 32 := 5#32
  let v56 : BitVec 32 := Scalar.shrui v55 c5_i32_48
  let c5_i32_49 : BitVec 32 := 5#32
  let v57 : BitVec 32 := Scalar.shli v56 c5_i32_49
  let c15328_i32_50 : BitVec 32 := 15328#32
  let v58 : BitVec 32 := Scalar.minsi v57 c15328_i32_50
  v58

def k0_mult4 (v52 : BitVec 32) : BitVec 32 :=
  let c15360_i32_47 : BitVec 32 := 15360#32
  let c0_i32_46 : BitVec 32 := 0#32
  let c1024_i32_45 : BitVec 32 := 1024#32
  let v53 : BitVec 32 := Scalar.subi v52 c1024_i32_45
  let v54 : BitVec 32 := Scalar.maxsi c0_i32_46 v53
  let v55 : BitVec 32 := Scalar.minsi c15360_i32_47 v54
  let c5_i32_48 : BitVec 32 := 5#32
  let v56 : BitVec 32 := Scalar.shrui v55 c5_i32_48
  let c5_i32_49 : BitVec 32 := 5#32
  let v57 : BitVec 32 := Scalar.shli v56 c5_i32_49
  let c15328_i32_50 : BitVec 32 := 15328#32
  let v58 : BitVec 32 := Scalar.minsi v57 c15328_i32_50
  let v59 : BitVec 32 := v58
  let c7_i32_51 : BitVec 32 := 7#32
  let v60 : BitVec 32 := Scalar.shrui v59 c7_i32_51
  let c7_i32_52 : BitVec 32 := 7#32
  let v61 : BitVec 32 := Scalar.shli v60 c7_i32_52
  let c15232_i32_53 : BitVec 32 := 15232#32
  let v62 : BitVec 32 := Scalar.minsi v61 c15232_i32_53
  v62
def k0_off4 (v52 : BitVec 32) : Fin 3 → Nat :=
  let c1_i32_54 : BitVec 32 := 1#32
  let c0_i32_59 : BitVec 32 := 0#32
  let c15360_i32_47 : BitVec 32 := 15360#32
  let c0_i32_46 : BitVec 32 := 0#32
  let c1024_i32_45 : BitVec 32 := 1024#32
  let v53 : BitVec 32 := Scalar.subi v52 c1024_i32_45
  let v54 : BitVec 32 := Scalar.maxsi c0_i32_46 v53
  let v55 : BitVec 32 := Scalar.minsi c15360_i32_47 v54
  let c5_i32_48 : BitVec 32 := 5#32
  let v56 : BitVec 32 := Scalar.shrui v55 c5_i32_48
  let c5_i32_49 : BitVec 32 := 5#32
  let v57 : BitVec 32 := Scalar.shli v56 c5_i32_49
  let c15328_i32_50 : BitVec 32 := 15328#32
  let v58 : BitVec 32 := Scalar.minsi v57 c15328_i32_50
  let v59 : BitVec 32 := v58
  let c7_i32_51 : BitVec 32 := 7#32
  let v60 : BitVec 32 := Scalar.shrui v59 c7_i32_51
  let c7_i32_52 : BitVec 32 := 7#32
  let v61 : BitVec 32 := Scalar.shli v60 c7_i32_52
  let c15232_i32_53 : BitVec 32 := 15232#32
  let v62 : BitVec 32 := Scalar.minsi v61 c15232_i32_53
  let v63 : BitVec 32 := v62
  ![1, 0, v63.toNat]
def k0_off5 (v52 : BitVec 32) : Fin 4 → Nat :=
  let c1_i32_60 : BitVec 32 := 1#32
  let c0_i32_61 : BitVec 32 := 0#32
  let c15360_i32_47 : BitVec 32 := 15360#32
  let c0_i32_46 : BitVec 32 := 0#32
  let c1024_i32_45 : BitVec 32 := 1024#32
  let v53 : BitVec 32 := Scalar.subi v52 c1024_i32_45
  let v54 : BitVec 32 := Scalar.maxsi c0_i32_46 v53
  let v55 : BitVec 32 := Scalar.minsi c15360_i32_47 v54
  let c5_i32_48 : BitVec 32 := 5#32
  let v56 : BitVec 32 := Scalar.shrui v55 c5_i32_48
  let c5_i32_49 : BitVec 32 := 5#32
  let v57 : BitVec 32 := Scalar.shli v56 c5_i32_49
  let c15328_i32_50 : BitVec 32 := 15328#32
  let v58 : BitVec 32 := Scalar.minsi v57 c15328_i32_50
  let v59 : BitVec 32 := v58
  let c0_i32_68 : BitVec 32 := 0#32
  ![1, 0, v59.toNat, 0]
def k0_off6 (v52 : BitVec 32) : Fin 4 → Nat :=
  let c1_i32_78 : BitVec 32 := 1#32
  let c1_i32_79 : BitVec 32 := 1#32
  let c15360_i32_47 : BitVec 32 := 15360#32
  let c0_i32_46 : BitVec 32 := 0#32
  let c1024_i32_45 : BitVec 32 := 1024#32
  let v53 : BitVec 32 := Scalar.subi v52 c1024_i32_45
  let v54 : BitVec 32 := Scalar.maxsi c0_i32_46 v53
  let v55 : BitVec 32 := Scalar.minsi c15360_i32_47 v54
  let c5_i32_48 : BitVec 32 := 5#32
  let v56 : BitVec 32 := Scalar.shrui v55 c5_i32_48
  let c5_i32_49 : BitVec 32 := 5#32
  let v57 : BitVec 32 := Scalar.shli v56 c5_i32_49
  let c15328_i32_50 : BitVec 32 := 15328#32
  let v58 : BitVec 32 := Scalar.minsi v57 c15328_i32_50
  let v59 : BitVec 32 := v58
  let c0_i32_86 : BitVec 32 := 0#32
  ![1, 1, v59.toNat, 0]
def k0_mult5 (v96 : BitVec 32) : BitVec 32 :=
  let c15360_i32_98 : BitVec 32 := 15360#32
  let c0_i32_97 : BitVec 32 := 0#32
  let c1024_i32_96 : BitVec 32 := 1024#32
  let v97 : BitVec 32 := Scalar.subi v96 c1024_i32_96
  let v98 : BitVec 32 := Scalar.maxsi c0_i32_97 v97
  let v99 : BitVec 32 := Scalar.minsi c15360_i32_98 v98
  let c5_i32_99 : BitVec 32 := 5#32
  let v100 : BitVec 32 := Scalar.shrui v99 c5_i32_99
  let c5_i32_100 : BitVec 32 := 5#32
  let v101 : BitVec 32 := Scalar.shli v100 c5_i32_100
  let c15328_i32_101 : BitVec 32 := 15328#32
  let v102 : BitVec 32 := Scalar.minsi v101 c15328_i32_101
  v102

def k0_mult6 (v96 : BitVec 32) : BitVec 32 :=
  let c15360_i32_98 : BitVec 32 := 15360#32
  let c0_i32_97 : BitVec 32 := 0#32
  let c1024_i32_96 : BitVec 32 := 1024#32
  let v97 : BitVec 32 := Scalar.subi v96 c1024_i32_96
  let v98 : BitVec 32 := Scalar.maxsi c0_i32_97 v97
  let v99 : BitVec 32 := Scalar.minsi c15360_i32_98 v98
  let c5_i32_99 : BitVec 32 := 5#32
  let v100 : BitVec 32 := Scalar.shrui v99 c5_i32_99
  let c5_i32_100 : BitVec 32 := 5#32
  let v101 : BitVec 32 := Scalar.shli v100 c5_i32_100
  let c15328_i32_101 : BitVec 32 := 15328#32
  let v102 : BitVec 32 := Scalar.minsi v101 c15328_i32_101
  let v103 : BitVec 32 := v102
  let c7_i32_102 : BitVec 32 := 7#32
  let v104 : BitVec 32 := Scalar.shrui v103 c7_i32_102
  let c7_i32_103 : BitVec 32 := 7#32
  let v105 : BitVec 32 := Scalar.shli v104 c7_i32_103
  let c15232_i32_104 : BitVec 32 := 15232#32
  let v106 : BitVec 32 := Scalar.minsi v105 c15232_i32_104
  v106
def k0_off7 (v96 : BitVec 32) : Fin 3 → Nat :=
  let c2_i32_105 : BitVec 32 := 2#32
  let c0_i32_110 : BitVec 32 := 0#32
  let c15360_i32_98 : BitVec 32 := 15360#32
  let c0_i32_97 : BitVec 32 := 0#32
  let c1024_i32_96 : BitVec 32 := 1024#32
  let v97 : BitVec 32 := Scalar.subi v96 c1024_i32_96
  let v98 : BitVec 32 := Scalar.maxsi c0_i32_97 v97
  let v99 : BitVec 32 := Scalar.minsi c15360_i32_98 v98
  let c5_i32_99 : BitVec 32 := 5#32
  let v100 : BitVec 32 := Scalar.shrui v99 c5_i32_99
  let c5_i32_100 : BitVec 32 := 5#32
  let v101 : BitVec 32 := Scalar.shli v100 c5_i32_100
  let c15328_i32_101 : BitVec 32 := 15328#32
  let v102 : BitVec 32 := Scalar.minsi v101 c15328_i32_101
  let v103 : BitVec 32 := v102
  let c7_i32_102 : BitVec 32 := 7#32
  let v104 : BitVec 32 := Scalar.shrui v103 c7_i32_102
  let c7_i32_103 : BitVec 32 := 7#32
  let v105 : BitVec 32 := Scalar.shli v104 c7_i32_103
  let c15232_i32_104 : BitVec 32 := 15232#32
  let v106 : BitVec 32 := Scalar.minsi v105 c15232_i32_104
  let v107 : BitVec 32 := v106
  ![2, 0, v107.toNat]
def k0_off8 (v96 : BitVec 32) : Fin 4 → Nat :=
  let c2_i32_111 : BitVec 32 := 2#32
  let c0_i32_112 : BitVec 32 := 0#32
  let c15360_i32_98 : BitVec 32 := 15360#32
  let c0_i32_97 : BitVec 32 := 0#32
  let c1024_i32_96 : BitVec 32 := 1024#32
  let v97 : BitVec 32 := Scalar.subi v96 c1024_i32_96
  let v98 : BitVec 32 := Scalar.maxsi c0_i32_97 v97
  let v99 : BitVec 32 := Scalar.minsi c15360_i32_98 v98
  let c5_i32_99 : BitVec 32 := 5#32
  let v100 : BitVec 32 := Scalar.shrui v99 c5_i32_99
  let c5_i32_100 : BitVec 32 := 5#32
  let v101 : BitVec 32 := Scalar.shli v100 c5_i32_100
  let c15328_i32_101 : BitVec 32 := 15328#32
  let v102 : BitVec 32 := Scalar.minsi v101 c15328_i32_101
  let v103 : BitVec 32 := v102
  let c0_i32_119 : BitVec 32 := 0#32
  ![2, 0, v103.toNat, 0]
def k0_off9 (v96 : BitVec 32) : Fin 4 → Nat :=
  let c2_i32_129 : BitVec 32 := 2#32
  let c1_i32_130 : BitVec 32 := 1#32
  let c15360_i32_98 : BitVec 32 := 15360#32
  let c0_i32_97 : BitVec 32 := 0#32
  let c1024_i32_96 : BitVec 32 := 1024#32
  let v97 : BitVec 32 := Scalar.subi v96 c1024_i32_96
  let v98 : BitVec 32 := Scalar.maxsi c0_i32_97 v97
  let v99 : BitVec 32 := Scalar.minsi c15360_i32_98 v98
  let c5_i32_99 : BitVec 32 := 5#32
  let v100 : BitVec 32 := Scalar.shrui v99 c5_i32_99
  let c5_i32_100 : BitVec 32 := 5#32
  let v101 : BitVec 32 := Scalar.shli v100 c5_i32_100
  let c15328_i32_101 : BitVec 32 := 15328#32
  let v102 : BitVec 32 := Scalar.minsi v101 c15328_i32_101
  let v103 : BitVec 32 := v102
  let c0_i32_137 : BitVec 32 := 0#32
  ![2, 1, v103.toNat, 0]
def k0_mult7 (v140 : BitVec 32) : BitVec 32 :=
  let c15360_i32_149 : BitVec 32 := 15360#32
  let c0_i32_148 : BitVec 32 := 0#32
  let c1024_i32_147 : BitVec 32 := 1024#32
  let v141 : BitVec 32 := Scalar.subi v140 c1024_i32_147
  let v142 : BitVec 32 := Scalar.maxsi c0_i32_148 v141
  let v143 : BitVec 32 := Scalar.minsi c15360_i32_149 v142
  let c5_i32_150 : BitVec 32 := 5#32
  let v144 : BitVec 32 := Scalar.shrui v143 c5_i32_150
  let c5_i32_151 : BitVec 32 := 5#32
  let v145 : BitVec 32 := Scalar.shli v144 c5_i32_151
  let c15328_i32_152 : BitVec 32 := 15328#32
  let v146 : BitVec 32 := Scalar.minsi v145 c15328_i32_152
  v146

def k0_mult8 (v140 : BitVec 32) : BitVec 32 :=
  let c15360_i32_149 : BitVec 32 := 15360#32
  let c0_i32_148 : BitVec 32 := 0#32
  let c1024_i32_147 : BitVec 32 := 1024#32
  let v141 : BitVec 32 := Scalar.subi v140 c1024_i32_147
  let v142 : BitVec 32 := Scalar.maxsi c0_i32_148 v141
  let v143 : BitVec 32 := Scalar.minsi c15360_i32_149 v142
  let c5_i32_150 : BitVec 32 := 5#32
  let v144 : BitVec 32 := Scalar.shrui v143 c5_i32_150
  let c5_i32_151 : BitVec 32 := 5#32
  let v145 : BitVec 32 := Scalar.shli v144 c5_i32_151
  let c15328_i32_152 : BitVec 32 := 15328#32
  let v146 : BitVec 32 := Scalar.minsi v145 c15328_i32_152
  let v147 : BitVec 32 := v146
  let c7_i32_153 : BitVec 32 := 7#32
  let v148 : BitVec 32 := Scalar.shrui v147 c7_i32_153
  let c7_i32_154 : BitVec 32 := 7#32
  let v149 : BitVec 32 := Scalar.shli v148 c7_i32_154
  let c15232_i32_155 : BitVec 32 := 15232#32
  let v150 : BitVec 32 := Scalar.minsi v149 c15232_i32_155
  v150
def k0_off10 (v140 : BitVec 32) : Fin 3 → Nat :=
  let c3_i32_156 : BitVec 32 := 3#32
  let c0_i32_161 : BitVec 32 := 0#32
  let c15360_i32_149 : BitVec 32 := 15360#32
  let c0_i32_148 : BitVec 32 := 0#32
  let c1024_i32_147 : BitVec 32 := 1024#32
  let v141 : BitVec 32 := Scalar.subi v140 c1024_i32_147
  let v142 : BitVec 32 := Scalar.maxsi c0_i32_148 v141
  let v143 : BitVec 32 := Scalar.minsi c15360_i32_149 v142
  let c5_i32_150 : BitVec 32 := 5#32
  let v144 : BitVec 32 := Scalar.shrui v143 c5_i32_150
  let c5_i32_151 : BitVec 32 := 5#32
  let v145 : BitVec 32 := Scalar.shli v144 c5_i32_151
  let c15328_i32_152 : BitVec 32 := 15328#32
  let v146 : BitVec 32 := Scalar.minsi v145 c15328_i32_152
  let v147 : BitVec 32 := v146
  let c7_i32_153 : BitVec 32 := 7#32
  let v148 : BitVec 32 := Scalar.shrui v147 c7_i32_153
  let c7_i32_154 : BitVec 32 := 7#32
  let v149 : BitVec 32 := Scalar.shli v148 c7_i32_154
  let c15232_i32_155 : BitVec 32 := 15232#32
  let v150 : BitVec 32 := Scalar.minsi v149 c15232_i32_155
  let v151 : BitVec 32 := v150
  ![3, 0, v151.toNat]
def k0_off11 (v140 : BitVec 32) : Fin 4 → Nat :=
  let c3_i32_162 : BitVec 32 := 3#32
  let c0_i32_163 : BitVec 32 := 0#32
  let c15360_i32_149 : BitVec 32 := 15360#32
  let c0_i32_148 : BitVec 32 := 0#32
  let c1024_i32_147 : BitVec 32 := 1024#32
  let v141 : BitVec 32 := Scalar.subi v140 c1024_i32_147
  let v142 : BitVec 32 := Scalar.maxsi c0_i32_148 v141
  let v143 : BitVec 32 := Scalar.minsi c15360_i32_149 v142
  let c5_i32_150 : BitVec 32 := 5#32
  let v144 : BitVec 32 := Scalar.shrui v143 c5_i32_150
  let c5_i32_151 : BitVec 32 := 5#32
  let v145 : BitVec 32 := Scalar.shli v144 c5_i32_151
  let c15328_i32_152 : BitVec 32 := 15328#32
  let v146 : BitVec 32 := Scalar.minsi v145 c15328_i32_152
  let v147 : BitVec 32 := v146
  let c0_i32_170 : BitVec 32 := 0#32
  ![3, 0, v147.toNat, 0]
def k0_off12 (v140 : BitVec 32) : Fin 4 → Nat :=
  let c3_i32_180 : BitVec 32 := 3#32
  let c1_i32_181 : BitVec 32 := 1#32
  let c15360_i32_149 : BitVec 32 := 15360#32
  let c0_i32_148 : BitVec 32 := 0#32
  let c1024_i32_147 : BitVec 32 := 1024#32
  let v141 : BitVec 32 := Scalar.subi v140 c1024_i32_147
  let v142 : BitVec 32 := Scalar.maxsi c0_i32_148 v141
  let v143 : BitVec 32 := Scalar.minsi c15360_i32_149 v142
  let c5_i32_150 : BitVec 32 := 5#32
  let v144 : BitVec 32 := Scalar.shrui v143 c5_i32_150
  let c5_i32_151 : BitVec 32 := 5#32
  let v145 : BitVec 32 := Scalar.shli v144 c5_i32_151
  let c15328_i32_152 : BitVec 32 := 15328#32
  let v146 : BitVec 32 := Scalar.minsi v145 c15328_i32_152
  let v147 : BitVec 32 := v146
  let c0_i32_188 : BitVec 32 := 0#32
  ![3, 1, v147.toNat, 0]

def k0_chk4 (v140 : BitVec 32) : Prop :=
  (32 ∣ (k0_mult7 v140).toNat) ∧
  (128 ∣ (k0_mult8 v140).toNat) ∧
  (∀ a, (k0_off10 v140) a + S1x2x1152.size a ≤ S4x2x16384.size a) ∧
  (∀ a, (k0_off11 v140) a + S1x1x1056x256.size a ≤ S4x2x16384x256.size a) ∧
  (∀ (hinb : ∀ a, (k0_off11 v140) a + S1x1x1056x256.size a ≤ S4x2x16384x256.size a), (Rect.unit (s := S4x2x16384x256) (k0_off11 v140) S1x1x1056x256.size hinb).WholeWords (EltTy.packing .i8)) ∧
  (∀ a, (k0_off12 v140) a + S1x1x1056x256.size a ≤ S4x2x16384x256.size a) ∧
  (∀ (hinb : ∀ a, (k0_off12 v140) a + S1x1x1056x256.size a ≤ S4x2x16384x256.size a), (Rect.unit (s := S4x2x16384x256) (k0_off12 v140) S1x1x1056x256.size hinb).WholeWords (EltTy.packing .i8))
theorem k0_mult7_dvd : ∀ (v140 : BitVec 32) (k0_hw4 : k0_chk4 v140), 32 ∣ (k0_mult7 v140).toNat := fun v140 k0_hw4 => k0_hw4.1
theorem k0_mult8_dvd : ∀ (v140 : BitVec 32) (k0_hw4 : k0_chk4 v140), 128 ∣ (k0_mult8 v140).toNat := fun v140 k0_hw4 => k0_hw4.2.1
theorem k0_off10_inb : ∀ (v140 : BitVec 32) (k0_hw4 : k0_chk4 v140), ∀ a, (k0_off10 v140) a + S1x2x1152.size a ≤ S4x2x16384.size a := fun v140 k0_hw4 => k0_hw4.2.2.1
theorem k0_off11_inb : ∀ (v140 : BitVec 32) (k0_hw4 : k0_chk4 v140), ∀ a, (k0_off11 v140) a + S1x1x1056x256.size a ≤ S4x2x16384x256.size a := fun v140 k0_hw4 => k0_hw4.2.2.2.1
theorem k0_off11_wordsi8 : ∀ (v140 : BitVec 32) (k0_hw4 : k0_chk4 v140), (Rect.unit (s := S4x2x16384x256) (k0_off11 v140) S1x1x1056x256.size (k0_off11_inb v140 k0_hw4)).WholeWords (EltTy.packing .i8) := fun v140 k0_hw4 => k0_hw4.2.2.2.2.1 (k0_off11_inb v140 k0_hw4)
theorem k0_off12_inb : ∀ (v140 : BitVec 32) (k0_hw4 : k0_chk4 v140), ∀ a, (k0_off12 v140) a + S1x1x1056x256.size a ≤ S4x2x16384x256.size a := fun v140 k0_hw4 => k0_hw4.2.2.2.2.2.1
theorem k0_off12_wordsi8 : ∀ (v140 : BitVec 32) (k0_hw4 : k0_chk4 v140), (Rect.unit (s := S4x2x16384x256) (k0_off12 v140) S1x1x1056x256.size (k0_off12_inb v140 k0_hw4)).WholeWords (EltTy.packing .i8) := fun v140 k0_hw4 => k0_hw4.2.2.2.2.2.2 (k0_off12_inb v140 k0_hw4)

def k0_off13 (v8 : BitVec 32) : Fin 3 → Nat :=
  let c0_i32_487 : BitVec 32 := 0#32
  let c0_i32_492 : BitVec 32 := 0#32
  let c15360_i32 : BitVec 32 := 15360#32
  let c0_i32_0 : BitVec 32 := 0#32
  let c1024_i32 : BitVec 32 := 1024#32
  let v9 : BitVec 32 := Scalar.subi v8 c1024_i32
  let v10 : BitVec 32 := Scalar.maxsi c0_i32_0 v9
  let v11 : BitVec 32 := Scalar.minsi c15360_i32 v10
  let c5_i32 : BitVec 32 := 5#32
  let v12 : BitVec 32 := Scalar.shrui v11 c5_i32
  let c5_i32_1 : BitVec 32 := 5#32
  let v13 : BitVec 32 := Scalar.shli v12 c5_i32_1
  let c15328_i32 : BitVec 32 := 15328#32
  let v14 : BitVec 32 := Scalar.minsi v13 c15328_i32
  let v15 : BitVec 32 := v14
  let c7_i32 : BitVec 32 := 7#32
  let v16 : BitVec 32 := Scalar.shrui v15 c7_i32
  let c7_i32_2 : BitVec 32 := 7#32
  let v17 : BitVec 32 := Scalar.shli v16 c7_i32_2
  let c15232_i32 : BitVec 32 := 15232#32
  let v18 : BitVec 32 := Scalar.minsi v17 c15232_i32
  let v19 : BitVec 32 := v18
  ![0, 0, v19.toNat]
def k0_off14 (v8 : BitVec 32) : Fin 4 → Nat :=
  let c0_i32_521 : BitVec 32 := 0#32
  let c0_i32_522 : BitVec 32 := 0#32
  let c15360_i32 : BitVec 32 := 15360#32
  let c0_i32_0 : BitVec 32 := 0#32
  let c1024_i32 : BitVec 32 := 1024#32
  let v9 : BitVec 32 := Scalar.subi v8 c1024_i32
  let v10 : BitVec 32 := Scalar.maxsi c0_i32_0 v9
  let v11 : BitVec 32 := Scalar.minsi c15360_i32 v10
  let c5_i32 : BitVec 32 := 5#32
  let v12 : BitVec 32 := Scalar.shrui v11 c5_i32
  let c5_i32_1 : BitVec 32 := 5#32
  let v13 : BitVec 32 := Scalar.shli v12 c5_i32_1
  let c15328_i32 : BitVec 32 := 15328#32
  let v14 : BitVec 32 := Scalar.minsi v13 c15328_i32
  let v15 : BitVec 32 := v14
  let c0_i32_529 : BitVec 32 := 0#32
  ![0, 0, v15.toNat, 0]
def k0_off15 (v8 : BitVec 32) : Fin 4 → Nat :=
  let c0_i32_615 : BitVec 32 := 0#32
  let c1_i32_616 : BitVec 32 := 1#32
  let c15360_i32 : BitVec 32 := 15360#32
  let c0_i32_0 : BitVec 32 := 0#32
  let c1024_i32 : BitVec 32 := 1024#32
  let v9 : BitVec 32 := Scalar.subi v8 c1024_i32
  let v10 : BitVec 32 := Scalar.maxsi c0_i32_0 v9
  let v11 : BitVec 32 := Scalar.minsi c15360_i32 v10
  let c5_i32 : BitVec 32 := 5#32
  let v12 : BitVec 32 := Scalar.shrui v11 c5_i32
  let c5_i32_1 : BitVec 32 := 5#32
  let v13 : BitVec 32 := Scalar.shli v12 c5_i32_1
  let c15328_i32 : BitVec 32 := 15328#32
  let v14 : BitVec 32 := Scalar.minsi v13 c15328_i32
  let v15 : BitVec 32 := v14
  let c0_i32_623 : BitVec 32 := 0#32
  ![0, 1, v15.toNat, 0]

def k0_chk1 (v8 : BitVec 32) : Prop :=
  (32 ∣ (k0_mult1 v8).toNat) ∧
  (128 ∣ (k0_mult2 v8).toNat) ∧
  (∀ a, (k0_off1 v8) a + S1x2x1152.size a ≤ S4x2x16384.size a) ∧
  (∀ a, (k0_off2 v8) a + S1x1x1056x256.size a ≤ S4x2x16384x256.size a) ∧
  (∀ (hinb : ∀ a, (k0_off2 v8) a + S1x1x1056x256.size a ≤ S4x2x16384x256.size a), (Rect.unit (s := S4x2x16384x256) (k0_off2 v8) S1x1x1056x256.size hinb).WholeWords (EltTy.packing .i8)) ∧
  (∀ a, (k0_off3 v8) a + S1x1x1056x256.size a ≤ S4x2x16384x256.size a) ∧
  (∀ (hinb : ∀ a, (k0_off3 v8) a + S1x1x1056x256.size a ≤ S4x2x16384x256.size a), (Rect.unit (s := S4x2x16384x256) (k0_off3 v8) S1x1x1056x256.size hinb).WholeWords (EltTy.packing .i8)) ∧
  (∀ a, (k0_off13 v8) a + S1x2x1152.size a ≤ S4x2x16384.size a) ∧
  (∀ a, (k0_off14 v8) a + S1x1x1056x256.size a ≤ S4x2x16384x256.size a) ∧
  (∀ (hinb : ∀ a, (k0_off14 v8) a + S1x1x1056x256.size a ≤ S4x2x16384x256.size a), (Rect.unit (s := S4x2x16384x256) (k0_off14 v8) S1x1x1056x256.size hinb).WholeWords (EltTy.packing .i8)) ∧
  (∀ a, (k0_off15 v8) a + S1x1x1056x256.size a ≤ S4x2x16384x256.size a) ∧
  (∀ (hinb : ∀ a, (k0_off15 v8) a + S1x1x1056x256.size a ≤ S4x2x16384x256.size a), (Rect.unit (s := S4x2x16384x256) (k0_off15 v8) S1x1x1056x256.size hinb).WholeWords (EltTy.packing .i8))
theorem k0_mult1_dvd : ∀ (v8 : BitVec 32) (k0_hw1 : k0_chk1 v8), 32 ∣ (k0_mult1 v8).toNat := fun v8 k0_hw1 => k0_hw1.1
theorem k0_mult2_dvd : ∀ (v8 : BitVec 32) (k0_hw1 : k0_chk1 v8), 128 ∣ (k0_mult2 v8).toNat := fun v8 k0_hw1 => k0_hw1.2.1
theorem k0_off1_inb : ∀ (v8 : BitVec 32) (k0_hw1 : k0_chk1 v8), ∀ a, (k0_off1 v8) a + S1x2x1152.size a ≤ S4x2x16384.size a := fun v8 k0_hw1 => k0_hw1.2.2.1
theorem k0_off2_inb : ∀ (v8 : BitVec 32) (k0_hw1 : k0_chk1 v8), ∀ a, (k0_off2 v8) a + S1x1x1056x256.size a ≤ S4x2x16384x256.size a := fun v8 k0_hw1 => k0_hw1.2.2.2.1
theorem k0_off2_wordsi8 : ∀ (v8 : BitVec 32) (k0_hw1 : k0_chk1 v8), (Rect.unit (s := S4x2x16384x256) (k0_off2 v8) S1x1x1056x256.size (k0_off2_inb v8 k0_hw1)).WholeWords (EltTy.packing .i8) := fun v8 k0_hw1 => k0_hw1.2.2.2.2.1 (k0_off2_inb v8 k0_hw1)
theorem k0_off3_inb : ∀ (v8 : BitVec 32) (k0_hw1 : k0_chk1 v8), ∀ a, (k0_off3 v8) a + S1x1x1056x256.size a ≤ S4x2x16384x256.size a := fun v8 k0_hw1 => k0_hw1.2.2.2.2.2.1
theorem k0_off3_wordsi8 : ∀ (v8 : BitVec 32) (k0_hw1 : k0_chk1 v8), (Rect.unit (s := S4x2x16384x256) (k0_off3 v8) S1x1x1056x256.size (k0_off3_inb v8 k0_hw1)).WholeWords (EltTy.packing .i8) := fun v8 k0_hw1 => k0_hw1.2.2.2.2.2.2.1 (k0_off3_inb v8 k0_hw1)
theorem k0_off13_inb : ∀ (v8 : BitVec 32) (k0_hw1 : k0_chk1 v8), ∀ a, (k0_off13 v8) a + S1x2x1152.size a ≤ S4x2x16384.size a := fun v8 k0_hw1 => k0_hw1.2.2.2.2.2.2.2.1
theorem k0_off14_inb : ∀ (v8 : BitVec 32) (k0_hw1 : k0_chk1 v8), ∀ a, (k0_off14 v8) a + S1x1x1056x256.size a ≤ S4x2x16384x256.size a := fun v8 k0_hw1 => k0_hw1.2.2.2.2.2.2.2.2.1
theorem k0_off14_wordsi8 : ∀ (v8 : BitVec 32) (k0_hw1 : k0_chk1 v8), (Rect.unit (s := S4x2x16384x256) (k0_off14 v8) S1x1x1056x256.size (k0_off14_inb v8 k0_hw1)).WholeWords (EltTy.packing .i8) := fun v8 k0_hw1 => k0_hw1.2.2.2.2.2.2.2.2.2.1 (k0_off14_inb v8 k0_hw1)
theorem k0_off15_inb : ∀ (v8 : BitVec 32) (k0_hw1 : k0_chk1 v8), ∀ a, (k0_off15 v8) a + S1x1x1056x256.size a ≤ S4x2x16384x256.size a := fun v8 k0_hw1 => k0_hw1.2.2.2.2.2.2.2.2.2.2.1
theorem k0_off15_wordsi8 : ∀ (v8 : BitVec 32) (k0_hw1 : k0_chk1 v8), (Rect.unit (s := S4x2x16384x256) (k0_off15 v8) S1x1x1056x256.size (k0_off15_inb v8 k0_hw1)).WholeWords (EltTy.packing .i8) := fun v8 k0_hw1 => k0_hw1.2.2.2.2.2.2.2.2.2.2.2 (k0_off15_inb v8 k0_hw1)

def k0_off16 (v52 : BitVec 32) : Fin 3 → Nat :=
  let c1_i32_714 : BitVec 32 := 1#32
  let c0_i32_719 : BitVec 32 := 0#32
  let c15360_i32_47 : BitVec 32 := 15360#32
  let c0_i32_46 : BitVec 32 := 0#32
  let c1024_i32_45 : BitVec 32 := 1024#32
  let v53 : BitVec 32 := Scalar.subi v52 c1024_i32_45
  let v54 : BitVec 32 := Scalar.maxsi c0_i32_46 v53
  let v55 : BitVec 32 := Scalar.minsi c15360_i32_47 v54
  let c5_i32_48 : BitVec 32 := 5#32
  let v56 : BitVec 32 := Scalar.shrui v55 c5_i32_48
  let c5_i32_49 : BitVec 32 := 5#32
  let v57 : BitVec 32 := Scalar.shli v56 c5_i32_49
  let c15328_i32_50 : BitVec 32 := 15328#32
  let v58 : BitVec 32 := Scalar.minsi v57 c15328_i32_50
  let v59 : BitVec 32 := v58
  let c7_i32_51 : BitVec 32 := 7#32
  let v60 : BitVec 32 := Scalar.shrui v59 c7_i32_51
  let c7_i32_52 : BitVec 32 := 7#32
  let v61 : BitVec 32 := Scalar.shli v60 c7_i32_52
  let c15232_i32_53 : BitVec 32 := 15232#32
  let v62 : BitVec 32 := Scalar.minsi v61 c15232_i32_53
  let v63 : BitVec 32 := v62
  ![1, 0, v63.toNat]
def k0_off17 (v52 : BitVec 32) : Fin 4 → Nat :=
  let c1_i32_749 : BitVec 32 := 1#32
  let c0_i32_750 : BitVec 32 := 0#32
  let c15360_i32_47 : BitVec 32 := 15360#32
  let c0_i32_46 : BitVec 32 := 0#32
  let c1024_i32_45 : BitVec 32 := 1024#32
  let v53 : BitVec 32 := Scalar.subi v52 c1024_i32_45
  let v54 : BitVec 32 := Scalar.maxsi c0_i32_46 v53
  let v55 : BitVec 32 := Scalar.minsi c15360_i32_47 v54
  let c5_i32_48 : BitVec 32 := 5#32
  let v56 : BitVec 32 := Scalar.shrui v55 c5_i32_48
  let c5_i32_49 : BitVec 32 := 5#32
  let v57 : BitVec 32 := Scalar.shli v56 c5_i32_49
  let c15328_i32_50 : BitVec 32 := 15328#32
  let v58 : BitVec 32 := Scalar.minsi v57 c15328_i32_50
  let v59 : BitVec 32 := v58
  let c0_i32_757 : BitVec 32 := 0#32
  ![1, 0, v59.toNat, 0]
def k0_off18 (v52 : BitVec 32) : Fin 4 → Nat :=
  let c1_i32_845 : BitVec 32 := 1#32
  let c1_i32_846 : BitVec 32 := 1#32
  let c15360_i32_47 : BitVec 32 := 15360#32
  let c0_i32_46 : BitVec 32 := 0#32
  let c1024_i32_45 : BitVec 32 := 1024#32
  let v53 : BitVec 32 := Scalar.subi v52 c1024_i32_45
  let v54 : BitVec 32 := Scalar.maxsi c0_i32_46 v53
  let v55 : BitVec 32 := Scalar.minsi c15360_i32_47 v54
  let c5_i32_48 : BitVec 32 := 5#32
  let v56 : BitVec 32 := Scalar.shrui v55 c5_i32_48
  let c5_i32_49 : BitVec 32 := 5#32
  let v57 : BitVec 32 := Scalar.shli v56 c5_i32_49
  let c15328_i32_50 : BitVec 32 := 15328#32
  let v58 : BitVec 32 := Scalar.minsi v57 c15328_i32_50
  let v59 : BitVec 32 := v58
  let c0_i32_853 : BitVec 32 := 0#32
  ![1, 1, v59.toNat, 0]

def k0_chk2 (v52 : BitVec 32) : Prop :=
  (32 ∣ (k0_mult3 v52).toNat) ∧
  (128 ∣ (k0_mult4 v52).toNat) ∧
  (∀ a, (k0_off4 v52) a + S1x2x1152.size a ≤ S4x2x16384.size a) ∧
  (∀ a, (k0_off5 v52) a + S1x1x1056x256.size a ≤ S4x2x16384x256.size a) ∧
  (∀ (hinb : ∀ a, (k0_off5 v52) a + S1x1x1056x256.size a ≤ S4x2x16384x256.size a), (Rect.unit (s := S4x2x16384x256) (k0_off5 v52) S1x1x1056x256.size hinb).WholeWords (EltTy.packing .i8)) ∧
  (∀ a, (k0_off6 v52) a + S1x1x1056x256.size a ≤ S4x2x16384x256.size a) ∧
  (∀ (hinb : ∀ a, (k0_off6 v52) a + S1x1x1056x256.size a ≤ S4x2x16384x256.size a), (Rect.unit (s := S4x2x16384x256) (k0_off6 v52) S1x1x1056x256.size hinb).WholeWords (EltTy.packing .i8)) ∧
  (∀ a, (k0_off16 v52) a + S1x2x1152.size a ≤ S4x2x16384.size a) ∧
  (∀ a, (k0_off17 v52) a + S1x1x1056x256.size a ≤ S4x2x16384x256.size a) ∧
  (∀ (hinb : ∀ a, (k0_off17 v52) a + S1x1x1056x256.size a ≤ S4x2x16384x256.size a), (Rect.unit (s := S4x2x16384x256) (k0_off17 v52) S1x1x1056x256.size hinb).WholeWords (EltTy.packing .i8)) ∧
  (∀ a, (k0_off18 v52) a + S1x1x1056x256.size a ≤ S4x2x16384x256.size a) ∧
  (∀ (hinb : ∀ a, (k0_off18 v52) a + S1x1x1056x256.size a ≤ S4x2x16384x256.size a), (Rect.unit (s := S4x2x16384x256) (k0_off18 v52) S1x1x1056x256.size hinb).WholeWords (EltTy.packing .i8))
theorem k0_mult3_dvd : ∀ (v52 : BitVec 32) (k0_hw2 : k0_chk2 v52), 32 ∣ (k0_mult3 v52).toNat := fun v52 k0_hw2 => k0_hw2.1
theorem k0_mult4_dvd : ∀ (v52 : BitVec 32) (k0_hw2 : k0_chk2 v52), 128 ∣ (k0_mult4 v52).toNat := fun v52 k0_hw2 => k0_hw2.2.1
theorem k0_off4_inb : ∀ (v52 : BitVec 32) (k0_hw2 : k0_chk2 v52), ∀ a, (k0_off4 v52) a + S1x2x1152.size a ≤ S4x2x16384.size a := fun v52 k0_hw2 => k0_hw2.2.2.1
theorem k0_off5_inb : ∀ (v52 : BitVec 32) (k0_hw2 : k0_chk2 v52), ∀ a, (k0_off5 v52) a + S1x1x1056x256.size a ≤ S4x2x16384x256.size a := fun v52 k0_hw2 => k0_hw2.2.2.2.1
theorem k0_off5_wordsi8 : ∀ (v52 : BitVec 32) (k0_hw2 : k0_chk2 v52), (Rect.unit (s := S4x2x16384x256) (k0_off5 v52) S1x1x1056x256.size (k0_off5_inb v52 k0_hw2)).WholeWords (EltTy.packing .i8) := fun v52 k0_hw2 => k0_hw2.2.2.2.2.1 (k0_off5_inb v52 k0_hw2)
theorem k0_off6_inb : ∀ (v52 : BitVec 32) (k0_hw2 : k0_chk2 v52), ∀ a, (k0_off6 v52) a + S1x1x1056x256.size a ≤ S4x2x16384x256.size a := fun v52 k0_hw2 => k0_hw2.2.2.2.2.2.1
theorem k0_off6_wordsi8 : ∀ (v52 : BitVec 32) (k0_hw2 : k0_chk2 v52), (Rect.unit (s := S4x2x16384x256) (k0_off6 v52) S1x1x1056x256.size (k0_off6_inb v52 k0_hw2)).WholeWords (EltTy.packing .i8) := fun v52 k0_hw2 => k0_hw2.2.2.2.2.2.2.1 (k0_off6_inb v52 k0_hw2)
theorem k0_off16_inb : ∀ (v52 : BitVec 32) (k0_hw2 : k0_chk2 v52), ∀ a, (k0_off16 v52) a + S1x2x1152.size a ≤ S4x2x16384.size a := fun v52 k0_hw2 => k0_hw2.2.2.2.2.2.2.2.1
theorem k0_off17_inb : ∀ (v52 : BitVec 32) (k0_hw2 : k0_chk2 v52), ∀ a, (k0_off17 v52) a + S1x1x1056x256.size a ≤ S4x2x16384x256.size a := fun v52 k0_hw2 => k0_hw2.2.2.2.2.2.2.2.2.1
theorem k0_off17_wordsi8 : ∀ (v52 : BitVec 32) (k0_hw2 : k0_chk2 v52), (Rect.unit (s := S4x2x16384x256) (k0_off17 v52) S1x1x1056x256.size (k0_off17_inb v52 k0_hw2)).WholeWords (EltTy.packing .i8) := fun v52 k0_hw2 => k0_hw2.2.2.2.2.2.2.2.2.2.1 (k0_off17_inb v52 k0_hw2)
theorem k0_off18_inb : ∀ (v52 : BitVec 32) (k0_hw2 : k0_chk2 v52), ∀ a, (k0_off18 v52) a + S1x1x1056x256.size a ≤ S4x2x16384x256.size a := fun v52 k0_hw2 => k0_hw2.2.2.2.2.2.2.2.2.2.2.1
theorem k0_off18_wordsi8 : ∀ (v52 : BitVec 32) (k0_hw2 : k0_chk2 v52), (Rect.unit (s := S4x2x16384x256) (k0_off18 v52) S1x1x1056x256.size (k0_off18_inb v52 k0_hw2)).WholeWords (EltTy.packing .i8) := fun v52 k0_hw2 => k0_hw2.2.2.2.2.2.2.2.2.2.2.2 (k0_off18_inb v52 k0_hw2)

def k0_off19 (v96 : BitVec 32) : Fin 3 → Nat :=
  let c2_i32_944 : BitVec 32 := 2#32
  let c0_i32_949 : BitVec 32 := 0#32
  let c15360_i32_98 : BitVec 32 := 15360#32
  let c0_i32_97 : BitVec 32 := 0#32
  let c1024_i32_96 : BitVec 32 := 1024#32
  let v97 : BitVec 32 := Scalar.subi v96 c1024_i32_96
  let v98 : BitVec 32 := Scalar.maxsi c0_i32_97 v97
  let v99 : BitVec 32 := Scalar.minsi c15360_i32_98 v98
  let c5_i32_99 : BitVec 32 := 5#32
  let v100 : BitVec 32 := Scalar.shrui v99 c5_i32_99
  let c5_i32_100 : BitVec 32 := 5#32
  let v101 : BitVec 32 := Scalar.shli v100 c5_i32_100
  let c15328_i32_101 : BitVec 32 := 15328#32
  let v102 : BitVec 32 := Scalar.minsi v101 c15328_i32_101
  let v103 : BitVec 32 := v102
  let c7_i32_102 : BitVec 32 := 7#32
  let v104 : BitVec 32 := Scalar.shrui v103 c7_i32_102
  let c7_i32_103 : BitVec 32 := 7#32
  let v105 : BitVec 32 := Scalar.shli v104 c7_i32_103
  let c15232_i32_104 : BitVec 32 := 15232#32
  let v106 : BitVec 32 := Scalar.minsi v105 c15232_i32_104
  let v107 : BitVec 32 := v106
  ![2, 0, v107.toNat]
def k0_off20 (v96 : BitVec 32) : Fin 4 → Nat :=
  let c2_i32_979 : BitVec 32 := 2#32
  let c0_i32_980 : BitVec 32 := 0#32
  let c15360_i32_98 : BitVec 32 := 15360#32
  let c0_i32_97 : BitVec 32 := 0#32
  let c1024_i32_96 : BitVec 32 := 1024#32
  let v97 : BitVec 32 := Scalar.subi v96 c1024_i32_96
  let v98 : BitVec 32 := Scalar.maxsi c0_i32_97 v97
  let v99 : BitVec 32 := Scalar.minsi c15360_i32_98 v98
  let c5_i32_99 : BitVec 32 := 5#32
  let v100 : BitVec 32 := Scalar.shrui v99 c5_i32_99
  let c5_i32_100 : BitVec 32 := 5#32
  let v101 : BitVec 32 := Scalar.shli v100 c5_i32_100
  let c15328_i32_101 : BitVec 32 := 15328#32
  let v102 : BitVec 32 := Scalar.minsi v101 c15328_i32_101
  let v103 : BitVec 32 := v102
  let c0_i32_987 : BitVec 32 := 0#32
  ![2, 0, v103.toNat, 0]
def k0_off21 (v96 : BitVec 32) : Fin 4 → Nat :=
  let c2_i32_1075 : BitVec 32 := 2#32
  let c1_i32_1076 : BitVec 32 := 1#32
  let c15360_i32_98 : BitVec 32 := 15360#32
  let c0_i32_97 : BitVec 32 := 0#32
  let c1024_i32_96 : BitVec 32 := 1024#32
  let v97 : BitVec 32 := Scalar.subi v96 c1024_i32_96
  let v98 : BitVec 32 := Scalar.maxsi c0_i32_97 v97
  let v99 : BitVec 32 := Scalar.minsi c15360_i32_98 v98
  let c5_i32_99 : BitVec 32 := 5#32
  let v100 : BitVec 32 := Scalar.shrui v99 c5_i32_99
  let c5_i32_100 : BitVec 32 := 5#32
  let v101 : BitVec 32 := Scalar.shli v100 c5_i32_100
  let c15328_i32_101 : BitVec 32 := 15328#32
  let v102 : BitVec 32 := Scalar.minsi v101 c15328_i32_101
  let v103 : BitVec 32 := v102
  let c0_i32_1083 : BitVec 32 := 0#32
  ![2, 1, v103.toNat, 0]

def k0_chk3 (v96 : BitVec 32) : Prop :=
  (32 ∣ (k0_mult5 v96).toNat) ∧
  (128 ∣ (k0_mult6 v96).toNat) ∧
  (∀ a, (k0_off7 v96) a + S1x2x1152.size a ≤ S4x2x16384.size a) ∧
  (∀ a, (k0_off8 v96) a + S1x1x1056x256.size a ≤ S4x2x16384x256.size a) ∧
  (∀ (hinb : ∀ a, (k0_off8 v96) a + S1x1x1056x256.size a ≤ S4x2x16384x256.size a), (Rect.unit (s := S4x2x16384x256) (k0_off8 v96) S1x1x1056x256.size hinb).WholeWords (EltTy.packing .i8)) ∧
  (∀ a, (k0_off9 v96) a + S1x1x1056x256.size a ≤ S4x2x16384x256.size a) ∧
  (∀ (hinb : ∀ a, (k0_off9 v96) a + S1x1x1056x256.size a ≤ S4x2x16384x256.size a), (Rect.unit (s := S4x2x16384x256) (k0_off9 v96) S1x1x1056x256.size hinb).WholeWords (EltTy.packing .i8)) ∧
  (∀ a, (k0_off19 v96) a + S1x2x1152.size a ≤ S4x2x16384.size a) ∧
  (∀ a, (k0_off20 v96) a + S1x1x1056x256.size a ≤ S4x2x16384x256.size a) ∧
  (∀ (hinb : ∀ a, (k0_off20 v96) a + S1x1x1056x256.size a ≤ S4x2x16384x256.size a), (Rect.unit (s := S4x2x16384x256) (k0_off20 v96) S1x1x1056x256.size hinb).WholeWords (EltTy.packing .i8)) ∧
  (∀ a, (k0_off21 v96) a + S1x1x1056x256.size a ≤ S4x2x16384x256.size a) ∧
  (∀ (hinb : ∀ a, (k0_off21 v96) a + S1x1x1056x256.size a ≤ S4x2x16384x256.size a), (Rect.unit (s := S4x2x16384x256) (k0_off21 v96) S1x1x1056x256.size hinb).WholeWords (EltTy.packing .i8))
theorem k0_mult5_dvd : ∀ (v96 : BitVec 32) (k0_hw3 : k0_chk3 v96), 32 ∣ (k0_mult5 v96).toNat := fun v96 k0_hw3 => k0_hw3.1
theorem k0_mult6_dvd : ∀ (v96 : BitVec 32) (k0_hw3 : k0_chk3 v96), 128 ∣ (k0_mult6 v96).toNat := fun v96 k0_hw3 => k0_hw3.2.1
theorem k0_off7_inb : ∀ (v96 : BitVec 32) (k0_hw3 : k0_chk3 v96), ∀ a, (k0_off7 v96) a + S1x2x1152.size a ≤ S4x2x16384.size a := fun v96 k0_hw3 => k0_hw3.2.2.1
theorem k0_off8_inb : ∀ (v96 : BitVec 32) (k0_hw3 : k0_chk3 v96), ∀ a, (k0_off8 v96) a + S1x1x1056x256.size a ≤ S4x2x16384x256.size a := fun v96 k0_hw3 => k0_hw3.2.2.2.1
theorem k0_off8_wordsi8 : ∀ (v96 : BitVec 32) (k0_hw3 : k0_chk3 v96), (Rect.unit (s := S4x2x16384x256) (k0_off8 v96) S1x1x1056x256.size (k0_off8_inb v96 k0_hw3)).WholeWords (EltTy.packing .i8) := fun v96 k0_hw3 => k0_hw3.2.2.2.2.1 (k0_off8_inb v96 k0_hw3)
theorem k0_off9_inb : ∀ (v96 : BitVec 32) (k0_hw3 : k0_chk3 v96), ∀ a, (k0_off9 v96) a + S1x1x1056x256.size a ≤ S4x2x16384x256.size a := fun v96 k0_hw3 => k0_hw3.2.2.2.2.2.1
theorem k0_off9_wordsi8 : ∀ (v96 : BitVec 32) (k0_hw3 : k0_chk3 v96), (Rect.unit (s := S4x2x16384x256) (k0_off9 v96) S1x1x1056x256.size (k0_off9_inb v96 k0_hw3)).WholeWords (EltTy.packing .i8) := fun v96 k0_hw3 => k0_hw3.2.2.2.2.2.2.1 (k0_off9_inb v96 k0_hw3)
theorem k0_off19_inb : ∀ (v96 : BitVec 32) (k0_hw3 : k0_chk3 v96), ∀ a, (k0_off19 v96) a + S1x2x1152.size a ≤ S4x2x16384.size a := fun v96 k0_hw3 => k0_hw3.2.2.2.2.2.2.2.1
theorem k0_off20_inb : ∀ (v96 : BitVec 32) (k0_hw3 : k0_chk3 v96), ∀ a, (k0_off20 v96) a + S1x1x1056x256.size a ≤ S4x2x16384x256.size a := fun v96 k0_hw3 => k0_hw3.2.2.2.2.2.2.2.2.1
theorem k0_off20_wordsi8 : ∀ (v96 : BitVec 32) (k0_hw3 : k0_chk3 v96), (Rect.unit (s := S4x2x16384x256) (k0_off20 v96) S1x1x1056x256.size (k0_off20_inb v96 k0_hw3)).WholeWords (EltTy.packing .i8) := fun v96 k0_hw3 => k0_hw3.2.2.2.2.2.2.2.2.2.1 (k0_off20_inb v96 k0_hw3)
theorem k0_off21_inb : ∀ (v96 : BitVec 32) (k0_hw3 : k0_chk3 v96), ∀ a, (k0_off21 v96) a + S1x1x1056x256.size a ≤ S4x2x16384x256.size a := fun v96 k0_hw3 => k0_hw3.2.2.2.2.2.2.2.2.2.2.1
theorem k0_off21_wordsi8 : ∀ (v96 : BitVec 32) (k0_hw3 : k0_chk3 v96), (Rect.unit (s := S4x2x16384x256) (k0_off21 v96) S1x1x1056x256.size (k0_off21_inb v96 k0_hw3)).WholeWords (EltTy.packing .i8) := fun v96 k0_hw3 => k0_hw3.2.2.2.2.2.2.2.2.2.2.2 (k0_off21_inb v96 k0_hw3)
-- ==== KernelIdeal.lean ====
variable {F : FTy → Type} [FloatOps F] [Named F]
def κ : String → Option EReal := fun
  | "exp2_scale" => some (((1 / 16) * (Real.log 2)⁻¹ : ℝ) : EReal)
  | _ => none
-- ==== ReferenceIdeal.lean ====
abbrev S4x4x32x256 : Shape := ⟨4, ![4, 4, 32, 256]⟩
abbrev S4x4x2x256 : Shape := ⟨4, ![4, 4, 2, 256]⟩
abbrev S4x16384x2x256 : Shape := ⟨4, ![4, 16384, 2, 256]⟩
abbrev S4x2x256 : Shape := ⟨3, ![4, 2, 256]⟩
abbrev S4x16384x2 : Shape := ⟨3, ![4, 16384, 2]⟩
abbrev S4 : Shape := ⟨1, ![4]⟩
abbrev S4x1x2x256 : Shape := ⟨4, ![4, 1, 2, 256]⟩
abbrev S_ : Shape := ⟨0, ![]⟩
abbrev S4x4x2 : Shape := ⟨3, ![4, 4, 2]⟩
abbrev S4x4x2x1 : Shape := ⟨4, ![4, 4, 2, 1]⟩
abbrev S1x16384x2x256 : Shape := ⟨4, ![1, 16384, 2, 256]⟩
abbrev S1 : Shape := ⟨1, ![1]⟩
abbrev S1x1024x2x256 : Shape := ⟨4, ![1, 1024, 2, 256]⟩
abbrev S4x1024x2x256 : Shape := ⟨4, ![4, 1024, 2, 256]⟩
abbrev S1x16384x2 : Shape := ⟨3, ![1, 16384, 2]⟩
abbrev S1x1024x2 : Shape := ⟨3, ![1, 1024, 2]⟩
abbrev S4x1024x2 : Shape := ⟨3, ![4, 1024, 2]⟩
abbrev S4x4x2x16x256 : Shape := ⟨5, ![4, 4, 2, 16, 256]⟩
abbrev S4x2x1024x4x16 : Shape := ⟨5, ![4, 2, 1024, 4, 16]⟩
abbrev S4x2x16x4x1024 : Shape := ⟨5, ![4, 2, 16, 4, 1024]⟩
abbrev S4x2x4x4x16 : Shape := ⟨5, ![4, 2, 4, 4, 16]⟩
abbrev S4x2x16x4x4 : Shape := ⟨5, ![4, 2, 16, 4, 4]⟩
abbrev S4x1 : Shape := ⟨2, ![4, 1]⟩
abbrev S1x4 : Shape := ⟨2, ![1, 4]⟩
abbrev S4x4 : Shape := ⟨2, ![4, 4]⟩
abbrev S1024 : Shape := ⟨1, ![1024]⟩
abbrev S1x1024 : Shape := ⟨2, ![1, 1024]⟩
abbrev S4x1024 : Shape := ⟨2, ![4, 1024]⟩
abbrev S4x1x1024 : Shape := ⟨3, ![4, 1, 1024]⟩
abbrev S4x1x1 : Shape := ⟨3, ![4, 1, 1]⟩
abbrev S4x4x1 : Shape := ⟨3, ![4, 4, 1]⟩
abbrev S4x4x1024 : Shape := ⟨3, ![4, 4, 1024]⟩
abbrev S4x1x4 : Shape := ⟨3, ![4, 1, 4]⟩
abbrev S4x4x4 : Shape := ⟨3, ![4, 4, 4]⟩
abbrev S4x1x1x4x1024 : Shape := ⟨5, ![4, 1, 1, 4, 1024]⟩
abbrev S4x1x1x4x4 : Shape := ⟨5, ![4, 1, 1, 4, 4]⟩
abbrev S4x2x16x4 : Shape := ⟨4, ![4, 2, 16, 4]⟩
abbrev S4x2x16x4x1 : Shape := ⟨5, ![4, 2, 16, 4, 1]⟩
abbrev S4x2x1024 : Shape := ⟨3, ![4, 2, 1024]⟩
abbrev S4x2x1x1x1024 : Shape := ⟨5, ![4, 2, 1, 1, 1024]⟩
abbrev S4x2x256x16x4 : Shape := ⟨5, ![4, 2, 256, 16, 4]⟩

abbrev nBuf : Space → Nat
  | .hbm => 250
  | .vmem => 0
  | .smem => 0
  | _ => 0

abbrev hbmTy0_0 (i : Nat) : BufTy := match i % 128 with
  | 0 => ⟨S4x4x32x256, .bf16⟩
  | 1 => ⟨S4x4x2x256, .bf16⟩
  | 2 => ⟨S4x4x2x256, .bf16⟩
  | 3 => ⟨S4x16384x2x256, .i8⟩
  | 4 => ⟨S4x2x256, .f32⟩
  | 5 => ⟨S4x16384x2x256, .i8⟩
  | 6 => ⟨S4x16384x2, .f32⟩
  | 7 => ⟨S4, .i32⟩
  | 8 => ⟨S4x4x2x256, .f32⟩
  | 9 => ⟨S4x1x2x256, .f32⟩
  | 10 => ⟨S4x4x2x256, .f32⟩
  | 11 => ⟨S4x4x2x256, .f32⟩
  | 12 => ⟨S4x4x2x256, .f32⟩
  | 13 => ⟨S_, .f32⟩
  | 14 => ⟨S_, .f32⟩
  | 15 => ⟨S_, .f32⟩
  | 16 => ⟨S4x4x2x256, .f32⟩
  | 17 => ⟨S4x4x2x256, .f32⟩
  | 18 => ⟨S_, .f32⟩
  | 19 => ⟨S4x4x2x256, .f32⟩
  | 20 => ⟨S4x4x2x256, .f32⟩
  | 21 => ⟨S4x4x2x256, .i32⟩
  | 22 => ⟨S4x4x2x256, .i8⟩
  | 23 => ⟨S4x4x2x256, .f32⟩
  | 24 => ⟨S4x4x2x256, .f32⟩
  | 25 => ⟨S_, .f32⟩
  | 26 => ⟨S4x4x2, .f32⟩
  | 27 => ⟨S_, .f32⟩
  | 28 => ⟨S4x4x2, .f32⟩
  | 29 => ⟨S4x4x2, .i1⟩
  | 30 => ⟨S_, .f32⟩
  | 31 => ⟨S4x4x2, .f32⟩
  | 32 => ⟨S4x4x2, .f32⟩
  | 33 => ⟨S_, .f32⟩
  | 34 => ⟨S_, .f32⟩
  | 35 => ⟨S4x4x2, .f32⟩
  | 36 => ⟨S4x4x2, .f32⟩
  | 37 => ⟨S4x4x2x1, .f32⟩
  | 38 => ⟨S4x4x2x256, .f32⟩
  | 39 => ⟨S4x4x2x256, .f32⟩
  | 40 => ⟨S4x4x2x256, .f32⟩
  | 41 => ⟨S_, .f32⟩
  | 42 => ⟨S_, .f32⟩
  | 43 => ⟨S_, .f32⟩
  | 44 => ⟨S4x4x2x256, .f32⟩
  | 45 => ⟨S4x4x2x256, .f32⟩
  | 46 => ⟨S_, .f32⟩
  | 47 => ⟨S4x4x2x256, .f32⟩
  | 48 => ⟨S4x4x2x256, .f32⟩
  | 49 => ⟨S4x4x2x256, .i32⟩
  | 50 => ⟨S4x4x2x256, .i8⟩
  | 51 => ⟨S_, .i32⟩
  | 52 => ⟨S4, .i32⟩
  | 53 => ⟨S4, .i32⟩
  | 54 => ⟨S_, .i32⟩
  | 55 => ⟨S_, .i32⟩
  | 56 => ⟨S_, .i32⟩
  | 57 => ⟨S4, .i32⟩
  | 58 => ⟨S4, .i32⟩
  | 59 => ⟨S_, .i32⟩
  | 60 => ⟨S4, .i32⟩
  | 61 => ⟨S4, .i32⟩
  | 62 => ⟨S1x16384x2x256, .i8⟩
  | 63 => ⟨S1, .i32⟩
  | 64 => ⟨S_, .i32⟩
  | 65 => ⟨S_, .i32⟩
  | 66 => ⟨S_, .i32⟩
  | 67 => ⟨S_, .i32⟩
  | 68 => ⟨S1x1024x2x256, .i8⟩
  | 69 => ⟨S1x16384x2x256, .i8⟩
  | 70 => ⟨S1, .i32⟩
  | 71 => ⟨S_, .i32⟩
  | 72 => ⟨S_, .i32⟩
  | 73 => ⟨S_, .i32⟩
  | 74 => ⟨S_, .i32⟩
  | 75 => ⟨S1x1024x2x256, .i8⟩
  | 76 => ⟨S1x16384x2x256, .i8⟩
  | 77 => ⟨S1, .i32⟩
  | 78 => ⟨S_, .i32⟩
  | 79 => ⟨S_, .i32⟩
  | 80 => ⟨S_, .i32⟩
  | 81 => ⟨S_, .i32⟩
  | 82 => ⟨S1x1024x2x256, .i8⟩
  | 83 => ⟨S1x16384x2x256, .i8⟩
  | 84 => ⟨S1, .i32⟩
  | 85 => ⟨S_, .i32⟩
  | 86 => ⟨S_, .i32⟩
  | 87 => ⟨S_, .i32⟩
  | 88 => ⟨S_, .i32⟩
  | 89 => ⟨S1x1024x2x256, .i8⟩
  | 90 => ⟨S4x1024x2x256, .i8⟩
  | 91 => ⟨S1x16384x2x256, .i8⟩
  | 92 => ⟨S1, .i32⟩
  | 93 => ⟨S_, .i32⟩
  | 94 => ⟨S_, .i32⟩
  | 95 => ⟨S_, .i32⟩
  | 96 => ⟨S_, .i32⟩
  | 97 => ⟨S1x1024x2x256, .i8⟩
  | 98 => ⟨S1x16384x2x256, .i8⟩
  | 99 => ⟨S1, .i32⟩
  | 100 => ⟨S_, .i32⟩
  | 101 => ⟨S_, .i32⟩
  | 102 => ⟨S_, .i32⟩
  | 103 => ⟨S_, .i32⟩
  | 104 => ⟨S1x1024x2x256, .i8⟩
  | 105 => ⟨S1x16384x2x256, .i8⟩
  | 106 => ⟨S1, .i32⟩
  | 107 => ⟨S_, .i32⟩
  | 108 => ⟨S_, .i32⟩
  | 109 => ⟨S_, .i32⟩
  | 110 => ⟨S_, .i32⟩
  | 111 => ⟨S1x1024x2x256, .i8⟩
  | 112 => ⟨S1x16384x2x256, .i8⟩
  | 113 => ⟨S1, .i32⟩
  | 114 => ⟨S_, .i32⟩
  | 115 => ⟨S_, .i32⟩
  | 116 => ⟨S_, .i32⟩
  | 117 => ⟨S_, .i32⟩
  | 118 => ⟨S1x1024x2x256, .i8⟩
  | 119 => ⟨S4x1024x2x256, .i8⟩
  | 120 => ⟨S1x16384x2, .f32⟩
  | 121 => ⟨S1, .i32⟩
  | 122 => ⟨S_, .i32⟩
  | 123 => ⟨S_, .i32⟩
  | 124 => ⟨S_, .i32⟩
  | 125 => ⟨S1x1024x2, .f32⟩
  | 126 => ⟨S1x16384x2, .f32⟩
  | 127 => ⟨S1, .i32⟩
  | _ => ⟨S4x4x32x256, .bf16⟩

abbrev hbmTy0_1 (i : Nat) : BufTy := match i % 128 with
  | 0 => ⟨S_, .i32⟩
  | 1 => ⟨S_, .i32⟩
  | 2 => ⟨S_, .i32⟩
  | 3 => ⟨S1x1024x2, .f32⟩
  | 4 => ⟨S1x16384x2, .f32⟩
  | 5 => ⟨S1, .i32⟩
  | 6 => ⟨S_, .i32⟩
  | 7 => ⟨S_, .i32⟩
  | 8 => ⟨S_, .i32⟩
  | 9 => ⟨S1x1024x2, .f32⟩
  | 10 => ⟨S1x16384x2, .f32⟩
  | 11 => ⟨S1, .i32⟩
  | 12 => ⟨S_, .i32⟩
  | 13 => ⟨S_, .i32⟩
  | 14 => ⟨S_, .i32⟩
  | 15 => ⟨S1x1024x2, .f32⟩
  | 16 => ⟨S4x1024x2, .f32⟩
  | 17 => ⟨S4x1024x2x256, .i32⟩
  | 18 => ⟨S4x1024x2x256, .f32⟩
  | 19 => ⟨S4x1024x2x256, .bf16⟩
  | 20 => ⟨S4x1024x2x256, .i32⟩
  | 21 => ⟨S4x1024x2x256, .f32⟩
  | 22 => ⟨S4x1024x2x256, .bf16⟩
  | 23 => ⟨S4x4x2x16x256, .bf16⟩
  | 24 => ⟨S4x2x256, .bf16⟩
  | 25 => ⟨S4x1x2x256, .bf16⟩
  | 26 => ⟨S4x1024x2x256, .bf16⟩
  | 27 => ⟨S4x1024x2x256, .bf16⟩
  | 28 => ⟨S4x2x1024x4x16, .f32⟩
  | 29 => ⟨S4x2x16x4x1024, .f32⟩
  | 30 => ⟨S_, .f32⟩
  | 31 => ⟨S4x2x16x4x1024, .f32⟩
  | 32 => ⟨S4x2x16x4x1024, .f32⟩
  | 33 => ⟨S4x2x4x4x16, .f32⟩
  | 34 => ⟨S4x2x16x4x4, .f32⟩
  | 35 => ⟨S_, .f32⟩
  | 36 => ⟨S4x2x16x4x4, .f32⟩
  | 37 => ⟨S4x2x16x4x4, .f32⟩
  | 38 => ⟨S4x1, .i32⟩
  | 39 => ⟨S4, .i32⟩
  | 40 => ⟨S1x4, .i32⟩
  | 41 => ⟨S4x4, .i32⟩
  | 42 => ⟨S4x4, .i32⟩
  | 43 => ⟨S4x4, .i32⟩
  | 44 => ⟨S4x1, .i32⟩
  | 45 => ⟨S1024, .i32⟩
  | 46 => ⟨S1x1024, .i32⟩
  | 47 => ⟨S4x1024, .i32⟩
  | 48 => ⟨S4x1024, .i32⟩
  | 49 => ⟨S4x1024, .i32⟩
  | 50 => ⟨S_, .i32⟩
  | 51 => ⟨S4x4, .i32⟩
  | 52 => ⟨S4x4, .i32⟩
  | 53 => ⟨S4x1x1024, .i32⟩
  | 54 => ⟨S4x1x1, .i32⟩
  | 55 => ⟨S4x1x1024, .i32⟩
  | 56 => ⟨S4x1x1024, .i1⟩
  | 57 => ⟨S4x1x1024, .i32⟩
  | 58 => ⟨S4x4x1, .i32⟩
  | 59 => ⟨S4x4x1024, .i32⟩
  | 60 => ⟨S4x4x1024, .i32⟩
  | 61 => ⟨S4x4x1024, .i1⟩
  | 62 => ⟨S4x4x1024, .i1⟩
  | 63 => ⟨S4x4x1024, .i1⟩
  | 64 => ⟨S4x1x4, .i32⟩
  | 65 => ⟨S4x4x1, .i32⟩
  | 66 => ⟨S4x4x4, .i32⟩
  | 67 => ⟨S4x4x4, .i32⟩
  | 68 => ⟨S4x4x4, .i1⟩
  | 69 => ⟨S4x1x4, .i32⟩
  | 70 => ⟨S4x4x1, .i32⟩
  | 71 => ⟨S4x4x4, .i32⟩
  | 72 => ⟨S4x4x4, .i32⟩
  | 73 => ⟨S4x4x4, .i1⟩
  | 74 => ⟨S4x4x4, .i1⟩
  | 75 => ⟨S4x1x1x4x1024, .i1⟩
  | 76 => ⟨S4x2x16x4x1024, .i1⟩
  | 77 => ⟨S_, .f32⟩
  | 78 => ⟨S4x2x16x4x1024, .f32⟩
  | 79 => ⟨S4x2x16x4x1024, .f32⟩
  | 80 => ⟨S4x1x1x4x4, .i1⟩
  | 81 => ⟨S4x2x16x4x4, .i1⟩
  | 82 => ⟨S_, .f32⟩
  | 83 => ⟨S4x2x16x4x4, .f32⟩
  | 84 => ⟨S4x2x16x4x4, .f32⟩
  | 85 => ⟨S_, .f32⟩
  | 86 => ⟨S4x2x16x4, .f32⟩
  | 87 => ⟨S4x2x16x4x1, .f32⟩
  | 88 => ⟨S_, .f32⟩
  | 89 => ⟨S4x2x16x4, .f32⟩
  | 90 => ⟨S4x2x16x4x1, .f32⟩
  | 91 => ⟨S4x2x16x4x1, .f32⟩
  | 92 => ⟨S4x2x16x4x1024, .f32⟩
  | 93 => ⟨S4x2x16x4x1024, .f32⟩
  | 94 => ⟨S4x2x16x4x1024, .f32⟩
  | 95 => ⟨S4x2x16x4x4, .f32⟩
  | 96 => ⟨S4x2x16x4x4, .f32⟩
  | 97 => ⟨S4x2x16x4x4, .f32⟩
  | 98 => ⟨S_, .f32⟩
  | 99 => ⟨S4x2x16x4, .f32⟩
  | 100 => ⟨S4x2x16x4x1, .f32⟩
  | 101 => ⟨S_, .f32⟩
  | 102 => ⟨S4x2x16x4, .f32⟩
  | 103 => ⟨S4x2x16x4x1, .f32⟩
  | 104 => ⟨S4x2x16x4x1, .f32⟩
  | 105 => ⟨S4x2x16x4x1024, .f32⟩
  | 106 => ⟨S4x2x16x4x1024, .f32⟩
  | 107 => ⟨S4x2x16x4x4, .f32⟩
  | 108 => ⟨S4x2x16x4x4, .f32⟩
  | 109 => ⟨S4x2x1024, .f32⟩
  | 110 => ⟨S4x2x1x1x1024, .f32⟩
  | 111 => ⟨S4x2x16x4x1024, .f32⟩
  | 112 => ⟨S4x2x16x4x1024, .f32⟩
  | 113 => ⟨S4x2x16x4x1024, .bf16⟩
  | 114 => ⟨S4x2x256x16x4, .f32⟩
  | 115 => ⟨S4x4x2x16x256, .f32⟩
  | 116 => ⟨S4x2x16x4x4, .bf16⟩
  | 117 => ⟨S4x2x256x16x4, .f32⟩
  | 118 => ⟨S4x4x2x16x256, .f32⟩
  | 119 => ⟨S4x4x2x16x256, .f32⟩
  | 120 => ⟨S4x4x32x256, .f32⟩
  | 121 => ⟨S4x4x32x256, .bf16⟩
  | _ => ⟨S4x4x32x256, .bf16⟩

abbrev hbmTy (i : Nat) : BufTy := match i / 128 with
  | 0 => hbmTy0_0 i
  | 1 => hbmTy0_1 i
  | _ => ⟨S4x4x32x256, .bf16⟩

abbrev bufTy : (tb : Table) → Fin (tcTables nBuf tb) → BufTy
  | .hbm, ⟨i, _⟩ => hbmTy i
  | _, _ => ⟨S4x4x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_call2_v0 : Ref sig .tc := ⟨.hbm, 34, rfl⟩
abbrev main_call2_v1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_cst_6 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c : Ref sig .tc := ⟨.hbm, 51, rfl⟩
abbrev main_v23 : Ref sig .tc := ⟨.hbm, 52, rfl⟩
abbrev main_v24 : Ref sig .tc := ⟨.hbm, 53, rfl⟩
abbrev main_c_7 : Ref sig .tc := ⟨.hbm, 54, rfl⟩
abbrev main_c_8 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_c_9 : Ref sig .tc := ⟨.hbm, 65, rfl⟩
abbrev main_c_10 : Ref sig .tc := ⟨.hbm, 66, rfl⟩
abbrev main_c_11 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_12 : Ref sig .tc := ⟨.hbm, 72, rfl⟩
abbrev main_c_13 : Ref sig .tc := ⟨.hbm, 73, rfl⟩
abbrev main_c_14 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_15 : Ref sig .tc := ⟨.hbm, 79, rfl⟩
abbrev main_c_16 : Ref sig .tc := ⟨.hbm, 80, rfl⟩
abbrev main_c_17 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_c_18 : Ref sig .tc := ⟨.hbm, 86, rfl⟩
abbrev main_c_19 : Ref sig .tc := ⟨.hbm, 87, rfl⟩
abbrev main_c_20 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_c_21 : Ref sig .tc := ⟨.hbm, 94, rfl⟩
abbrev main_c_22 : Ref sig .tc := ⟨.hbm, 95, rfl⟩
abbrev main_c_23 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_c_24 : Ref sig .tc := ⟨.hbm, 101, rfl⟩
abbrev main_c_25 : Ref sig .tc := ⟨.hbm, 102, rfl⟩
abbrev main_c_26 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_27 : Ref sig .tc := ⟨.hbm, 108, rfl⟩
abbrev main_c_28 : Ref sig .tc := ⟨.hbm, 109, rfl⟩
abbrev main_c_29 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_c_30 : Ref sig .tc := ⟨.hbm, 115, rfl⟩
abbrev main_c_31 : Ref sig .tc := ⟨.hbm, 116, rfl⟩
abbrev main_c_32 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_c_33 : Ref sig .tc := ⟨.hbm, 123, rfl⟩
abbrev main_c_34 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_c_35 : Ref sig .tc := ⟨.hbm, 129, rfl⟩
abbrev main_c_36 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_c_37 : Ref sig .tc := ⟨.hbm, 135, rfl⟩
abbrev main_c_38 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_c_39 : Ref sig .tc := ⟨.hbm, 141, rfl⟩
abbrev main_c_40 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_cst_41 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_cst_42 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_c_43 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_cst_44 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_cst_45 : Ref sig .tc := ⟨.hbm, 210, rfl⟩
abbrev main_v138 : Ref sig .tc := ⟨.hbm, 211, rfl⟩
abbrev main_v139 : Ref sig .tc := ⟨.hbm, 212, rfl⟩
abbrev main_cst_46 : Ref sig .tc := ⟨.hbm, 213, rfl⟩
abbrev main_v140 : Ref sig .tc := ⟨.hbm, 214, rfl⟩
abbrev main_v141 : Ref sig .tc := ⟨.hbm, 215, rfl⟩
abbrev main_cst_47 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_cst_48 : Ref sig .tc := ⟨.hbm, 226, rfl⟩
abbrev main_v151 : Ref sig .tc := ⟨.hbm, 227, rfl⟩
abbrev main_v152 : Ref sig .tc := ⟨.hbm, 228, rfl⟩
abbrev main_cst_49 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩

abbrev nD : Nat := 1
abbrev τ : Topo := Topo.v7x

variable {F : FTy → Type} [FloatOps F]
-- ==== Proof.Words.lean ====
/-
  The window's start as a word. `wbase w` is the first cache row fetched for a sequence of length `w`, `wsbase w` the
  first scale fetched: the clamped start of the window, rounded down to a multiple of 32, capped at 15328; that rounded
  down to a multiple of 128, capped at 15232. Both fit the cache whatever the length word is.
-/
module

public import Idealize.ShloMosaic.Lib.Tactic
public import Idealize.ShloMosaic.Lib.WordCmp
public import Idealize.ShloMosaic.Lib.WordArith

@[expose] public section

noncomputable section

namespace Cert.Words

open Idealize.ShloMosaic

/-- The clamped start of the window of a sequence of length `w`. -/
def wstart (w : BitVec 32) : BitVec 32 := Scalar.minsi 15360#32 (Scalar.maxsi 0#32 (Scalar.subi w 1024#32))

/-- The first cache row fetched. -/
def wbase (w : BitVec 32) : BitVec 32 := Scalar.minsi (Scalar.shli (Scalar.shrui (wstart w) 5#32) 5#32) 15328#32

/-- The first scale fetched. -/
def wsbase (w : BitVec 32) : BitVec 32 := Scalar.minsi (Scalar.shli (Scalar.shrui (wbase w) 7#32) 7#32) 15232#32

/-- A word below `2 ^ 31` read as a signed integer is its value. -/
theorem toInt_small (x : BitVec 32) (h : x.toNat < 2 ^ 31) : x.toInt = (x.toNat : Int) := by
  rw [BitVec.toInt_eq_toNat_cond]; split <;> omega

/-- The clamped start, as a number. -/
theorem wstart_toNat (w : BitVec 32) : ((wstart w).toNat : Int) = max 0 (min 15360 (w - 1024#32).toInt) := by
  have h := BitVec.toInt_eq_toNat_cond (w - 1024#32)
  have hl := (w - 1024#32).isLt
  simp only [wstart, Scalar.minsi, Scalar.maxsi, Scalar.subi, IntOp.minsi, IntOp.maxsi, IntOp.subi, BitVec.slt_iff_toInt_lt]
  have e0 : (0#32 : BitVec 32).toInt = 0 := rfl
  have e1 : (15360#32 : BitVec 32).toInt = 15360 := rfl
  have n0 : (0#32 : BitVec 32).toNat = 0 := rfl
  have n1 : (15360#32 : BitVec 32).toNat = 15360 := rfl
  split at h <;> (repeat' split) <;> simp_all <;> omega

/-- The window starts at row 15360 at the latest. -/
theorem wstart_le (w : BitVec 32) : (wstart w).toNat ≤ 15360 := by
  have := wstart_toNat w; omega

/-- Capping at a constant below `2 ^ 31`. -/
theorem minsi_toNat (x c : BitVec 32) (hx : x.toNat < 2 ^ 31) (hc : c.toNat < 2 ^ 31) :
    (Scalar.minsi x c).toNat = min x.toNat c.toNat := by
  simp only [Scalar.minsi, IntOp.minsi, BitVec.slt_iff_toInt_lt, toInt_small x hx, toInt_small c hc]
  split <;> omega

/-- Rounding a word down to a multiple of `2 ^ n`. -/
theorem round5 (x : BitVec 32) : (Scalar.shli (Scalar.shrui x 5#32) 5#32).toNat = x.toNat / 32 * 32 := by
  have hx := x.isLt
  simp only [Scalar.shli, Scalar.shrui, IntOp.shli, IntOp.shrui]
  simp [BitVec.toNat_shiftLeft, BitVec.toNat_ushiftRight, Nat.shiftLeft_eq, Nat.shiftRight_eq_div_pow]
  omega
/-- Shifting down and up by seven bits rounds down to a multiple of 128. -/
theorem round7 (x : BitVec 32) : (Scalar.shli (Scalar.shrui x 7#32) 7#32).toNat = x.toNat / 128 * 128 := by
  have hx := x.isLt
  simp only [Scalar.shli, Scalar.shrui, IntOp.shli, IntOp.shrui]
  simp [BitVec.toNat_shiftLeft, BitVec.toNat_ushiftRight, Nat.shiftLeft_eq, Nat.shiftRight_eq_div_pow]
  omega

/-- The aligned base of the rows. -/
theorem wbase_toNat (w : BitVec 32) : (wbase w).toNat = min ((wstart w).toNat / 32 * 32) 15328 := by
  have := wstart_le w
  rw [wbase, minsi_toNat _ _ (by rw [round5]; omega) (by decide), round5]; rfl

/-- The aligned base of the scales. -/
theorem wsbase_toNat (w : BitVec 32) : (wsbase w).toNat = min ((wbase w).toNat / 128 * 128) 15232 := by
  have := wstart_le w
  have := wbase_toNat w
  rw [wsbase, minsi_toNat _ _ (by rw [round7]; omega) (by decide), round7]; rfl

/-- The base of the rows leaves room for the fetch. -/
theorem wbase_le (w : BitVec 32) : (wbase w).toNat ≤ 15328 := by rw [wbase_toNat]; omega
/-- The base of the rows is a multiple of 32. -/
theorem wbase_dvd (w : BitVec 32) : 32 ∣ (wbase w).toNat := by rw [wbase_toNat]; omega
/-- The base of the scales leaves room for the fetch. -/
theorem wsbase_le (w : BitVec 32) : (wsbase w).toNat ≤ 15232 := by rw [wsbase_toNat]; omega
/-- The base of the scales is a multiple of 128. -/
theorem wsbase_dvd (w : BitVec 32) : 128 ∣ (wsbase w).toNat := by rw [wsbase_toNat]; omega

end Cert.Words

end
-- ==== Proof.BodyI.lean ====
/-
  The kernel's body, run once at whole operands: from the operands, the results, the scratch buffers and the semaphores it
  returns with the operands as they were, the results at contents the run finds, and every semaphore at zero.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Words
public import Idealize.ShloMosaic.Lib.Pipeline.FrameBody
public import Idealize.ShloMosaic.Lib.Tactic
public import Idealize.ShloMosaic.Lib.WordCmp

@[expose] public section

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- A buffer's contents on core `c`. -/
abbrev Bf (c : Dev nD) (r : Ref sig .tc) : Type := Buf (Elt F) ((Memref.whole r).view.loc (c : Thread nD τ))
/-- A buffer held whole at `f`. -/
abbrev pt (c : Dev nD) (r : Ref sig .tc) (f : Bf (F := F) c r) : sProp 𝕄 := (Memref.whole r).view.loc (c : Thread nD τ) ↦{fullShare} f
/-- A buffer at `f`, held at the share set aside for the transfer on cell `j`. -/
abbrev tk (c : Dev nD) (r : Ref sig .tc) (j : ℕ) (f : Bf (F := F) c r) : sProp 𝕄 :=
  (Memref.whole r).view.loc (c : Thread nD τ) ↦{Transfers.shareTokN fullShare j} f
/-- Transfer cell `j` at zero. -/
abbrev sv (c : Dev nD) (j : Fin 32) : sProp 𝕄 := semVal ((c : Thread nD τ), SemLoc.dma j) 0

/-- An aligned window of 1056 rows of one sequence and head lies in the cache. -/
theorem inb4 (a b x : ℕ) (ha : a < 4) (hb : b < 2) (hx : x ≤ 15328) :
    ∀ i, (![a, b, x, 0] : Fin 4 → ℕ) i + S1x1x1056x256.size i ≤ S4x2x16384x256.size i := by
  intro i; fin_cases i
  · show a + 1 ≤ 4; omega
  · show b + 1 ≤ 2; omega
  · show x + 1056 ≤ 16384; omega
  · show 0 + 256 ≤ 256; omega
/-- An aligned window of 1152 scales of one sequence lies in the array of scales. -/
theorem inb3 (a x : ℕ) (ha : a < 4) (hx : x ≤ 15232) :
    ∀ i, (![a, 0, x] : Fin 3 → ℕ) i + S1x2x1152.size i ≤ S4x2x16384.size i := by
  intro i; fin_cases i
  · show a + 1 ≤ 4; omega
  · show 0 + 2 ≤ 2; omega
  · show x + 1152 ≤ 16384; omega
/-- A window that starts at a multiple of 32 rows covers whole words. -/
theorem words4 (o : Fin 4 → ℕ) (a b x : ℕ) (ho : o = ![a, b, x, 0]) (hx : 32 ∣ x)
    (h : ∀ i, o i + S1x1x1056x256.size i ≤ S4x2x16384x256.size i) :
    (Rect.unit (s := S4x2x16384x256) o S1x1x1056x256.size h).WholeWords (EltTy.packing .i8) := by
  subst ho
  refine .inl (.inr ⟨by decide, rfl, .inl ⟨?_, ?_⟩⟩)
  · show 4 ∣ x; omega
  · show 4 ∣ 1056; decide
/-- The fetches of sequence 1 (counted from one) stay in bounds and are aligned. -/
theorem chk1 (v : BitVec 32) : k0_chk1 v :=
  ⟨wbase_dvd v, wsbase_dvd v, inb3 0 _ (by decide) (wsbase_le v), inb4 0 0 _ (by decide) (by decide) (wbase_le v), words4 _ 0 0 (wbase v).toNat rfl (wbase_dvd v), inb4 0 1 _ (by decide) (by decide) (wbase_le v), words4 _ 0 1 (wbase v).toNat rfl (wbase_dvd v), inb3 0 _ (by decide) (wsbase_le v), inb4 0 0 _ (by decide) (by decide) (wbase_le v), words4 _ 0 0 (wbase v).toNat rfl (wbase_dvd v), inb4 0 1 _ (by decide) (by decide) (wbase_le v), words4 _ 0 1 (wbase v).toNat rfl (wbase_dvd v)⟩
/-- The fetches of sequence 2 (counted from one) stay in bounds and are aligned. -/
theorem chk2 (v : BitVec 32) : k0_chk2 v :=
  ⟨wbase_dvd v, wsbase_dvd v, inb3 1 _ (by decide) (wsbase_le v), inb4 1 0 _ (by decide) (by decide) (wbase_le v), words4 _ 1 0 (wbase v).toNat rfl (wbase_dvd v), inb4 1 1 _ (by decide) (by decide) (wbase_le v), words4 _ 1 1 (wbase v).toNat rfl (wbase_dvd v), inb3 1 _ (by decide) (wsbase_le v), inb4 1 0 _ (by decide) (by decide) (wbase_le v), words4 _ 1 0 (wbase v).toNat rfl (wbase_dvd v), inb4 1 1 _ (by decide) (by decide) (wbase_le v), words4 _ 1 1 (wbase v).toNat rfl (wbase_dvd v)⟩
/-- The fetches of sequence 3 (counted from one) stay in bounds and are aligned. -/
theorem chk3 (v : BitVec 32) : k0_chk3 v :=
  ⟨wbase_dvd v, wsbase_dvd v, inb3 2 _ (by decide) (wsbase_le v), inb4 2 0 _ (by decide) (by decide) (wbase_le v), words4 _ 2 0 (wbase v).toNat rfl (wbase_dvd v), inb4 2 1 _ (by decide) (by decide) (wbase_le v), words4 _ 2 1 (wbase v).toNat rfl (wbase_dvd v), inb3 2 _ (by decide) (wsbase_le v), inb4 2 0 _ (by decide) (by decide) (wbase_le v), words4 _ 2 0 (wbase v).toNat rfl (wbase_dvd v), inb4 2 1 _ (by decide) (by decide) (wbase_le v), words4 _ 2 1 (wbase v).toNat rfl (wbase_dvd v)⟩
/-- The fetches of sequence 4 (counted from one) stay in bounds and are aligned. -/
theorem chk4 (v : BitVec 32) : k0_chk4 v :=
  ⟨wbase_dvd v, wsbase_dvd v, inb3 3 _ (by decide) (wsbase_le v), inb4 3 0 _ (by decide) (by decide) (wbase_le v), words4 _ 3 0 (wbase v).toNat rfl (wbase_dvd v), inb4 3 1 _ (by decide) (by decide) (wbase_le v), words4 _ 3 1 (wbase v).toNat rfl (wbase_dvd v)⟩

set_option maxHeartbeats 0 in
set_option sl_exec.resultNames true in
set_option sl_exec.dmaWindow true in
/-- What the body leaves in the four results, with the proof that it does. -/
noncomputable def kernelRun (c : Dev nD)
    (f7 : Bf (F := F) c main_arg7) (f0 : Bf (F := F) c main_arg0) (f1 : Bf (F := F) c main_arg1) (f2 : Bf (F := F) c main_arg2)
    (f4 : Bf (F := F) c main_arg4) (g0 : Bf (F := F) c main_v0) (g1 : Bf (F := F) c main_v1) (g2 : Bf (F := F) c main_v2)
    (o0 : Bf (F := F) c main_v3_0) (o1 : Bf (F := F) c main_v3_1) (o2 : Bf (F := F) c main_v3_2) (o3 : Bf (F := F) c main_v3_3)
    (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) (s12 : Bf (F := F) c cc0_scratch12) (s13 : Bf (F := F) c cc0_scratch13) :
    { W : Bf (F := F) c main_v3_0 × Bf (F := F) c main_v3_1 × Bf (F := F) c main_v3_2 × Bf (F := F) c main_v3_3 //
      ∀ (W0 : Waits sig Unit) (Q : PUnit → sProp 𝕄),
        iprop(pt c main_arg7 f7 ∗ pt c main_arg0 f0 ∗ pt c main_arg1 f1 ∗ pt c main_arg2 f2 ∗
          pt c main_arg4 f4 ∗ tk c main_v0 5 g0 ∗ tk c main_v0 6 g0 ∗ tk c main_v0 7 g0 ∗
          tk c main_v0 8 g0 ∗ tk c main_v0 9 g0 ∗ tk c main_v0 10 g0 ∗ tk c main_v0 11 g0 ∗
          tk c main_v0 12 g0 ∗ tk c main_v1 13 g1 ∗ tk c main_v1 14 g1 ∗ tk c main_v1 15 g1 ∗
          tk c main_v1 16 g1 ∗ tk c main_v1 17 g1 ∗ tk c main_v1 18 g1 ∗ tk c main_v1 19 g1 ∗
          tk c main_v1 20 g1 ∗ tk c main_v2 21 g2 ∗ tk c main_v2 22 g2 ∗ tk c main_v2 23 g2 ∗
          tk c main_v2 24 g2 ∗ pt c main_v3_0 o0 ∗ pt c main_v3_1 o1 ∗ pt c main_v3_2 o2 ∗
          pt c main_v3_3 o3 ∗ pt c cc0_scratch0 s0 ∗ pt c cc0_scratch1 s1 ∗ pt c cc0_scratch2 s2 ∗
          pt c cc0_scratch3 s3 ∗ pt c cc0_scratch4 s4 ∗ pt c cc0_scratch5 s5 ∗ pt c cc0_scratch6 s6 ∗
          pt c cc0_scratch7 s7 ∗ pt c cc0_scratch8 s8 ∗ pt c cc0_scratch9 s9 ∗ pt c cc0_scratch10 s10 ∗
          pt c cc0_scratch11 s11 ∗ pt c cc0_scratch12 s12 ∗ pt c cc0_scratch13 s13 ∗ sv c 0 ∗
          sv c 1 ∗ sv c 2 ∗ sv c 3 ∗ sv c 4 ∗
          sv c 5 ∗ sv c 6 ∗ sv c 7 ∗ sv c 8 ∗
          sv c 9 ∗ sv c 10 ∗ sv c 11 ∗ sv c 12 ∗
          sv c 13 ∗ sv c 14 ∗ sv c 15 ∗ sv c 16 ∗
          sv c 17 ∗ sv c 18 ∗ sv c 19 ∗ sv c 20 ∗
          sv c 21 ∗ sv c 22 ∗ sv c 23 ∗ sv c 24 ∗
          sv c 25 ∗ sv c 26 ∗ sv c 27 ∗ sv c 28 ∗
          sv c 29 ∗ sv c 30 ∗ sv c 31 ∗ owes (c : Thread nD τ) 0 W0 ∗
          (iprop(pt c main_arg7 f7 ∗ pt c main_arg0 f0 ∗ pt c main_arg1 f1 ∗ pt c main_arg2 f2 ∗
            pt c main_arg4 f4 ∗ tk c main_v0 5 g0 ∗ tk c main_v0 6 g0 ∗ tk c main_v0 7 g0 ∗
            tk c main_v0 8 g0 ∗ tk c main_v0 9 g0 ∗ tk c main_v0 10 g0 ∗ tk c main_v0 11 g0 ∗
            tk c main_v0 12 g0 ∗ tk c main_v1 13 g1 ∗ tk c main_v1 14 g1 ∗ tk c main_v1 15 g1 ∗
            tk c main_v1 16 g1 ∗ tk c main_v1 17 g1 ∗ tk c main_v1 18 g1 ∗ tk c main_v1 19 g1 ∗
            tk c main_v1 20 g1 ∗ tk c main_v2 21 g2 ∗ tk c main_v2 22 g2 ∗ tk c main_v2 23 g2 ∗
            tk c main_v2 24 g2 ∗ pt c main_v3_0 (W.1) ∗ pt c main_v3_1 (W.2.1) ∗ pt c main_v3_2 (W.2.2.1) ∗
            pt c main_v3_3 (W.2.2.2) ∗ (∃ f, pt c cc0_scratch0 f) ∗ (∃ f, pt c cc0_scratch1 f) ∗ (∃ f, pt c cc0_scratch2 f) ∗
            (∃ f, pt c cc0_scratch3 f) ∗ (∃ f, pt c cc0_scratch4 f) ∗ (∃ f, pt c cc0_scratch5 f) ∗ (∃ f, pt c cc0_scratch6 f) ∗
            (∃ f, pt c cc0_scratch7 f) ∗ (∃ f, pt c cc0_scratch8 f) ∗ (∃ f, pt c cc0_scratch9 f) ∗ (∃ f, pt c cc0_scratch10 f) ∗
            (∃ f, pt c cc0_scratch11 f) ∗ (∃ f, pt c cc0_scratch12 f) ∗ (∃ f, pt c cc0_scratch13 f) ∗ sv c 0 ∗
            sv c 1 ∗ sv c 2 ∗ sv c 3 ∗ sv c 4 ∗
            sv c 5 ∗ sv c 6 ∗ sv c 7 ∗ sv c 8 ∗
            sv c 9 ∗ sv c 10 ∗ sv c 11 ∗ sv c 12 ∗
            sv c 13 ∗ sv c 14 ∗ sv c 15 ∗ sv c 16 ∗
            sv c 17 ∗ sv c 18 ∗ sv c 19 ∗ sv c 20 ∗
            sv c 21 ∗ sv c 22 ∗ sv c 23 ∗ sv c 24 ∗
            sv c 25 ∗ sv c 26 ∗ sv c 27 ∗ sv c 28 ∗
            sv c 29 ∗ sv c 30 ∗ sv c 31 ∗ (∃ W', owes (c : Thread nD τ) 0 W')) -∗ Q ⟨⟩))
        ⊢ wp frame (wpE (defs₀ (F := F)) Variants.none c none) Set.univ
            (cc0_window_attn (Memref.whole main_arg7) (Memref.isWhole_whole _) (Memref.whole main_arg0) (Memref.isWhole_whole _) (Memref.whole main_arg1) (Memref.isWhole_whole _) (Memref.whole main_arg2) (Memref.isWhole_whole _) (Memref.whole main_arg4) (Memref.isWhole_whole _) (Memref.whole main_v0) (Memref.isWhole_whole _) (Memref.whole main_v1) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20) Q } := by
  refine ⟨⟨?_, ?_, ?_, ?_⟩, fun W0 Q => ?run⟩
  case run =>
    iintro ⟨Hf7, Hf0, Hf1, Hf2, Hf4, T5, T6, T7, T8, T9, T10, T11, T12, T13, T14, T15, T16, T17, T18, T19, T20, T21, T22, T23, T24, O0, O1, O2, O3, S0, S1, S2, S3, S4, S5, S6, S7, S8, S9, S10, S11, S12, S13, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, HW, Hk⟩
    sl_exec_parts! (disch := first | exact chk1 _ | exact chk2 _ | exact chk3 _ | exact chk4 _)
    sl_step
    iapply Hk
    isplitl [Hf7]; · iexact Hf7
    isplitl [Hf0]; · iexact Hf0
    isplitl [Hf1]; · iexact Hf1
    isplitl [Hf2]; · iexact Hf2
    isplitl [Hf4]; · iexact Hf4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [O0]; · iexact O0
    isplitl [O1]; · iexact O1
    isplitl [O2]; · iexact O2
    isplitl [O3]; · iexact O3
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    iexists _; iexact HW

end Cert.KernelIdeal.Hand

end
-- ==== Proof.LaunchI.lean ====
/-
  The launch of the kernel: what it holds when its region is entered, the body's run restated over it, and the whole program's
  run with its arguments as they were and every semaphore at zero.
-/
module

public import proofs.«01_k».proof.Proof.BodyI
public import proofs.«01_k».proof.Proof.Gen.KernelIdeal.Frame
public import Idealize.ShloMosaic.Lib.Pipeline.FrameSuffixV
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (Pipeline.UD sig nD τ) ℕ

/-- The kernel's own semaphores: its 32 transfer cells. -/
def osem0 : Fin 32 → SemLoc sig := fun j => SemLoc.dma j
/-- The semaphores of the launch are its own. -/
theorem ownSemFacts0 : Pipeline.OwnSemFacts cfg0.spec osem0 := by decide

/-- The operands the body reads. -/
def H0 : Finset (Ref sig .tc) := {main_arg7, main_arg0, main_arg1, main_arg2, main_arg4, main_v0, main_v1, main_v2}
/-- The results the body writes. -/
def R0 : Finset (Ref sig .tc) := {main_v3_0, main_v3_1, main_v3_2, main_v3_3}
/-- The buffers the host lines after the kernel write. -/
def T0 : Finset (Ref sig .tc) := {main_v4, main_v5, main_v6}
/-- The arrays the body only reads are not among the launch's blocks. -/
theorem H0_sub : H0 ⊆ Pipeline.restRefs sig cfg0.spec := by decide
/-- The arrays the body writes are neither blocks nor only read. -/
theorem R0_sub : R0 ⊆ Pipeline.restRefs sig cfg0.spec \ H0 := by decide

/-- The scratch buffers, one by one. -/
theorem scoped_eq (c : Dev nD) :
    (Pipeline.scopedRest (Ix := Unit) (Name := ℕ) (U := Pipeline.UD sig nD τ) (Lvl := ℕ) (Val := Elt F) cfg0.spec c : sProp 𝕄)
      = iprop((∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch0 f)) := scopedRest0_eq c
set_option maxHeartbeats 4000000 in
/-- The cells, one by one. -/
theorem ownSems_eq (c : Dev nD) :
    (Pipeline.ownSems0 (Ix := Unit) (Name := ℕ) (U := Pipeline.UD sig nD τ) (Lvl := ℕ) (Val := Elt F) (τ := τ) osem0 c : sProp 𝕄)
      = iprop(sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24 ∗ sv c 25 ∗ sv c 26 ∗ sv c 27 ∗ sv c 28 ∗ sv c 29 ∗ sv c 30 ∗ sv c 31) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl
/-- Given contents on the operands, one by one. -/
theorem hbmPts_eq (c : Dev nD) (V : (b : Ref sig .tc) → Buf (Elt F) ((c : Thread nD τ).loc b)) :
    (bigSep H0 (fun b => ((c : Thread nD τ).loc b) ↦{fullShare} V b) : sProp 𝕄)
      = iprop(pt c main_arg7 (V main_arg7) ∗ pt c main_arg0 (V main_arg0) ∗ pt c main_arg1 (V main_arg1) ∗ pt c main_arg2 (V main_arg2) ∗ pt c main_arg4 (V main_arg4) ∗ pt c main_v0 (V main_v0) ∗ pt c main_v1 (V main_v1) ∗ pt c main_v2 (V main_v2)) := by
  rw [BI.bigSep_eq_bigSepL_of_eq [main_arg7, main_arg0, main_arg1, main_arg2, main_arg4, main_v0, main_v1, main_v2] (by decide) (by decide)]; rfl
/-- The results at some contents, one by one. -/
theorem owned_eq (c : Dev nD) :
    (Pipeline.owned R0 c : sProp 𝕄) = iprop((∃ f, pt c main_v3_0 f) ∗ (∃ f, pt c main_v3_1 f) ∗ (∃ f, pt c main_v3_2 f) ∗ (∃ f, pt c main_v3_3 f)) := by
  unfold Pipeline.owned; rw [BI.bigSep_eq_bigSepL_of_eq [main_v3_0, main_v3_1, main_v3_2, main_v3_3] (by decide) (by decide)]; rfl
/-- The results at given contents, one by one. -/
theorem resPts_eq (c : Dev nD) (G : (b : Ref sig .tc) → Buf (Elt F) ((c : Thread nD τ).loc b)) :
    (bigSep R0 (fun b => ((c : Thread nD τ).loc b) ↦{fullShare} G b) : sProp 𝕄)
      = iprop(pt c main_v3_0 (G main_v3_0) ∗ pt c main_v3_1 (G main_v3_1) ∗ pt c main_v3_2 (G main_v3_2) ∗ pt c main_v3_3 (G main_v3_3)) := by
  rw [BI.bigSep_eq_bigSepL_of_eq [main_v3_0, main_v3_1, main_v3_2, main_v3_3] (by decide) (by decide)]; rfl

/-- A whole buffer's share divided: one part for each of the listed transfers, and a remainder. -/
theorem toks_eq (c : Dev nD) (r : Ref sig .tc) (f : Bf (F := F) c r) (L : List ℕ) (hL : L.Nodup) (hsub : L.toFinset ⊆ Finset.range 25) :
    (pt c r f : sProp 𝕄) ⊣⊢ iprop((((Memref.whole r).view.loc (c : Thread nD τ) ↦{Transfers.shareDrop fullShare 25} f)
        ∗ bigSep (Finset.range 25 \ L.toFinset) (fun j => tk c r j f)) ∗ bigSepL L (fun j => tk c r j f)) := by
  have h := Transfers.pointsTo_toks_range (Ix := Unit) (Name := ℕ) (U := Pipeline.UD sig nD τ) (Lvl := ℕ) (ℓ := (Memref.whole r).view.loc (c : Thread nD τ)) (S := Finset.univ) (f := f) fullShare 25
  have e : bigSep (Finset.range 25) (fun j => tk c r j f)
      = iprop(bigSepL L (fun j => tk c r j f) ∗ bigSep (Finset.range 25 \ L.toFinset) (fun j => tk c r j f)) := by
    rw [BI.bigSep_sdiff_split hsub, BI.bigSep_eq_bigSepL_of_eq L rfl hL]; rfl
  refine ⟨h.1.trans ?_, BIBase.Entails.trans ?_ h.2⟩
  · refine (show _ ⊢ iprop(_ ∗ bigSep (Finset.range 25) (fun j => tk c r j f)) from .rfl).trans ?_
    rw [e]
    iintro ⟨A, B, C⟩
    isplitl [A C]
    · isplitl [A]; · iexact A
      iexact C
    · iexact B
  · refine BIBase.Entails.trans ?_ (show iprop(_ ∗ bigSep (Finset.range 25) (fun j => tk c r j f)) ⊢ _ from .rfl)
    rw [e]
    iintro ⟨⟨A, C⟩, B⟩
    isplitl [A]; · iexact A
    isplitl [B]; · iexact B
    iexact C

variable (m : (ℓ : Loc nD τ sig) → Buf (Elt F) ℓ) (ρ : Dev nD → PrngReg)

/-- What the body leaves in the results, from operands as the region finds them, at given earlier contents of the results
    and the scratch buffers. -/
abbrev runAt (c : Dev nD) (o0 : Bf (F := F) c main_v3_0) (o1 : Bf (F := F) c main_v3_1) (o2 : Bf (F := F) c main_v3_2) (o3 : Bf (F := F) c main_v3_3) (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) (s12 : Bf (F := F) c cc0_scratch12) (s13 : Bf (F := F) c cc0_scratch13) :
    Bf (F := F) c main_v3_0 × Bf (F := F) c main_v3_1 × Bf (F := F) c main_v3_2 × Bf (F := F) c main_v3_3 :=
  (kernelRun c (V m c main_arg7) (V m c main_arg0) (V m c main_arg1) (V m c main_arg2) (V m c main_arg4) (V m c main_v0) (V m c main_v1) (V m c main_v2) o0 o1 o2 o3 s0 s1 s2 s3 s4 s5 s6 s7 s8 s9 s10 s11 s12 s13).1
/-- The results as the body leaves them. -/
def outs (c : Dev nD) : sProp 𝕄 :=
  iprop(∃ o0 o1 o2 o3 s0 s1 s2 s3 s4 s5 s6 s7 s8 s9 s10 s11 s12 s13, pt c main_v3_0 (runAt m c o0 o1 o2 o3 s0 s1 s2 s3 s4 s5 s6 s7 s8 s9 s10 s11 s12 s13).1 ∗ pt c main_v3_1 (runAt m c o0 o1 o2 o3 s0 s1 s2 s3 s4 s5 s6 s7 s8 s9 s10 s11 s12 s13).2.1
    ∗ pt c main_v3_2 (runAt m c o0 o1 o2 o3 s0 s1 s2 s3 s4 s5 s6 s7 s8 s9 s10 s11 s12 s13).2.2.1 ∗ pt c main_v3_3 (runAt m c o0 o1 o2 o3 s0 s1 s2 s3 s4 s5 s6 s7 s8 s9 s10 s11 s12 s13).2.2.2)

set_option maxHeartbeats 0 in
/-- The body's run over what the launch holds: the scratch buffers, the cells, the operands, the results. -/
theorem body_wp (c : Dev nD) (t : Fin cfg0.N) (W0 : Waits sig Unit) (Q : PUnit → sProp 𝕄) :
    iprop(Pipeline.scopedRest (Ix := Unit) (Name := ℕ) (U := Pipeline.UD sig nD τ) (Lvl := ℕ) (Val := Elt F) cfg0.spec c
        ∗ Pipeline.ownSems0 (Ix := Unit) (Name := ℕ) (U := Pipeline.UD sig nD τ) (Lvl := ℕ) (Val := Elt F) (τ := τ) osem0 c
        ∗ (bigSep H0 fun b => ((c : Thread nD τ).loc b) ↦{fullShare} V m c b) ∗ Pipeline.owned R0 c ∗ owes (c : Thread nD τ) 0 W0
        ∗ (iprop(Pipeline.scopedRest (Ix := Unit) (Name := ℕ) (U := Pipeline.UD sig nD τ) (Lvl := ℕ) (Val := Elt F) cfg0.spec c
          ∗ Pipeline.ownSems0 (Ix := Unit) (Name := ℕ) (U := Pipeline.UD sig nD τ) (Lvl := ℕ) (Val := Elt F) (τ := τ) osem0 c
          ∗ (bigSep H0 fun b => ((c : Thread nD τ).loc b) ↦{fullShare} V m c b) ∗ outs m c ∗ ∃ W', owes (c : Thread nD τ) 0 W') -∗ Q ⟨⟩))
      ⊢ wp frame (wpE (defs₀ (F := F)) Variants.none c none) Set.univ (bodyAt0 t) Q := by
  unfold bodyAt0
  rw [scoped_eq, ownSems_eq, hbmPts_eq, owned_eq]
  unfold outs
  iintro ⟨⟨⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s0, S0⟩⟩, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31⟩, ⟨A7, A0, A1, A2, A4, G0, G1, G2⟩, ⟨⟨%o0, O0⟩, ⟨%o1, O1⟩, ⟨%o2, O2⟩, ⟨%o3, O3⟩⟩, HW, HK⟩
  ihave G := (toks_eq c main_v0 (V m c main_v0) [5, 6, 7, 8, 9, 10, 11, 12] (by decide) (by decide)).1 $$ G0
  icases G with ⟨XG0, G0⟩
  ihave G := (show bigSepL [5, 6, 7, 8, 9, 10, 11, 12] (fun j => tk c main_v0 j (V m c main_v0)) ⊢ iprop(tk c main_v0 5 (V m c main_v0) ∗ tk c main_v0 6 (V m c main_v0) ∗ tk c main_v0 7 (V m c main_v0) ∗ tk c main_v0 8 (V m c main_v0) ∗ tk c main_v0 9 (V m c main_v0) ∗ tk c main_v0 10 (V m c main_v0) ∗ tk c main_v0 11 (V m c main_v0) ∗ tk c main_v0 12 (V m c main_v0)) from .rfl) $$ G0
  icases G with ⟨T5, T6, T7, T8, T9, T10, T11, T12⟩
  ihave G := (toks_eq c main_v1 (V m c main_v1) [13, 14, 15, 16, 17, 18, 19, 20] (by decide) (by decide)).1 $$ G1
  icases G with ⟨XG1, G1⟩
  ihave G := (show bigSepL [13, 14, 15, 16, 17, 18, 19, 20] (fun j => tk c main_v1 j (V m c main_v1)) ⊢ iprop(tk c main_v1 13 (V m c main_v1) ∗ tk c main_v1 14 (V m c main_v1) ∗ tk c main_v1 15 (V m c main_v1) ∗ tk c main_v1 16 (V m c main_v1) ∗ tk c main_v1 17 (V m c main_v1) ∗ tk c main_v1 18 (V m c main_v1) ∗ tk c main_v1 19 (V m c main_v1) ∗ tk c main_v1 20 (V m c main_v1)) from .rfl) $$ G1
  icases G with ⟨T13, T14, T15, T16, T17, T18, T19, T20⟩
  ihave G := (toks_eq c main_v2 (V m c main_v2) [21, 22, 23, 24] (by decide) (by decide)).1 $$ G2
  icases G with ⟨XG2, G2⟩
  ihave G := (show bigSepL [21, 22, 23, 24] (fun j => tk c main_v2 j (V m c main_v2)) ⊢ iprop(tk c main_v2 21 (V m c main_v2) ∗ tk c main_v2 22 (V m c main_v2) ∗ tk c main_v2 23 (V m c main_v2) ∗ tk c main_v2 24 (V m c main_v2)) from .rfl) $$ G2
  icases G with ⟨T21, T22, T23, T24⟩
  iapply ((kernelRun c (V m c main_arg7) (V m c main_arg0) (V m c main_arg1) (V m c main_arg2) (V m c main_arg4) (V m c main_v0) (V m c main_v1) (V m c main_v2) o0 o1 o2 o3 s0 s1 s2 s3 s4 s5 s6 s7 s8 s9 s10 s11 s12 s13).2 W0 _)
  isplitl [A7]; · iexact A7
  isplitl [A0]; · iexact A0
  isplitl [A1]; · iexact A1
  isplitl [A2]; · iexact A2
  isplitl [A4]; · iexact A4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [O0]; · iexact O0
  isplitl [O1]; · iexact O1
  isplitl [O2]; · iexact O2
  isplitl [O3]; · iexact O3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [HW]; · iexact HW
  iintro ⟨A7, A0, A1, A2, A4, T5, T6, T7, T8, T9, T10, T11, T12, T13, T14, T15, T16, T17, T18, T19, T20, T21, T22, T23, T24, O0, O1, O2, O3, S0, S1, S2, S3, S4, S5, S6, S7, S8, S9, S10, S11, S12, S13, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, HW⟩
  ihave G0 := (show iprop(tk c main_v0 5 (V m c main_v0) ∗ tk c main_v0 6 (V m c main_v0) ∗ tk c main_v0 7 (V m c main_v0) ∗ tk c main_v0 8 (V m c main_v0) ∗ tk c main_v0 9 (V m c main_v0) ∗ tk c main_v0 10 (V m c main_v0) ∗ tk c main_v0 11 (V m c main_v0) ∗ tk c main_v0 12 (V m c main_v0)) ⊢ bigSepL [5, 6, 7, 8, 9, 10, 11, 12] (fun j => tk c main_v0 j (V m c main_v0)) from .rfl) $$ [T5 T6 T7 T8 T9 T10 T11 T12]
  · isplitl [T5]; · iexact T5
    isplitl [T6]; · iexact T6
    isplitl [T7]; · iexact T7
    isplitl [T8]; · iexact T8
    isplitl [T9]; · iexact T9
    isplitl [T10]; · iexact T10
    isplitl [T11]; · iexact T11
    iexact T12
  ihave G0 := (toks_eq c main_v0 (V m c main_v0) [5, 6, 7, 8, 9, 10, 11, 12] (by decide) (by decide)).2 $$ [XG0 G0]
  · isplitl [XG0]; · iexact XG0
    iexact G0
  ihave G1 := (show iprop(tk c main_v1 13 (V m c main_v1) ∗ tk c main_v1 14 (V m c main_v1) ∗ tk c main_v1 15 (V m c main_v1) ∗ tk c main_v1 16 (V m c main_v1) ∗ tk c main_v1 17 (V m c main_v1) ∗ tk c main_v1 18 (V m c main_v1) ∗ tk c main_v1 19 (V m c main_v1) ∗ tk c main_v1 20 (V m c main_v1)) ⊢ bigSepL [13, 14, 15, 16, 17, 18, 19, 20] (fun j => tk c main_v1 j (V m c main_v1)) from .rfl) $$ [T13 T14 T15 T16 T17 T18 T19 T20]
  · isplitl [T13]; · iexact T13
    isplitl [T14]; · iexact T14
    isplitl [T15]; · iexact T15
    isplitl [T16]; · iexact T16
    isplitl [T17]; · iexact T17
    isplitl [T18]; · iexact T18
    isplitl [T19]; · iexact T19
    iexact T20
  ihave G1 := (toks_eq c main_v1 (V m c main_v1) [13, 14, 15, 16, 17, 18, 19, 20] (by decide) (by decide)).2 $$ [XG1 G1]
  · isplitl [XG1]; · iexact XG1
    iexact G1
  ihave G2 := (show iprop(tk c main_v2 21 (V m c main_v2) ∗ tk c main_v2 22 (V m c main_v2) ∗ tk c main_v2 23 (V m c main_v2) ∗ tk c main_v2 24 (V m c main_v2)) ⊢ bigSepL [21, 22, 23, 24] (fun j => tk c main_v2 j (V m c main_v2)) from .rfl) $$ [T21 T22 T23 T24]
  · isplitl [T21]; · iexact T21
    isplitl [T22]; · iexact T22
    isplitl [T23]; · iexact T23
    iexact T24
  ihave G2 := (toks_eq c main_v2 (V m c main_v2) [21, 22, 23, 24] (by decide) (by decide)).2 $$ [XG2 G2]
  · isplitl [XG2]; · iexact XG2
    iexact G2
  iapply HK
  isplitl [S1 S2 S3 S4 S5 S6 S7 S8 S9 S10 S11 S12 S13 S0]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact S0
  isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    iexact Q31
  isplitl [A7 A0 A1 A2 A4 G0 G1 G2]
  · isplitl [A7]; · iexact A7
    isplitl [A0]; · iexact A0
    isplitl [A1]; · iexact A1
    isplitl [A2]; · iexact A2
    isplitl [A4]; · iexact A4
    isplitl [G0]; · iexact G0
    isplitl [G1]; · iexact G1
    iexact G2
  isplitl [O0 O1 O2 O3]
  · iexists o0, o1, o2, o3, s0, s1, s2, s3, s4, s5, s6, s7, s8, s9, s10, s11, s12, s13
    isplitl [O0]; · iexact O0
    isplitl [O1]; · iexact O1
    isplitl [O2]; · iexact O2
    iexact O3
  iexact HW

/-- The results as the body leaves them are at some contents. -/
theorem outs_owned (c : Dev nD) : (outs m c : sProp 𝕄) ⊢ Pipeline.owned R0 c := by
  unfold outs
  rw [owned_eq]
  iintro ⟨%o0, %o1, %o2, %o3, %s0, %s1, %s2, %s3, %s4, %s5, %s6, %s7, %s8, %s9, %s10, %s11, %s12, %s13, O0, O1, O2, O3⟩
  isplitl [O0]; · iexists _; iexact O0
  isplitl [O1]; · iexists _; iexact O1
  isplitl [O2]; · iexists _; iexact O2
  iexists _; iexact O3

/-- The body as it is called at a grid point. -/
theorem defs₀_row (t : Fin cfg0.N) :
    defs₀ (F := F) .tc cfg0.body (cfg0.bodyArgs t (cfg0.slots t)) = bodyAt0 t := by
  unfold defs₀; rw [Defs.onTc_tc]

/-- There are no blocks, so what is held for them is nothing. -/
theorem bigSep_W (Φ : Fin cfg0.W → sProp 𝕄) : bigSep Finset.univ Φ = (BI.emp : sProp 𝕄) := by
  rw [show (Finset.univ : Finset (Fin cfg0.W)) = ∅ from by decide]; exact BI.bigSep_empty

/-- The program around the kernel: host lines, the kernel, host lines. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The frame: the results at some contents -/

/-- The proof data: between points, the scratch buffers, the cells at zero, the operands as found, the results owned. -/
def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (V m) c
  q _ := fullShare
  owed _ := 0

/-- The body runs from what is held before it to what is held after it. -/
theorem sound_body (c : Dev nD) (t : Fin cfg0.N) :
    iprop((dats m 0 c).Φ t.castSucc ∗ (dats m 0 c).owesAt () t.castSucc ∗ BI.emp) ⊢ wp frame (wpE (defs₀ (F := F)) Variants.none c none) Set.univ (bodyAt0 t)
      (fun _ => iprop((dats m 0 c).Φ t.succ ∗ (dats m 0 c).owesAt () t.succ ∗ BI.emp)) := by
  rw [show (dats m 0 c).Φ t.succ = Pipeline.ΦDR osem0 cfg0.spec H0 R0 (V m) c from rfl,
    show (dats m 0 c).Φ t.castSucc = Pipeline.ΦDR osem0 cfg0.spec H0 R0 (V m) c from rfl, Pipeline.ΦDR_eq]
  unfold Dat.owesAt Pipeline.owesWithin
  rw [show (dats m 0 c).owed t.castSucc = 0 from rfl, show (dats m 0 c).owed t.succ = 0 from rfl]
  iintro ⟨⟨HS, HG, HQ, HH, HR⟩, ⟨%W, -, HW⟩, -⟩
  iapply (body_wp m c t W _)
  isplitl [HS]; · iexact HS
  isplitl [HQ]; · iexact HQ
  isplitl [HH]; · iexact HH
  isplitl [HR]; · iexact HR
  isplitl [HW]; · iexact HW
  iintro ⟨HS, HQ, HH, HO, ⟨%W', HW⟩⟩
  isplitl [HS HG HQ HH HO]
  · isplitl [HS]; · iexact HS
    isplitl [HG]; · iexact HG
    isplitl [HQ]; · iexact HQ
    isplitl [HH]; · iexact HH
    iapply (outs_owned m c); iexact HO
  isplitl [HW]
  · iexists W'; isplitr; · ipureintro; exact fun _ _ => Or.inl trivial
    iexact HW
  iempintro

/-- The obligation of the launch on its body. -/
theorem body_obligation (c : Dev nD) : BodyObligation (dats (F := F) m 0 c) (defs₀ (F := F)) Variants.none () Set.univ := fun t => by
  rw [bigSep_W, bigSep_W, defs₀_row]
  exact triple_restated (sound_body m c t) rfl .rfl fun _ => .rfl

/-- The lines after the launch write only the listed arrays. -/
theorem writes_T0 : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.not_mem_nil, or_false] at hops; subst hops
  simp only [List.mem_cons, List.not_mem_nil, or_false] at hop
  rcases hop with rfl | rfl | rfl <;>
  · have hb' := Finset.mem_singleton.mp hb
    have := Proc.devRef_injective (τ := τ) _ hb'
    subst this; decide

set_option backward.isDefEq.respectTransparency.types false in
/-- The whole program runs; arrays that nothing writes keep their contents, and every semaphore ends at zero. -/
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := writes_T0)
    (hmain := hmainD m Variants.none) (hA := fun _ w => w.elim0)
    (hin := fun _ => .rfl) (hout := fun _ => .rfl)

/-- The program's run leaves its eight arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(((h.1 c).2 main_arg0 (Finset.mem_sdiff.mpr ⟨Pipeline.mem_restRefs_of main_arg0 (by decide) (by decide), by decide⟩)).trans (V_main_arg0 m c)),
      (((h.1 c).2 main_arg1 (Finset.mem_sdiff.mpr ⟨Pipeline.mem_restRefs_of main_arg1 (by decide) (by decide), by decide⟩)).trans (V_main_arg1 m c)),
      (((h.1 c).2 main_arg2 (Finset.mem_sdiff.mpr ⟨Pipeline.mem_restRefs_of main_arg2 (by decide) (by decide), by decide⟩)).trans (V_main_arg2 m c)),
      (((h.1 c).2 main_arg3 (Finset.mem_sdiff.mpr ⟨Pipeline.mem_restRefs_of main_arg3 (by decide) (by decide), by decide⟩)).trans (V_main_arg3 m c)),
      (((h.1 c).2 main_arg4 (Finset.mem_sdiff.mpr ⟨Pipeline.mem_restRefs_of main_arg4 (by decide) (by decide), by decide⟩)).trans (V_main_arg4 m c)),
      (((h.1 c).2 main_arg5 (Finset.mem_sdiff.mpr ⟨Pipeline.mem_restRefs_of main_arg5 (by decide) (by decide), by decide⟩)).trans (V_main_arg5 m c)),
      (((h.1 c).2 main_arg6 (Finset.mem_sdiff.mpr ⟨Pipeline.mem_restRefs_of main_arg6 (by decide) (by decide), by decide⟩)).trans (V_main_arg6 m c)),
      (((h.1 c).2 main_arg7 (Finset.mem_sdiff.mpr ⟨Pipeline.mem_restRefs_of main_arg7 (by decide) (by decide), by decide⟩)).trans (V_main_arg7 m c))⟩, h.2⟩) (run_main m ρ)

end Cert.KernelIdeal.Hand

end
-- ==== Proof.BodyK.lean ====
/-
  The kernel's body, run once at whole operands: from the operands, the results, the scratch buffers and the semaphores it
  returns with the operands as they were, the results at contents the run finds, and every semaphore at zero.
-/
module

public import proofs.«01_k».proof.Proof.Gen.Kernel.Launch
public import proofs.«01_k».proof.Proof.Gen.Kernel.Skeleton
public import proofs.«01_k».proof.Proof.Gen.Kernel.Points
public import proofs.«01_k».proof.Proof.Words
public import Idealize.ShloMosaic.Lib.Pipeline.FrameBody
public import Idealize.ShloMosaic.Lib.Tactic
public import Idealize.ShloMosaic.Lib.WordCmp

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer's contents on core `c`. -/
abbrev Bf (c : Dev nD) (r : Ref sig .tc) : Type := Buf (Elt F) ((Memref.whole r).view.loc (c : Thread nD τ))
/-- A buffer held whole at `f`. -/
abbrev pt (c : Dev nD) (r : Ref sig .tc) (f : Bf (F := F) c r) : sProp 𝕄 := (Memref.whole r).view.loc (c : Thread nD τ) ↦{fullShare} f
/-- A buffer at `f`, held at the share set aside for the transfer on cell `j`. -/
abbrev tk (c : Dev nD) (r : Ref sig .tc) (j : ℕ) (f : Bf (F := F) c r) : sProp 𝕄 :=
  (Memref.whole r).view.loc (c : Thread nD τ) ↦{Transfers.shareTokN fullShare j} f
/-- Transfer cell `j` at zero. -/
abbrev sv (c : Dev nD) (j : Fin 32) : sProp 𝕄 := semVal ((c : Thread nD τ), SemLoc.dma j) 0

/-- An aligned window of 1056 rows of one sequence and head lies in the cache. -/
theorem inb4 (a b x : ℕ) (ha : a < 4) (hb : b < 2) (hx : x ≤ 15328) :
    ∀ i, (![a, b, x, 0] : Fin 4 → ℕ) i + S1x1x1056x256.size i ≤ S4x2x16384x256.size i := by
  intro i; fin_cases i
  · show a + 1 ≤ 4; omega
  · show b + 1 ≤ 2; omega
  · show x + 1056 ≤ 16384; omega
  · show 0 + 256 ≤ 256; omega
/-- An aligned window of 1152 scales of one sequence lies in the array of scales. -/
theorem inb3 (a x : ℕ) (ha : a < 4) (hx : x ≤ 15232) :
    ∀ i, (![a, 0, x] : Fin 3 → ℕ) i + S1x2x1152.size i ≤ S4x2x16384.size i := by
  intro i; fin_cases i
  · show a + 1 ≤ 4; omega
  · show 0 + 2 ≤ 2; omega
  · show x + 1152 ≤ 16384; omega
/-- A window that starts at a multiple of 32 rows covers whole words. -/
theorem words4 (o : Fin 4 → ℕ) (a b x : ℕ) (ho : o = ![a, b, x, 0]) (hx : 32 ∣ x)
    (h : ∀ i, o i + S1x1x1056x256.size i ≤ S4x2x16384x256.size i) :
    (Rect.unit (s := S4x2x16384x256) o S1x1x1056x256.size h).WholeWords (EltTy.packing .i8) := by
  subst ho
  refine .inl (.inr ⟨by decide, rfl, .inl ⟨?_, ?_⟩⟩)
  · show 4 ∣ x; omega
  · show 4 ∣ 1056; decide
/-- The fetches of sequence 1 (counted from one) stay in bounds and are aligned. -/
theorem chk1 (v : BitVec 32) : k0_chk1 v :=
  ⟨wbase_dvd v, wsbase_dvd v, inb3 0 _ (by decide) (wsbase_le v), inb4 0 0 _ (by decide) (by decide) (wbase_le v), words4 _ 0 0 (wbase v).toNat rfl (wbase_dvd v), inb4 0 1 _ (by decide) (by decide) (wbase_le v), words4 _ 0 1 (wbase v).toNat rfl (wbase_dvd v), inb3 0 _ (by decide) (wsbase_le v), inb4 0 0 _ (by decide) (by decide) (wbase_le v), words4 _ 0 0 (wbase v).toNat rfl (wbase_dvd v), inb4 0 1 _ (by decide) (by decide) (wbase_le v), words4 _ 0 1 (wbase v).toNat rfl (wbase_dvd v)⟩
/-- The fetches of sequence 2 (counted from one) stay in bounds and are aligned. -/
theorem chk2 (v : BitVec 32) : k0_chk2 v :=
  ⟨wbase_dvd v, wsbase_dvd v, inb3 1 _ (by decide) (wsbase_le v), inb4 1 0 _ (by decide) (by decide) (wbase_le v), words4 _ 1 0 (wbase v).toNat rfl (wbase_dvd v), inb4 1 1 _ (by decide) (by decide) (wbase_le v), words4 _ 1 1 (wbase v).toNat rfl (wbase_dvd v), inb3 1 _ (by decide) (wsbase_le v), inb4 1 0 _ (by decide) (by decide) (wbase_le v), words4 _ 1 0 (wbase v).toNat rfl (wbase_dvd v), inb4 1 1 _ (by decide) (by decide) (wbase_le v), words4 _ 1 1 (wbase v).toNat rfl (wbase_dvd v)⟩
/-- The fetches of sequence 3 (counted from one) stay in bounds and are aligned. -/
theorem chk3 (v : BitVec 32) : k0_chk3 v :=
  ⟨wbase_dvd v, wsbase_dvd v, inb3 2 _ (by decide) (wsbase_le v), inb4 2 0 _ (by decide) (by decide) (wbase_le v), words4 _ 2 0 (wbase v).toNat rfl (wbase_dvd v), inb4 2 1 _ (by decide) (by decide) (wbase_le v), words4 _ 2 1 (wbase v).toNat rfl (wbase_dvd v), inb3 2 _ (by decide) (wsbase_le v), inb4 2 0 _ (by decide) (by decide) (wbase_le v), words4 _ 2 0 (wbase v).toNat rfl (wbase_dvd v), inb4 2 1 _ (by decide) (by decide) (wbase_le v), words4 _ 2 1 (wbase v).toNat rfl (wbase_dvd v)⟩
/-- The fetches of sequence 4 (counted from one) stay in bounds and are aligned. -/
theorem chk4 (v : BitVec 32) : k0_chk4 v :=
  ⟨wbase_dvd v, wsbase_dvd v, inb3 3 _ (by decide) (wsbase_le v), inb4 3 0 _ (by decide) (by decide) (wbase_le v), words4 _ 3 0 (wbase v).toNat rfl (wbase_dvd v), inb4 3 1 _ (by decide) (by decide) (wbase_le v), words4 _ 3 1 (wbase v).toNat rfl (wbase_dvd v)⟩

set_option maxHeartbeats 0 in
set_option sl_exec.resultNames true in
set_option sl_exec.dmaWindow true in
/-- What the body leaves in the four results, with the proof that it does. -/
noncomputable def kernelRun (c : Dev nD)
    (f7 : Bf (F := F) c main_arg7) (f0 : Bf (F := F) c main_arg0) (f1 : Bf (F := F) c main_arg1) (f2 : Bf (F := F) c main_arg2)
    (f4 : Bf (F := F) c main_arg4) (g0 : Bf (F := F) c main_v0) (g1 : Bf (F := F) c main_v1) (g2 : Bf (F := F) c main_v2)
    (o0 : Bf (F := F) c main_v3_0) (o1 : Bf (F := F) c main_v3_1) (o2 : Bf (F := F) c main_v3_2) (o3 : Bf (F := F) c main_v3_3)
    (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) (s12 : Bf (F := F) c cc0_scratch12) (s13 : Bf (F := F) c cc0_scratch13) :
    { W : Bf (F := F) c main_v3_0 × Bf (F := F) c main_v3_1 × Bf (F := F) c main_v3_2 × Bf (F := F) c main_v3_3 //
      ∀ (W0 : Waits sig Unit) (Q : PUnit → sProp 𝕄),
        iprop(pt c main_arg7 f7 ∗ pt c main_arg0 f0 ∗ pt c main_arg1 f1 ∗ pt c main_arg2 f2 ∗
          pt c main_arg4 f4 ∗ tk c main_v0 5 g0 ∗ tk c main_v0 6 g0 ∗ tk c main_v0 7 g0 ∗
          tk c main_v0 8 g0 ∗ tk c main_v0 9 g0 ∗ tk c main_v0 10 g0 ∗ tk c main_v0 11 g0 ∗
          tk c main_v0 12 g0 ∗ tk c main_v1 13 g1 ∗ tk c main_v1 14 g1 ∗ tk c main_v1 15 g1 ∗
          tk c main_v1 16 g1 ∗ tk c main_v1 17 g1 ∗ tk c main_v1 18 g1 ∗ tk c main_v1 19 g1 ∗
          tk c main_v1 20 g1 ∗ tk c main_v2 21 g2 ∗ tk c main_v2 22 g2 ∗ tk c main_v2 23 g2 ∗
          tk c main_v2 24 g2 ∗ pt c main_v3_0 o0 ∗ pt c main_v3_1 o1 ∗ pt c main_v3_2 o2 ∗
          pt c main_v3_3 o3 ∗ pt c cc0_scratch0 s0 ∗ pt c cc0_scratch1 s1 ∗ pt c cc0_scratch2 s2 ∗
          pt c cc0_scratch3 s3 ∗ pt c cc0_scratch4 s4 ∗ pt c cc0_scratch5 s5 ∗ pt c cc0_scratch6 s6 ∗
          pt c cc0_scratch7 s7 ∗ pt c cc0_scratch8 s8 ∗ pt c cc0_scratch9 s9 ∗ pt c cc0_scratch10 s10 ∗
          pt c cc0_scratch11 s11 ∗ pt c cc0_scratch12 s12 ∗ pt c cc0_scratch13 s13 ∗ sv c 0 ∗
          sv c 1 ∗ sv c 2 ∗ sv c 3 ∗ sv c 4 ∗
          sv c 5 ∗ sv c 6 ∗ sv c 7 ∗ sv c 8 ∗
          sv c 9 ∗ sv c 10 ∗ sv c 11 ∗ sv c 12 ∗
          sv c 13 ∗ sv c 14 ∗ sv c 15 ∗ sv c 16 ∗
          sv c 17 ∗ sv c 18 ∗ sv c 19 ∗ sv c 20 ∗
          sv c 21 ∗ sv c 22 ∗ sv c 23 ∗ sv c 24 ∗
          sv c 25 ∗ sv c 26 ∗ sv c 27 ∗ sv c 28 ∗
          sv c 29 ∗ sv c 30 ∗ sv c 31 ∗ owes (c : Thread nD τ) 0 W0 ∗
          (iprop(pt c main_arg7 f7 ∗ pt c main_arg0 f0 ∗ pt c main_arg1 f1 ∗ pt c main_arg2 f2 ∗
            pt c main_arg4 f4 ∗ tk c main_v0 5 g0 ∗ tk c main_v0 6 g0 ∗ tk c main_v0 7 g0 ∗
            tk c main_v0 8 g0 ∗ tk c main_v0 9 g0 ∗ tk c main_v0 10 g0 ∗ tk c main_v0 11 g0 ∗
            tk c main_v0 12 g0 ∗ tk c main_v1 13 g1 ∗ tk c main_v1 14 g1 ∗ tk c main_v1 15 g1 ∗
            tk c main_v1 16 g1 ∗ tk c main_v1 17 g1 ∗ tk c main_v1 18 g1 ∗ tk c main_v1 19 g1 ∗
            tk c main_v1 20 g1 ∗ tk c main_v2 21 g2 ∗ tk c main_v2 22 g2 ∗ tk c main_v2 23 g2 ∗
            tk c main_v2 24 g2 ∗ pt c main_v3_0 (W.1) ∗ pt c main_v3_1 (W.2.1) ∗ pt c main_v3_2 (W.2.2.1) ∗
            pt c main_v3_3 (W.2.2.2) ∗ (∃ f, pt c cc0_scratch0 f) ∗ (∃ f, pt c cc0_scratch1 f) ∗ (∃ f, pt c cc0_scratch2 f) ∗
            (∃ f, pt c cc0_scratch3 f) ∗ (∃ f, pt c cc0_scratch4 f) ∗ (∃ f, pt c cc0_scratch5 f) ∗ (∃ f, pt c cc0_scratch6 f) ∗
            (∃ f, pt c cc0_scratch7 f) ∗ (∃ f, pt c cc0_scratch8 f) ∗ (∃ f, pt c cc0_scratch9 f) ∗ (∃ f, pt c cc0_scratch10 f) ∗
            (∃ f, pt c cc0_scratch11 f) ∗ (∃ f, pt c cc0_scratch12 f) ∗ (∃ f, pt c cc0_scratch13 f) ∗ sv c 0 ∗
            sv c 1 ∗ sv c 2 ∗ sv c 3 ∗ sv c 4 ∗
            sv c 5 ∗ sv c 6 ∗ sv c 7 ∗ sv c 8 ∗
            sv c 9 ∗ sv c 10 ∗ sv c 11 ∗ sv c 12 ∗
            sv c 13 ∗ sv c 14 ∗ sv c 15 ∗ sv c 16 ∗
            sv c 17 ∗ sv c 18 ∗ sv c 19 ∗ sv c 20 ∗
            sv c 21 ∗ sv c 22 ∗ sv c 23 ∗ sv c 24 ∗
            sv c 25 ∗ sv c 26 ∗ sv c 27 ∗ sv c 28 ∗
            sv c 29 ∗ sv c 30 ∗ sv c 31 ∗ (∃ W', owes (c : Thread nD τ) 0 W')) -∗ Q ⟨⟩))
        ⊢ wp frame (wpE (defs₀ (F := F)) Variants.none c none) Set.univ
            (cc0_window_attn (Memref.whole main_arg7) (Memref.isWhole_whole _) (Memref.whole main_arg0) (Memref.isWhole_whole _) (Memref.whole main_arg1) (Memref.isWhole_whole _) (Memref.whole main_arg2) (Memref.isWhole_whole _) (Memref.whole main_arg4) (Memref.isWhole_whole _) (Memref.whole main_v0) (Memref.isWhole_whole _) (Memref.whole main_v1) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20) Q } := by
  refine ⟨⟨?_, ?_, ?_, ?_⟩, fun W0 Q => ?run⟩
  case run =>
    iintro ⟨Hf7, Hf0, Hf1, Hf2, Hf4, T5, T6, T7, T8, T9, T10, T11, T12, T13, T14, T15, T16, T17, T18, T19, T20, T21, T22, T23, T24, O0, O1, O2, O3, S0, S1, S2, S3, S4, S5, S6, S7, S8, S9, S10, S11, S12, S13, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, HW, Hk⟩
    sl_exec_parts! (disch := first | exact chk1 _ | exact chk2 _ | exact chk3 _ | exact chk4 _)
    sl_step
    iapply Hk
    isplitl [Hf7]; · iexact Hf7
    isplitl [Hf0]; · iexact Hf0
    isplitl [Hf1]; · iexact Hf1
    isplitl [Hf2]; · iexact Hf2
    isplitl [Hf4]; · iexact Hf4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [O0]; · iexact O0
    isplitl [O1]; · iexact O1
    isplitl [O2]; · iexact O2
    isplitl [O3]; · iexact O3
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    iexists _; iexact HW

end Cert.Kernel.Hand

end
-- ==== Proof.LaunchK.lean ====
/-
  The launch of the kernel: what it holds when its region is entered, the body's run restated over it, and the whole program's
  run with its arguments as they were and every semaphore at zero.
-/
module

public import proofs.«01_k».proof.Proof.BodyK
public import proofs.«01_k».proof.Proof.Gen.Kernel.Frame
public import Idealize.ShloMosaic.Lib.Pipeline.FrameSuffixV
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

/-- The kernel's own semaphores: its 32 transfer cells. -/
def osem0 : Fin 32 → SemLoc sig := fun j => SemLoc.dma j
/-- The semaphores of the launch are its own. -/
theorem ownSemFacts0 : Pipeline.OwnSemFacts cfg0.spec osem0 := by decide

/-- The operands the body reads. -/
def H0 : Finset (Ref sig .tc) := {main_arg7, main_arg0, main_arg1, main_arg2, main_arg4, main_v0, main_v1, main_v2}
/-- The results the body writes. -/
def R0 : Finset (Ref sig .tc) := {main_v3_0, main_v3_1, main_v3_2, main_v3_3}
/-- The buffers the host lines after the kernel write. -/
def T0 : Finset (Ref sig .tc) := {main_v4, main_v5, main_v6}
/-- The arrays the body only reads are not among the launch's blocks. -/
theorem H0_sub : H0 ⊆ Pipeline.restRefs sig cfg0.spec := by decide
/-- The arrays the body writes are neither blocks nor only read. -/
theorem R0_sub : R0 ⊆ Pipeline.restRefs sig cfg0.spec \ H0 := by decide

/-- The scratch buffers, one by one. -/
theorem scoped_eq (c : Dev nD) :
    (Pipeline.scopedRest (Ix := Unit) (Name := ℕ) (U := Pipeline.UD sig nD τ) (Lvl := ℕ) (Val := Elt F) cfg0.spec c : sProp 𝕄)
      = iprop((∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch0 f)) := scopedRest0_eq c
set_option maxHeartbeats 4000000 in
/-- The cells, one by one. -/
theorem ownSems_eq (c : Dev nD) :
    (Pipeline.ownSems0 (Ix := Unit) (Name := ℕ) (U := Pipeline.UD sig nD τ) (Lvl := ℕ) (Val := Elt F) (τ := τ) osem0 c : sProp 𝕄)
      = iprop(sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20 ∗ sv c 21 ∗ sv c 22 ∗ sv c 23 ∗ sv c 24 ∗ sv c 25 ∗ sv c 26 ∗ sv c 27 ∗ sv c 28 ∗ sv c 29 ∗ sv c 30 ∗ sv c 31) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl
/-- Given contents on the operands, one by one. -/
theorem hbmPts_eq (c : Dev nD) (V : (b : Ref sig .tc) → Buf (Elt F) ((c : Thread nD τ).loc b)) :
    (bigSep H0 (fun b => ((c : Thread nD τ).loc b) ↦{fullShare} V b) : sProp 𝕄)
      = iprop(pt c main_arg7 (V main_arg7) ∗ pt c main_arg0 (V main_arg0) ∗ pt c main_arg1 (V main_arg1) ∗ pt c main_arg2 (V main_arg2) ∗ pt c main_arg4 (V main_arg4) ∗ pt c main_v0 (V main_v0) ∗ pt c main_v1 (V main_v1) ∗ pt c main_v2 (V main_v2)) := by
  rw [BI.bigSep_eq_bigSepL_of_eq [main_arg7, main_arg0, main_arg1, main_arg2, main_arg4, main_v0, main_v1, main_v2] (by decide) (by decide)]; rfl
/-- The results at some contents, one by one. -/
theorem owned_eq (c : Dev nD) :
    (Pipeline.owned R0 c : sProp 𝕄) = iprop((∃ f, pt c main_v3_0 f) ∗ (∃ f, pt c main_v3_1 f) ∗ (∃ f, pt c main_v3_2 f) ∗ (∃ f, pt c main_v3_3 f)) := by
  unfold Pipeline.owned; rw [BI.bigSep_eq_bigSepL_of_eq [main_v3_0, main_v3_1, main_v3_2, main_v3_3] (by decide) (by decide)]; rfl
/-- The results at given contents, one by one. -/
theorem resPts_eq (c : Dev nD) (G : (b : Ref sig .tc) → Buf (Elt F) ((c : Thread nD τ).loc b)) :
    (bigSep R0 (fun b => ((c : Thread nD τ).loc b) ↦{fullShare} G b) : sProp 𝕄)
      = iprop(pt c main_v3_0 (G main_v3_0) ∗ pt c main_v3_1 (G main_v3_1) ∗ pt c main_v3_2 (G main_v3_2) ∗ pt c main_v3_3 (G main_v3_3)) := by
  rw [BI.bigSep_eq_bigSepL_of_eq [main_v3_0, main_v3_1, main_v3_2, main_v3_3] (by decide) (by decide)]; rfl

/-- A whole buffer's share divided: one part for each of the listed transfers, and a remainder. -/
theorem toks_eq (c : Dev nD) (r : Ref sig .tc) (f : Bf (F := F) c r) (L : List ℕ) (hL : L.Nodup) (hsub : L.toFinset ⊆ Finset.range 25) :
    (pt c r f : sProp 𝕄) ⊣⊢ iprop((((Memref.whole r).view.loc (c : Thread nD τ) ↦{Transfers.shareDrop fullShare 25} f)
        ∗ bigSep (Finset.range 25 \ L.toFinset) (fun j => tk c r j f)) ∗ bigSepL L (fun j => tk c r j f)) := by
  have h := Transfers.pointsTo_toks_range (Ix := Unit) (Name := ℕ) (U := Pipeline.UD sig nD τ) (Lvl := ℕ) (ℓ := (Memref.whole r).view.loc (c : Thread nD τ)) (S := Finset.univ) (f := f) fullShare 25
  have e : bigSep (Finset.range 25) (fun j => tk c r j f)
      = iprop(bigSepL L (fun j => tk c r j f) ∗ bigSep (Finset.range 25 \ L.toFinset) (fun j => tk c r j f)) := by
    rw [BI.bigSep_sdiff_split hsub, BI.bigSep_eq_bigSepL_of_eq L rfl hL]; rfl
  refine ⟨h.1.trans ?_, BIBase.Entails.trans ?_ h.2⟩
  · refine (show _ ⊢ iprop(_ ∗ bigSep (Finset.range 25) (fun j => tk c r j f)) from .rfl).trans ?_
    rw [e]
    iintro ⟨A, B, C⟩
    isplitl [A C]
    · isplitl [A]; · iexact A
      iexact C
    · iexact B
  · refine BIBase.Entails.trans ?_ (show iprop(_ ∗ bigSep (Finset.range 25) (fun j => tk c r j f)) ⊢ _ from .rfl)
    rw [e]
    iintro ⟨⟨A, C⟩, B⟩
    isplitl [A]; · iexact A
    isplitl [B]; · iexact B
    iexact C

variable (m : (ℓ : Loc nD τ sig) → Buf (Elt F) ℓ) (ρ : Dev nD → PrngReg)

/-- What the body leaves in the results, from operands as the region finds them, at given earlier contents of the results
    and the scratch buffers. -/
abbrev runAt (c : Dev nD) (o0 : Bf (F := F) c main_v3_0) (o1 : Bf (F := F) c main_v3_1) (o2 : Bf (F := F) c main_v3_2) (o3 : Bf (F := F) c main_v3_3) (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) (s12 : Bf (F := F) c cc0_scratch12) (s13 : Bf (F := F) c cc0_scratch13) :
    Bf (F := F) c main_v3_0 × Bf (F := F) c main_v3_1 × Bf (F := F) c main_v3_2 × Bf (F := F) c main_v3_3 :=
  (kernelRun c (V m c main_arg7) (V m c main_arg0) (V m c main_arg1) (V m c main_arg2) (V m c main_arg4) (V m c main_v0) (V m c main_v1) (V m c main_v2) o0 o1 o2 o3 s0 s1 s2 s3 s4 s5 s6 s7 s8 s9 s10 s11 s12 s13).1
/-- The results as the body leaves them. -/
def outs (c : Dev nD) : sProp 𝕄 :=
  iprop(∃ o0 o1 o2 o3 s0 s1 s2 s3 s4 s5 s6 s7 s8 s9 s10 s11 s12 s13, pt c main_v3_0 (runAt m c o0 o1 o2 o3 s0 s1 s2 s3 s4 s5 s6 s7 s8 s9 s10 s11 s12 s13).1 ∗ pt c main_v3_1 (runAt m c o0 o1 o2 o3 s0 s1 s2 s3 s4 s5 s6 s7 s8 s9 s10 s11 s12 s13).2.1
    ∗ pt c main_v3_2 (runAt m c o0 o1 o2 o3 s0 s1 s2 s3 s4 s5 s6 s7 s8 s9 s10 s11 s12 s13).2.2.1 ∗ pt c main_v3_3 (runAt m c o0 o1 o2 o3 s0 s1 s2 s3 s4 s5 s6 s7 s8 s9 s10 s11 s12 s13).2.2.2)

set_option maxHeartbeats 0 in
/-- The body's run over what the launch holds: the scratch buffers, the cells, the operands, the results. -/
theorem body_wp (c : Dev nD) (t : Fin cfg0.N) (W0 : Waits sig Unit) (Q : PUnit → sProp 𝕄) :
    iprop(Pipeline.scopedRest (Ix := Unit) (Name := ℕ) (U := Pipeline.UD sig nD τ) (Lvl := ℕ) (Val := Elt F) cfg0.spec c
        ∗ Pipeline.ownSems0 (Ix := Unit) (Name := ℕ) (U := Pipeline.UD sig nD τ) (Lvl := ℕ) (Val := Elt F) (τ := τ) osem0 c
        ∗ (bigSep H0 fun b => ((c : Thread nD τ).loc b) ↦{fullShare} V m c b) ∗ Pipeline.owned R0 c ∗ owes (c : Thread nD τ) 0 W0
        ∗ (iprop(Pipeline.scopedRest (Ix := Unit) (Name := ℕ) (U := Pipeline.UD sig nD τ) (Lvl := ℕ) (Val := Elt F) cfg0.spec c
          ∗ Pipeline.ownSems0 (Ix := Unit) (Name := ℕ) (U := Pipeline.UD sig nD τ) (Lvl := ℕ) (Val := Elt F) (τ := τ) osem0 c
          ∗ (bigSep H0 fun b => ((c : Thread nD τ).loc b) ↦{fullShare} V m c b) ∗ outs m c ∗ ∃ W', owes (c : Thread nD τ) 0 W') -∗ Q ⟨⟩))
      ⊢ wp frame (wpE (defs₀ (F := F)) Variants.none c none) Set.univ (bodyAt0 t) Q := by
  unfold bodyAt0
  rw [scoped_eq, ownSems_eq, hbmPts_eq, owned_eq]
  unfold outs
  iintro ⟨⟨⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s0, S0⟩⟩, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31⟩, ⟨A7, A0, A1, A2, A4, G0, G1, G2⟩, ⟨⟨%o0, O0⟩, ⟨%o1, O1⟩, ⟨%o2, O2⟩, ⟨%o3, O3⟩⟩, HW, HK⟩
  ihave G := (toks_eq c main_v0 (V m c main_v0) [5, 6, 7, 8, 9, 10, 11, 12] (by decide) (by decide)).1 $$ G0
  icases G with ⟨XG0, G0⟩
  ihave G := (show bigSepL [5, 6, 7, 8, 9, 10, 11, 12] (fun j => tk c main_v0 j (V m c main_v0)) ⊢ iprop(tk c main_v0 5 (V m c main_v0) ∗ tk c main_v0 6 (V m c main_v0) ∗ tk c main_v0 7 (V m c main_v0) ∗ tk c main_v0 8 (V m c main_v0) ∗ tk c main_v0 9 (V m c main_v0) ∗ tk c main_v0 10 (V m c main_v0) ∗ tk c main_v0 11 (V m c main_v0) ∗ tk c main_v0 12 (V m c main_v0)) from .rfl) $$ G0
  icases G with ⟨T5, T6, T7, T8, T9, T10, T11, T12⟩
  ihave G := (toks_eq c main_v1 (V m c main_v1) [13, 14, 15, 16, 17, 18, 19, 20] (by decide) (by decide)).1 $$ G1
  icases G with ⟨XG1, G1⟩
  ihave G := (show bigSepL [13, 14, 15, 16, 17, 18, 19, 20] (fun j => tk c main_v1 j (V m c main_v1)) ⊢ iprop(tk c main_v1 13 (V m c main_v1) ∗ tk c main_v1 14 (V m c main_v1) ∗ tk c main_v1 15 (V m c main_v1) ∗ tk c main_v1 16 (V m c main_v1) ∗ tk c main_v1 17 (V m c main_v1) ∗ tk c main_v1 18 (V m c main_v1) ∗ tk c main_v1 19 (V m c main_v1) ∗ tk c main_v1 20 (V m c main_v1)) from .rfl) $$ G1
  icases G with ⟨T13, T14, T15, T16, T17, T18, T19, T20⟩
  ihave G := (toks_eq c main_v2 (V m c main_v2) [21, 22, 23, 24] (by decide) (by decide)).1 $$ G2
  icases G with ⟨XG2, G2⟩
  ihave G := (show bigSepL [21, 22, 23, 24] (fun j => tk c main_v2 j (V m c main_v2)) ⊢ iprop(tk c main_v2 21 (V m c main_v2) ∗ tk c main_v2 22 (V m c main_v2) ∗ tk c main_v2 23 (V m c main_v2) ∗ tk c main_v2 24 (V m c main_v2)) from .rfl) $$ G2
  icases G with ⟨T21, T22, T23, T24⟩
  iapply ((kernelRun c (V m c main_arg7) (V m c main_arg0) (V m c main_arg1) (V m c main_arg2) (V m c main_arg4) (V m c main_v0) (V m c main_v1) (V m c main_v2) o0 o1 o2 o3 s0 s1 s2 s3 s4 s5 s6 s7 s8 s9 s10 s11 s12 s13).2 W0 _)
  isplitl [A7]; · iexact A7
  isplitl [A0]; · iexact A0
  isplitl [A1]; · iexact A1
  isplitl [A2]; · iexact A2
  isplitl [A4]; · iexact A4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [O0]; · iexact O0
  isplitl [O1]; · iexact O1
  isplitl [O2]; · iexact O2
  isplitl [O3]; · iexact O3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [HW]; · iexact HW
  iintro ⟨A7, A0, A1, A2, A4, T5, T6, T7, T8, T9, T10, T11, T12, T13, T14, T15, T16, T17, T18, T19, T20, T21, T22, T23, T24, O0, O1, O2, O3, S0, S1, S2, S3, S4, S5, S6, S7, S8, S9, S10, S11, S12, S13, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, HW⟩
  ihave G0 := (show iprop(tk c main_v0 5 (V m c main_v0) ∗ tk c main_v0 6 (V m c main_v0) ∗ tk c main_v0 7 (V m c main_v0) ∗ tk c main_v0 8 (V m c main_v0) ∗ tk c main_v0 9 (V m c main_v0) ∗ tk c main_v0 10 (V m c main_v0) ∗ tk c main_v0 11 (V m c main_v0) ∗ tk c main_v0 12 (V m c main_v0)) ⊢ bigSepL [5, 6, 7, 8, 9, 10, 11, 12] (fun j => tk c main_v0 j (V m c main_v0)) from .rfl) $$ [T5 T6 T7 T8 T9 T10 T11 T12]
  · isplitl [T5]; · iexact T5
    isplitl [T6]; · iexact T6
    isplitl [T7]; · iexact T7
    isplitl [T8]; · iexact T8
    isplitl [T9]; · iexact T9
    isplitl [T10]; · iexact T10
    isplitl [T11]; · iexact T11
    iexact T12
  ihave G0 := (toks_eq c main_v0 (V m c main_v0) [5, 6, 7, 8, 9, 10, 11, 12] (by decide) (by decide)).2 $$ [XG0 G0]
  · isplitl [XG0]; · iexact XG0
    iexact G0
  ihave G1 := (show iprop(tk c main_v1 13 (V m c main_v1) ∗ tk c main_v1 14 (V m c main_v1) ∗ tk c main_v1 15 (V m c main_v1) ∗ tk c main_v1 16 (V m c main_v1) ∗ tk c main_v1 17 (V m c main_v1) ∗ tk c main_v1 18 (V m c main_v1) ∗ tk c main_v1 19 (V m c main_v1) ∗ tk c main_v1 20 (V m c main_v1)) ⊢ bigSepL [13, 14, 15, 16, 17, 18, 19, 20] (fun j => tk c main_v1 j (V m c main_v1)) from .rfl) $$ [T13 T14 T15 T16 T17 T18 T19 T20]
  · isplitl [T13]; · iexact T13
    isplitl [T14]; · iexact T14
    isplitl [T15]; · iexact T15
    isplitl [T16]; · iexact T16
    isplitl [T17]; · iexact T17
    isplitl [T18]; · iexact T18
    isplitl [T19]; · iexact T19
    iexact T20
  ihave G1 := (toks_eq c main_v1 (V m c main_v1) [13, 14, 15, 16, 17, 18, 19, 20] (by decide) (by decide)).2 $$ [XG1 G1]
  · isplitl [XG1]; · iexact XG1
    iexact G1
  ihave G2 := (show iprop(tk c main_v2 21 (V m c main_v2) ∗ tk c main_v2 22 (V m c main_v2) ∗ tk c main_v2 23 (V m c main_v2) ∗ tk c main_v2 24 (V m c main_v2)) ⊢ bigSepL [21, 22, 23, 24] (fun j => tk c main_v2 j (V m c main_v2)) from .rfl) $$ [T21 T22 T23 T24]
  · isplitl [T21]; · iexact T21
    isplitl [T22]; · iexact T22
    isplitl [T23]; · iexact T23
    iexact T24
  ihave G2 := (toks_eq c main_v2 (V m c main_v2) [21, 22, 23, 24] (by decide) (by decide)).2 $$ [XG2 G2]
  · isplitl [XG2]; · iexact XG2
    iexact G2
  iapply HK
  isplitl [S1 S2 S3 S4 S5 S6 S7 S8 S9 S10 S11 S12 S13 S0]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact S0
  isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    iexact Q31
  isplitl [A7 A0 A1 A2 A4 G0 G1 G2]
  · isplitl [A7]; · iexact A7
    isplitl [A0]; · iexact A0
    isplitl [A1]; · iexact A1
    isplitl [A2]; · iexact A2
    isplitl [A4]; · iexact A4
    isplitl [G0]; · iexact G0
    isplitl [G1]; · iexact G1
    iexact G2
  isplitl [O0 O1 O2 O3]
  · iexists o0, o1, o2, o3, s0, s1, s2, s3, s4, s5, s6, s7, s8, s9, s10, s11, s12, s13
    isplitl [O0]; · iexact O0
    isplitl [O1]; · iexact O1
    isplitl [O2]; · iexact O2
    iexact O3
  iexact HW

/-- The results as the body leaves them are at some contents. -/
theorem outs_owned (c : Dev nD) : (outs m c : sProp 𝕄) ⊢ Pipeline.owned R0 c := by
  unfold outs
  rw [owned_eq]
  iintro ⟨%o0, %o1, %o2, %o3, %s0, %s1, %s2, %s3, %s4, %s5, %s6, %s7, %s8, %s9, %s10, %s11, %s12, %s13, O0, O1, O2, O3⟩
  isplitl [O0]; · iexists _; iexact O0
  isplitl [O1]; · iexists _; iexact O1
  isplitl [O2]; · iexists _; iexact O2
  iexists _; iexact O3

/-- The body as it is called at a grid point. -/
theorem defs₀_row (t : Fin cfg0.N) :
    defs₀ (F := F) .tc cfg0.body (cfg0.bodyArgs t (cfg0.slots t)) = bodyAt0 t := by
  unfold defs₀; rw [Defs.onTc_tc]

/-- There are no blocks, so what is held for them is nothing. -/
theorem bigSep_W (Φ : Fin cfg0.W → sProp 𝕄) : bigSep Finset.univ Φ = (BI.emp : sProp 𝕄) := by
  rw [show (Finset.univ : Finset (Fin cfg0.W)) = ∅ from by decide]; exact BI.bigSep_empty

/-- The program around the kernel: host lines, the kernel, host lines. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The frame: the results at some contents -/

/-- The proof data: between points, the scratch buffers, the cells at zero, the operands as found, the results owned. -/
def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (V m) c
  q _ := fullShare
  owed _ := 0

/-- The body runs from what is held before it to what is held after it. -/
theorem sound_body (c : Dev nD) (t : Fin cfg0.N) :
    iprop((dats m 0 c).Φ t.castSucc ∗ (dats m 0 c).owesAt () t.castSucc ∗ BI.emp) ⊢ wp frame (wpE (defs₀ (F := F)) Variants.none c none) Set.univ (bodyAt0 t)
      (fun _ => iprop((dats m 0 c).Φ t.succ ∗ (dats m 0 c).owesAt () t.succ ∗ BI.emp)) := by
  rw [show (dats m 0 c).Φ t.succ = Pipeline.ΦDR osem0 cfg0.spec H0 R0 (V m) c from rfl,
    show (dats m 0 c).Φ t.castSucc = Pipeline.ΦDR osem0 cfg0.spec H0 R0 (V m) c from rfl, Pipeline.ΦDR_eq]
  unfold Dat.owesAt Pipeline.owesWithin
  rw [show (dats m 0 c).owed t.castSucc = 0 from rfl, show (dats m 0 c).owed t.succ = 0 from rfl]
  iintro ⟨⟨HS, HG, HQ, HH, HR⟩, ⟨%W, -, HW⟩, -⟩
  iapply (body_wp m c t W _)
  isplitl [HS]; · iexact HS
  isplitl [HQ]; · iexact HQ
  isplitl [HH]; · iexact HH
  isplitl [HR]; · iexact HR
  isplitl [HW]; · iexact HW
  iintro ⟨HS, HQ, HH, HO, ⟨%W', HW⟩⟩
  isplitl [HS HG HQ HH HO]
  · isplitl [HS]; · iexact HS
    isplitl [HG]; · iexact HG
    isplitl [HQ]; · iexact HQ
    isplitl [HH]; · iexact HH
    iapply (outs_owned m c); iexact HO
  isplitl [HW]
  · iexists W'; isplitr; · ipureintro; exact fun _ _ => Or.inl trivial
    iexact HW
  iempintro

/-- The obligation of the launch on its body. -/
theorem body_obligation (c : Dev nD) : BodyObligation (dats (F := F) m 0 c) (defs₀ (F := F)) Variants.none () Set.univ := fun t => by
  rw [bigSep_W, bigSep_W, defs₀_row]
  exact triple_restated (sound_body m c t) rfl .rfl fun _ => .rfl

/-- The lines after the launch write only the listed arrays. -/
theorem writes_T0 : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.not_mem_nil, or_false] at hops; subst hops
  simp only [List.mem_cons, List.not_mem_nil, or_false] at hop
  rcases hop with rfl | rfl | rfl <;>
  · have hb' := Finset.mem_singleton.mp hb
    have := Proc.devRef_injective (τ := τ) _ hb'
    subst this; decide

set_option backward.isDefEq.respectTransparency.types false in
/-- The whole program runs; arrays that nothing writes keep their contents, and every semaphore ends at zero. -/
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := writes_T0)
    (hmain := hmainD m Variants.none) (hA := fun _ w => w.elim0)
    (hin := fun _ => .rfl) (hout := fun _ => .rfl)

/-- The program's run leaves its eight arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(((h.1 c).2 main_arg0 (Finset.mem_sdiff.mpr ⟨Pipeline.mem_restRefs_of main_arg0 (by decide) (by decide), by decide⟩)).trans (V_main_arg0 m c)),
      (((h.1 c).2 main_arg1 (Finset.mem_sdiff.mpr ⟨Pipeline.mem_restRefs_of main_arg1 (by decide) (by decide), by decide⟩)).trans (V_main_arg1 m c)),
      (((h.1 c).2 main_arg2 (Finset.mem_sdiff.mpr ⟨Pipeline.mem_restRefs_of main_arg2 (by decide) (by decide), by decide⟩)).trans (V_main_arg2 m c)),
      (((h.1 c).2 main_arg3 (Finset.mem_sdiff.mpr ⟨Pipeline.mem_restRefs_of main_arg3 (by decide) (by decide), by decide⟩)).trans (V_main_arg3 m c)),
      (((h.1 c).2 main_arg4 (Finset.mem_sdiff.mpr ⟨Pipeline.mem_restRefs_of main_arg4 (by decide) (by decide), by decide⟩)).trans (V_main_arg4 m c)),
      (((h.1 c).2 main_arg5 (Finset.mem_sdiff.mpr ⟨Pipeline.mem_restRefs_of main_arg5 (by decide) (by decide), by decide⟩)).trans (V_main_arg5 m c)),
      (((h.1 c).2 main_arg6 (Finset.mem_sdiff.mpr ⟨Pipeline.mem_restRefs_of main_arg6 (by decide) (by decide), by decide⟩)).trans (V_main_arg6 m c)),
      (((h.1 c).2 main_arg7 (Finset.mem_sdiff.mpr ⟨Pipeline.mem_restRefs_of main_arg7 (by decide) (by decide), by decide⟩)).trans (V_main_arg7 m c))⟩, h.2⟩) (run_main m ρ)

end Cert.Kernel.Hand

end
-- ==== Proof.Attn.lean ====
/-
  The attention of one sequence and one pair of key and value heads, as mathematics on the extended reals: two ways of writing it,
  and the theorem that they agree.  Nothing here mentions a program.
-/
module

public import Idealize.ShloMosaic.PureOps.Ideal
public import Mathlib.Data.EReal.Operations
public import Mathlib.Algebra.BigOperators.Fin

@[expose] public section

noncomputable section

namespace Cert.Attn

open Idealize.ShloMosaic Classical

/-- Scaling by a nonnegative real distributes over a finite sum of extended reals. -/
theorem sum_mul_coe {ι : Type} (s : Finset ι) (f : ι → EReal) {c : ℝ} (hc : 0 ≤ c) : (∑ x ∈ s, f x) * (c : EReal) = ∑ x ∈ s, f x * (c : EReal) := by
  induction s using Finset.induction_on with
  | empty => simp
  | insert a s ha ih =>
      rw [Finset.sum_insert ha, Finset.sum_insert ha,
        EReal.right_distrib_of_nonneg_of_ne_top (by exact_mod_cast hc) (EReal.coe_ne_top c), ih]

/-- A sum of reals, read in the extended reals. -/
theorem coe_sum {ι : Type} (s : Finset ι) (f : ι → ℝ) : ((∑ x ∈ s, f x : ℝ) : EReal) = ∑ x ∈ s, (f x : EReal) := by
  induction s using Finset.induction_on with
  | empty => simp
  | insert a s ha ih => rw [Finset.sum_insert ha, Finset.sum_insert ha, EReal.coe_add, ih]

/-- A finite sum of finite extended reals is finite. -/
theorem sum_real {ι : Type} [Fintype ι] (f : ι → EReal) (hf : ∀ x, ∃ r : ℝ, f x = r) : ∃ r : ℝ, ∑ x, f x = (r : EReal) := by
  choose r hr using hf
  exact ⟨∑ x, r x, by rw [Finset.sum_congr rfl fun x _ => hr x]; exact (coe_sum _ _).symm⟩

section
variable (q : Fin 64 → Fin 256 → EReal) (K V : Fin 1024 → Fin 256 → EReal) (kn vn : Fin 4 → Fin 256 → EReal) (ts : Fin 1024 → EReal)
  (ok : Fin 64 → Fin 1024 → Prop)

/-- The score of query row `i` against cached row `l`, minus infinity where the row is not attended to. -/
def scC (i : Fin 64) (l : Fin 1024) : EReal := if ok i l then ∑ d, q i d * K l d else ⊥

/-- The score of query row `i` against new token `t`: a row at query step `i / 16` sees the new tokens up to that step. -/
def scN (i : Fin 64) (t : Fin 4) : EReal := if t.val ≤ i.val / 16 then ∑ d, q i d * kn t d else ⊥

/-- The largest score of a query row. -/
def mx (i : Fin 64) : EReal := max (Finset.univ.fold max ⊥ (scC q K ok i)) (Finset.univ.fold max ⊥ (scN q kn i))

/-- The factor that turns a difference of scores into an exponent of two. -/
def κ2 : EReal := ((1 / 16 * (Real.log 2)⁻¹ : ℝ) : EReal)

/-- The unnormalised weight of cached row `l`, as a power of two. -/
def eC (i : Fin 64) (l : Fin 1024) : EReal := Ideal.exp2 ((scC q K ok i l - mx q K kn ok i) * κ2)

/-- The unnormalised weight of new token `t`, as a power of two. -/
def eN (i : Fin 64) (t : Fin 4) : EReal := Ideal.exp2 ((scN q kn i t - mx q K kn ok i) * κ2)

/-- The sum of the weights. -/
def den (i : Fin 64) : EReal := (∑ l, eC q K kn ok i l) + ∑ t, eN q K kn ok i t

/-- The output with powers of two, normalised after the sums. -/
def outK (i : Fin 64) (d : Fin 256) : EReal :=
  ((∑ l, eC q K kn ok i l * ts l * V l d) + ∑ t, eN q K kn ok i t * vn t d) * Ideal.div 1 (den q K kn ok i)

/-- The scaled score against cached row `l`. -/
def rC (i : Fin 64) (l : Fin 1024) : EReal := if ok i l then (∑ d, q i d * K l d) * ((1 / 16 : ℝ) : EReal) else ⊥

/-- The scaled score against new token `t`. -/
def rN (i : Fin 64) (t : Fin 4) : EReal := if t.val ≤ i.val / 16 then (∑ d, q i d * kn t d) * ((1 / 16 : ℝ) : EReal) else ⊥

/-- The largest scaled score. -/
def rmx (i : Fin 64) : EReal := max (Finset.univ.fold max ⊥ (rC q K ok i)) (Finset.univ.fold max ⊥ (rN q kn i))

/-- The weight of cached row `l`. -/
def xC (i : Fin 64) (l : Fin 1024) : EReal := Ideal.exp (rC q K ok i l - rmx q K kn ok i)

/-- The weight of new token `t`. -/
def xN (i : Fin 64) (t : Fin 4) : EReal := Ideal.exp (rN q kn i t - rmx q K kn ok i)

/-- The sum of the weights. -/
def rden (i : Fin 64) : EReal := (∑ l, xC q K kn ok i l) + ∑ t, xN q K kn ok i t

/-- The output with each weight normalised before the sums. -/
def outR (i : Fin 64) (d : Fin 256) : EReal :=
  (∑ l, Ideal.div (xC q K kn ok i l) (rden q K kn ok i) * ts l * V l d) + ∑ t, Ideal.div (xN q K kn ok i t) (rden q K kn ok i) * vn t d

/-- Scaling by 1/16 commutes with the greater of two. -/
private theorem scale_max (x y : EReal) : max x y * ((1 / 16 : ℝ) : EReal) = max (x * ((1 / 16 : ℝ) : EReal)) (y * ((1 / 16 : ℝ) : EReal)) := by
  have hm : Monotone fun z : EReal => z * ((1 / 16 : ℝ) : EReal) := fun x y h =>
    mul_le_mul_of_nonneg_right h (by exact_mod_cast (by norm_num : (0 : ℝ) ≤ 1 / 16))
  exact hm.map_max

/-- Minus infinity scaled stays minus infinity. -/
private theorem bot_scale : (⊥ : EReal) * ((1 / 16 : ℝ) : EReal) = ⊥ := EReal.bot_mul_coe_of_pos (by norm_num)

/-- The reference's score against a cached row is the kernel's, scaled. -/
theorem rC_eq (i : Fin 64) (l : Fin 1024) : rC q K ok i l = scC q K ok i l * ((1 / 16 : ℝ) : EReal) := by
  unfold rC scC; split <;> simp only [bot_scale]

/-- The reference's score against a new token is the kernel's, scaled. -/
theorem rN_eq (i : Fin 64) (t : Fin 4) : rN q kn i t = scN q kn i t * ((1 / 16 : ℝ) : EReal) := by
  unfold rN scN; split <;> simp only [bot_scale]

/-- Scaling by 1/16 commutes with the greatest of a family. -/
private theorem fold_scale {ι : Type} [Fintype ι] (f : ι → EReal) :
    Finset.univ.fold max ⊥ (fun x => f x * ((1 / 16 : ℝ) : EReal)) = Finset.univ.fold max ⊥ f * ((1 / 16 : ℝ) : EReal) := by
  have h := Finset.fold_hom (op := max) (op' := max) (b := (⊥ : EReal)) (s := Finset.univ) (f := f) (m := fun z : EReal => z * ((1 / 16 : ℝ) : EReal)) scale_max
  rw [← h]
  simp only [bot_scale]

/-- The reference's greatest score is the kernel's, scaled. -/
theorem rmx_eq (i : Fin 64) : rmx q K kn ok i = mx q K kn ok i * ((1 / 16 : ℝ) : EReal) := by
  unfold rmx mx
  rw [scale_max, ← fold_scale, ← fold_scale, show rC q K ok i = fun l => scC q K ok i l * ((1 / 16 : ℝ) : EReal) from funext fun l => rC_eq q K ok i l,
    show rN q kn i = fun t => scN q kn i t * ((1 / 16 : ℝ) : EReal) from funext fun t => rN_eq q kn i t]

variable (hq : ∀ i d, ∃ r : ℝ, q i d = r) (hK : ∀ l d, ∃ r : ℝ, K l d = r) (hkn : ∀ t d, ∃ r : ℝ, kn t d = r)

/-- A product of two finite values is finite. -/
private theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

include hq hK in
/-- A score against a cached row is minus infinity or finite. -/
theorem scC_cases (i : Fin 64) (l : Fin 1024) : scC q K ok i l = ⊥ ∨ ∃ r : ℝ, scC q K ok i l = r := by
  unfold scC; split
  · exact Or.inr (sum_real _ fun d => mul_real (hq i d) (hK l d))
  · exact Or.inl rfl

include hq hkn in
/-- A score against a new token is minus infinity or finite. -/
theorem scN_cases (i : Fin 64) (t : Fin 4) : scN q kn i t = ⊥ ∨ ∃ r : ℝ, scN q kn i t = r := by
  unfold scN; split
  · exact Or.inr (sum_real _ fun d => mul_real (hq i d) (hkn t d))
  · exact Or.inl rfl

include hq hkn in
/-- The score against the first new token is finite. -/
theorem scN_zero (i : Fin 64) : ∃ r : ℝ, scN q kn i 0 = r := by
  unfold scN; rw [if_pos (show (0 : Fin 4).val ≤ i.val / 16 from Nat.zero_le _)]
  exact sum_real _ fun d => mul_real (hq i d) (hkn 0 d)

include hq hK hkn in
/-- The largest score is a real number: the first new token is always attended to. -/
theorem mx_real (i : Fin 64) : ∃ r : ℝ, mx q K kn ok i = r := by
  have ht : mx q K kn ok i < ⊤ := by
    refine max_lt ?_ ?_ <;> rw [Finset.fold_max_lt] <;> refine ⟨bot_lt_top, fun l _ => ?_⟩
    · rcases scC_cases q K ok hq hK i l with h | ⟨r, h⟩ <;> rw [h]
      · exact bot_lt_top
      · exact EReal.coe_lt_top r
    · rcases scN_cases q kn hq hkn i l with h | ⟨r, h⟩ <;> rw [h]
      · exact bot_lt_top
      · exact EReal.coe_lt_top r
  have hb : ⊥ < mx q K kn ok i := by
    obtain ⟨r, hr⟩ := scN_zero q kn hq hkn i
    refine lt_of_lt_of_le (EReal.bot_lt_coe r) (le_trans ?_ (le_max_right _ _))
    rw [Finset.le_fold_max]
    exact Or.inr ⟨0, Finset.mem_univ _, hr.ge⟩
  exact ⟨(mx q K kn ok i).toReal, (EReal.coe_toReal ht.ne hb.ne').symm⟩

/-- Weighing by a power of two or by an exponential of the scaled scores is the same. -/
theorem weight_eq (s : EReal) (hs : s = ⊥ ∨ ∃ r : ℝ, s = r) (m : ℝ) :
    ∃ a : ℝ, 0 ≤ a ∧ (∀ r : ℝ, s = r → 0 < a) ∧ Ideal.exp2 ((s - (m : EReal)) * κ2) = a ∧
      Ideal.exp (s * ((1 / 16 : ℝ) : EReal) - (m : EReal) * ((1 / 16 : ℝ) : EReal)) = a := by
  have hlog : 0 < Real.log 2 := Real.log_pos (by norm_num)
  rcases hs with rfl | ⟨r, rfl⟩
  · refine ⟨0, le_refl 0, fun r h => absurd h (EReal.bot_ne_coe r), ?_, ?_⟩
    · rw [show (⊥ : EReal) - (m : EReal) = ⊥ from EReal.bot_sub _, κ2, EReal.bot_mul_coe_of_pos (by positivity), Ideal.exp2_bot]; rfl
    · rw [bot_scale, EReal.bot_sub, Ideal.exp_bot]; rfl
  · refine ⟨Real.exp ((r - m) * (1 / 16)), (Real.exp_pos _).le, fun _ _ => Real.exp_pos _, ?_, ?_⟩
    · rw [κ2, ← EReal.coe_sub, ← EReal.coe_mul, Ideal.exp2_coe, show Real.rpow 2 ((r - m) * (1 / 16 * (Real.log 2)⁻¹)) = (2 : ℝ) ^ ((r - m) * (1 / 16 * (Real.log 2)⁻¹)) from rfl,
        Real.rpow_def_of_pos (by norm_num)]
      congr 2
      field_simp
    · rw [← EReal.coe_mul, ← EReal.coe_mul, ← EReal.coe_sub, Ideal.exp_coe, sub_mul]

include hq hK hkn in
/-- The two ways of writing the attention agree when queries, cached keys and new keys are finite. -/
theorem outK_eq_outR (i : Fin 64) (d : Fin 256) : outK q K V kn vn ts ok i d = outR q K V kn vn ts ok i d := by
  obtain ⟨m, hm⟩ := mx_real q K kn ok hq hK hkn i
  have hC : ∀ l, ∃ a : ℝ, 0 ≤ a ∧ eC q K kn ok i l = a ∧ xC q K kn ok i l = a := fun l => by
    obtain ⟨a, h0, -, h1, h2⟩ := weight_eq _ (scC_cases q K ok hq hK i l) m
    exact ⟨a, h0, by rw [eC, hm]; exact h1, by rw [xC, rmx_eq, hm, rC_eq]; exact h2⟩
  have hN : ∀ t, ∃ a : ℝ, 0 ≤ a ∧ (t = 0 → 0 < a) ∧ eN q K kn ok i t = a ∧ xN q K kn ok i t = a := fun t => by
    obtain ⟨a, h0, hp, h1, h2⟩ := weight_eq _ (scN_cases q kn hq hkn i t) m
    refine ⟨a, h0, fun ht => ?_, by rw [eN, hm]; exact h1, by rw [xN, rmx_eq, hm, rN_eq]; exact h2⟩
    subst ht
    obtain ⟨r, hr⟩ := scN_zero q kn hq hkn i
    exact hp r hr
  choose a ha0 ha1 ha2 using hC
  choose b hb0 hbp hb1 hb2 using hN
  have hD : 0 < (∑ l, a l) + ∑ t, b t :=
    add_pos_of_nonneg_of_pos (Finset.sum_nonneg fun l _ => ha0 l)
      (Finset.sum_pos' (fun t _ => hb0 t) ⟨0, Finset.mem_univ _, hbp 0 rfl⟩)
  generalize hDD : (∑ l, a l) + ∑ t, b t = D at hD
  have hden : den q K kn ok i = (D : EReal) := by
    rw [den, Finset.sum_congr rfl fun l _ => ha1 l, Finset.sum_congr rfl fun t _ => hb1 t, ← coe_sum, ← coe_sum, ← EReal.coe_add, hDD]
  have hrden : rden q K kn ok i = (D : EReal) := by
    rw [rden, Finset.sum_congr rfl fun l _ => ha2 l, Finset.sum_congr rfl fun t _ => hb2 t, ← coe_sum, ← coe_sum, ← EReal.coe_add, hDD]
  have hc : (0 : ℝ) ≤ 1 / D := by positivity
  rw [outK, outR, hden, hrden, Ideal.div_coe hD.ne', one_mul,
    EReal.right_distrib_of_nonneg_of_ne_top (by exact_mod_cast hc) (EReal.coe_ne_top _), sum_mul_coe _ _ hc, sum_mul_coe _ _ hc]
  refine congrArg₂ (· + ·) (Finset.sum_congr rfl fun l _ => ?_) (Finset.sum_congr rfl fun t _ => ?_)
  · rw [ha1, ha2, Ideal.div_coe hD.ne']; ac_rfl
  · rw [hb1, hb2, Ideal.div_coe hD.ne']; ac_rfl

/-- The output does not depend on the order of the cached rows. -/
theorem outR_perm (e : Fin 1024 ≃ Fin 1024) (i : Fin 64) (d : Fin 256) :
    outR q (fun l => K (e l)) (fun l => V (e l)) kn vn (fun l => ts (e l)) (fun i l => ok i (e l)) i d = outR q K V kn vn ts ok i d := by
  have h1 : rmx q (fun l => K (e l)) kn (fun i l => ok i (e l)) i = rmx q K kn ok i := by
    unfold rmx
    congr 1
    refine Eq.trans ?_ (congrArg (fun s => Finset.fold max ⊥ (rC q K ok i) s) (Finset.map_univ_equiv e))
    rw [Finset.fold_map]; rfl
  have h2 : ∀ l, xC q (fun l => K (e l)) kn (fun i l => ok i (e l)) i l = xC q K kn ok i (e l) := fun l => by
    unfold xC; rw [h1]; rfl
  have h3 : ∀ t, xN q (fun l => K (e l)) kn (fun i l => ok i (e l)) i t = xN q K kn ok i t := fun t => by
    unfold xN; rw [h1]
  have h4 : rden q (fun l => K (e l)) kn (fun i l => ok i (e l)) i = rden q K kn ok i := by
    unfold rden
    rw [Finset.sum_congr rfl fun l _ => h2 l, Finset.sum_congr rfl fun t _ => h3 t, Equiv.sum_comp e (fun l => xC q K kn ok i l)]
  unfold outR
  refine congrArg₂ (· + ·) ?_ (Finset.sum_congr rfl fun t _ => by rw [h3 t, h4])
  rw [← Equiv.sum_comp e (fun l => Ideal.div (xC q K kn ok i l) (rden q K kn ok i) * ts l * V l d)]
  exact Finset.sum_congr rfl fun l _ => by rw [h2 l, h4]

end

end Cert.Attn
-- ==== Proof.Core.lean ====
/-
  What one (sequence, head) unit of the attention computes, as one function of its operands.
-/
module

public import proofs.«01_k».proof.Proof.BodyI
public import proofs.«01_k».proof.Proof.Attn
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem Classical

section
variable (ts : FVec Ideal S1x1024 .f32) (ok : IVec S64x128 1) (nok : IVec S64x4 1) (q : FVec Ideal S64x256 .bf16) (kn vn : FVec Ideal S4x256 .bf16)
  (ks : FVec Ideal S1x256 .bf16) (kd vd : Vec Ideal S1x1x1024x256 .i8)

/-- The scores against the new keys, the later ones at minus infinity. -/
def snew : FVec Ideal S64x4 .f32 :=
  select nok (matmul dot_S64x256_S4x256_S64x4_1_1_0_0_n_n none q kn (constant S64x4 .f32 0x00000000#32)) (broadcast S64x4 (Scalar.ofBits .f32 0xFF800000#32))

/-- The unnormalised weights of the cached rows times the rows' value scales. -/
def pcache (sn : FVec Ideal S64x4 .f32) : FVec Ideal S64x1024 .bf16 :=
  truncf .bf16 (mulf (k0_pay67 ok q sn ks kd) (broadcastTo S64x1024 ts broadcasts_S1x1024_S64x1024)) bitsLt_bf16_f32

/-- One unit's output block. -/
def core : FVec Ideal S4x16x256 .bf16 :=
  k0_pay72 vn (k0_pay68 ok q (snew nok q kn) ks kd) (k0_pay69 ok q (snew nok q kn) ks kd) (pcache ts ok q ks kd (snew nok q kn)) vd

variable (okp : Fin 64 → Fin 1024 → Prop)
  (hok : ∀ (i : Fin 64) (l : Fin 1024) (h : l.val < 128), ok (ix2 i ⟨l.val, h⟩) = 1#1 ↔ okp i l) (hok' : ∀ (i : Fin 64) (l : Fin 1024), 128 ≤ l.val → okp i l)
  (hnok : ∀ (i : Fin 64) (t : Fin 4), nok (ix2 i t) = 1#1 ↔ t.val ≤ i.val / 16)

/-- The unit's queries, new keys, scaled cached keys and cached values as functions of two indices. -/
abbrev qF : Fin 64 → Fin 256 → EReal := fun i d => q (ix2 i d)
/-- A block of new tokens as a function of token and channel. -/
abbrev nF (n : FVec Ideal S4x256 .bf16) : Fin 4 → Fin 256 → EReal := fun t d => n (ix2 t d)
/-- The decoded cached keys as a function of row and channel. -/
abbrev kF : Fin 1024 → Fin 256 → EReal := fun l d => FloatOps.sitofp (F := Ideal) .bf16 (kd (ix4 0 0 l d)) * ks (ix2 0 d)
/-- The decoded cached values as a function of row and channel. -/
abbrev vF : Fin 1024 → Fin 256 → EReal := fun l d => FloatOps.sitofp (F := Ideal) .bf16 (vd (ix4 0 0 l d))

/-- The pattern of minus infinity denotes minus infinity. -/
private theorem negInf : Ideal.ofBits .f32 4286578688#32 = ⊥ := by simp [Ideal.ofBits, Ideal.ieee]

include hnok in
/-- The masked scores against the new tokens, read at one entry. -/
theorem snew_apply (i : Fin 64) (t : Fin 4) : snew nok q kn (ix2 i t) = Attn.scN (qF q) (nF kn) i t := by
  have h : snew nok q kn (ix2 i t) = Scalar.select (nok (ix2 i t)) (∑ x, q (ix2 i x) * kn (ix2 t x)) (Ideal.ofBits .f32 4286578688#32) := by
    pointwise [snew]
  rw [h, negInf, Attn.scN, Scalar.select]
  exact if_congr (hnok i t) rfl rfl

include hok hok' in
/-- The masked scores against the cached rows, read at one entry. -/
theorem pay65_apply (i : Fin 64) (l : Fin 1024) : k0_pay65 ok q ks kd (ix2 i l) = Attn.scC (qF q) (kF ks kd) okp i l := by
  have h : k0_pay65 ok q ks kd (ix2 i l) = if h : l.val < 128 then
      Scalar.select (ok (ix2 i ⟨l.val, h⟩)) (∑ x, q (ix2 i x) * kF ks kd l x) (Ideal.ofBits .f32 4286578688#32) else ∑ x, q (ix2 i x) * kF ks kd l x := by
    pointwise [k0_pay65]
    split
    · rfl
    · have h2 : (⟨128 + (l.val - 128), by omega⟩ : Fin 1024) = l := Fin.ext (by simp only; omega)
      simp only [h2]
  rw [h, negInf, Attn.scC]
  split
  · rw [Scalar.select]; exact if_congr (hok i l ‹_›) rfl rfl
  · rw [if_pos (hok' i l (by omega))]

include hok hok' hnok in
/-- The greatest score of a query row. -/
theorem pay66_apply (i : Fin 64) : k0_pay66 ok q (snew nok q kn) ks kd (ix2 i 0) = Attn.mx (qF q) (kF ks kd) (nF kn) okp i := by
  have h : k0_pay66 ok q (snew nok q kn) ks kd (ix2 i 0) = max (Finset.fold max (Ideal.ofBits .f32 4286578688#32) (fun x => k0_pay65 ok q ks kd (ix2 i x)) Finset.univ)
      (Finset.fold max (Ideal.ofBits .f32 4286578688#32) (fun x => snew nok q kn (ix2 i x)) Finset.univ) := by
    pointwise [k0_pay66]
  rw [h, negInf]
  simp only [pay65_apply ok q ks kd okp hok hok', snew_apply nok q kn hnok]
  rfl

include hok hok' hnok in
/-- The weights of the cached rows, read at one entry. -/
theorem pay67_apply (i : Fin 64) (l : Fin 1024) : k0_pay67 ok q (snew nok q kn) ks kd (ix2 i l) = Attn.eC (qF q) (kF ks kd) (nF kn) okp i l := by
  have h : k0_pay67 ok q (snew nok q kn) ks kd (ix2 i l) = FloatOps.exp2 (F := Ideal) (φ := .f32) ((k0_pay65 ok q ks kd (ix2 i l) -
      k0_pay66 ok q (snew nok q kn) ks kd (ix2 i 0)) * Attn.κ2) := by
    pointwise [k0_pay67]
    rfl
  rw [h, pay65_apply ok q ks kd okp hok hok', pay66_apply ok nok q kn ks kd okp hok hok' hnok]
  rfl

include hok hok' hnok in
/-- The weights of the new tokens, read at one entry. -/
theorem pay68_apply (i : Fin 64) (t : Fin 4) : k0_pay68 ok q (snew nok q kn) ks kd (ix2 i t) = Attn.eN (qF q) (kF ks kd) (nF kn) okp i t := by
  have h : k0_pay68 ok q (snew nok q kn) ks kd (ix2 i t) = FloatOps.exp2 (F := Ideal) (φ := .f32) ((snew nok q kn (ix2 i t) -
      k0_pay66 ok q (snew nok q kn) ks kd (ix2 i 0)) * Attn.κ2) := by
    pointwise [k0_pay68]
    rfl
  rw [h, snew_apply nok q kn hnok, pay66_apply ok nok q kn ks kd okp hok hok' hnok]
  rfl

include hok hok' hnok in
/-- The sum of the weights of a query row. -/
theorem pay69_apply (i : Fin 64) : k0_pay69 ok q (snew nok q kn) ks kd (ix2 i 0) = Attn.den (qF q) (kF ks kd) (nF kn) okp i := by
  have h : k0_pay69 ok q (snew nok q kn) ks kd (ix2 i 0) = (∑ l, k0_pay67 ok q (snew nok q kn) ks kd (ix2 i l)) + ∑ t, k0_pay68 ok q (snew nok q kn) ks kd (ix2 i t) := by
    pointwise [k0_pay69]
  rw [h]
  simp only [pay67_apply ok nok q kn ks kd okp hok hok' hnok, pay68_apply ok nok q kn ks kd okp hok hok' hnok]
  rfl

include hok hok' hnok in
/-- The unit's block is the attention of its operands. -/
theorem core_apply (s : Fin 4) (g : Fin 16) (d : Fin 256) : core ts ok nok q kn vn ks kd vd (ix3 s g d)
    = Attn.outK (qF q) (kF ks kd) (vF vd) (nF kn) (nF vn) (fun l => ts (ix2 0 l)) okp ⟨s.val * 16 + g.val, by omega⟩ d := by
  have h : core ts ok nok q kn vn ks kd vd (ix3 s g d) = ((∑ x, k0_pay67 ok q (snew nok q kn) ks kd (ix2 ⟨s.val * 16 + g.val, by omega⟩ x) * ts (ix2 0 x) * vF vd x d)
      + ∑ x, k0_pay68 ok q (snew nok q kn) ks kd (ix2 ⟨s.val * 16 + g.val, by omega⟩ x) * vn (ix2 x d))
      * Ideal.div 1 (k0_pay69 ok q (snew nok q kn) ks kd (ix2 ⟨s.val * 16 + g.val, by omega⟩ 0)) := by
    pointwise [core, pcache, k0_pay72]
  rw [h, pay69_apply ok nok q kn ks kd okp hok hok' hnok]
  simp only [pay67_apply ok nok q kn ks kd okp hok hok' hnok, pay68_apply ok nok q kn ks kd okp hok hok' hnok]
  rfl

end
end Cert.KernelIdeal.Hand
-- ==== Proof.Units.lean ====
/-
  What the run stores for each of the eight (sequence, head) units of the attention: the unit's function of the operands the run
  reads.
-/
module

public import proofs.«01_k».proof.Proof.Core

@[expose] public section

set_option maxRecDepth 16384

noncomputable section

namespace Cert.KernelIdeal.Hand

open Cert.KernelIdeal Cert.KernelIdeal.Gen
open Idealize.ShloMosaic Idealize.ShloMosaic.TcCoe Idealize.SL.Sem
open kernelRun

/-- A unit's queries, one row per (step, head of the group). -/
def qOf (Q : FVec Ideal S1x4x16x256 .bf16) : FVec Ideal S64x256 .bf16 := shapeCast S64x256 (shapeCast S4x16x256 Q (by decide)) (by decide)
/-- A unit's new keys or values. -/
def nOf (N : FVec Ideal S1x4x1x256 .f32) : FVec Ideal S4x256 .bf16 := truncf .bf16 (shapeCast S4x256 N (by decide)) bitsLt_bf16_f32
/-- A unit's key scale. -/
def sOf (K : FVec Ideal S1x1x256 .f32) : FVec Ideal S1x256 .bf16 := truncf .bf16 (shapeCast S1x256 K (by decide)) bitsLt_bf16_f32
/-- The value scales of a unit's rows: one row of its sequence's. -/
def tOf (k : Fin 2) (T : FVec Ideal S2x1024 .f32) : FVec Ideal S1x1024 .f32 := fun i => T (ix2 k (i 1))

/-- The scales of the first head. -/
theorem tOf_zero (T : FVec Ideal S2x1024 .f32) : tOf 0 T = extractStridedSlice S1x1024 ![0, 0] T slices_S2x1024_o0_0_S1x1024 := by
  funext i; idx_vars i; pointwise [tOf]
/-- The scales of the second head. -/
theorem tOf_one (T : FVec Ideal S2x1024 .f32) : tOf 1 T = extractStridedSlice S1x1024 ![1, 0] T slices_S2x1024_o1_0_S1x1024 := by
  funext i; idx_vars i; pointwise [tOf]

/-- The queries of a unit, read at one entry. -/
theorem qOf_apply (Q : FVec Ideal S1x4x16x256 .bf16) (i : Fin 64) (d : Fin 256) :
    qOf Q (ix2 i d) = Q (ix4 0 ⟨i.val / 16, by omega⟩ ⟨i.val % 16, by omega⟩ d) := by
  pointwise [qOf]
/-- The new tokens of a unit, read at one entry. -/
theorem nOf_apply (N : FVec Ideal S1x4x1x256 .f32) (t : Fin 4) (d : Fin 256) : nOf N (ix2 t d) = N (ix4 0 t 0 d) := by
  pointwise [nOf]
/-- The key scales of a unit, read at one entry. -/
theorem sOf_apply (K : FVec Ideal S1x1x256 .f32) (d : Fin 256) : sOf K (ix2 0 d) = K (ix3 0 0 d) := by
  pointwise [sOf]

variable (c : Dev nD)
variable (f7 : Bf (F := Ideal) c main_arg7) (f0 : Bf (F := Ideal) c main_arg0) (f1 : Bf (F := Ideal) c main_arg1) (f2 : Bf (F := Ideal) c main_arg2)
  (f4 : Bf (F := Ideal) c main_arg4) (g0 : Bf (F := Ideal) c main_v0) (g1 : Bf (F := Ideal) c main_v1) (g2 : Bf (F := Ideal) c main_v2)
  (s0 : Bf (F := Ideal) c cc0_scratch0) (s1 : Bf (F := Ideal) c cc0_scratch1) (s2 : Bf (F := Ideal) c cc0_scratch2) (s3 : Bf (F := Ideal) c cc0_scratch3)
  (s4 : Bf (F := Ideal) c cc0_scratch4) (s5 : Bf (F := Ideal) c cc0_scratch5) (s6 : Bf (F := Ideal) c cc0_scratch6) (s7 : Bf (F := Ideal) c cc0_scratch7)

/-- The block stored for sequence 0 and head 0. -/
theorem unit_00 : sl.v812 (F := Ideal) c f7 f0 f1 f2 f4 g0 g1 g2 s0 s1 s2 s3 s4 s5 s6 s7 = shapeCast S1x4x16x256 (core (tOf 0 (sl.v673 c f7 g2 s0 s7)) (sl.v694 c f7 s0) sl.v698 (qOf (sl.v699 c f0 s1)) (nOf (sl.v202 c f1 s2)) (nOf (sl.v215 c f2 s3)) (sOf (sl.v200 c f4 s4)) (sl.v738 c f7 g0 s0 s5) (sl.v797 c f7 g1 s0 s6)) (by decide) := by
  rw [tOf_zero]
  unfold sl.v812 sl.v809 sl.v808 sl.v807 sl.v806 sl.v805 sl.v768 sl.v804 sl.cst_236 sl.v803 sl.v802 sl.v707 sl.v216 sl.v801 sl.v763 sl.v800 sl.cst_595 sl.v799 sl.v798 sl.v772 sl.v737 sl.v201 sl.v710 sl.v709 sl.cst_520 sl.v708 sl.cst_519 sl.v704 sl.v203 sl.v701 sl.v700
  generalize sl.v200 c f4 s4 = r_v200
  generalize sl.v202 c f1 s2 = r_v202
  generalize sl.v215 c f2 s3 = r_v215
  generalize sl.v673 c f7 g2 s0 s7 = r_v673
  generalize sl.v694 c f7 s0 = r_v694
  generalize sl.v699 c f0 s1 = r_v699
  generalize sl.v738 c f7 g0 s0 s5 = r_v738
  generalize sl.v797 c f7 g1 s0 s6 = r_v797
  unfold k0_pay69 k0_pay68 k0_pay70
  unfold core snew pcache qOf nOf sOf
  rfl

/-- The block stored for sequence 0 and head 1. -/
theorem unit_01 : sl.v926 (F := Ideal) c f7 f0 f1 f2 f4 g0 g1 g2 s0 s1 s2 s3 s4 s5 s6 s7 = shapeCast S1x4x16x256 (core (tOf 1 (sl.v673 c f7 g2 s0 s7)) (sl.v694 c f7 s0) sl.v698 (qOf (sl.v813 c f0 s1)) (nOf (sl.v251 c f1 s2)) (nOf (sl.v264 c f2 s3)) (sOf (sl.v249 c f4 s4)) (sl.v852 c f7 g0 s0 s5) (sl.v911 c f7 g1 s0 s6)) (by decide) := by
  rw [tOf_one]
  unfold sl.v926 sl.v923 sl.v922 sl.v921 sl.v920 sl.v919 sl.v882 sl.v804 sl.cst_236 sl.v917 sl.v916 sl.v821 sl.v265 sl.v915 sl.v877 sl.v914 sl.cst_595 sl.v913 sl.v912 sl.v886 sl.v869 sl.v868 sl.v867 sl.v866 sl.v865 sl.v824 sl.v709 sl.v822 sl.cst_519 sl.v818 sl.v252 sl.v864 sl.v863 sl.v862 sl.v861 sl.v860 sl.v859 sl.cst_520 sl.v858 sl.v857 sl.cst_650 sl.v856 sl.v855 sl.v851 sl.v250 sl.v854 sl.v853 sl.v815 sl.v814
  generalize sl.v249 c f4 s4 = r_v249
  generalize sl.v251 c f1 s2 = r_v251
  generalize sl.v264 c f2 s3 = r_v264
  generalize sl.v673 c f7 g2 s0 s7 = r_v673
  generalize sl.v694 c f7 s0 = r_v694
  generalize sl.v813 c f0 s1 = r_v813
  generalize sl.v852 c f7 g0 s0 s5 = r_v852
  generalize sl.v911 c f7 g1 s0 s6 = r_v911
  unfold k0_pay84 k0_pay83 k0_pay85
  unfold core snew pcache qOf nOf sOf
  rfl

/-- The block stored for sequence 1 and head 0. -/
theorem unit_10 : sl.v1120 (F := Ideal) c f7 f0 f1 f2 f4 g0 g1 g2 s0 s1 s2 s3 s4 s5 s6 s7 = shapeCast S1x4x16x256 (core (tOf 0 (sl.v981 c f7 g2 s0 s7)) (sl.v1002 c f7 s0) sl.v698 (qOf (sl.v1007 c f0 s1)) (nOf (sl.v300 c f1 s2)) (nOf (sl.v313 c f2 s3)) (sOf (sl.v1043 c f4 s4)) (sl.v1046 c f7 g0 s0 s5) (sl.v1105 c f7 g1 s0 s6)) (by decide) := by
  rw [tOf_zero]
  unfold sl.v1120 sl.v1117 sl.v1116 sl.v1115 sl.v1114 sl.v1113 sl.v1076 sl.v804 sl.cst_236 sl.v1111 sl.v1110 sl.v1015 sl.v314 sl.v1109 sl.v1071 sl.v1108 sl.cst_595 sl.v1107 sl.v1106 sl.v1080 sl.v1018 sl.v709 sl.cst_520 sl.v1016 sl.cst_519 sl.v1012 sl.v301 sl.v1009 sl.v1008
  generalize sl.v1002 c f7 s0 = r_v1002
  generalize sl.v1007 c f0 s1 = r_v1007
  generalize sl.v1043 c f4 s4 = r_v1043
  generalize sl.v1046 c f7 g0 s0 s5 = r_v1046
  generalize sl.v1105 c f7 g1 s0 s6 = r_v1105
  generalize sl.v300 c f1 s2 = r_v300
  generalize sl.v313 c f2 s3 = r_v313
  generalize sl.v981 c f7 g2 s0 s7 = r_v981
  unfold k0_pay105 k0_pay104 k0_pay106
  unfold core snew pcache qOf nOf sOf
  rfl

/-- The block stored for sequence 1 and head 1. -/
theorem unit_11 : sl.v1234 (F := Ideal) c f7 f0 f1 f2 f4 g0 g1 g2 s0 s1 s2 s3 s4 s5 s6 s7 = shapeCast S1x4x16x256 (core (tOf 1 (sl.v981 c f7 g2 s0 s7)) (sl.v1002 c f7 s0) sl.v698 (qOf (sl.v1121 c f0 s1)) (nOf (sl.v349 c f1 s2)) (nOf (sl.v362 c f2 s3)) (sOf (sl.v347 c f4 s4)) (sl.v1160 c f7 g0 s0 s5) (sl.v1219 c f7 g1 s0 s6)) (by decide) := by
  rw [tOf_one]
  unfold sl.v1234 sl.v1231 sl.v1230 sl.v1229 sl.v1228 sl.v1227 sl.v1190 sl.v804 sl.cst_236 sl.v1225 sl.v1224 sl.v1129 sl.v363 sl.v1223 sl.v1185 sl.v1222 sl.cst_595 sl.v1221 sl.v1220 sl.v1194 sl.v1166 sl.v1165 sl.cst_650 sl.v1164 sl.v1163 sl.v1159 sl.v348 sl.v1162 sl.v1161 sl.v1132 sl.v709 sl.cst_520 sl.v1130 sl.cst_519 sl.v1126 sl.v350 sl.v1123 sl.v1122
  generalize sl.v1002 c f7 s0 = r_v1002
  generalize sl.v1121 c f0 s1 = r_v1121
  generalize sl.v1160 c f7 g0 s0 s5 = r_v1160
  generalize sl.v1219 c f7 g1 s0 s6 = r_v1219
  generalize sl.v347 c f4 s4 = r_v347
  generalize sl.v349 c f1 s2 = r_v349
  generalize sl.v362 c f2 s3 = r_v362
  generalize sl.v981 c f7 g2 s0 s7 = r_v981
  unfold k0_pay120 k0_pay119 k0_pay121
  unfold core snew pcache qOf nOf sOf
  rfl

/-- The block stored for sequence 2 and head 0. -/
theorem unit_20 : sl.v1428 (F := Ideal) c f7 f0 f1 f2 f4 g0 g1 g2 s0 s1 s2 s3 s4 s5 s6 s7 = shapeCast S1x4x16x256 (core (tOf 0 (sl.v1289 c f7 g2 s0 s7)) (sl.v1310 c f7 s0) sl.v698 (qOf (sl.v1315 c f0 s1)) (nOf (sl.v398 c f1 s2)) (nOf (sl.v411 c f2 s3)) (sOf (sl.v1351 c f4 s4)) (sl.v1354 c f7 g0 s0 s5) (sl.v1413 c f7 g1 s0 s6)) (by decide) := by
  rw [tOf_zero]
  unfold sl.v1428 sl.v1425 sl.v1424 sl.v1423 sl.v1422 sl.v1421 sl.v1384 sl.v1383 sl.v1382 sl.v1381 sl.v1380 sl.v804 sl.cst_236 sl.v1419 sl.v1418 sl.v1323 sl.v412 sl.v1417 sl.v1379 sl.v1378 sl.v1416 sl.cst_595 sl.v1415 sl.v1414 sl.v1388 sl.v1387 sl.v1386 sl.v1385 sl.v1374 sl.v1326 sl.v709 sl.cst_520 sl.v1324 sl.cst_519 sl.v1320 sl.v399 sl.v1317 sl.v1316
  generalize sl.v1289 c f7 g2 s0 s7 = r_v1289
  generalize sl.v1310 c f7 s0 = r_v1310
  generalize sl.v1315 c f0 s1 = r_v1315
  generalize sl.v1351 c f4 s4 = r_v1351
  generalize sl.v1354 c f7 g0 s0 s5 = r_v1354
  generalize sl.v1413 c f7 g1 s0 s6 = r_v1413
  generalize sl.v398 c f1 s2 = r_v398
  generalize sl.v411 c f2 s3 = r_v411
  unfold k0_pay138 k0_pay137
  unfold core snew pcache qOf nOf sOf
  rfl

/-- The block stored for sequence 2 and head 1. -/
theorem unit_21 : sl.v1542 (F := Ideal) c f7 f0 f1 f2 f4 g0 g1 g2 s0 s1 s2 s3 s4 s5 s6 s7 = shapeCast S1x4x16x256 (core (tOf 1 (sl.v1289 c f7 g2 s0 s7)) (sl.v1310 c f7 s0) sl.v698 (qOf (sl.v1429 c f0 s1)) (nOf (sl.v447 c f1 s2)) (nOf (sl.v460 c f2 s3)) (sOf (sl.v445 c f4 s4)) (sl.v1468 c f7 g0 s0 s5) (sl.v1527 c f7 g1 s0 s6)) (by decide) := by
  rw [tOf_one]
  unfold sl.v1542 sl.v1539 sl.v1538 sl.v1537 sl.v1536 sl.v1535 sl.v1498 sl.v804 sl.cst_236 sl.v1533 sl.v1532 sl.v1437 sl.v461 sl.v1531 sl.v1493 sl.v1530 sl.cst_595 sl.v1529 sl.v1528 sl.v1502 sl.v1440 sl.v709 sl.cst_520 sl.v1438 sl.cst_519 sl.v1434 sl.v448 sl.v1431 sl.v1430
  generalize sl.v1289 c f7 g2 s0 s7 = r_v1289
  generalize sl.v1310 c f7 s0 = r_v1310
  generalize sl.v1429 c f0 s1 = r_v1429
  generalize sl.v1468 c f7 g0 s0 s5 = r_v1468
  generalize sl.v1527 c f7 g1 s0 s6 = r_v1527
  generalize sl.v445 c f4 s4 = r_v445
  generalize sl.v447 c f1 s2 = r_v447
  generalize sl.v460 c f2 s3 = r_v460
  unfold k0_pay155 k0_pay154 k0_pay156
  unfold core snew pcache qOf nOf sOf
  rfl

/-- The block stored for sequence 3 and head 0. -/
theorem unit_30 : sl.v1736 (F := Ideal) c f7 f0 f1 f2 f4 g0 g1 g2 s0 s1 s2 s3 s4 s5 s6 s7 = shapeCast S1x4x16x256 (core (tOf 0 (sl.v1597 c f7 g2 s0 s7)) (sl.v1618 c f7 s0) sl.v698 (qOf (sl.v1623 c f0 s1)) (nOf (sl.v496 c f1 s2)) (nOf (sl.v509 c f2 s3)) (sOf (sl.v494 c f4 s4)) (sl.v1662 c f7 g0 s0 s5) (sl.v1721 c f7 g1 s0 s6)) (by decide) := by
  rw [tOf_zero]
  unfold sl.v1736 sl.v1733 sl.v1732 sl.v1731 sl.v1730 sl.v1729 sl.v1692 sl.v804 sl.cst_236 sl.v1727 sl.v1726 sl.v1631 sl.v510 sl.v1725 sl.v1687 sl.v1724 sl.cst_595 sl.v1723 sl.v1722 sl.v1696 sl.v1674 sl.v1673 sl.v1672 sl.v1671 sl.v1670 sl.v859 sl.v1668 sl.v1667 sl.cst_650 sl.v1666 sl.v1665 sl.v1661 sl.v495 sl.v1664 sl.v1663 sl.v1634 sl.v709 sl.cst_520 sl.v1632 sl.cst_519 sl.v1628 sl.v497 sl.v1625 sl.v1624
  generalize sl.v1597 c f7 g2 s0 s7 = r_v1597
  generalize sl.v1618 c f7 s0 = r_v1618
  generalize sl.v1623 c f0 s1 = r_v1623
  generalize sl.v1662 c f7 g0 s0 s5 = r_v1662
  generalize sl.v1721 c f7 g1 s0 s6 = r_v1721
  generalize sl.v494 c f4 s4 = r_v494
  generalize sl.v496 c f1 s2 = r_v496
  generalize sl.v509 c f2 s3 = r_v509
  unfold k0_pay177 k0_pay176 k0_pay178
  unfold core snew pcache qOf nOf sOf
  rfl

/-- The block stored for sequence 3 and head 1. -/
theorem unit_31 : sl.v1850 (F := Ideal) c f7 f0 f1 f2 f4 g0 g1 g2 s0 s1 s2 s3 s4 s5 s6 s7 = shapeCast S1x4x16x256 (core (tOf 1 (sl.v1597 c f7 g2 s0 s7)) (sl.v1618 c f7 s0) sl.v698 (qOf (sl.v1737 c f0 s1)) (nOf (sl.v545 c f1 s2)) (nOf (sl.v558 c f2 s3)) (sOf (sl.v1773 c f4 s4)) (sl.v1776 c f7 g0 s0 s5) (sl.v1835 c f7 g1 s0 s6)) (by decide) := by
  rw [tOf_one]
  unfold sl.v1850 sl.v1847 sl.v1846 sl.v1845 sl.v1844 sl.v1843 sl.v1806 sl.v804 sl.cst_236 sl.v1841 sl.v1840 sl.v1745 sl.v559 sl.v1839 sl.v1801 sl.v1838 sl.cst_595 sl.v1837 sl.v1836 sl.v1810 sl.v1809 sl.v1808 sl.v1807 sl.v1796 sl.v1748 sl.v709 sl.cst_520 sl.v1746 sl.cst_519 sl.v1742 sl.v546 sl.v1739 sl.v1738
  generalize sl.v1597 c f7 g2 s0 s7 = r_v1597
  generalize sl.v1618 c f7 s0 = r_v1618
  generalize sl.v1737 c f0 s1 = r_v1737
  generalize sl.v1773 c f4 s4 = r_v1773
  generalize sl.v1776 c f7 g0 s0 s5 = r_v1776
  generalize sl.v1835 c f7 g1 s0 s6 = r_v1835
  generalize sl.v545 c f1 s2 = r_v545
  generalize sl.v558 c f2 s3 = r_v558
  unfold k0_pay191 k0_pay190 k0_pay192 k0_pay189
  unfold core snew pcache qOf nOf sOf
  rfl

end Cert.KernelIdeal.Hand
-- ==== Proof.Fold.lean ====
/-
  The fold of a fetched slab of 1056 cache rows to a window of 1024: of the first 32 slots those below the window's offset are taken
  from the last 32 fetched rows. The kernel joins four byte rows in a 32-bit word and picks with a bit mask; the theorems here read
  the result row by row.
-/
module

public import proofs.«01_k».proof.Proof.BodyI
public import proofs.«01_k».proof.Proof.Words
public import Idealize.ShloMosaic.Lib.Pointwise
public import Idealize.ShloMosaic.Lib.BitcastFour

@[expose] public section

set_option maxRecDepth 16384

noncomputable section

namespace Cert.KernelIdeal.Hand

open Cert.KernelIdeal Cert.KernelIdeal.Gen Cert.Words
open Idealize.ShloMosaic Idealize.ShloMosaic.TcCoe Idealize.SL.Sem

/-- The window's offset in the fetched rows. -/
def woff (w : BitVec 32) : BitVec 32 := Scalar.subi (wstart w) (wbase w)
/-- The lane offset of the fetched rows in the fetched scales. -/
def wshift (w : BitVec 32) : BitVec 32 := Scalar.subi (wbase w) (wsbase w)

/-- The offset word is the distance from the aligned base to the start of the window. -/
theorem woff_toNat (w : BitVec 32) : (woff w).toNat = (wstart w).toNat - (wbase w).toNat := by
  have h1 := wstart_le w
  have h2 := wbase_toNat w
  have : (wbase w).toNat ≤ (wstart w).toNat := by omega
  show (wstart w - wbase w).toNat = _
  rw [BitVec.toNat_sub]
  have := (wstart w).isLt
  omega

/-- The offset is at most 32. -/
theorem woff_le (w : BitVec 32) : (woff w).toNat ≤ 32 := by
  have h1 := wstart_le w
  have h2 := wbase_toNat w
  rw [woff_toNat]; omega

/-- The shift word is the distance from the base of the scales to the base of the rows. -/
theorem wshift_toNat (w : BitVec 32) : (wshift w).toNat = (wbase w).toNat - (wsbase w).toNat := by
  have h1 := wbase_le w
  have h2 := wsbase_toNat w
  have : (wsbase w).toNat ≤ (wbase w).toNat := by omega
  show (wbase w - wsbase w).toNat = _
  rw [BitVec.toNat_sub]
  have := (wbase w).isLt
  omega

/-- The shift is at most 127. -/
theorem wshift_le (w : BitVec 32) : (wshift w).toNat ≤ 127 := by
  have h1 := wbase_le w
  have h2 := wsbase_toNat w
  rw [wshift_toNat]; omega

/-- How many of the four rows of word row `r` are taken from the tail. -/
def tailRows (off : BitVec 32) (r : BitVec 32) : BitVec 32 :=
  IntOp.minsi 4#32 (IntOp.maxsi 0#32 (IntOp.subi off (IntOp.muli 4#32 r)))

/-- The mask of word row `r`. -/
def tailWord (off : BitVec 32) (r : BitVec 32) : BitVec 32 :=
  Scalar.select (IntOp.cmpi .eq (tailRows off r) 4#32) 4294967295#32 (IntOp.subi (IntOp.shli .vector 1#32 (IntOp.muli 8#32 (tailRows off r))) 1#32)

/-- The mask of the eight word rows, as the kernel makes it. -/
def tailBits (off : BitVec 32) : IVec S8x256 32 := fun i => tailWord off (BitVec.ofNat 32 (i 0).val)

/-- How many of the four rows of a word come from the tail. -/
theorem tailRows_toNat (off : BitVec 32) (r : Nat) (ho : off.toNat ≤ 32) (hr : r < 8) :
    (tailRows off (BitVec.ofNat 32 r)).toNat = min 4 (off.toNat - 4 * r) := by
  have e1 : (IntOp.muli 4#32 (BitVec.ofNat 32 r)) = BitVec.ofNat 32 (4 * r) := by
    simp only [IntOp.muli]; interval_cases r <;> rfl
  have e2 : (IntOp.subi off (BitVec.ofNat 32 (4 * r))).toInt = (off.toNat : Int) - 4 * r := by
    simp only [IntOp.subi]
    rw [BitVec.toInt_eq_toNat_cond, BitVec.toNat_sub, BitVec.toNat_ofNat]
    split <;> omega
  unfold tailRows
  rw [e1]
  generalize IntOp.subi off (BitVec.ofNat 32 (4 * r)) = z at e2
  simp only [IntOp.minsi, IntOp.maxsi, BitVec.slt_iff_toInt_lt]
  have e0 : (0#32 : BitVec 32).toInt = 0 := rfl
  have e4 : (4#32 : BitVec 32).toInt = 4 := rfl
  have n0 : (0#32 : BitVec 32).toNat = 0 := rfl
  have n4 : (4#32 : BitVec 32).toNat = 4 := rfl
  have hz := BitVec.toInt_eq_toNat_cond z
  have hzl := z.isLt
  split at hz <;> (repeat' split) <;> simp_all <;> omega

/-- Bit `j` of the mask of word row `r` says whether row `4 r + j / 8` lies below the offset. -/
theorem tailWord_bit (off : BitVec 32) (r j : Nat) (ho : off.toNat ≤ 32) (hr : r < 8) (hj : j < 32) :
    (tailWord off (BitVec.ofNat 32 r)).getLsbD j = decide (4 * r + j / 8 < off.toNat) := by
  have ht := tailRows_toNat off r ho hr
  unfold tailWord
  have hle : (tailRows off (BitVec.ofNat 32 r)).toNat ≤ 4 := by omega
  generalize tailRows off (BitVec.ofNat 32 r) = t at ht hle
  have key : ∀ n, n ≤ 4 → ∀ j, j < 32 → (Scalar.select (IntOp.cmpi .eq (BitVec.ofNat 32 n) 4#32) 4294967295#32
      (IntOp.subi (IntOp.shli .vector 1#32 (IntOp.muli 8#32 (BitVec.ofNat 32 n))) 1#32) : BitVec 32).getLsbD j = decide (j / 8 < n) := by
    decide
  have et : t = BitVec.ofNat 32 t.toNat := by simp
  rw [et, key _ hle j hj, ht]
  congr 1
  apply propext
  omega

/-- A byte of a word array read as byte rows: bit `q` of row `i` is bit `8 (i % 4) + q` of word row `i / 4`. -/
theorem bytes_getLsbD (x : S8x256.Idx → BitVec 32) (h : S8x256.Bitcasts 32 S32x256 8) (i : Fin 32) (d : Fin 256) (q : Nat) (hq : q < 8) :
    (bitcast S32x256 8 x h (ix2 i d)).getLsbD q = (x (ix2 ⟨i.val / 4, by omega⟩ d)).getLsbD (8 * (i.val % 4) + q) := by
  rw [bitcast_getLsbD x h _ q hq (by decide)]
  have hrow : S32x256.row (ix2 i d) = i.val := rfl
  have e2 : (S32x256.row (ix2 i d) * 8 + q) % 32 = 8 * (i.val % 4) + q := by rw [hrow]; omega
  rw [e2]
  congr 2
  funext c
  match c with
  | ⟨0, _⟩ => exact Fin.ext ((h.srcIdx_row _ _ _ ⟨0, Nat.zero_lt_two⟩ rfl).trans (by show (S32x256.row (ix2 i d) * 8 + q) / 32 = i.val / 4; rw [hrow]; omega))
  | ⟨1, _⟩ => exact Fin.ext (h.srcIdx_other _ _ _ ⟨1, Nat.one_lt_two⟩ (by show ¬ 1 + 2 = 2; omega))

/-- Word rows of byte rows: bit `8 (i % 4) + q` of word row `i / 4` is bit `q` of row `i`. -/
theorem words_getLsbD (x : S32x256.Idx → BitVec 8) (h : S32x256.Bitcasts 8 S8x256 32) (i : Fin 32) (d : Fin 256) (q : Nat) (hq : q < 8) :
    (bitcast S8x256 32 x h (ix2 ⟨i.val / 4, by omega⟩ d)).getLsbD (8 * (i.val % 4) + q) = (x (ix2 i d)).getLsbD q := by
  have e := bitcast_8_32_getLsbD_ix2 x h ⟨i.val / 4, by omega⟩ d (8 * (i.val % 4) + q) (by omega) i
    (by show i.val = 4 * (i.val / 4) + (8 * (i.val % 4) + q) / 8; omega)
  have e2 : (8 * (i.val % 4) + q) % 8 = q := by omega
  rw [e2] at e
  exact e

/-- A row of the folded slab is the tail's row below the offset, the head's row from there on. -/
theorem fold_apply (off : BitVec 32) (ho : off.toNat ≤ 32) (head tail : S32x256.Idx → BitVec 8) (i : Fin 32) (d : Fin 256) :
    k0_pay71 (F := Ideal) (tailBits off) head tail (ix4 0 0 i d) = if i.val < off.toNat then tail (ix2 i d) else head (ix2 i d) := by
  pointwise [k0_pay71]
  apply BitVec.eq_of_getLsbD_eq
  intro q hq
  refine (bytes_getLsbD _ _ i d q hq).trans ?_
  have hm : (tailBits off (ix2 ⟨i.val / 4, by omega⟩ d)).getLsbD (8 * (i.val % 4) + q) = decide (i.val < off.toNat) := by
    refine (tailWord_bit off (i.val / 4) (8 * (i.val % 4) + q) ho (by omega) (by omega)).trans ?_
    congr 1
    apply propext
    omega
  have h1 := words_getLsbD head bitcasts_S32x256_w8_S8x256_w32 i d q hq
  have h2 := words_getLsbD tail bitcasts_S32x256_w8_S8x256_w32 i d q hq
  show ((bitcast S8x256 32 head bitcasts_S32x256_w8_S8x256_w32 (ix2 ⟨i.val / 4, by omega⟩ d) &&& (tailBits off (ix2 ⟨i.val / 4, by omega⟩ d) ^^^ 4294967295#32))
    ||| (bitcast S8x256 32 tail bitcasts_S32x256_w8_S8x256_w32 (ix2 ⟨i.val / 4, by omega⟩ d) &&& tailBits off (ix2 ⟨i.val / 4, by omega⟩ d))).getLsbD (8 * (i.val % 4) + q) = _
  have hones : ∀ j, j < 32 → (4294967295#32 : BitVec 32).getLsbD j = true := by decide
  rw [BitVec.getLsbD_or, BitVec.getLsbD_and, BitVec.getLsbD_and, BitVec.getLsbD_xor, hm, h1, h2, hones _ (by omega)]
  by_cases hc : i.val < off.toNat
  · simp [hc]
  · simp [hc]

end Cert.KernelIdeal.Hand
-- ==== Proof.Reads.lean ====
/-
  Reading and writing parts of a rank-four scratch buffer `[B, K, R, D]`: one slab `[b, k, :, :]` written whole, some rows of a slab
  written or read, each as a plain equation at a coordinate.
-/
module

public import Idealize.ShloMosaic.Lib.Pointwise
public import Idealize.ShloMosaic.Lib.WritesUnit
public import Idealize.ShloMosaic.Lib.VecWindow
public import Idealize.ShloMosaic.Lib.Exec

@[expose] public section

set_option maxRecDepth 16384

namespace Cert.Reads

open Idealize.ShloMosaic

variable {sig : RefSig} {κ : Kind} {sp : Space} {e : EltTy} {Val : EltTy → Type}

/-- A row and a lane of a slab are the row and lane of the buffer's part with two leading axes of size one. -/
theorem reshape_ix2 {R D : Nat} (h : (⟨4, ![1, 1, R, D]⟩ : Shape).numel = (⟨2, ![R, D]⟩ : Shape).numel) (l : Fin R) (d : Fin D) :
    Shape.reshapeEquiv h.symm (ix2 l d) = (ix4 0 0 l d : (⟨4, ![1, 1, R, D]⟩ : Shape).Idx) := by
  refine Shape.reshapeEquiv_eq_of_vals _ _ _ (l.val * D + d.val) (l.val * D + d.val) ?_ ?_ rfl
  · exact (rowMajor_val4 (d := ![1, 1, R, D]) _ (1 * (R * D)) (R * D) D rfl rfl rfl).trans (by simp)
  · exact (rowMajor_val2 (d := ![R, D]) _ D rfl).trans (by simp)

/-- A column of row vectors with a leading axis of size one. -/
theorem reshape_ix2_3 {R D : Nat} (h : (⟨3, ![1, R, D]⟩ : Shape).numel = (⟨2, ![R, D]⟩ : Shape).numel) (l : Fin R) (d : Fin D) :
    Shape.reshapeEquiv h.symm (ix2 l d) = (ix3 0 l d : (⟨3, ![1, R, D]⟩ : Shape).Idx) := by
  refine Shape.reshapeEquiv_eq_of_vals _ _ _ (l.val * D + d.val) (l.val * D + d.val) ?_ ?_ rfl
  · exact (rowMajor_val3 (d := ![1, R, D]) _ (R * D) D rfl rfl).trans (by simp)
  · exact (rowMajor_val2 (d := ![R, D]) _ D rfl).trans (by simp)

variable {B K R D : Nat}

/-- After one slab is written whole, that slab holds the payload and every other element what it held. -/
theorem read_write_slab (m : Memref sig κ sp ⟨4, ![B, K, R, D]⟩ e) (b k : Nat) (inb : ∀ a, (![b, k, 0, 0] : Fin 4 → Nat) a + (⟨4, ![1, 1, R, D]⟩ : Shape).size a ≤ (⟨4, ![B, K, R, D]⟩ : Shape).size a)
    (h1 : ∀ a, (Rect.unit (s := ⟨4, ![B, K, R, D]⟩) ![b, k, 0, 0] (⟨4, ![1, 1, R, D]⟩ : Shape).size inb).stride a = 1)
    (hs : (Rect.unit (s := ⟨4, ![B, K, R, D]⟩) ![b, k, 0, 0] (⟨4, ![1, 1, R, D]⟩ : Shape).size inb).shape.Squeezes ⟨2, ![R, D]⟩)
    (f : m.view.ty.Contents Val) (w : (⟨2, ![R, D]⟩ : Shape).Idx → Val e) (a : Fin B) (c : Fin K) (l : Fin R) (d : Fin D) :
    m.view.read Val (View.write Val ((m.slice (Rect.unit ![b, k, 0, 0] (⟨4, ![1, 1, R, D]⟩ : Shape).size inb) h1).squeeze ⟨2, ![R, D]⟩ hs).view f w Finset.univ) (ix4 a c l d)
      = if a.val = b ∧ c.val = k then w (ix2 l d) else m.view.read Val f (ix4 a c l d) := by
  refine (congrArg (fun g => m.view.read Val g (ix4 a c l d)) (View.write_reshape_univ (m.view.slice (Rect.unit ![b, k, 0, 0] (⟨4, ![1, 1, R, D]⟩ : Shape).size inb)) hs.numel_eq f w)).trans ?_
  refine (View.read_writes_cons_unit m.view f inb _ [] (ix4 a c l d) rfl).trans ?_
  by_cases hc : a.val = b ∧ c.val = k
  · rw [if_pos hc, dif_pos]
    · show w ((Shape.reshapeEquiv hs.numel_eq).symm _) = _
      congr 1
      rw [Equiv.symm_apply_eq]
      refine Eq.trans ?_ (reshape_ix2 hs.numel_eq.symm l d).symm
      funext t
      apply Fin.ext
      rw [Rect.unitLocal_val]
      fin_cases t
      · show a.val - b = 0; omega
      · show c.val - k = 0; omega
      · show l.val - 0 = l.val; omega
      · show d.val - 0 = d.val; omega
    · intro t
      fin_cases t
      · show b ≤ a.val ∧ a.val < b + 1; omega
      · show k ≤ c.val ∧ c.val < k + 1; omega
      · show 0 ≤ l.val ∧ l.val < 0 + R; omega
      · show 0 ≤ d.val ∧ d.val < 0 + D; omega
  · rw [if_neg hc, dif_neg]
    · rfl
    · intro hall
      have h0 : b ≤ a.val ∧ a.val < b + 1 := hall 0
      have h1 : k ≤ c.val ∧ c.val < k + 1 := hall 1
      omega

/-- After the first `W` rows of a slab are written, those rows hold the payload and every other element what it held. -/
theorem read_writes_rows {W : Nat} (m : Memref sig κ sp ⟨4, ![B, K, R, D]⟩ e) (b k : Nat)
    (inb : ∀ a, (![b, k, 0, 0] : Fin 4 → Nat) a + (⟨4, ![1, 1, W, D]⟩ : Shape).size a ≤ (⟨4, ![B, K, R, D]⟩ : Shape).size a)
    (f : m.view.ty.Contents Val) (w : (⟨4, ![1, 1, W, D]⟩ : Shape).Idx → Val e) (L : List (View.Piece Val ⟨4, ![B, K, R, D]⟩ e)) (a : Fin B) (c : Fin K) (l : Fin R) (d : Fin D) :
    m.view.read Val (m.view.writes Val f ((⟨Rect.unit ![b, k, 0, 0] (⟨4, ![1, 1, W, D]⟩ : Shape).size inb, w⟩ : View.Piece Val ⟨4, ![B, K, R, D]⟩ e) :: L)) (ix4 a c l d)
      = if h : a.val = b ∧ c.val = k ∧ l.val < W then w (ix4 0 0 ⟨l.val, h.2.2⟩ d) else m.view.read Val (m.view.writes Val f L) (ix4 a c l d) := by
  refine (View.read_writes_cons_unit m.view f inb w L (ix4 a c l d) rfl).trans ?_
  by_cases hc : a.val = b ∧ c.val = k ∧ l.val < W
  · rw [dif_pos hc, dif_pos]
    · congr 1
      funext t
      apply Fin.ext
      rw [Rect.unitLocal_val]
      fin_cases t
      · show a.val - b = 0; omega
      · show c.val - k = 0; omega
      · show l.val - 0 = l.val; omega
      · show d.val - 0 = d.val; omega
    · intro t
      fin_cases t
      · show b ≤ a.val ∧ a.val < b + 1; omega
      · show k ≤ c.val ∧ c.val < k + 1; omega
      · show 0 ≤ l.val ∧ l.val < 0 + W; omega
      · show 0 ≤ d.val ∧ d.val < 0 + D; omega
  · rw [dif_neg hc, dif_neg]
    intro hall
    have h0 : b ≤ a.val ∧ a.val < b + 1 := hall 0
    have h1 : k ≤ c.val ∧ c.val < k + 1 := hall 1
    have h2 : 0 ≤ l.val ∧ l.val < 0 + W := hall 2
    omega

/-- Rows `r …` of a slab, read. -/
theorem readAt_slab_rows {W r : Nat} (m : Memref sig κ sp ⟨4, ![B, K, R, D]⟩ e) (b k : Nat) (hb : b < B) (hk : k < K)
    (inb : ∀ a, (![b, k, 0, 0] : Fin 4 → Nat) a + (⟨4, ![1, 1, R, D]⟩ : Shape).size a ≤ (⟨4, ![B, K, R, D]⟩ : Shape).size a)
    (h1 : ∀ a, (Rect.unit (s := ⟨4, ![B, K, R, D]⟩) ![b, k, 0, 0] (⟨4, ![1, 1, R, D]⟩ : Shape).size inb).stride a = 1)
    (hs : (Rect.unit (s := ⟨4, ![B, K, R, D]⟩) ![b, k, 0, 0] (⟨4, ![1, 1, R, D]⟩ : Shape).size inb).shape.Squeezes ⟨2, ![R, D]⟩)
    (inb' : ∀ a, (![r, 0] : Fin 2 → Nat) a + (⟨2, ![W, D]⟩ : Shape).size a ≤ (⟨2, ![R, D]⟩ : Shape).size a)
    (f : m.view.ty.Contents Val) (i : Fin W) (d : Fin D) (hr : r + i.val < R) :
    View.readAt Val ((m.slice (Rect.unit ![b, k, 0, 0] (⟨4, ![1, 1, R, D]⟩ : Shape).size inb) h1).squeeze ⟨2, ![R, D]⟩ hs).view (Rect.unit (s := ⟨2, ![R, D]⟩) ![r, 0] (⟨2, ![W, D]⟩ : Shape).size inb').toLoadRect f (ix2 i d : (⟨2, ![W, D]⟩ : Shape).Idx)
      = m.view.read Val f (ix4 ⟨b, hb⟩ ⟨k, hk⟩ ⟨r + i.val, hr⟩ d) := by
  have e1 : (Rect.unit (s := ⟨2, ![R, D]⟩) ![r, 0] (⟨2, ![W, D]⟩ : Shape).size inb').emb (ix2 i d : (⟨2, ![W, D]⟩ : Shape).Idx) = ix2 (⟨r + i.val, hr⟩ : Fin R) d := by
    funext t
    apply Fin.ext
    fin_cases t
    · show r + 1 * i.val = r + i.val; omega
    · show 0 + 1 * d.val = d.val; omega
  show m.view.read Val f ((Rect.unit (s := ⟨4, ![B, K, R, D]⟩) ![b, k, 0, 0] (⟨4, ![1, 1, R, D]⟩ : Shape).size inb).emb (Shape.reshapeEquiv hs.numel_eq ((Rect.unit (s := ⟨2, ![R, D]⟩) ![r, 0] (⟨2, ![W, D]⟩ : Shape).size inb').emb (ix2 i d : (⟨2, ![W, D]⟩ : Shape).Idx)))) = _
  rw [e1]
  refine congrArg (m.view.read Val f) ?_
  refine (congrArg _ (reshape_ix2 hs.numel_eq.symm _ d)).trans ?_
  funext t
  apply Fin.ext
  fin_cases t
  · show b + 1 * 0 = b; omega
  · show k + 1 * 0 = k; omega
  · show 0 + 1 * (r + i.val) = r + i.val; omega
  · show 0 + 1 * d.val = d.val; omega

/-- Rows `0 …` of slab `[b, k]`, read through the whole buffer. -/
theorem readAt_rows {W : Nat} (m : Memref sig κ sp ⟨4, ![B, K, R, D]⟩ e) (b k : Nat) (hb : b < B) (hk : k < K)
    (inb : ∀ a, (![b, k, 0, 0] : Fin 4 → Nat) a + (⟨4, ![1, 1, W, D]⟩ : Shape).size a ≤ (⟨4, ![B, K, R, D]⟩ : Shape).size a)
    (f : m.view.ty.Contents Val) (l : Fin W) (d : Fin D) (hW : l.val < R) :
    View.readAt Val m.view (Rect.unit (s := ⟨4, ![B, K, R, D]⟩) ![b, k, 0, 0] (⟨4, ![1, 1, W, D]⟩ : Shape).size inb).toLoadRect f (ix4 0 0 l d : (⟨4, ![1, 1, W, D]⟩ : Shape).Idx)
      = m.view.read Val f (ix4 ⟨b, hb⟩ ⟨k, hk⟩ ⟨l.val, hW⟩ d) := by
  show m.view.read Val f ((Rect.unit (s := ⟨4, ![B, K, R, D]⟩) ![b, k, 0, 0] (⟨4, ![1, 1, W, D]⟩ : Shape).size inb).emb (ix4 0 0 l d : (⟨4, ![1, 1, W, D]⟩ : Shape).Idx)) = _
  congr 1
  funext t
  apply Fin.ext
  fin_cases t
  · show b + 1 * 0 = b; omega
  · show k + 1 * 0 = k; omega
  · show 0 + 1 * l.val = l.val; omega
  · show 0 + 1 * d.val = d.val; omega

/-- A slab of rows `r …` of an array, read by a transfer. -/
theorem read_slab {S : Nat} (m : Memref sig κ sp ⟨4, ![B, K, S, D]⟩ e) (off : Fin 4 → Nat) (b k r : Nat) (ho : off = ![b, k, r, 0]) (hb : b < B) (hk : k < K)
    (inb : ∀ a, off a + (⟨4, ![1, 1, R, D]⟩ : Shape).size a ≤ (⟨4, ![B, K, S, D]⟩ : Shape).size a)
    (h1 : ∀ a, (Rect.unit (s := ⟨4, ![B, K, S, D]⟩) off (⟨4, ![1, 1, R, D]⟩ : Shape).size inb).stride a = 1)
    (hs : (Rect.unit (s := ⟨4, ![B, K, S, D]⟩) off (⟨4, ![1, 1, R, D]⟩ : Shape).size inb).shape.Squeezes ⟨2, ![R, D]⟩)
    (g : m.view.ty.Contents Val) (l : Fin R) (d : Fin D) (hr : r + l.val < S) :
    View.read Val ((m.slice (Rect.unit off (⟨4, ![1, 1, R, D]⟩ : Shape).size inb) h1).squeeze ⟨2, ![R, D]⟩ hs).view g (ix2 l d)
      = m.view.read Val g (ix4 ⟨b, hb⟩ ⟨k, hk⟩ ⟨r + l.val, hr⟩ d) := by
  subst ho
  show m.view.read Val g ((Rect.unit (s := ⟨4, ![B, K, S, D]⟩) ![b, k, r, 0] (⟨4, ![1, 1, R, D]⟩ : Shape).size inb).emb (Shape.reshapeEquiv hs.numel_eq (ix2 l d))) = _
  refine congrArg (m.view.read Val g) ?_
  refine (congrArg _ (reshape_ix2 hs.numel_eq.symm l d)).trans ?_
  funext t
  apply Fin.ext
  fin_cases t
  · show b + 1 * 0 = b; omega
  · show k + 1 * 0 = k; omega
  · show r + 1 * l.val = r + l.val; omega
  · show 0 + 1 * d.val = d.val; omega

/-! ## Rank three -/

/-- After one slab of a rank-three buffer is written whole, that slab holds the payload and every other element what it held. -/
theorem read_write_slab3 (m : Memref sig κ sp ⟨3, ![B, R, D]⟩ e) (b : Nat) (inb : ∀ a, (![b, 0, 0] : Fin 3 → Nat) a + (⟨3, ![1, R, D]⟩ : Shape).size a ≤ (⟨3, ![B, R, D]⟩ : Shape).size a)
    (h1 : ∀ a, (Rect.unit (s := ⟨3, ![B, R, D]⟩) ![b, 0, 0] (⟨3, ![1, R, D]⟩ : Shape).size inb).stride a = 1)
    (hs : (Rect.unit (s := ⟨3, ![B, R, D]⟩) ![b, 0, 0] (⟨3, ![1, R, D]⟩ : Shape).size inb).shape.Squeezes ⟨2, ![R, D]⟩)
    (f : m.view.ty.Contents Val) (w : (⟨2, ![R, D]⟩ : Shape).Idx → Val e) (a : Fin B) (l : Fin R) (d : Fin D) :
    m.view.read Val (View.write Val ((m.slice (Rect.unit ![b, 0, 0] (⟨3, ![1, R, D]⟩ : Shape).size inb) h1).squeeze ⟨2, ![R, D]⟩ hs).view f w Finset.univ) (ix3 a l d)
      = if a.val = b then w (ix2 l d) else m.view.read Val f (ix3 a l d) := by
  refine (congrArg (fun g => m.view.read Val g (ix3 a l d)) (View.write_reshape_univ (m.view.slice (Rect.unit ![b, 0, 0] (⟨3, ![1, R, D]⟩ : Shape).size inb)) hs.numel_eq f w)).trans ?_
  refine (View.read_writes_cons_unit m.view f inb _ [] (ix3 a l d) rfl).trans ?_
  by_cases hc : a.val = b
  · rw [if_pos hc, dif_pos]
    · show w ((Shape.reshapeEquiv hs.numel_eq).symm _) = _
      congr 1
      rw [Equiv.symm_apply_eq]
      refine Eq.trans ?_ (reshape_ix2_3 hs.numel_eq.symm l d).symm
      funext t
      apply Fin.ext
      rw [Rect.unitLocal_val]
      fin_cases t
      · show a.val - b = 0; omega
      · show l.val - 0 = l.val; omega
      · show d.val - 0 = d.val; omega
    · intro t
      fin_cases t
      · show b ≤ a.val ∧ a.val < b + 1; omega
      · show 0 ≤ l.val ∧ l.val < 0 + R; omega
      · show 0 ≤ d.val ∧ d.val < 0 + D; omega
  · rw [if_neg hc, dif_neg]
    · rfl
    · intro hall
      have h0 : b ≤ a.val ∧ a.val < b + 1 := hall 0
      omega

/-- Slab `[b]` of a rank-three buffer, read through the whole buffer. -/
theorem readAt_slab3 (m : Memref sig κ sp ⟨3, ![B, R, D]⟩ e) (b : Nat) (hb : b < B)
    (inb : ∀ a, (![b, 0, 0] : Fin 3 → Nat) a + (⟨3, ![1, R, D]⟩ : Shape).size a ≤ (⟨3, ![B, R, D]⟩ : Shape).size a)
    (f : m.view.ty.Contents Val) (l : Fin R) (d : Fin D) :
    View.readAt Val m.view (Rect.unit (s := ⟨3, ![B, R, D]⟩) ![b, 0, 0] (⟨3, ![1, R, D]⟩ : Shape).size inb).toLoadRect f (ix3 0 l d : (⟨3, ![1, R, D]⟩ : Shape).Idx)
      = m.view.read Val f (ix3 ⟨b, hb⟩ l d) := by
  show m.view.read Val f ((Rect.unit (s := ⟨3, ![B, R, D]⟩) ![b, 0, 0] (⟨3, ![1, R, D]⟩ : Shape).size inb).emb (ix3 0 l d : (⟨3, ![1, R, D]⟩ : Shape).Idx)) = _
  congr 1
  funext t
  apply Fin.ext
  fin_cases t
  · show b + 1 * 0 = b; omega
  · show 0 + 1 * l.val = l.val; omega
  · show 0 + 1 * d.val = d.val; omega

/-- A slab of lanes `r …` of a rank-three array, read by a transfer. -/
theorem read_slab3 {S : Nat} (m : Memref sig κ sp ⟨3, ![B, R, S]⟩ e) (off : Fin 3 → Nat) (b r : Nat) (ho : off = ![b, 0, r]) (hb : b < B)
    (inb : ∀ a, off a + (⟨3, ![1, R, D]⟩ : Shape).size a ≤ (⟨3, ![B, R, S]⟩ : Shape).size a)
    (h1 : ∀ a, (Rect.unit (s := ⟨3, ![B, R, S]⟩) off (⟨3, ![1, R, D]⟩ : Shape).size inb).stride a = 1)
    (hs : (Rect.unit (s := ⟨3, ![B, R, S]⟩) off (⟨3, ![1, R, D]⟩ : Shape).size inb).shape.Squeezes ⟨2, ![R, D]⟩)
    (g : m.view.ty.Contents Val) (l : Fin R) (d : Fin D) (hr : r + d.val < S) :
    View.read Val ((m.slice (Rect.unit off (⟨3, ![1, R, D]⟩ : Shape).size inb) h1).squeeze ⟨2, ![R, D]⟩ hs).view g (ix2 l d)
      = m.view.read Val g (ix3 ⟨b, hb⟩ l ⟨r + d.val, hr⟩) := by
  subst ho
  show m.view.read Val g ((Rect.unit (s := ⟨3, ![B, R, S]⟩) ![b, 0, r] (⟨3, ![1, R, D]⟩ : Shape).size inb).emb (Shape.reshapeEquiv hs.numel_eq (ix2 l d))) = _
  refine congrArg (m.view.read Val g) ?_
  refine (congrArg _ (reshape_ix2_3 hs.numel_eq.symm l d)).trans ?_
  funext t
  apply Fin.ext
  fin_cases t
  · show b + 1 * 0 = b; omega
  · show 0 + 1 * l.val = l.val; omega
  · show r + 1 * d.val = r + d.val; omega

end Cert.Reads
-- ==== Proof.Window.lean ====
/-
  The window of cache rows in the scratch buffers: after the eight transfers and the folds, slab `[b, k]` holds at slot `l` the cache
  row `rowOf w l` of that sequence and head, where `w` is the sequence's length word.
-/
module

public import proofs.«01_k».proof.Proof.Fold
public import proofs.«01_k».proof.Proof.Reads

@[expose] public section

set_option maxRecDepth 16384

noncomputable section

namespace Cert.KernelIdeal.Hand

open Cert.KernelIdeal Cert.KernelIdeal.Gen Cert.Words Cert.Reads
open Idealize.ShloMosaic Idealize.ShloMosaic.TcCoe Idealize.SL.Sem

/-- The fetched row that slot `l` of the window holds, counted from the first fetched row. -/
def slotOf (w : BitVec 32) (l : Fin 1024) : Fin 1056 :=
  ⟨if l.val < (woff w).toNat then 1024 + l.val else l.val, by have := woff_le w; split <;> omega⟩

/-- The cache row that slot `l` of the window holds. -/
def rowOf (w : BitVec 32) (l : Fin 1024) : Fin 16384 :=
  ⟨(wbase w).toNat + (slotOf w l).val, by have := wbase_le w; have := (slotOf w l).isLt; omega⟩

/-- The fetched rows of sequence `b`, head `k`. -/
def slabOf (g : S4x2x16384x256.Idx → BitVec 8) (w : BitVec 32) (b : Fin 4) (k : Fin 2) : S1056x256.Idx → BitVec 8 :=
  fun j => g (ix4 b k ⟨(wbase w).toNat + (j 0).val, by have := wbase_le w; have h : (j 0).val < 1056 := (j 0).isLt; omega⟩ (j 1))

/-- The window of sequence `b`, head `k`. -/
def winOf (g : S4x2x16384x256.Idx → BitVec 8) (w : BitVec 32) (b : Fin 4) (k : Fin 2) : S1x1x1024x256.Idx → BitVec 8 :=
  fun j => g (ix4 b k (rowOf w (j 2)) (j 3))

section Generic

variable {κ : Kind} {sp : Space} (m : Memref sig κ sp S4x2x1056x256 .i8)

/-- Shapes that differ by leading axes of size one. -/
theorem sqz : S1x1x1056x256.Squeezes S1056x256 := by decide

/-- A scratch buffer after one slab is written. -/
def slabW (b k : Nat) (inb : ∀ a, (![b, k, 0, 0] : Fin 4 → Nat) a + S1x1x1056x256.size a ≤ S4x2x1056x256.size a)
    (f : m.view.ty.Contents (Elt Ideal)) (d : S1056x256.Idx → BitVec 8) : m.view.ty.Contents (Elt Ideal) :=
  View.write (Elt Ideal) ((m.slice (Rect.unit ![b, k, 0, 0] S1x1x1056x256.size inb) (fun _ => rfl)).squeeze S1056x256 sqz).view f d Finset.univ

/-- A scratch buffer after eight slabs are written. -/
def base8 (f : m.view.ty.Contents (Elt Ideal)) (d00 d01 d10 d11 d20 d21 d30 d31 : S1056x256.Idx → BitVec 8) : m.view.ty.Contents (Elt Ideal) :=
  slabW m 3 1 (by decide) (slabW m 3 0 (by decide) (slabW m 2 1 (by decide) (slabW m 2 0 (by decide) (slabW m 1 1 (by decide) (slabW m 1 0 (by decide)
    (slabW m 0 1 (by decide) (slabW m 0 0 (by decide) f d00) d01) d10) d11) d20) d21) d30) d31

/-- Reading the windows after one was written: that one is new, the others are as before. -/
theorem slabW_read (b k : Nat) (inb : ∀ a, (![b, k, 0, 0] : Fin 4 → Nat) a + S1x1x1056x256.size a ≤ S4x2x1056x256.size a)
    (f : m.view.ty.Contents (Elt Ideal)) (w : S1056x256.Idx → BitVec 8) (a : Fin 4) (c : Fin 2) (l : Fin 1056) (d : Fin 256) :
    m.view.read (Elt Ideal) (slabW m b k inb f w) (ix4 a c l d) = if a.val = b ∧ c.val = k then w (ix2 l d) else m.view.read (Elt Ideal) f (ix4 a c l d) :=
  read_write_slab m b k _ _ _ f w a c l d

/-- Each slab holds its payload. -/
theorem base8_read (f : m.view.ty.Contents (Elt Ideal)) (d00 d01 d10 d11 d20 d21 d30 d31 : S1056x256.Idx → BitVec 8) (a : Fin 4) (c : Fin 2) (l : Fin 1056) (d : Fin 256) :
    m.view.read (Elt Ideal) (base8 m f d00 d01 d10 d11 d20 d21 d30 d31) (ix4 a c l d)
      = (![![d00, d01], ![d10, d11], ![d20, d21], ![d30, d31]] a c : S1056x256.Idx → BitVec 8) (ix2 l d) := by
  unfold base8
  rw [slabW_read, slabW_read, slabW_read, slabW_read, slabW_read, slabW_read, slabW_read, slabW_read]
  fin_cases a <;> fin_cases c <;> rfl

/-- The contents `f` hold `x` in slab `[b, k]`. -/
def Holds (f : m.view.ty.Contents (Elt Ideal)) (b : Fin 4) (k : Fin 2) (x : S1056x256.Idx → BitVec 8) : Prop :=
  ∀ (l : Fin 1056) (d : Fin 256), m.view.read (Elt Ideal) f (ix4 b k l d) = x (ix2 l d)

variable {m}

/-- A fold of another slab leaves this one. -/
theorem Holds.skip {f : m.view.ty.Contents (Elt Ideal)} {b : Fin 4} {k : Fin 2} {x : S1056x256.Idx → BitVec 8} {b' k' : Nat}
    {inb : ∀ a, (![b', k', 0, 0] : Fin 4 → Nat) a + S1x1x32x256.size a ≤ S4x2x1056x256.size a} {w : S1x1x32x256.Idx → BitVec 8} {L : List (View.Piece (Elt Ideal) S4x2x1056x256 .i8)}
    (h : Holds m (m.view.writes (Elt Ideal) f L) b k x) (hne : ¬ (b.val = b' ∧ k.val = k')) :
    Holds m (m.view.writes (Elt Ideal) f ((⟨Rect.unit ![b', k', 0, 0] S1x1x32x256.size inb, w⟩ : View.Piece (Elt Ideal) S4x2x1056x256 .i8) :: L)) b k x := fun l d =>
  (read_writes_rows m b' k' inb f w L b k l d).trans ((dif_neg fun hc => hne ⟨hc.1, hc.2.1⟩).trans (h l d))

/-- Rows `r …` of a slab, read through the slab's own view. -/
theorem Holds.rows {f : m.view.ty.Contents (Elt Ideal)} (b : Fin 4) (k : Fin 2) {x : S1056x256.Idx → BitVec 8} (h : Holds m f b k x) (r : Nat)
    (inb : ∀ a, (![b.val, k.val, 0, 0] : Fin 4 → Nat) a + S1x1x1056x256.size a ≤ S4x2x1056x256.size a)
    (h1 : ∀ a, (Rect.unit (s := S4x2x1056x256) ![b.val, k.val, 0, 0] S1x1x1056x256.size inb).stride a = 1)
    (hs : (Rect.unit (s := S4x2x1056x256) ![b.val, k.val, 0, 0] S1x1x1056x256.size inb).shape.Squeezes S1056x256)
    (inb' : ∀ a, (![r, 0] : Fin 2 → Nat) a + S32x256.size a ≤ S1056x256.size a) (hr : r ≤ 1024) (i : Fin 32) (d : Fin 256) (z : Fin 1056) (hz : z.val = r + i.val) :
    View.readAt (Elt Ideal) ((m.slice (Rect.unit ![b.val, k.val, 0, 0] S1x1x1056x256.size inb) h1).squeeze S1056x256 hs).view
      (Rect.unit (s := S1056x256) ![r, 0] S32x256.size inb').toLoadRect f (ix2 i d : S32x256.Idx) = x (ix2 z d) := by
  refine (readAt_slab_rows m b.val k.val b.isLt k.isLt inb h1 hs inb' f i d (by omega)).trans ((h _ d).trans ?_)
  congr 2
  exact Fin.ext hz.symm

/-- A slab read after its fold: the window. -/
theorem Holds.fold {f : m.view.ty.Contents (Elt Ideal)} (b : Fin 4) (k : Fin 2) {x : S1056x256.Idx → BitVec 8} {L : List (View.Piece (Elt Ideal) S4x2x1056x256 .i8)}
    (h : Holds m (m.view.writes (Elt Ideal) f L) b k x) (w : BitVec 32) (bits : IVec S8x256 32) (hbits : bits = tailBits (woff w))
    (inb : ∀ a, (![b.val, k.val, 0, 0] : Fin 4 → Nat) a + S1x1x32x256.size a ≤ S4x2x1056x256.size a)
    (inbw : ∀ a, (![b.val, k.val, 0, 0] : Fin 4 → Nat) a + S1x1x1024x256.size a ≤ S4x2x1056x256.size a)
    (head tail : S32x256.Idx → BitVec 8) (hh : ∀ (i : Fin 32) (d : Fin 256), head (ix2 i d) = x (ix2 ⟨i.val, by omega⟩ d))
    (ht : ∀ (i : Fin 32) (d : Fin 256), tail (ix2 i d) = x (ix2 ⟨1024 + i.val, by omega⟩ d)) (l : Fin 1024) (d : Fin 256) :
    View.readAt (Elt Ideal) m.view (Rect.unit (s := S4x2x1056x256) ![b.val, k.val, 0, 0] S1x1x1024x256.size inbw).toLoadRect
      (m.view.writes (Elt Ideal) f ((⟨Rect.unit ![b.val, k.val, 0, 0] S1x1x32x256.size inb, k0_pay71 (F := Ideal) bits head tail⟩ : View.Piece (Elt Ideal) S4x2x1056x256 .i8) :: L))
      (ix4 0 0 l d : S1x1x1024x256.Idx) = x (ix2 (slotOf w l) d) := by
  refine (readAt_rows m b.val k.val b.isLt k.isLt inbw _ l d (by omega)).trans ?_
  refine (read_writes_rows m b.val k.val inb f _ L b k ⟨l.val, by omega⟩ d).trans ?_
  have hof := woff_le w
  by_cases hl : l.val < 32
  · rw [dif_pos ⟨rfl, rfl, hl⟩, hbits]
    refine (fold_apply (woff w) hof head tail ⟨l.val, hl⟩ d).trans ?_
    by_cases ho : l.val < (woff w).toNat
    · rw [if_pos ho, ht]
      congr 2
      exact Fin.ext (by simp [slotOf, ho])
    · rw [if_neg ho, hh]
      congr 2
      exact Fin.ext (by simp [slotOf, ho])
  · rw [dif_neg (fun hc => hl hc.2.2)]
    refine (h _ d).trans ?_
    congr 2
    exact Fin.ext (by have : ¬ l.val < (woff w).toNat := by omega
                      simp [slotOf, this])

end Generic

end Cert.KernelIdeal.Hand
-- ==== Proof.Windows.lean ====
/-
  The key and value windows the run reads: each is `winOf` of the cache array at its sequence's length word.
-/
module

public import proofs.«01_k».proof.Proof.Window

@[expose] public section

set_option maxRecDepth 16384

noncomputable section

namespace Cert.KernelIdeal.Hand

open Cert.KernelIdeal Cert.KernelIdeal.Gen Cert.Words Cert.Reads
open Idealize.ShloMosaic Idealize.ShloMosaic.TcCoe Idealize.SL.Sem
open kernelRun

variable (c : Dev nD)

variable (f7 : Bf (F := Ideal) c main_arg7) (s0 : Bf (F := Ideal) c cc0_scratch0)

/-- The fold mask of sequence 0. -/
theorem bits_0 : sl.v643 (F := Ideal) c f7 s0 = tailBits (woff (sl.v8 c f7 s0)) := by
  have ho : sl.v20 (F := Ideal) c f7 s0 = woff (sl.v8 c f7 s0) := by with_unfolding_all rfl
  rw [← ho]
  funext i
  unfold sl.v643 sl.v641 sl.v639 sl.v637 sl.v636 sl.v638 sl.v642 sl.v635 sl.v633 sl.v631 sl.v629 sl.v625 sl.v628 sl.v630 sl.v626
  generalize sl.v20 c f7 s0 = x
  idx_vars i
  pointwise [tailBits, tailWord, tailRows]

/-- The fold mask of sequence 1. -/
theorem bits_1 : sl.v951 (F := Ideal) c f7 s0 = tailBits (woff (sl.v52 c f7 s0)) := by
  have ho : sl.v64 (F := Ideal) c f7 s0 = woff (sl.v52 c f7 s0) := by with_unfolding_all rfl
  rw [← ho]
  funext i
  unfold sl.v951 sl.v949 sl.v947 sl.v945 sl.v636 sl.v638 sl.v642 sl.v943 sl.v941 sl.v939 sl.v937 sl.v625 sl.v936 sl.v630 sl.v626
  generalize sl.v64 c f7 s0 = x
  idx_vars i
  pointwise [tailBits, tailWord, tailRows]

/-- The fold mask of sequence 2. -/
theorem bits_2 : sl.v1259 (F := Ideal) c f7 s0 = tailBits (woff (sl.v96 c f7 s0)) := by
  have ho : sl.v108 (F := Ideal) c f7 s0 = woff (sl.v96 c f7 s0) := by with_unfolding_all rfl
  rw [← ho]
  funext i
  unfold sl.v1259 sl.v1257 sl.v1255 sl.v1253 sl.v636 sl.v638 sl.v642 sl.v1251 sl.v1249 sl.v1247 sl.v1245 sl.v625 sl.v1244 sl.v630 sl.v626
  generalize sl.v108 c f7 s0 = x
  idx_vars i
  pointwise [tailBits, tailWord, tailRows]

/-- The fold mask of sequence 3. -/
theorem bits_3 : sl.v1567 (F := Ideal) c f7 s0 = tailBits (woff (sl.v140 c f7 s0)) := by
  have ho : sl.v152 (F := Ideal) c f7 s0 = woff (sl.v140 c f7 s0) := by with_unfolding_all rfl
  rw [← ho]
  funext i
  unfold sl.v1567 sl.v1565 sl.v1563 sl.v1561 sl.v636 sl.v638 sl.v642 sl.v1559 sl.v1557 sl.v1555 sl.v1553 sl.v625 sl.v1552 sl.v630 sl.v626
  generalize sl.v152 c f7 s0 = x
  idx_vars i
  pointwise [tailBits, tailWord, tailRows]

section K
variable (g0 : Bf (F := Ideal) c main_v0) (s5 : Bf (F := Ideal) c cc0_scratch5)

/-- The key window of sequence 0, head 0, as the fetch brings it. -/
theorem dK_00 (l : Fin 1056) (d : Fin 256) : sl.dma1_1 c f7 g0 s0 (ix2 l d) = slabOf g0 (sl.v8 c f7 s0) 0 0 (ix2 l d) := by
  unfold sl.dma1_1
  exact read_slab (Val := Elt Ideal) (Memref.whole main_v0) _ 0 0 (wbase (sl.v8 c f7 s0)).toNat rfl (by decide) (by decide) _ _ _ g0 l d _

/-- The key window of sequence 0, head 1, as the fetch brings it. -/
theorem dK_01 (l : Fin 1056) (d : Fin 256) : sl.dma1_3 c f7 g0 s0 (ix2 l d) = slabOf g0 (sl.v8 c f7 s0) 0 1 (ix2 l d) := by
  unfold sl.dma1_3
  exact read_slab (Val := Elt Ideal) (Memref.whole main_v0) _ 0 1 (wbase (sl.v8 c f7 s0)).toNat rfl (by decide) (by decide) _ _ _ g0 l d _

/-- The key window of sequence 1, head 0, as the fetch brings it. -/
theorem dK_10 (l : Fin 1056) (d : Fin 256) : sl.dma2_1 c f7 g0 s0 (ix2 l d) = slabOf g0 (sl.v52 c f7 s0) 1 0 (ix2 l d) := by
  unfold sl.dma2_1
  exact read_slab (Val := Elt Ideal) (Memref.whole main_v0) _ 1 0 (wbase (sl.v52 c f7 s0)).toNat rfl (by decide) (by decide) _ _ _ g0 l d _

/-- The key window of sequence 1, head 1, as the fetch brings it. -/
theorem dK_11 (l : Fin 1056) (d : Fin 256) : sl.dma2_3 c f7 g0 s0 (ix2 l d) = slabOf g0 (sl.v52 c f7 s0) 1 1 (ix2 l d) := by
  unfold sl.dma2_3
  exact read_slab (Val := Elt Ideal) (Memref.whole main_v0) _ 1 1 (wbase (sl.v52 c f7 s0)).toNat rfl (by decide) (by decide) _ _ _ g0 l d _

/-- The key window of sequence 2, head 0, as the fetch brings it. -/
theorem dK_20 (l : Fin 1056) (d : Fin 256) : sl.dma3_1 c f7 g0 s0 (ix2 l d) = slabOf g0 (sl.v96 c f7 s0) 2 0 (ix2 l d) := by
  unfold sl.dma3_1
  exact read_slab (Val := Elt Ideal) (Memref.whole main_v0) _ 2 0 (wbase (sl.v96 c f7 s0)).toNat rfl (by decide) (by decide) _ _ _ g0 l d _

/-- The key window of sequence 2, head 1, as the fetch brings it. -/
theorem dK_21 (l : Fin 1056) (d : Fin 256) : sl.dma3_3 c f7 g0 s0 (ix2 l d) = slabOf g0 (sl.v96 c f7 s0) 2 1 (ix2 l d) := by
  unfold sl.dma3_3
  exact read_slab (Val := Elt Ideal) (Memref.whole main_v0) _ 2 1 (wbase (sl.v96 c f7 s0)).toNat rfl (by decide) (by decide) _ _ _ g0 l d _

/-- The key window of sequence 3, head 0, as the fetch brings it. -/
theorem dK_30 (l : Fin 1056) (d : Fin 256) : sl.dma4_1 c f7 g0 s0 (ix2 l d) = slabOf g0 (sl.v140 c f7 s0) 3 0 (ix2 l d) := by
  unfold sl.dma4_1
  exact read_slab (Val := Elt Ideal) (Memref.whole main_v0) _ 3 0 (wbase (sl.v140 c f7 s0)).toNat rfl (by decide) (by decide) _ _ _ g0 l d _

/-- The key window of sequence 3, head 1, as the fetch brings it. -/
theorem dK_31 (l : Fin 1056) (d : Fin 256) : sl.dma4_3 c f7 g0 s0 (ix2 l d) = slabOf g0 (sl.v140 c f7 s0) 3 1 (ix2 l d) := by
  unfold sl.dma4_3
  exact read_slab (Val := Elt Ideal) (Memref.whole main_v0) _ 3 1 (wbase (sl.v140 c f7 s0)).toNat rfl (by decide) (by decide) _ _ _ g0 l d _

/-- The buffer after the eight transfers. -/
def baseK : Bf (F := Ideal) c cc0_scratch5 :=
  base8 (Memref.whole cc0_scratch5) s5 (sl.dma1_1 c f7 g0 s0) (sl.dma1_3 c f7 g0 s0) (sl.dma2_1 c f7 g0 s0) (sl.dma2_3 c f7 g0 s0) (sl.dma3_1 c f7 g0 s0) (sl.dma3_3 c f7 g0 s0) (sl.dma4_1 c f7 g0 s0) (sl.dma4_3 c f7 g0 s0)

/-- After the fetches the buffer holds the key window of sequence 0, head 0. -/
theorem holdsK_00 : Holds (Memref.whole cc0_scratch5) (baseK c f7 s0 g0 s5) 0 0 (slabOf g0 (sl.v8 c f7 s0) 0 0) := fun l d =>
  (base8_read (Memref.whole cc0_scratch5) s5 (sl.dma1_1 c f7 g0 s0) (sl.dma1_3 c f7 g0 s0) (sl.dma2_1 c f7 g0 s0) (sl.dma2_3 c f7 g0 s0) (sl.dma3_1 c f7 g0 s0) (sl.dma3_3 c f7 g0 s0) (sl.dma4_1 c f7 g0 s0) (sl.dma4_3 c f7 g0 s0) 0 0 l d).trans (dK_00 c f7 s0 g0 l d)

/-- After the fetches the buffer holds the key window of sequence 0, head 1. -/
theorem holdsK_01 : Holds (Memref.whole cc0_scratch5) (baseK c f7 s0 g0 s5) 0 1 (slabOf g0 (sl.v8 c f7 s0) 0 1) := fun l d =>
  (base8_read (Memref.whole cc0_scratch5) s5 (sl.dma1_1 c f7 g0 s0) (sl.dma1_3 c f7 g0 s0) (sl.dma2_1 c f7 g0 s0) (sl.dma2_3 c f7 g0 s0) (sl.dma3_1 c f7 g0 s0) (sl.dma3_3 c f7 g0 s0) (sl.dma4_1 c f7 g0 s0) (sl.dma4_3 c f7 g0 s0) 0 1 l d).trans (dK_01 c f7 s0 g0 l d)

/-- After the fetches the buffer holds the key window of sequence 1, head 0. -/
theorem holdsK_10 : Holds (Memref.whole cc0_scratch5) (baseK c f7 s0 g0 s5) 1 0 (slabOf g0 (sl.v52 c f7 s0) 1 0) := fun l d =>
  (base8_read (Memref.whole cc0_scratch5) s5 (sl.dma1_1 c f7 g0 s0) (sl.dma1_3 c f7 g0 s0) (sl.dma2_1 c f7 g0 s0) (sl.dma2_3 c f7 g0 s0) (sl.dma3_1 c f7 g0 s0) (sl.dma3_3 c f7 g0 s0) (sl.dma4_1 c f7 g0 s0) (sl.dma4_3 c f7 g0 s0) 1 0 l d).trans (dK_10 c f7 s0 g0 l d)

/-- After the fetches the buffer holds the key window of sequence 1, head 1. -/
theorem holdsK_11 : Holds (Memref.whole cc0_scratch5) (baseK c f7 s0 g0 s5) 1 1 (slabOf g0 (sl.v52 c f7 s0) 1 1) := fun l d =>
  (base8_read (Memref.whole cc0_scratch5) s5 (sl.dma1_1 c f7 g0 s0) (sl.dma1_3 c f7 g0 s0) (sl.dma2_1 c f7 g0 s0) (sl.dma2_3 c f7 g0 s0) (sl.dma3_1 c f7 g0 s0) (sl.dma3_3 c f7 g0 s0) (sl.dma4_1 c f7 g0 s0) (sl.dma4_3 c f7 g0 s0) 1 1 l d).trans (dK_11 c f7 s0 g0 l d)

/-- After the fetches the buffer holds the key window of sequence 2, head 0. -/
theorem holdsK_20 : Holds (Memref.whole cc0_scratch5) (baseK c f7 s0 g0 s5) 2 0 (slabOf g0 (sl.v96 c f7 s0) 2 0) := fun l d =>
  (base8_read (Memref.whole cc0_scratch5) s5 (sl.dma1_1 c f7 g0 s0) (sl.dma1_3 c f7 g0 s0) (sl.dma2_1 c f7 g0 s0) (sl.dma2_3 c f7 g0 s0) (sl.dma3_1 c f7 g0 s0) (sl.dma3_3 c f7 g0 s0) (sl.dma4_1 c f7 g0 s0) (sl.dma4_3 c f7 g0 s0) 2 0 l d).trans (dK_20 c f7 s0 g0 l d)

/-- After the fetches the buffer holds the key window of sequence 2, head 1. -/
theorem holdsK_21 : Holds (Memref.whole cc0_scratch5) (baseK c f7 s0 g0 s5) 2 1 (slabOf g0 (sl.v96 c f7 s0) 2 1) := fun l d =>
  (base8_read (Memref.whole cc0_scratch5) s5 (sl.dma1_1 c f7 g0 s0) (sl.dma1_3 c f7 g0 s0) (sl.dma2_1 c f7 g0 s0) (sl.dma2_3 c f7 g0 s0) (sl.dma3_1 c f7 g0 s0) (sl.dma3_3 c f7 g0 s0) (sl.dma4_1 c f7 g0 s0) (sl.dma4_3 c f7 g0 s0) 2 1 l d).trans (dK_21 c f7 s0 g0 l d)

/-- After the fetches the buffer holds the key window of sequence 3, head 0. -/
theorem holdsK_30 : Holds (Memref.whole cc0_scratch5) (baseK c f7 s0 g0 s5) 3 0 (slabOf g0 (sl.v140 c f7 s0) 3 0) := fun l d =>
  (base8_read (Memref.whole cc0_scratch5) s5 (sl.dma1_1 c f7 g0 s0) (sl.dma1_3 c f7 g0 s0) (sl.dma2_1 c f7 g0 s0) (sl.dma2_3 c f7 g0 s0) (sl.dma3_1 c f7 g0 s0) (sl.dma3_3 c f7 g0 s0) (sl.dma4_1 c f7 g0 s0) (sl.dma4_3 c f7 g0 s0) 3 0 l d).trans (dK_30 c f7 s0 g0 l d)

/-- After the fetches the buffer holds the key window of sequence 3, head 1. -/
theorem holdsK_31 : Holds (Memref.whole cc0_scratch5) (baseK c f7 s0 g0 s5) 3 1 (slabOf g0 (sl.v140 c f7 s0) 3 1) := fun l d =>
  (base8_read (Memref.whole cc0_scratch5) s5 (sl.dma1_1 c f7 g0 s0) (sl.dma1_3 c f7 g0 s0) (sl.dma2_1 c f7 g0 s0) (sl.dma2_3 c f7 g0 s0) (sl.dma3_1 c f7 g0 s0) (sl.dma3_3 c f7 g0 s0) (sl.dma4_1 c f7 g0 s0) (sl.dma4_3 c f7 g0 s0) 3 1 l d).trans (dK_31 c f7 s0 g0 l d)

/-- What the merge of the key window of sequence 0, head 0 writes, in terms of head, tail and mask. -/
theorem payK_00 : (sl.k0_w1 c f7 g0 s0 s5 : S1x1x32x256.Idx → BitVec 8) = k0_pay71 (F := Ideal) (sl.v643 c f7 s0) (sl.v719 c f7 g0 s0 s5) (sl.v723 c f7 g0 s0 s5) := by
  unfold sl.k0_w1 sl.v734 sl.v729 sl.v728 sl.v727 sl.v724 sl.v726 sl.v725 sl.cst_541 sl.v720 k0_pay71
  rfl

/-- The key window of sequence 0, head 0 is still as fetched when its turn comes. -/
theorem holdK_00 : Holds (Memref.whole cc0_scratch5) ((Memref.whole cc0_scratch5).view.writes (Elt Ideal) (baseK c f7 s0 g0 s5) []) 0 0 (slabOf g0 (sl.v8 c f7 s0) 0 0) := by
  exact holdsK_00 c f7 s0 g0 s5

/-- The window of sequence 0, head 0. -/
theorem winK_00 : sl.v738 c f7 g0 s0 s5 = winOf g0 (sl.v8 c f7 s0) 0 0 := by
  have h := holdK_00 c f7 s0 g0 s5
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v719 c f7 g0 s0 s5 (ix2 i d) = slabOf g0 (sl.v8 c f7 s0) 0 0 (ix2 ⟨i.val, by omega⟩ d) := fun i d => by
    unfold sl.v719
    exact Holds.rows 0 0 h 0 _ _ _ _ (by decide) i d _ (by simp)
  have ht : ∀ (i : Fin 32) (d : Fin 256), sl.v723 c f7 g0 s0 s5 (ix2 i d) = slabOf g0 (sl.v8 c f7 s0) 0 0 (ix2 ⟨1024 + i.val, by omega⟩ d) := fun i d => by
    unfold sl.v723
    exact Holds.rows 0 0 h 1024 _ _ _ _ (by decide) i d _ rfl
  unfold sl.v738 sl.S5_1
  rw [payK_00]
  exact (Holds.fold 0 0 h (sl.v8 c f7 s0) _ (bits_0 c f7 s0) _ _ _ _ hh ht (j 2) (j 3)).trans rfl

/-- What the merge of the key window of sequence 0, head 1 writes, in terms of head, tail and mask. -/
theorem payK_01 : (sl.k0_w3 c f7 g0 s0 s5 : S1x1x32x256.Idx → BitVec 8) = k0_pay71 (F := Ideal) (sl.v643 c f7 s0) (sl.v833 c f7 g0 s0 s5) (sl.v837 c f7 g0 s0 s5) := by
  unfold sl.k0_w3 sl.v848 sl.v843 sl.v842 sl.v841 sl.v838 sl.v840 sl.v725 sl.cst_541 sl.v834 k0_pay71
  rfl

/-- The key window of sequence 0, head 1 is still as fetched when its turn comes. -/
theorem holdK_01 : Holds (Memref.whole cc0_scratch5) ((Memref.whole cc0_scratch5).view.writes (Elt Ideal) (baseK c f7 s0 g0 s5) (sl.S5_1 c f7 g0 s0 s5)) 0 1 (slabOf g0 (sl.v8 c f7 s0) 0 1) := by
  unfold sl.S5_1
  exact Holds.skip (holdsK_01 c f7 s0 g0 s5) (by decide)

/-- The window of sequence 0, head 1. -/
theorem winK_01 : sl.v852 c f7 g0 s0 s5 = winOf g0 (sl.v8 c f7 s0) 0 1 := by
  have h := holdK_01 c f7 s0 g0 s5
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v833 c f7 g0 s0 s5 (ix2 i d) = slabOf g0 (sl.v8 c f7 s0) 0 1 (ix2 ⟨i.val, by omega⟩ d) := fun i d => by
    unfold sl.v833
    exact Holds.rows 0 1 h 0 _ _ _ _ (by decide) i d _ (by simp)
  have ht : ∀ (i : Fin 32) (d : Fin 256), sl.v837 c f7 g0 s0 s5 (ix2 i d) = slabOf g0 (sl.v8 c f7 s0) 0 1 (ix2 ⟨1024 + i.val, by omega⟩ d) := fun i d => by
    unfold sl.v837
    exact Holds.rows 0 1 h 1024 _ _ _ _ (by decide) i d _ rfl
  unfold sl.v852 sl.S5_2
  rw [payK_01]
  exact (Holds.fold 0 1 h (sl.v8 c f7 s0) _ (bits_0 c f7 s0) _ _ _ _ hh ht (j 2) (j 3)).trans rfl

/-- What the merge of the key window of sequence 1, head 0 writes, in terms of head, tail and mask. -/
theorem payK_10 : (k0_pay100 (sl.v1037 c f7 g0 s0 s5) : S1x1x32x256.Idx → BitVec 8) = k0_pay71 (F := Ideal) (sl.v951 c f7 s0) (sl.v1027 c f7 g0 s0 s5) (sl.v1031 c f7 g0 s0 s5) := by
  unfold sl.v1037 sl.v1036 sl.v1035 sl.v1032 sl.v1034 sl.v1033 sl.cst_541 sl.v1028 k0_pay100 k0_pay71
  rfl

/-- The key window of sequence 1, head 0 is still as fetched when its turn comes. -/
theorem holdK_10 : Holds (Memref.whole cc0_scratch5) ((Memref.whole cc0_scratch5).view.writes (Elt Ideal) (baseK c f7 s0 g0 s5) (sl.S5_2 c f7 g0 s0 s5)) 1 0 (slabOf g0 (sl.v52 c f7 s0) 1 0) := by
  unfold sl.S5_2 sl.S5_1
  exact Holds.skip (Holds.skip (holdsK_10 c f7 s0 g0 s5) (by decide)) (by decide)

/-- The window of sequence 1, head 0. -/
theorem winK_10 : sl.v1046 c f7 g0 s0 s5 = winOf g0 (sl.v52 c f7 s0) 1 0 := by
  have h := holdK_10 c f7 s0 g0 s5
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1027 c f7 g0 s0 s5 (ix2 i d) = slabOf g0 (sl.v52 c f7 s0) 1 0 (ix2 ⟨i.val, by omega⟩ d) := fun i d => by
    unfold sl.v1027
    exact Holds.rows 1 0 h 0 _ _ _ _ (by decide) i d _ (by simp)
  have ht : ∀ (i : Fin 32) (d : Fin 256), sl.v1031 c f7 g0 s0 s5 (ix2 i d) = slabOf g0 (sl.v52 c f7 s0) 1 0 (ix2 ⟨1024 + i.val, by omega⟩ d) := fun i d => by
    unfold sl.v1031
    exact Holds.rows 1 0 h 1024 _ _ _ _ (by decide) i d _ rfl
  unfold sl.v1046 sl.S5_3
  rw [payK_10]
  exact (Holds.fold 1 0 h (sl.v52 c f7 s0) _ (bits_1 c f7 s0) _ _ _ _ hh ht (j 2) (j 3)).trans rfl

/-- What the merge of the key window of sequence 1, head 1 writes, in terms of head, tail and mask. -/
theorem payK_11 : (sl.k0_w7 c f7 g0 s0 s5 : S1x1x32x256.Idx → BitVec 8) = k0_pay71 (F := Ideal) (sl.v951 c f7 s0) (sl.v1141 c f7 g0 s0 s5) (sl.v1145 c f7 g0 s0 s5) := by
  unfold sl.k0_w7 sl.v1156 sl.v1151 sl.v1150 sl.v1149 sl.v1146 sl.v1148 sl.v1033 sl.cst_541 sl.v1142 k0_pay71
  rfl

/-- The key window of sequence 1, head 1 is still as fetched when its turn comes. -/
theorem holdK_11 : Holds (Memref.whole cc0_scratch5) ((Memref.whole cc0_scratch5).view.writes (Elt Ideal) (baseK c f7 s0 g0 s5) (sl.S5_3 c f7 g0 s0 s5)) 1 1 (slabOf g0 (sl.v52 c f7 s0) 1 1) := by
  unfold sl.S5_3 sl.S5_2 sl.S5_1
  exact Holds.skip (Holds.skip (Holds.skip (holdsK_11 c f7 s0 g0 s5) (by decide)) (by decide)) (by decide)

/-- The window of sequence 1, head 1. -/
theorem winK_11 : sl.v1160 c f7 g0 s0 s5 = winOf g0 (sl.v52 c f7 s0) 1 1 := by
  have h := holdK_11 c f7 s0 g0 s5
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1141 c f7 g0 s0 s5 (ix2 i d) = slabOf g0 (sl.v52 c f7 s0) 1 1 (ix2 ⟨i.val, by omega⟩ d) := fun i d => by
    unfold sl.v1141
    exact Holds.rows 1 1 h 0 _ _ _ _ (by decide) i d _ (by simp)
  have ht : ∀ (i : Fin 32) (d : Fin 256), sl.v1145 c f7 g0 s0 s5 (ix2 i d) = slabOf g0 (sl.v52 c f7 s0) 1 1 (ix2 ⟨1024 + i.val, by omega⟩ d) := fun i d => by
    unfold sl.v1145
    exact Holds.rows 1 1 h 1024 _ _ _ _ (by decide) i d _ rfl
  unfold sl.v1160 sl.S5_4
  rw [payK_11]
  exact (Holds.fold 1 1 h (sl.v52 c f7 s0) _ (bits_1 c f7 s0) _ _ _ _ hh ht (j 2) (j 3)).trans rfl

/-- What the merge of the key window of sequence 2, head 0 writes, in terms of head, tail and mask. -/
theorem payK_20 : (k0_pay134 (sl.v1259 c f7 s0) (sl.v1336 c f7 g0 s0 s5) (sl.v1340 c f7 g0 s0 s5) : S1x1x32x256.Idx → BitVec 8) = k0_pay71 (F := Ideal) (sl.v1259 c f7 s0) (sl.v1335 c f7 g0 s0 s5) (sl.v1339 c f7 g0 s0 s5) := by
  unfold sl.v1340 sl.v1336 k0_pay134 k0_pay71
  rfl

/-- The key window of sequence 2, head 0 is still as fetched when its turn comes. -/
theorem holdK_20 : Holds (Memref.whole cc0_scratch5) ((Memref.whole cc0_scratch5).view.writes (Elt Ideal) (baseK c f7 s0 g0 s5) (sl.S5_4 c f7 g0 s0 s5)) 2 0 (slabOf g0 (sl.v96 c f7 s0) 2 0) := by
  unfold sl.S5_4 sl.S5_3 sl.S5_2 sl.S5_1
  exact Holds.skip (Holds.skip (Holds.skip (Holds.skip (holdsK_20 c f7 s0 g0 s5) (by decide)) (by decide)) (by decide)) (by decide)

/-- The window of sequence 2, head 0. -/
theorem winK_20 : sl.v1354 c f7 g0 s0 s5 = winOf g0 (sl.v96 c f7 s0) 2 0 := by
  have h := holdK_20 c f7 s0 g0 s5
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1335 c f7 g0 s0 s5 (ix2 i d) = slabOf g0 (sl.v96 c f7 s0) 2 0 (ix2 ⟨i.val, by omega⟩ d) := fun i d => by
    unfold sl.v1335
    exact Holds.rows 2 0 h 0 _ _ _ _ (by decide) i d _ (by simp)
  have ht : ∀ (i : Fin 32) (d : Fin 256), sl.v1339 c f7 g0 s0 s5 (ix2 i d) = slabOf g0 (sl.v96 c f7 s0) 2 0 (ix2 ⟨1024 + i.val, by omega⟩ d) := fun i d => by
    unfold sl.v1339
    exact Holds.rows 2 0 h 1024 _ _ _ _ (by decide) i d _ rfl
  unfold sl.v1354 sl.S5_5
  rw [payK_20]
  exact (Holds.fold 2 0 h (sl.v96 c f7 s0) _ (bits_2 c f7 s0) _ _ _ _ hh ht (j 2) (j 3)).trans rfl

/-- What the merge of the key window of sequence 2, head 1 writes, in terms of head, tail and mask. -/
theorem payK_21 : (sl.k0_w11 c f7 g0 s0 s5 : S1x1x32x256.Idx → BitVec 8) = k0_pay71 (F := Ideal) (sl.v1259 c f7 s0) (sl.v1449 c f7 g0 s0 s5) (sl.v1453 c f7 g0 s0 s5) := by
  unfold sl.k0_w11 sl.v1464 sl.v1459 sl.v1458 sl.v1457 sl.v1454 sl.v1456 sl.v1403 sl.cst_541 sl.v1450 k0_pay71
  rfl

/-- The key window of sequence 2, head 1 is still as fetched when its turn comes. -/
theorem holdK_21 : Holds (Memref.whole cc0_scratch5) ((Memref.whole cc0_scratch5).view.writes (Elt Ideal) (baseK c f7 s0 g0 s5) (sl.S5_5 c f7 g0 s0 s5)) 2 1 (slabOf g0 (sl.v96 c f7 s0) 2 1) := by
  unfold sl.S5_5 sl.S5_4 sl.S5_3 sl.S5_2 sl.S5_1
  exact Holds.skip (Holds.skip (Holds.skip (Holds.skip (Holds.skip (holdsK_21 c f7 s0 g0 s5) (by decide)) (by decide)) (by decide)) (by decide)) (by decide)

/-- The window of sequence 2, head 1. -/
theorem winK_21 : sl.v1468 c f7 g0 s0 s5 = winOf g0 (sl.v96 c f7 s0) 2 1 := by
  have h := holdK_21 c f7 s0 g0 s5
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1449 c f7 g0 s0 s5 (ix2 i d) = slabOf g0 (sl.v96 c f7 s0) 2 1 (ix2 ⟨i.val, by omega⟩ d) := fun i d => by
    unfold sl.v1449
    exact Holds.rows 2 1 h 0 _ _ _ _ (by decide) i d _ (by simp)
  have ht : ∀ (i : Fin 32) (d : Fin 256), sl.v1453 c f7 g0 s0 s5 (ix2 i d) = slabOf g0 (sl.v96 c f7 s0) 2 1 (ix2 ⟨1024 + i.val, by omega⟩ d) := fun i d => by
    unfold sl.v1453
    exact Holds.rows 2 1 h 1024 _ _ _ _ (by decide) i d _ rfl
  unfold sl.v1468 sl.S5_6
  rw [payK_21]
  exact (Holds.fold 2 1 h (sl.v96 c f7 s0) _ (bits_2 c f7 s0) _ _ _ _ hh ht (j 2) (j 3)).trans rfl

/-- What the merge of the key window of sequence 3, head 0 writes, in terms of head, tail and mask. -/
theorem payK_30 : (sl.k0_w13 c f7 g0 s0 s5 : S1x1x32x256.Idx → BitVec 8) = k0_pay71 (F := Ideal) (sl.v1567 c f7 s0) (sl.v1643 c f7 g0 s0 s5) (sl.v1647 c f7 g0 s0 s5) := by
  unfold sl.k0_w13 sl.v1658 sl.v1653 sl.v1652 sl.v1651 sl.v1648 sl.v1650 sl.v1649 sl.cst_541 sl.v1644 k0_pay71
  rfl

/-- The key window of sequence 3, head 0 is still as fetched when its turn comes. -/
theorem holdK_30 : Holds (Memref.whole cc0_scratch5) ((Memref.whole cc0_scratch5).view.writes (Elt Ideal) (baseK c f7 s0 g0 s5) (sl.S5_6 c f7 g0 s0 s5)) 3 0 (slabOf g0 (sl.v140 c f7 s0) 3 0) := by
  unfold sl.S5_6 sl.S5_5 sl.S5_4 sl.S5_3 sl.S5_2 sl.S5_1
  exact Holds.skip (Holds.skip (Holds.skip (Holds.skip (Holds.skip (Holds.skip (holdsK_30 c f7 s0 g0 s5) (by decide)) (by decide)) (by decide)) (by decide)) (by decide)) (by decide)

/-- The window of sequence 3, head 0. -/
theorem winK_30 : sl.v1662 c f7 g0 s0 s5 = winOf g0 (sl.v140 c f7 s0) 3 0 := by
  have h := holdK_30 c f7 s0 g0 s5
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1643 c f7 g0 s0 s5 (ix2 i d) = slabOf g0 (sl.v140 c f7 s0) 3 0 (ix2 ⟨i.val, by omega⟩ d) := fun i d => by
    unfold sl.v1643
    exact Holds.rows 3 0 h 0 _ _ _ _ (by decide) i d _ (by simp)
  have ht : ∀ (i : Fin 32) (d : Fin 256), sl.v1647 c f7 g0 s0 s5 (ix2 i d) = slabOf g0 (sl.v140 c f7 s0) 3 0 (ix2 ⟨1024 + i.val, by omega⟩ d) := fun i d => by
    unfold sl.v1647
    exact Holds.rows 3 0 h 1024 _ _ _ _ (by decide) i d _ rfl
  unfold sl.v1662 sl.S5_7
  rw [payK_30]
  exact (Holds.fold 3 0 h (sl.v140 c f7 s0) _ (bits_3 c f7 s0) _ _ _ _ hh ht (j 2) (j 3)).trans rfl

/-- What the merge of the key window of sequence 3, head 1 writes, in terms of head, tail and mask. -/
theorem payK_31 : (k0_pay186 (sl.v1767 c f7 g0 s0 s5) : S1x1x32x256.Idx → BitVec 8) = k0_pay71 (F := Ideal) (sl.v1567 c f7 s0) (sl.v1757 c f7 g0 s0 s5) (sl.v1761 c f7 g0 s0 s5) := by
  unfold sl.v1767 sl.v1766 sl.v1765 sl.v1762 sl.v1764 sl.v1649 sl.cst_541 sl.v1758 k0_pay186 k0_pay71
  rfl

/-- The key window of sequence 3, head 1 is still as fetched when its turn comes. -/
theorem holdK_31 : Holds (Memref.whole cc0_scratch5) ((Memref.whole cc0_scratch5).view.writes (Elt Ideal) (baseK c f7 s0 g0 s5) (sl.S5_7 c f7 g0 s0 s5)) 3 1 (slabOf g0 (sl.v140 c f7 s0) 3 1) := by
  unfold sl.S5_7 sl.S5_6 sl.S5_5 sl.S5_4 sl.S5_3 sl.S5_2 sl.S5_1
  exact Holds.skip (Holds.skip (Holds.skip (Holds.skip (Holds.skip (Holds.skip (Holds.skip (holdsK_31 c f7 s0 g0 s5) (by decide)) (by decide)) (by decide)) (by decide)) (by decide)) (by decide)) (by decide)

/-- The window of sequence 3, head 1. -/
theorem winK_31 : sl.v1776 c f7 g0 s0 s5 = winOf g0 (sl.v140 c f7 s0) 3 1 := by
  have h := holdK_31 c f7 s0 g0 s5
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1757 c f7 g0 s0 s5 (ix2 i d) = slabOf g0 (sl.v140 c f7 s0) 3 1 (ix2 ⟨i.val, by omega⟩ d) := fun i d => by
    unfold sl.v1757
    exact Holds.rows 3 1 h 0 _ _ _ _ (by decide) i d _ (by simp)
  have ht : ∀ (i : Fin 32) (d : Fin 256), sl.v1761 c f7 g0 s0 s5 (ix2 i d) = slabOf g0 (sl.v140 c f7 s0) 3 1 (ix2 ⟨1024 + i.val, by omega⟩ d) := fun i d => by
    unfold sl.v1761
    exact Holds.rows 3 1 h 1024 _ _ _ _ (by decide) i d _ rfl
  unfold sl.v1776 sl.S5_8
  rw [payK_31]
  exact (Holds.fold 3 1 h (sl.v140 c f7 s0) _ (bits_3 c f7 s0) _ _ _ _ hh ht (j 2) (j 3)).trans rfl

end K

section V
variable (g1 : Bf (F := Ideal) c main_v1) (s6 : Bf (F := Ideal) c cc0_scratch6)

/-- The value window of sequence 0, head 0, as the fetch brings it. -/
theorem dV_00 (l : Fin 1056) (d : Fin 256) : sl.dma1_2 c f7 g1 s0 (ix2 l d) = slabOf g1 (sl.v8 c f7 s0) 0 0 (ix2 l d) := by
  unfold sl.dma1_2
  exact read_slab (Val := Elt Ideal) (Memref.whole main_v1) _ 0 0 (wbase (sl.v8 c f7 s0)).toNat rfl (by decide) (by decide) _ _ _ g1 l d _

/-- The value window of sequence 0, head 1, as the fetch brings it. -/
theorem dV_01 (l : Fin 1056) (d : Fin 256) : sl.dma1_4 c f7 g1 s0 (ix2 l d) = slabOf g1 (sl.v8 c f7 s0) 0 1 (ix2 l d) := by
  unfold sl.dma1_4
  exact read_slab (Val := Elt Ideal) (Memref.whole main_v1) _ 0 1 (wbase (sl.v8 c f7 s0)).toNat rfl (by decide) (by decide) _ _ _ g1 l d _

/-- The value window of sequence 1, head 0, as the fetch brings it. -/
theorem dV_10 (l : Fin 1056) (d : Fin 256) : sl.dma2_2 c f7 g1 s0 (ix2 l d) = slabOf g1 (sl.v52 c f7 s0) 1 0 (ix2 l d) := by
  unfold sl.dma2_2
  exact read_slab (Val := Elt Ideal) (Memref.whole main_v1) _ 1 0 (wbase (sl.v52 c f7 s0)).toNat rfl (by decide) (by decide) _ _ _ g1 l d _

/-- The value window of sequence 1, head 1, as the fetch brings it. -/
theorem dV_11 (l : Fin 1056) (d : Fin 256) : sl.dma2_4 c f7 g1 s0 (ix2 l d) = slabOf g1 (sl.v52 c f7 s0) 1 1 (ix2 l d) := by
  unfold sl.dma2_4
  exact read_slab (Val := Elt Ideal) (Memref.whole main_v1) _ 1 1 (wbase (sl.v52 c f7 s0)).toNat rfl (by decide) (by decide) _ _ _ g1 l d _

/-- The value window of sequence 2, head 0, as the fetch brings it. -/
theorem dV_20 (l : Fin 1056) (d : Fin 256) : sl.dma3_2 c f7 g1 s0 (ix2 l d) = slabOf g1 (sl.v96 c f7 s0) 2 0 (ix2 l d) := by
  unfold sl.dma3_2
  exact read_slab (Val := Elt Ideal) (Memref.whole main_v1) _ 2 0 (wbase (sl.v96 c f7 s0)).toNat rfl (by decide) (by decide) _ _ _ g1 l d _

/-- The value window of sequence 2, head 1, as the fetch brings it. -/
theorem dV_21 (l : Fin 1056) (d : Fin 256) : sl.dma3_4 c f7 g1 s0 (ix2 l d) = slabOf g1 (sl.v96 c f7 s0) 2 1 (ix2 l d) := by
  unfold sl.dma3_4
  exact read_slab (Val := Elt Ideal) (Memref.whole main_v1) _ 2 1 (wbase (sl.v96 c f7 s0)).toNat rfl (by decide) (by decide) _ _ _ g1 l d _

/-- The value window of sequence 3, head 0, as the fetch brings it. -/
theorem dV_30 (l : Fin 1056) (d : Fin 256) : sl.dma4_2 c f7 g1 s0 (ix2 l d) = slabOf g1 (sl.v140 c f7 s0) 3 0 (ix2 l d) := by
  unfold sl.dma4_2
  exact read_slab (Val := Elt Ideal) (Memref.whole main_v1) _ 3 0 (wbase (sl.v140 c f7 s0)).toNat rfl (by decide) (by decide) _ _ _ g1 l d _

/-- The value window of sequence 3, head 1, as the fetch brings it. -/
theorem dV_31 (l : Fin 1056) (d : Fin 256) : sl.dma4_4 c f7 g1 s0 (ix2 l d) = slabOf g1 (sl.v140 c f7 s0) 3 1 (ix2 l d) := by
  unfold sl.dma4_4
  exact read_slab (Val := Elt Ideal) (Memref.whole main_v1) _ 3 1 (wbase (sl.v140 c f7 s0)).toNat rfl (by decide) (by decide) _ _ _ g1 l d _

/-- The buffer after the eight transfers. -/
def baseV : Bf (F := Ideal) c cc0_scratch6 :=
  base8 (Memref.whole cc0_scratch6) s6 (sl.dma1_2 c f7 g1 s0) (sl.dma1_4 c f7 g1 s0) (sl.dma2_2 c f7 g1 s0) (sl.dma2_4 c f7 g1 s0) (sl.dma3_2 c f7 g1 s0) (sl.dma3_4 c f7 g1 s0) (sl.dma4_2 c f7 g1 s0) (sl.dma4_4 c f7 g1 s0)

/-- After the fetches the buffer holds the value window of sequence 0, head 0. -/
theorem holdsV_00 : Holds (Memref.whole cc0_scratch6) (baseV c f7 s0 g1 s6) 0 0 (slabOf g1 (sl.v8 c f7 s0) 0 0) := fun l d =>
  (base8_read (Memref.whole cc0_scratch6) s6 (sl.dma1_2 c f7 g1 s0) (sl.dma1_4 c f7 g1 s0) (sl.dma2_2 c f7 g1 s0) (sl.dma2_4 c f7 g1 s0) (sl.dma3_2 c f7 g1 s0) (sl.dma3_4 c f7 g1 s0) (sl.dma4_2 c f7 g1 s0) (sl.dma4_4 c f7 g1 s0) 0 0 l d).trans (dV_00 c f7 s0 g1 l d)

/-- After the fetches the buffer holds the value window of sequence 0, head 1. -/
theorem holdsV_01 : Holds (Memref.whole cc0_scratch6) (baseV c f7 s0 g1 s6) 0 1 (slabOf g1 (sl.v8 c f7 s0) 0 1) := fun l d =>
  (base8_read (Memref.whole cc0_scratch6) s6 (sl.dma1_2 c f7 g1 s0) (sl.dma1_4 c f7 g1 s0) (sl.dma2_2 c f7 g1 s0) (sl.dma2_4 c f7 g1 s0) (sl.dma3_2 c f7 g1 s0) (sl.dma3_4 c f7 g1 s0) (sl.dma4_2 c f7 g1 s0) (sl.dma4_4 c f7 g1 s0) 0 1 l d).trans (dV_01 c f7 s0 g1 l d)

/-- After the fetches the buffer holds the value window of sequence 1, head 0. -/
theorem holdsV_10 : Holds (Memref.whole cc0_scratch6) (baseV c f7 s0 g1 s6) 1 0 (slabOf g1 (sl.v52 c f7 s0) 1 0) := fun l d =>
  (base8_read (Memref.whole cc0_scratch6) s6 (sl.dma1_2 c f7 g1 s0) (sl.dma1_4 c f7 g1 s0) (sl.dma2_2 c f7 g1 s0) (sl.dma2_4 c f7 g1 s0) (sl.dma3_2 c f7 g1 s0) (sl.dma3_4 c f7 g1 s0) (sl.dma4_2 c f7 g1 s0) (sl.dma4_4 c f7 g1 s0) 1 0 l d).trans (dV_10 c f7 s0 g1 l d)

/-- After the fetches the buffer holds the value window of sequence 1, head 1. -/
theorem holdsV_11 : Holds (Memref.whole cc0_scratch6) (baseV c f7 s0 g1 s6) 1 1 (slabOf g1 (sl.v52 c f7 s0) 1 1) := fun l d =>
  (base8_read (Memref.whole cc0_scratch6) s6 (sl.dma1_2 c f7 g1 s0) (sl.dma1_4 c f7 g1 s0) (sl.dma2_2 c f7 g1 s0) (sl.dma2_4 c f7 g1 s0) (sl.dma3_2 c f7 g1 s0) (sl.dma3_4 c f7 g1 s0) (sl.dma4_2 c f7 g1 s0) (sl.dma4_4 c f7 g1 s0) 1 1 l d).trans (dV_11 c f7 s0 g1 l d)

/-- After the fetches the buffer holds the value window of sequence 2, head 0. -/
theorem holdsV_20 : Holds (Memref.whole cc0_scratch6) (baseV c f7 s0 g1 s6) 2 0 (slabOf g1 (sl.v96 c f7 s0) 2 0) := fun l d =>
  (base8_read (Memref.whole cc0_scratch6) s6 (sl.dma1_2 c f7 g1 s0) (sl.dma1_4 c f7 g1 s0) (sl.dma2_2 c f7 g1 s0) (sl.dma2_4 c f7 g1 s0) (sl.dma3_2 c f7 g1 s0) (sl.dma3_4 c f7 g1 s0) (sl.dma4_2 c f7 g1 s0) (sl.dma4_4 c f7 g1 s0) 2 0 l d).trans (dV_20 c f7 s0 g1 l d)

/-- After the fetches the buffer holds the value window of sequence 2, head 1. -/
theorem holdsV_21 : Holds (Memref.whole cc0_scratch6) (baseV c f7 s0 g1 s6) 2 1 (slabOf g1 (sl.v96 c f7 s0) 2 1) := fun l d =>
  (base8_read (Memref.whole cc0_scratch6) s6 (sl.dma1_2 c f7 g1 s0) (sl.dma1_4 c f7 g1 s0) (sl.dma2_2 c f7 g1 s0) (sl.dma2_4 c f7 g1 s0) (sl.dma3_2 c f7 g1 s0) (sl.dma3_4 c f7 g1 s0) (sl.dma4_2 c f7 g1 s0) (sl.dma4_4 c f7 g1 s0) 2 1 l d).trans (dV_21 c f7 s0 g1 l d)

/-- After the fetches the buffer holds the value window of sequence 3, head 0. -/
theorem holdsV_30 : Holds (Memref.whole cc0_scratch6) (baseV c f7 s0 g1 s6) 3 0 (slabOf g1 (sl.v140 c f7 s0) 3 0) := fun l d =>
  (base8_read (Memref.whole cc0_scratch6) s6 (sl.dma1_2 c f7 g1 s0) (sl.dma1_4 c f7 g1 s0) (sl.dma2_2 c f7 g1 s0) (sl.dma2_4 c f7 g1 s0) (sl.dma3_2 c f7 g1 s0) (sl.dma3_4 c f7 g1 s0) (sl.dma4_2 c f7 g1 s0) (sl.dma4_4 c f7 g1 s0) 3 0 l d).trans (dV_30 c f7 s0 g1 l d)

/-- After the fetches the buffer holds the value window of sequence 3, head 1. -/
theorem holdsV_31 : Holds (Memref.whole cc0_scratch6) (baseV c f7 s0 g1 s6) 3 1 (slabOf g1 (sl.v140 c f7 s0) 3 1) := fun l d =>
  (base8_read (Memref.whole cc0_scratch6) s6 (sl.dma1_2 c f7 g1 s0) (sl.dma1_4 c f7 g1 s0) (sl.dma2_2 c f7 g1 s0) (sl.dma2_4 c f7 g1 s0) (sl.dma3_2 c f7 g1 s0) (sl.dma3_4 c f7 g1 s0) (sl.dma4_2 c f7 g1 s0) (sl.dma4_4 c f7 g1 s0) 3 1 l d).trans (dV_31 c f7 s0 g1 l d)

/-- What the merge of the value window of sequence 0, head 0 writes, in terms of head, tail and mask. -/
theorem payV_00 : (sl.k0_w2 c f7 g1 s0 s6 : S1x1x32x256.Idx → BitVec 8) = k0_pay71 (F := Ideal) (sl.v643 c f7 s0) (sl.v781 c f7 g1 s0 s6) (sl.v785 c f7 g1 s0 s6) := by
  unfold sl.k0_w2 sl.v796 sl.v791 sl.v790 sl.v789 sl.v786 sl.v788 sl.v725 sl.cst_541 sl.v782 k0_pay71
  rfl

/-- The value window of sequence 0, head 0 is still as fetched when its turn comes. -/
theorem holdV_00 : Holds (Memref.whole cc0_scratch6) ((Memref.whole cc0_scratch6).view.writes (Elt Ideal) (baseV c f7 s0 g1 s6) []) 0 0 (slabOf g1 (sl.v8 c f7 s0) 0 0) := by
  exact holdsV_00 c f7 s0 g1 s6

/-- The window of sequence 0, head 0. -/
theorem winV_00 : sl.v797 c f7 g1 s0 s6 = winOf g1 (sl.v8 c f7 s0) 0 0 := by
  have h := holdV_00 c f7 s0 g1 s6
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v781 c f7 g1 s0 s6 (ix2 i d) = slabOf g1 (sl.v8 c f7 s0) 0 0 (ix2 ⟨i.val, by omega⟩ d) := fun i d => by
    unfold sl.v781
    exact Holds.rows 0 0 h 0 _ _ _ _ (by decide) i d _ (by simp)
  have ht : ∀ (i : Fin 32) (d : Fin 256), sl.v785 c f7 g1 s0 s6 (ix2 i d) = slabOf g1 (sl.v8 c f7 s0) 0 0 (ix2 ⟨1024 + i.val, by omega⟩ d) := fun i d => by
    unfold sl.v785
    exact Holds.rows 0 0 h 1024 _ _ _ _ (by decide) i d _ rfl
  unfold sl.v797 sl.S6_1
  rw [payV_00]
  exact (Holds.fold 0 0 h (sl.v8 c f7 s0) _ (bits_0 c f7 s0) _ _ _ _ hh ht (j 2) (j 3)).trans rfl

/-- What the merge of the value window of sequence 0, head 1 writes, in terms of head, tail and mask. -/
theorem payV_01 : (sl.k0_w4 c f7 g1 s0 s6 : S1x1x32x256.Idx → BitVec 8) = k0_pay71 (F := Ideal) (sl.v643 c f7 s0) (sl.v895 c f7 g1 s0 s6) (sl.v899 c f7 g1 s0 s6) := by
  unfold sl.k0_w4 sl.v910 sl.v905 sl.v904 sl.v903 sl.v900 sl.v902 k0_pay86 k0_pay87 k0_pay71
  rfl

/-- The value window of sequence 0, head 1 is still as fetched when its turn comes. -/
theorem holdV_01 : Holds (Memref.whole cc0_scratch6) ((Memref.whole cc0_scratch6).view.writes (Elt Ideal) (baseV c f7 s0 g1 s6) (sl.S6_1 c f7 g1 s0 s6)) 0 1 (slabOf g1 (sl.v8 c f7 s0) 0 1) := by
  unfold sl.S6_1
  exact Holds.skip (holdsV_01 c f7 s0 g1 s6) (by decide)

/-- The window of sequence 0, head 1. -/
theorem winV_01 : sl.v911 c f7 g1 s0 s6 = winOf g1 (sl.v8 c f7 s0) 0 1 := by
  have h := holdV_01 c f7 s0 g1 s6
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v895 c f7 g1 s0 s6 (ix2 i d) = slabOf g1 (sl.v8 c f7 s0) 0 1 (ix2 ⟨i.val, by omega⟩ d) := fun i d => by
    unfold sl.v895
    exact Holds.rows 0 1 h 0 _ _ _ _ (by decide) i d _ (by simp)
  have ht : ∀ (i : Fin 32) (d : Fin 256), sl.v899 c f7 g1 s0 s6 (ix2 i d) = slabOf g1 (sl.v8 c f7 s0) 0 1 (ix2 ⟨1024 + i.val, by omega⟩ d) := fun i d => by
    unfold sl.v899
    exact Holds.rows 0 1 h 1024 _ _ _ _ (by decide) i d _ rfl
  unfold sl.v911 sl.S6_2
  rw [payV_01]
  exact (Holds.fold 0 1 h (sl.v8 c f7 s0) _ (bits_0 c f7 s0) _ _ _ _ hh ht (j 2) (j 3)).trans rfl

/-- What the merge of the value window of sequence 1, head 0 writes, in terms of head, tail and mask. -/
theorem payV_10 : (sl.k0_w6 c f7 g1 s0 s6 : S1x1x32x256.Idx → BitVec 8) = k0_pay71 (F := Ideal) (sl.v951 c f7 s0) (sl.v1089 c f7 g1 s0 s6) (sl.v1093 c f7 g1 s0 s6) := by
  unfold sl.k0_w6 sl.v1104 sl.v1099 sl.v1098 sl.v1097 sl.v1094 sl.v1096 sl.v1033 sl.cst_541 sl.v1090 k0_pay71
  rfl

/-- The value window of sequence 1, head 0 is still as fetched when its turn comes. -/
theorem holdV_10 : Holds (Memref.whole cc0_scratch6) ((Memref.whole cc0_scratch6).view.writes (Elt Ideal) (baseV c f7 s0 g1 s6) (sl.S6_2 c f7 g1 s0 s6)) 1 0 (slabOf g1 (sl.v52 c f7 s0) 1 0) := by
  unfold sl.S6_2 sl.S6_1
  exact Holds.skip (Holds.skip (holdsV_10 c f7 s0 g1 s6) (by decide)) (by decide)

/-- The window of sequence 1, head 0. -/
theorem winV_10 : sl.v1105 c f7 g1 s0 s6 = winOf g1 (sl.v52 c f7 s0) 1 0 := by
  have h := holdV_10 c f7 s0 g1 s6
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1089 c f7 g1 s0 s6 (ix2 i d) = slabOf g1 (sl.v52 c f7 s0) 1 0 (ix2 ⟨i.val, by omega⟩ d) := fun i d => by
    unfold sl.v1089
    exact Holds.rows 1 0 h 0 _ _ _ _ (by decide) i d _ (by simp)
  have ht : ∀ (i : Fin 32) (d : Fin 256), sl.v1093 c f7 g1 s0 s6 (ix2 i d) = slabOf g1 (sl.v52 c f7 s0) 1 0 (ix2 ⟨1024 + i.val, by omega⟩ d) := fun i d => by
    unfold sl.v1093
    exact Holds.rows 1 0 h 1024 _ _ _ _ (by decide) i d _ rfl
  unfold sl.v1105 sl.S6_3
  rw [payV_10]
  exact (Holds.fold 1 0 h (sl.v52 c f7 s0) _ (bits_1 c f7 s0) _ _ _ _ hh ht (j 2) (j 3)).trans rfl

/-- What the merge of the value window of sequence 1, head 1 writes, in terms of head, tail and mask. -/
theorem payV_11 : (sl.k0_w8 c f7 g1 s0 s6 : S1x1x32x256.Idx → BitVec 8) = k0_pay71 (F := Ideal) (sl.v951 c f7 s0) (sl.v1203 c f7 g1 s0 s6) (sl.v1207 c f7 g1 s0 s6) := by
  unfold sl.k0_w8 sl.v1218 sl.v1213 sl.v1212 sl.v1211 sl.v1208 sl.v1210 sl.v1033 sl.cst_541 sl.v1204 k0_pay71
  rfl

/-- The value window of sequence 1, head 1 is still as fetched when its turn comes. -/
theorem holdV_11 : Holds (Memref.whole cc0_scratch6) ((Memref.whole cc0_scratch6).view.writes (Elt Ideal) (baseV c f7 s0 g1 s6) (sl.S6_3 c f7 g1 s0 s6)) 1 1 (slabOf g1 (sl.v52 c f7 s0) 1 1) := by
  unfold sl.S6_3 sl.S6_2 sl.S6_1
  exact Holds.skip (Holds.skip (Holds.skip (holdsV_11 c f7 s0 g1 s6) (by decide)) (by decide)) (by decide)

/-- The window of sequence 1, head 1. -/
theorem winV_11 : sl.v1219 c f7 g1 s0 s6 = winOf g1 (sl.v52 c f7 s0) 1 1 := by
  have h := holdV_11 c f7 s0 g1 s6
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1203 c f7 g1 s0 s6 (ix2 i d) = slabOf g1 (sl.v52 c f7 s0) 1 1 (ix2 ⟨i.val, by omega⟩ d) := fun i d => by
    unfold sl.v1203
    exact Holds.rows 1 1 h 0 _ _ _ _ (by decide) i d _ (by simp)
  have ht : ∀ (i : Fin 32) (d : Fin 256), sl.v1207 c f7 g1 s0 s6 (ix2 i d) = slabOf g1 (sl.v52 c f7 s0) 1 1 (ix2 ⟨1024 + i.val, by omega⟩ d) := fun i d => by
    unfold sl.v1207
    exact Holds.rows 1 1 h 1024 _ _ _ _ (by decide) i d _ rfl
  unfold sl.v1219 sl.S6_4
  rw [payV_11]
  exact (Holds.fold 1 1 h (sl.v52 c f7 s0) _ (bits_1 c f7 s0) _ _ _ _ hh ht (j 2) (j 3)).trans rfl

/-- What the merge of the value window of sequence 2, head 0 writes, in terms of head, tail and mask. -/
theorem payV_20 : (sl.k0_w10 c f7 g1 s0 s6 : S1x1x32x256.Idx → BitVec 8) = k0_pay71 (F := Ideal) (sl.v1259 c f7 s0) (sl.v1397 c f7 g1 s0 s6) (sl.v1401 c f7 g1 s0 s6) := by
  unfold sl.k0_w10 sl.v1412 sl.v1407 sl.v1406 sl.v1405 sl.v1402 sl.v1404 sl.v1403 sl.cst_541 sl.v1398 k0_pay71
  rfl

/-- The value window of sequence 2, head 0 is still as fetched when its turn comes. -/
theorem holdV_20 : Holds (Memref.whole cc0_scratch6) ((Memref.whole cc0_scratch6).view.writes (Elt Ideal) (baseV c f7 s0 g1 s6) (sl.S6_4 c f7 g1 s0 s6)) 2 0 (slabOf g1 (sl.v96 c f7 s0) 2 0) := by
  unfold sl.S6_4 sl.S6_3 sl.S6_2 sl.S6_1
  exact Holds.skip (Holds.skip (Holds.skip (Holds.skip (holdsV_20 c f7 s0 g1 s6) (by decide)) (by decide)) (by decide)) (by decide)

/-- The window of sequence 2, head 0. -/
theorem winV_20 : sl.v1413 c f7 g1 s0 s6 = winOf g1 (sl.v96 c f7 s0) 2 0 := by
  have h := holdV_20 c f7 s0 g1 s6
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1397 c f7 g1 s0 s6 (ix2 i d) = slabOf g1 (sl.v96 c f7 s0) 2 0 (ix2 ⟨i.val, by omega⟩ d) := fun i d => by
    unfold sl.v1397
    exact Holds.rows 2 0 h 0 _ _ _ _ (by decide) i d _ (by simp)
  have ht : ∀ (i : Fin 32) (d : Fin 256), sl.v1401 c f7 g1 s0 s6 (ix2 i d) = slabOf g1 (sl.v96 c f7 s0) 2 0 (ix2 ⟨1024 + i.val, by omega⟩ d) := fun i d => by
    unfold sl.v1401
    exact Holds.rows 2 0 h 1024 _ _ _ _ (by decide) i d _ rfl
  unfold sl.v1413 sl.S6_5
  rw [payV_20]
  exact (Holds.fold 2 0 h (sl.v96 c f7 s0) _ (bits_2 c f7 s0) _ _ _ _ hh ht (j 2) (j 3)).trans rfl

/-- What the merge of the value window of sequence 2, head 1 writes, in terms of head, tail and mask. -/
theorem payV_21 : (sl.k0_w12 c f7 g1 s0 s6 : S1x1x32x256.Idx → BitVec 8) = k0_pay71 (F := Ideal) (sl.v1259 c f7 s0) (sl.v1511 c f7 g1 s0 s6) (sl.v1515 c f7 g1 s0 s6) := by
  unfold sl.k0_w12 sl.v1526 sl.v1521 sl.v1520 sl.v1519 sl.v1516 sl.v1518 sl.v1403 sl.cst_541 sl.v1512 k0_pay71
  rfl

/-- The value window of sequence 2, head 1 is still as fetched when its turn comes. -/
theorem holdV_21 : Holds (Memref.whole cc0_scratch6) ((Memref.whole cc0_scratch6).view.writes (Elt Ideal) (baseV c f7 s0 g1 s6) (sl.S6_5 c f7 g1 s0 s6)) 2 1 (slabOf g1 (sl.v96 c f7 s0) 2 1) := by
  unfold sl.S6_5 sl.S6_4 sl.S6_3 sl.S6_2 sl.S6_1
  exact Holds.skip (Holds.skip (Holds.skip (Holds.skip (Holds.skip (holdsV_21 c f7 s0 g1 s6) (by decide)) (by decide)) (by decide)) (by decide)) (by decide)

/-- The window of sequence 2, head 1. -/
theorem winV_21 : sl.v1527 c f7 g1 s0 s6 = winOf g1 (sl.v96 c f7 s0) 2 1 := by
  have h := holdV_21 c f7 s0 g1 s6
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1511 c f7 g1 s0 s6 (ix2 i d) = slabOf g1 (sl.v96 c f7 s0) 2 1 (ix2 ⟨i.val, by omega⟩ d) := fun i d => by
    unfold sl.v1511
    exact Holds.rows 2 1 h 0 _ _ _ _ (by decide) i d _ (by simp)
  have ht : ∀ (i : Fin 32) (d : Fin 256), sl.v1515 c f7 g1 s0 s6 (ix2 i d) = slabOf g1 (sl.v96 c f7 s0) 2 1 (ix2 ⟨1024 + i.val, by omega⟩ d) := fun i d => by
    unfold sl.v1515
    exact Holds.rows 2 1 h 1024 _ _ _ _ (by decide) i d _ rfl
  unfold sl.v1527 sl.S6_6
  rw [payV_21]
  exact (Holds.fold 2 1 h (sl.v96 c f7 s0) _ (bits_2 c f7 s0) _ _ _ _ hh ht (j 2) (j 3)).trans rfl

/-- What the merge of the value window of sequence 3, head 0 writes, in terms of head, tail and mask. -/
theorem payV_30 : (sl.k0_w14 c f7 g1 s0 s6 : S1x1x32x256.Idx → BitVec 8) = k0_pay71 (F := Ideal) (sl.v1567 c f7 s0) (sl.v1705 c f7 g1 s0 s6) (sl.v1709 c f7 g1 s0 s6) := by
  unfold sl.k0_w14 sl.v1720 sl.v1715 sl.v1714 sl.v1713 sl.v1710 sl.v1712 sl.v1649 sl.cst_541 sl.v1706 k0_pay179 k0_pay71
  rfl

/-- The value window of sequence 3, head 0 is still as fetched when its turn comes. -/
theorem holdV_30 : Holds (Memref.whole cc0_scratch6) ((Memref.whole cc0_scratch6).view.writes (Elt Ideal) (baseV c f7 s0 g1 s6) (sl.S6_6 c f7 g1 s0 s6)) 3 0 (slabOf g1 (sl.v140 c f7 s0) 3 0) := by
  unfold sl.S6_6 sl.S6_5 sl.S6_4 sl.S6_3 sl.S6_2 sl.S6_1
  exact Holds.skip (Holds.skip (Holds.skip (Holds.skip (Holds.skip (Holds.skip (holdsV_30 c f7 s0 g1 s6) (by decide)) (by decide)) (by decide)) (by decide)) (by decide)) (by decide)

/-- The window of sequence 3, head 0. -/
theorem winV_30 : sl.v1721 c f7 g1 s0 s6 = winOf g1 (sl.v140 c f7 s0) 3 0 := by
  have h := holdV_30 c f7 s0 g1 s6
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1705 c f7 g1 s0 s6 (ix2 i d) = slabOf g1 (sl.v140 c f7 s0) 3 0 (ix2 ⟨i.val, by omega⟩ d) := fun i d => by
    unfold sl.v1705
    exact Holds.rows 3 0 h 0 _ _ _ _ (by decide) i d _ (by simp)
  have ht : ∀ (i : Fin 32) (d : Fin 256), sl.v1709 c f7 g1 s0 s6 (ix2 i d) = slabOf g1 (sl.v140 c f7 s0) 3 0 (ix2 ⟨1024 + i.val, by omega⟩ d) := fun i d => by
    unfold sl.v1709
    exact Holds.rows 3 0 h 1024 _ _ _ _ (by decide) i d _ rfl
  unfold sl.v1721 sl.S6_7
  rw [payV_30]
  exact (Holds.fold 3 0 h (sl.v140 c f7 s0) _ (bits_3 c f7 s0) _ _ _ _ hh ht (j 2) (j 3)).trans rfl

/-- What the merge of the value window of sequence 3, head 1 writes, in terms of head, tail and mask. -/
theorem payV_31 : (sl.k0_w16 c f7 g1 s0 s6 : S1x1x32x256.Idx → BitVec 8) = k0_pay71 (F := Ideal) (sl.v1567 c f7 s0) (sl.v1819 c f7 g1 s0 s6) (sl.v1823 c f7 g1 s0 s6) := by
  unfold sl.k0_w16 sl.v1834 sl.v1829 sl.v1828 sl.v1827 sl.v1824 sl.v1826 sl.v1649 sl.cst_541 sl.v1820 k0_pay71
  rfl

/-- The value window of sequence 3, head 1 is still as fetched when its turn comes. -/
theorem holdV_31 : Holds (Memref.whole cc0_scratch6) ((Memref.whole cc0_scratch6).view.writes (Elt Ideal) (baseV c f7 s0 g1 s6) (sl.S6_7 c f7 g1 s0 s6)) 3 1 (slabOf g1 (sl.v140 c f7 s0) 3 1) := by
  unfold sl.S6_7 sl.S6_6 sl.S6_5 sl.S6_4 sl.S6_3 sl.S6_2 sl.S6_1
  exact Holds.skip (Holds.skip (Holds.skip (Holds.skip (Holds.skip (Holds.skip (Holds.skip (holdsV_31 c f7 s0 g1 s6) (by decide)) (by decide)) (by decide)) (by decide)) (by decide)) (by decide)) (by decide)

/-- The window of sequence 3, head 1. -/
theorem winV_31 : sl.v1835 c f7 g1 s0 s6 = winOf g1 (sl.v140 c f7 s0) 3 1 := by
  have h := holdV_31 c f7 s0 g1 s6
  funext (j : S1x1x1024x256.Idx)
  have ej : j = ix4 0 0 (j 2) (j 3) := by
    rw [eq_ix4 j]; congr 1 <;> exact Subsingleton.elim (α := Fin 1) _ _
  rw [ej]
  have hh : ∀ (i : Fin 32) (d : Fin 256), sl.v1819 c f7 g1 s0 s6 (ix2 i d) = slabOf g1 (sl.v140 c f7 s0) 3 1 (ix2 ⟨i.val, by omega⟩ d) := fun i d => by
    unfold sl.v1819
    exact Holds.rows 3 1 h 0 _ _ _ _ (by decide) i d _ (by simp)
  have ht : ∀ (i : Fin 32) (d : Fin 256), sl.v1823 c f7 g1 s0 s6 (ix2 i d) = slabOf g1 (sl.v140 c f7 s0) 3 1 (ix2 ⟨1024 + i.val, by omega⟩ d) := fun i d => by
    unfold sl.v1823
    exact Holds.rows 3 1 h 1024 _ _ _ _ (by decide) i d _ rfl
  unfold sl.v1835 sl.S6_8
  rw [payV_31]
  exact (Holds.fold 3 1 h (sl.v140 c f7 s0) _ (bits_3 c f7 s0) _ _ _ _ hh ht (j 2) (j 3)).trans rfl

end V

end Cert.KernelIdeal.Hand
-- ==== Proof.Masks.lean ====
/-
  The attention mask of a unit, bit by bit, and the value scales of a window's rows: the kernel reads a lane-aligned stretch of the scales,
  rotates it, and takes the first lanes from the end of the stretch.
-/
module

public import proofs.«01_k».proof.Proof.Window
public import Idealize.ShloMosaic.Lib.Pointwise
public import Idealize.ShloMosaic.Lib.Affine

@[expose] public section

set_option maxRecDepth 16384

noncomputable section

namespace Cert.KernelIdeal.Hand

open Cert.KernelIdeal Cert.KernelIdeal.Gen Cert.Words Cert.Reads
open Idealize.ShloMosaic Idealize.ShloMosaic.TcCoe

/-- The cache row, as a word, that lane `l` of the window's first lanes holds. -/
def posWord (w : BitVec 32) (l : Nat) : BitVec 32 :=
  IntOp.addi (IntOp.addi (wbase w) (BitVec.ofNat 32 l)) (Scalar.select (IntOp.cmpi CmpIPredicate.slt (BitVec.ofNat 32 l) (woff w)) 1024#32 0#32)

/-- The mask bit of row `i` and lane `l`. -/
def okBit (w : BitVec 32) (i : Fin 64) (l : Nat) : BitVec 1 :=
  IntOp.andi (IntOp.cmpi CmpIPredicate.slt (posWord w l) w)
    (IntOp.cmpi CmpIPredicate.sgt (posWord w l) (IntOp.subi (IntOp.addi w (BitVec.ofNat 32 (i.val / 16))) 1024#32))

/-- Row `i` attends to cache row `r` of a sequence of length `w`: the row is filled, and fewer than 1024 tokens back. -/
def attends (w : BitVec 32) (i : Fin 64) (r : Nat) : Prop := r < w.toNat ∧ w.toNat + i.val / 16 < r + 1024

/-- A signed comparison of words is that of their integers. -/
theorem slt_iff (a b : BitVec 32) : IntOp.cmpi CmpIPredicate.slt a b = 1#1 ↔ a.toInt < b.toInt := by
  show BitVec.ofBool (a.slt b) = 1#1 ↔ _
  rw [BitVec.slt_iff_toInt_lt.symm]
  cases a.slt b <;> simp

/-- A signed comparison of words is that of their integers. -/
theorem sgt_iff (a b : BitVec 32) : IntOp.cmpi CmpIPredicate.sgt a b = 1#1 ↔ b.toInt < a.toInt := by
  show BitVec.ofBool (b.slt a) = 1#1 ↔ _
  rw [BitVec.slt_iff_toInt_lt.symm]
  cases b.slt a <;> simp

/-- The conjunction of two bits is set when both are. -/
theorem andi_iff (a b : BitVec 1) : IntOp.andi a b = 1#1 ↔ a = 1#1 ∧ b = 1#1 := by
  revert a b; decide

/-- For a length within bounds the window starts 1024 rows before its end. -/
theorem start_of (w : BitVec 32) (h : 1024 ≤ w.toNat ∧ w.toNat ≤ 16384) : (wstart w).toNat = w.toNat - 1024 := by
  have h1 := wstart_toNat w
  have h2 : (w - 1024#32).toInt = (w.toNat : Int) - 1024 := by
    rw [toInt_small _ (by rw [BitVec.toNat_sub]; simp; omega), BitVec.toNat_sub]; simp; omega
  omega

/-- The cache row that a slot of the fetched window holds after the merge. -/
theorem rowOf_val (w : BitVec 32) (l : Fin 1024) : (rowOf w l).val = (wbase w).toNat + if l.val < (woff w).toNat then 1024 + l.val else l.val := rfl

/-- The position word of a column is the cache row of its slot. -/
theorem posWord_toNat (w : BitVec 32) (l : Fin 1024) : (posWord w l.val).toNat = (rowOf w l).val := by
  have hb := wbase_le w
  have ho := woff_le w
  have hs : IntOp.cmpi CmpIPredicate.slt (BitVec.ofNat 32 l.val) (woff w) = 1#1 ↔ l.val < (woff w).toNat := by
    rw [slt_iff, toInt_small _ (by rw [BitVec.toNat_ofNat]; omega), toInt_small _ (by omega), BitVec.toNat_ofNat]; omega
  rw [rowOf_val]
  have hsel : (Scalar.select (IntOp.cmpi CmpIPredicate.slt (BitVec.ofNat 32 l.val) (woff w)) 1024#32 0#32 : BitVec 32) = if l.val < (woff w).toNat then 1024#32 else 0#32 :=
    if_congr hs rfl rfl
  unfold posWord
  rw [hsel]
  split
  · show (wbase w + BitVec.ofNat 32 l.val + 1024#32).toNat = _
    rw [BitVec.toNat_add, BitVec.toNat_add, BitVec.toNat_ofNat]; simp; omega
  · show (wbase w + BitVec.ofNat 32 l.val + 0#32).toNat = _
    rw [BitVec.toNat_add, BitVec.toNat_add, BitVec.toNat_ofNat]; simp; omega

/-- The mask bit says whether the row attends to the lane's cache row. -/
theorem okBit_iff (w : BitVec 32) (h : 1024 ≤ w.toNat ∧ w.toNat ≤ 16384) (i : Fin 64) (l : Fin 1024) :
    okBit w i l.val = 1#1 ↔ attends w i (rowOf w l).val := by
  have hp := posWord_toNat w l
  have hr := (rowOf w l).isLt
  have hw : (IntOp.subi (IntOp.addi w (BitVec.ofNat 32 (i.val / 16))) 1024#32).toNat = w.toNat + i.val / 16 - 1024 := by
    show (w + BitVec.ofNat 32 (i.val / 16) - 1024#32).toNat = _
    rw [BitVec.toNat_sub, BitVec.toNat_add, BitVec.toNat_ofNat]; simp; omega
  unfold okBit attends
  rw [andi_iff, slt_iff, sgt_iff, toInt_small _ (by omega), toInt_small w (by omega), toInt_small _ (by rw [hw]; omega), hw, hp]
  omega

/-- Every row of the window past the first 128 lanes is attended to. -/
theorem attends_late (w : BitVec 32) (h : 1024 ≤ w.toNat ∧ w.toNat ≤ 16384) (i : Fin 64) (l : Fin 1024) (hl : 128 ≤ l.val) :
    attends w i (rowOf w l).val := by
  have hs := start_of w h
  have ho := woff_toNat w
  have ho' := woff_le w
  have hb := wbase_toNat w
  have hi := i.isLt
  have hslot : (slotOf w l).val = l.val := by unfold slotOf; simp only; rw [if_neg (by omega)]
  have hr : (rowOf w l).val = (wbase w).toNat + l.val := by unfold rowOf; simp only [hslot]
  unfold attends
  rw [hr]
  omega

/-- The rotated stretch, its first lanes taken from its end where they come before the window. -/
theorem tok_index (w : BitVec 32) (l : Fin 1024) : (wsbase w).toNat + ((slotOf w l).val + (wshift w).toNat) = (rowOf w l).val := by
  have h := wshift_toNat w
  have h1 := wsbase_toNat w
  have h2 := wbase_toNat w
  unfold rowOf; simp only; omega

/-- A slot and the shift stay within the fetched scales. -/
theorem tok_bound (w : BitVec 32) (l : Fin 1024) : (slotOf w l).val + (wshift w).toNat < 1152 := by
  have h := wshift_toNat w
  have h1 := wsbase_toNat w
  have h2 := wbase_toNat w
  have h3 := wstart_le w
  have h4 := woff_le w
  have h5 := woff_toNat w
  unfold slotOf; simp only; split <;> omega

/-- The amount the kernel rotates by: the stretch's size less the shift. -/
def rotWord (w : BitVec 32) : BitVec 32 := Scalar.remsi (Scalar.subi 1152#32 (wshift w)) 1152#32

/-- The amount of the rotation of the scales. -/
theorem rotWord_toNat (w : BitVec 32) : (rotWord w).toNat = (1152 - (wshift w).toNat) % 1152 := by
  have h := wshift_le w
  have h1 : (Scalar.subi 1152#32 (wshift w)).toNat = 1152 - (wshift w).toNat := by
    show (1152#32 - wshift w).toNat = _
    rw [BitVec.toNat_sub]; simp; omega
  unfold rotWord
  exact (IntOp.toNat_remsi .scalar (x := Scalar.subi 1152#32 (wshift w)) (by omega) 1152 (by decide) (by decide)).trans (by rw [h1])

/-- The kernel's sign correction of the remainder changes nothing. -/
theorem rot_fix (w : BitVec 32) : Scalar.select (Scalar.andi (Scalar.xori (Scalar.cmpi CmpIPredicate.slt (rotWord w) 0#32) 0#1)
    (Scalar.cmpi CmpIPredicate.ne (rotWord w) 0#32)) (Scalar.addi (rotWord w) 1152#32) (rotWord w) = rotWord w := by
  have h := rotWord_toNat w
  have hs : ¬ Scalar.cmpi CmpIPredicate.slt (rotWord w) 0#32 = 1#1 := fun hh => by
    have h2 := (slt_iff _ _).mp hh
    rw [toInt_small (rotWord w) (by omega), toInt_small 0#32 (by decide)] at h2
    simp at h2; omega
  have h0 : Scalar.cmpi CmpIPredicate.slt (rotWord w) 0#32 = 0#1 := by
    revert hs; generalize Scalar.cmpi CmpIPredicate.slt (rotWord w) 0#32 = b; revert b; decide
  rw [h0]
  generalize Scalar.cmpi CmpIPredicate.ne (rotWord w) 0#32 = b
  have : Scalar.andi (Scalar.xori 0#1 0#1) b = 0#1 := by revert b; decide
  rw [this]; rfl

/-- The rotated stretch at a slot of the window is the stretch at the slot shifted. -/
theorem rotate_slot {α : Type} (x : S2x1152.Idx → α) (w : BitVec 32) (n : BitVec 32) (hn : n.toNat = (1152 - (wshift w).toNat) % 1152)
    (h : S2x1152.Rotates 1 none) (k : Fin 2) (j : Fin 1152) (l : Fin 1024) (hj : j.val = (slotOf w l).val) :
    dynamicRotate 1 n none x h (ix2 k j) = x (ix2 k ⟨(slotOf w l).val + (wshift w).toNat, tok_bound w l⟩) := by
  have hb := tok_bound w l
  have hw := wshift_le w
  pointwise
  congr 1
  funext t; apply Fin.ext
  fin_cases t
  · rfl
  · simp [ix2]
    omega

/-- Taking the first lanes from the stretch's end where they come before the window gives the rows of the window's slots. -/
theorem tok_pick {α : Type} (x : S2x1152.Idx → α) (w : BitVec 32) (k : Fin 2) (l : Fin 1024) (r : α)
    (hr : ∀ (j : Fin 1152), j.val = (slotOf w l).val → x (ix2 k j) = r) :
    (if h : l.val < 128 then Scalar.select (IntOp.cmpi CmpIPredicate.slt (BitVec.ofNat 32 l.val) (woff w)) (x (ix2 k ⟨1024 + l.val, by omega⟩)) (x (ix2 k ⟨l.val, by omega⟩))
      else x (ix2 k ⟨128 + (l.val - 128), by omega⟩)) = r := by
  have ho := woff_le w
  have hs : IntOp.cmpi CmpIPredicate.slt (BitVec.ofNat 32 l.val) (woff w) = 1#1 ↔ l.val < (woff w).toNat := by
    rw [slt_iff, toInt_small _ (by rw [BitVec.toNat_ofNat]; omega), toInt_small _ (by omega), BitVec.toNat_ofNat]; omega
  have hv : (slotOf w l).val = if l.val < (woff w).toNat then 1024 + l.val else l.val := rfl
  split
  · refine (if_congr hs rfl rfl).trans ?_
    split
    · exact hr _ (by rw [hv, if_pos ‹_›])
    · exact hr _ (by rw [hv, if_neg ‹_›])
  · exact hr _ (by rw [hv, if_neg (by omega)]; simp only; omega)

/-- Dropping a leading axis of size one. -/
theorem squeeze3 {α : Type} (x : S1x2x1152.Idx → α) (h : S1x2x1152.numel = S2x1152.numel) (k : Fin 2) (j : Fin 1152) : shapeCast S2x1152 x h (ix2 k j) = x (ix3 0 k j) := by
  pointwise

section Slabs
variable {F : FTy → Type} {κ : Kind} {sp : Space} (m : Memref sig κ sp S4x2x1152 .f32)

/-- Shapes that differ by a leading axis of size one. -/
theorem sqz3 : S1x2x1152.Squeezes S2x1152 := by decide

/-- A scratch buffer after one slab of it is written. -/
def slab3W (b : Nat) (inb : ∀ a, (![b, 0, 0] : Fin 3 → Nat) a + S1x2x1152.size a ≤ S4x2x1152.size a)
    (f : m.view.ty.Contents (Elt F)) (w : S2x1152.Idx → Elt F .f32) : m.view.ty.Contents (Elt F) :=
  View.write (Elt F) ((m.slice (Rect.unit (s := S4x2x1152) ![b, 0, 0] S1x2x1152.size inb) (fun _ => rfl)).squeeze S2x1152 sqz3).view f w Finset.univ

/-- Reading the scales after one sequence was written: that sequence is new, the others are as before. -/
theorem slab3W_read (b : Nat) (inb) (f : m.view.ty.Contents (Elt F)) (w : S2x1152.Idx → Elt F .f32) (a : Fin 4) (k : Fin 2) (j : Fin 1152) :
    m.view.read (Elt F) (slab3W m b inb f w) (ix3 a k j) = if a.val = b then w (ix2 k j) else m.view.read (Elt F) f (ix3 a k j) :=
  read_write_slab3 (Val := Elt F) m b inb (fun _ => rfl) sqz3 f w a k j

/-- A scratch buffer after its four slabs are written. -/
def slabs (i0 : ∀ a, (![0, 0, 0] : Fin 3 → Nat) a + S1x2x1152.size a ≤ S4x2x1152.size a) (i1 : ∀ a, (![1, 0, 0] : Fin 3 → Nat) a + S1x2x1152.size a ≤ S4x2x1152.size a)
    (i2 : ∀ a, (![2, 0, 0] : Fin 3 → Nat) a + S1x2x1152.size a ≤ S4x2x1152.size a) (i3 : ∀ a, (![3, 0, 0] : Fin 3 → Nat) a + S1x2x1152.size a ≤ S4x2x1152.size a)
    (f : m.view.ty.Contents (Elt F)) (w0 w1 w2 w3 : S2x1152.Idx → Elt F .f32) : m.view.ty.Contents (Elt F) :=
  slab3W m 3 i3 (slab3W m 2 i2 (slab3W m 1 i1 (slab3W m 0 i0 f w0) w1) w2) w3

variable (i0 i1 i2 i3) (f : m.view.ty.Contents (Elt F)) (w0 w1 w2 w3 : S2x1152.Idx → Elt F .f32) (k : Fin 2) (j : Fin 1152)

/-- Reading one sequence's scales back after all four were written. -/
theorem slabs_read (b : Nat) (hb : b < 4) (inb : ∀ a, (![b, 0, 0] : Fin 3 → Nat) a + S1x2x1152.size a ≤ S4x2x1152.size a) :
    View.readAt (Elt F) m.view (Rect.unit (s := S4x2x1152) ![b, 0, 0] S1x2x1152.size inb).toLoadRect (slabs m i0 i1 i2 i3 f w0 w1 w2 w3) (ix3 0 k j : S1x2x1152.Idx)
      = (![w0, w1, w2, w3] : Fin 4 → S2x1152.Idx → Elt F .f32) ⟨b, hb⟩ (ix2 k j) := by
  refine (readAt_slab3 (Val := Elt F) m b hb inb _ k j).trans ?_
  unfold slabs
  rw [slab3W_read, slab3W_read, slab3W_read, slab3W_read]
  match b, hb with
  | 0, _ => simp
  | 1, _ => simp
  | 2, _ => simp
  | 3, _ => simp

end Slabs

end Cert.KernelIdeal.Hand
-- ==== Proof.Operands.lean ====
/-
  The operands the run reads for each unit of the attention: the length words, queries, new keys and values, key scales, value
  scales of the window's rows, and the two masks, each as elements of the arguments.
-/
module

public import proofs.«01_k».proof.Proof.Units
public import proofs.«01_k».proof.Proof.Windows
public import proofs.«01_k».proof.Proof.Masks
public import Idealize.ShloMosaic.Lib.Pipeline.ReadBack

@[expose] public section

set_option maxRecDepth 16384

noncomputable section

namespace Cert.KernelIdeal.Hand

open Cert.KernelIdeal Cert.KernelIdeal.Gen Cert.Words Cert.Reads
open Idealize.ShloMosaic Idealize.ShloMosaic.TcCoe Idealize.SL.Sem
open kernelRun

variable (c : Dev nD)
variable (f7 : Bf (F := Ideal) c main_arg7) (f0 : Bf (F := Ideal) c main_arg0) (f1 : Bf (F := Ideal) c main_arg1) (f2 : Bf (F := Ideal) c main_arg2)
  (f4 : Bf (F := Ideal) c main_arg4) (g2 : Bf (F := Ideal) c main_v2)
  (s0 : Bf (F := Ideal) c cc0_scratch0) (s1 : Bf (F := Ideal) c cc0_scratch1) (s2 : Bf (F := Ideal) c cc0_scratch2) (s3 : Bf (F := Ideal) c cc0_scratch3)
  (s4 : Bf (F := Ideal) c cc0_scratch4) (s7 : Bf (F := Ideal) c cc0_scratch7)

/-- The query step of a unit's row. -/
theorem step_apply (i : Fin 64) : sl.v624 (ix2 i 0) = BitVec.ofNat 32 (i.val / 16) := by
  unfold sl.v624 sl.v623 sl.v620 sl.v601 sl.v616 sl.v615 sl.v608 sl.v605 sl.v603 sl.v600
  pointwise
  revert i; decide

/-- A row sees the new tokens up to its own step. -/
theorem newOk_apply (i : Fin 64) (t : Fin 4) : sl.v698 (ix2 i t) = 1#1 ↔ t.val ≤ i.val / 16 := by
  have h : sl.v698 (ix2 i t) = IntOp.cmpi .sle (BitVec.ofNat 32 t.val) (sl.v624 (ix2 i 0)) := by
    unfold sl.v698 sl.v695
    generalize sl.v624 = r
    pointwise
  rw [h, step_apply]
  revert i t; decide

/-- The length of sequence 0 as the body reads it. -/
theorem word_0 : sl.v8 (F := Ideal) c f7 s0 = f7 (ix1 0) := by
  unfold sl.v8 sl.dma0
  rw [show View.write (Elt Ideal) (Memref.whole cc0_scratch0).view s0 (ReadAs.same.apply (View.read (Elt Ideal) (Memref.whole main_arg7).view f7)) Finset.univ = f7 from View.write_whole_univ ..]
  show f7 _ = _
  congr 1
  funext t; apply Fin.ext
  have h0 : ∀ j : S1.Idx, (j 0).val = 0 := fun j => Nat.lt_one_iff.mp (j 0).isLt
  fin_cases t <;> simp [Rect.emb, Rect.unit, ix1, h0]

/-- The length of sequence 1 as the body reads it. -/
theorem word_1 : sl.v52 (F := Ideal) c f7 s0 = f7 (ix1 1) := by
  unfold sl.v52 sl.dma0
  rw [show View.write (Elt Ideal) (Memref.whole cc0_scratch0).view s0 (ReadAs.same.apply (View.read (Elt Ideal) (Memref.whole main_arg7).view f7)) Finset.univ = f7 from View.write_whole_univ ..]
  show f7 _ = _
  congr 1
  funext t; apply Fin.ext
  have h0 : ∀ j : S1.Idx, (j 0).val = 0 := fun j => Nat.lt_one_iff.mp (j 0).isLt
  fin_cases t <;> simp [Rect.emb, Rect.unit, ix1, h0]

/-- The length of sequence 2 as the body reads it. -/
theorem word_2 : sl.v96 (F := Ideal) c f7 s0 = f7 (ix1 2) := by
  unfold sl.v96 sl.dma0
  rw [show View.write (Elt Ideal) (Memref.whole cc0_scratch0).view s0 (ReadAs.same.apply (View.read (Elt Ideal) (Memref.whole main_arg7).view f7)) Finset.univ = f7 from View.write_whole_univ ..]
  show f7 _ = _
  congr 1
  funext t; apply Fin.ext
  have h0 : ∀ j : S1.Idx, (j 0).val = 0 := fun j => Nat.lt_one_iff.mp (j 0).isLt
  fin_cases t <;> simp [Rect.emb, Rect.unit, ix1, h0]

/-- The length of sequence 3 as the body reads it. -/
theorem word_3 : sl.v140 (F := Ideal) c f7 s0 = f7 (ix1 3) := by
  unfold sl.v140 sl.dma0
  rw [show View.write (Elt Ideal) (Memref.whole cc0_scratch0).view s0 (ReadAs.same.apply (View.read (Elt Ideal) (Memref.whole main_arg7).view f7)) Finset.univ = f7 from View.write_whole_univ ..]
  show f7 _ = _
  congr 1
  funext t; apply Fin.ext
  have h0 : ∀ j : S1.Idx, (j 0).val = 0 := fun j => Nat.lt_one_iff.mp (j 0).isLt
  fin_cases t <;> simp [Rect.emb, Rect.unit, ix1, h0]

/-- The new keys and values as the run keeps them. -/
theorem newK_apply (j : S4x4x2x256.Idx) : sl.v194 (F := Ideal) c f1 s2 j = f1 j := by
  unfold sl.v194 sl.v191 sl.v190 sl.dma0_1
  rw [show View.write (Elt Ideal) (Memref.whole cc0_scratch2).view s2 (ReadAs.same.apply (View.read (Elt Ideal) (Memref.whole main_arg1).view f1)) Finset.univ = f1 from View.write_whole_univ ..]
  idx_vars j
  pointwise
  show f1 _ = _
  congr 1
  funext t; apply Fin.ext
  fin_cases t <;> simp [Rect.emb, Rect.unit, ix4]
/-- The new values as the body widens them. -/
theorem newV_apply (j : S4x4x2x256.Idx) : sl.v199 (F := Ideal) c f2 s3 j = f2 j := by
  unfold sl.v199 sl.v196 sl.v195 sl.dma0_2
  rw [show View.write (Elt Ideal) (Memref.whole cc0_scratch3).view s3 (ReadAs.same.apply (View.read (Elt Ideal) (Memref.whole main_arg2).view f2)) Finset.univ = f2 from View.write_whole_univ ..]
  idx_vars j
  pointwise
  show f2 _ = _
  congr 1
  funext t; apply Fin.ext
  fin_cases t <;> simp [Rect.emb, Rect.unit, ix4]

/-- The operands of sequence 0 and head 0. -/
theorem Q_00 (s : Fin 4) (g : Fin 16) (d : Fin 256) : sl.v699 (F := Ideal) c f0 s1 (ix4 0 s g d) = f0 (ix4 0 s ⟨16 * 0 + g.val, by omega⟩ d) := by
  unfold sl.v699 sl.dma0_4
  rw [show View.write (Elt Ideal) (Memref.whole cc0_scratch1).view s1 (ReadAs.same.apply (View.read (Elt Ideal) (Memref.whole main_arg0).view f0)) Finset.univ = f0 from View.write_whole_univ ..]
  show f0 _ = _
  congr 1
  funext t; apply Fin.ext
  fin_cases t <;> simp [Rect.emb, Rect.unit, ix4]
/-- The new keys that the codes of sequence 0, head 0 are made of. -/
theorem KN_00 (t : Fin 4) (d : Fin 256) : sl.v202 (F := Ideal) c f1 s2 (ix4 0 t 0 d) = f1 (ix4 0 t 0 d) := by
  unfold sl.v202 sl.S8_1
  refine (congrFun (View.readCov_fill (off := ![0, 0, 0, 0]) (Memref.whole cc0_scratch8).view _ _ [] _ (by decide)) _).trans ?_
  refine (newK_apply c f1 s2 _).trans ?_
  congr 1
  funext t; apply Fin.ext
  fin_cases t <;> simp [Rect.emb, Rect.unit, ix4]
/-- The new values that the codes of sequence 0, head 0 are made of. -/
theorem VN_00 (t : Fin 4) (d : Fin 256) : sl.v215 (F := Ideal) c f2 s3 (ix4 0 t 0 d) = f2 (ix4 0 t 0 d) := by
  unfold sl.v215 sl.S9_1
  refine (congrFun (View.readCov_fill (off := ![0, 0, 0, 0]) (Memref.whole cc0_scratch9).view _ _ [] _ (by decide)) _).trans ?_
  refine (newV_apply c f2 s3 _).trans ?_
  congr 1
  funext t; apply Fin.ext
  fin_cases t <;> simp [Rect.emb, Rect.unit, ix4]
/-- The key scales of sequence 0, head 0. -/
theorem KS_00 (d : Fin 256) : sl.v200 (F := Ideal) c f4 s4 (ix3 0 0 d) = f4 (ix3 0 0 d) := by
  unfold sl.v200 sl.dma0_3
  rw [show View.write (Elt Ideal) (Memref.whole cc0_scratch4).view s4 (ReadAs.same.apply (View.read (Elt Ideal) (Memref.whole main_arg4).view f4)) Finset.univ = f4 from View.write_whole_univ ..]
  show f4 _ = _
  congr 1
  funext t; apply Fin.ext
  fin_cases t <;> simp [Rect.emb, Rect.unit, ix3]

/-- The operands of sequence 0 and head 1. -/
theorem Q_01 (s : Fin 4) (g : Fin 16) (d : Fin 256) : sl.v813 (F := Ideal) c f0 s1 (ix4 0 s g d) = f0 (ix4 0 s ⟨16 * 1 + g.val, by omega⟩ d) := by
  unfold sl.v813 sl.dma0_4
  rw [show View.write (Elt Ideal) (Memref.whole cc0_scratch1).view s1 (ReadAs.same.apply (View.read (Elt Ideal) (Memref.whole main_arg0).view f0)) Finset.univ = f0 from View.write_whole_univ ..]
  show f0 _ = _
  congr 1
  funext t; apply Fin.ext
  fin_cases t <;> simp [Rect.emb, Rect.unit, ix4]
/-- The new keys that the codes of sequence 0, head 1 are made of. -/
theorem KN_01 (t : Fin 4) (d : Fin 256) : sl.v251 (F := Ideal) c f1 s2 (ix4 0 t 0 d) = f1 (ix4 0 t 1 d) := by
  unfold sl.v251 sl.S8_1
  refine (congrFun (View.readCov_fill (off := ![0, 0, 0, 0]) (Memref.whole cc0_scratch8).view _ _ [] _ (by decide)) _).trans ?_
  refine (newK_apply c f1 s2 _).trans ?_
  congr 1
  funext t; apply Fin.ext
  fin_cases t <;> simp [Rect.emb, Rect.unit, ix4]
/-- The new values that the codes of sequence 0, head 1 are made of. -/
theorem VN_01 (t : Fin 4) (d : Fin 256) : sl.v264 (F := Ideal) c f2 s3 (ix4 0 t 0 d) = f2 (ix4 0 t 1 d) := by
  unfold sl.v264 sl.S9_1
  refine (congrFun (View.readCov_fill (off := ![0, 0, 0, 0]) (Memref.whole cc0_scratch9).view _ _ [] _ (by decide)) _).trans ?_
  refine (newV_apply c f2 s3 _).trans ?_
  congr 1
  funext t; apply Fin.ext
  fin_cases t <;> simp [Rect.emb, Rect.unit, ix4]
/-- The key scales of sequence 0, head 1. -/
theorem KS_01 (d : Fin 256) : sl.v249 (F := Ideal) c f4 s4 (ix3 0 0 d) = f4 (ix3 0 1 d) := by
  unfold sl.v249 sl.dma0_3
  rw [show View.write (Elt Ideal) (Memref.whole cc0_scratch4).view s4 (ReadAs.same.apply (View.read (Elt Ideal) (Memref.whole main_arg4).view f4)) Finset.univ = f4 from View.write_whole_univ ..]
  show f4 _ = _
  congr 1
  funext t; apply Fin.ext
  fin_cases t <;> simp [Rect.emb, Rect.unit, ix3]

/-- The operands of sequence 1 and head 0. -/
theorem Q_10 (s : Fin 4) (g : Fin 16) (d : Fin 256) : sl.v1007 (F := Ideal) c f0 s1 (ix4 0 s g d) = f0 (ix4 1 s ⟨16 * 0 + g.val, by omega⟩ d) := by
  unfold sl.v1007 sl.dma0_4
  rw [show View.write (Elt Ideal) (Memref.whole cc0_scratch1).view s1 (ReadAs.same.apply (View.read (Elt Ideal) (Memref.whole main_arg0).view f0)) Finset.univ = f0 from View.write_whole_univ ..]
  show f0 _ = _
  congr 1
  funext t; apply Fin.ext
  fin_cases t <;> simp [Rect.emb, Rect.unit, ix4]
/-- The new keys that the codes of sequence 1, head 0 are made of. -/
theorem KN_10 (t : Fin 4) (d : Fin 256) : sl.v300 (F := Ideal) c f1 s2 (ix4 0 t 0 d) = f1 (ix4 1 t 0 d) := by
  unfold sl.v300 sl.S8_1
  refine (congrFun (View.readCov_fill (off := ![0, 0, 0, 0]) (Memref.whole cc0_scratch8).view _ _ [] _ (by decide)) _).trans ?_
  refine (newK_apply c f1 s2 _).trans ?_
  congr 1
  funext t; apply Fin.ext
  fin_cases t <;> simp [Rect.emb, Rect.unit, ix4]
/-- The new values that the codes of sequence 1, head 0 are made of. -/
theorem VN_10 (t : Fin 4) (d : Fin 256) : sl.v313 (F := Ideal) c f2 s3 (ix4 0 t 0 d) = f2 (ix4 1 t 0 d) := by
  unfold sl.v313 sl.S9_1
  refine (congrFun (View.readCov_fill (off := ![0, 0, 0, 0]) (Memref.whole cc0_scratch9).view _ _ [] _ (by decide)) _).trans ?_
  refine (newV_apply c f2 s3 _).trans ?_
  congr 1
  funext t; apply Fin.ext
  fin_cases t <;> simp [Rect.emb, Rect.unit, ix4]
/-- The key scales of sequence 1, head 0. -/
theorem KS_10 (d : Fin 256) : sl.v1043 (F := Ideal) c f4 s4 (ix3 0 0 d) = f4 (ix3 1 0 d) := by
  unfold sl.v1043 sl.dma0_3
  rw [show View.write (Elt Ideal) (Memref.whole cc0_scratch4).view s4 (ReadAs.same.apply (View.read (Elt Ideal) (Memref.whole main_arg4).view f4)) Finset.univ = f4 from View.write_whole_univ ..]
  show f4 _ = _
  congr 1
  funext t; apply Fin.ext
  fin_cases t <;> simp [Rect.emb, Rect.unit, ix3]

/-- The operands of sequence 1 and head 1. -/
theorem Q_11 (s : Fin 4) (g : Fin 16) (d : Fin 256) : sl.v1121 (F := Ideal) c f0 s1 (ix4 0 s g d) = f0 (ix4 1 s ⟨16 * 1 + g.val, by omega⟩ d) := by
  unfold sl.v1121 sl.dma0_4
  rw [show View.write (Elt Ideal) (Memref.whole cc0_scratch1).view s1 (ReadAs.same.apply (View.read (Elt Ideal) (Memref.whole main_arg0).view f0)) Finset.univ = f0 from View.write_whole_univ ..]
  show f0 _ = _
  congr 1
  funext t; apply Fin.ext
  fin_cases t <;> simp [Rect.emb, Rect.unit, ix4]
/-- The new keys that the codes of sequence 1, head 1 are made of. -/
theorem KN_11 (t : Fin 4) (d : Fin 256) : sl.v349 (F := Ideal) c f1 s2 (ix4 0 t 0 d) = f1 (ix4 1 t 1 d) := by
  unfold sl.v349 sl.S8_1
  refine (congrFun (View.readCov_fill (off := ![0, 0, 0, 0]) (Memref.whole cc0_scratch8).view _ _ [] _ (by decide)) _).trans ?_
  refine (newK_apply c f1 s2 _).trans ?_
  congr 1
  funext t; apply Fin.ext
  fin_cases t <;> simp [Rect.emb, Rect.unit, ix4]
/-- The new values that the codes of sequence 1, head 1 are made of. -/
theorem VN_11 (t : Fin 4) (d : Fin 256) : sl.v362 (F := Ideal) c f2 s3 (ix4 0 t 0 d) = f2 (ix4 1 t 1 d) := by
  unfold sl.v362 sl.S9_1
  refine (congrFun (View.readCov_fill (off := ![0, 0, 0, 0]) (Memref.whole cc0_scratch9).view _ _ [] _ (by decide)) _).trans ?_
  refine (newV_apply c f2 s3 _).trans ?_
  congr 1
  funext t; apply Fin.ext
  fin_cases t <;> simp [Rect.emb, Rect.unit, ix4]
/-- The key scales of sequence 1, head 1. -/
theorem KS_11 (d : Fin 256) : sl.v347 (F := Ideal) c f4 s4 (ix3 0 0 d) = f4 (ix3 1 1 d) := by
  unfold sl.v347 sl.dma0_3
  rw [show View.write (Elt Ideal) (Memref.whole cc0_scratch4).view s4 (ReadAs.same.apply (View.read (Elt Ideal) (Memref.whole main_arg4).view f4)) Finset.univ = f4 from View.write_whole_univ ..]
  show f4 _ = _
  congr 1
  funext t; apply Fin.ext
  fin_cases t <;> simp [Rect.emb, Rect.unit, ix3]

/-- The operands of sequence 2 and head 0. -/
theorem Q_20 (s : Fin 4) (g : Fin 16) (d : Fin 256) : sl.v1315 (F := Ideal) c f0 s1 (ix4 0 s g d) = f0 (ix4 2 s ⟨16 * 0 + g.val, by omega⟩ d) := by
  unfold sl.v1315 sl.dma0_4
  rw [show View.write (Elt Ideal) (Memref.whole cc0_scratch1).view s1 (ReadAs.same.apply (View.read (Elt Ideal) (Memref.whole main_arg0).view f0)) Finset.univ = f0 from View.write_whole_univ ..]
  show f0 _ = _
  congr 1
  funext t; apply Fin.ext
  fin_cases t <;> simp [Rect.emb, Rect.unit, ix4]
/-- The new keys that the codes of sequence 2, head 0 are made of. -/
theorem KN_20 (t : Fin 4) (d : Fin 256) : sl.v398 (F := Ideal) c f1 s2 (ix4 0 t 0 d) = f1 (ix4 2 t 0 d) := by
  unfold sl.v398 sl.S8_1
  refine (congrFun (View.readCov_fill (off := ![0, 0, 0, 0]) (Memref.whole cc0_scratch8).view _ _ [] _ (by decide)) _).trans ?_
  refine (newK_apply c f1 s2 _).trans ?_
  congr 1
  funext t; apply Fin.ext
  fin_cases t <;> simp [Rect.emb, Rect.unit, ix4]
/-- The new values that the codes of sequence 2, head 0 are made of. -/
theorem VN_20 (t : Fin 4) (d : Fin 256) : sl.v411 (F := Ideal) c f2 s3 (ix4 0 t 0 d) = f2 (ix4 2 t 0 d) := by
  unfold sl.v411 sl.S9_1
  refine (congrFun (View.readCov_fill (off := ![0, 0, 0, 0]) (Memref.whole cc0_scratch9).view _ _ [] _ (by decide)) _).trans ?_
  refine (newV_apply c f2 s3 _).trans ?_
  congr 1
  funext t; apply Fin.ext
  fin_cases t <;> simp [Rect.emb, Rect.unit, ix4]
/-- The key scales of sequence 2, head 0. -/
theorem KS_20 (d : Fin 256) : sl.v1351 (F := Ideal) c f4 s4 (ix3 0 0 d) = f4 (ix3 2 0 d) := by
  unfold sl.v1351 sl.dma0_3
  rw [show View.write (Elt Ideal) (Memref.whole cc0_scratch4).view s4 (ReadAs.same.apply (View.read (Elt Ideal) (Memref.whole main_arg4).view f4)) Finset.univ = f4 from View.write_whole_univ ..]
  show f4 _ = _
  congr 1
  funext t; apply Fin.ext
  fin_cases t <;> simp [Rect.emb, Rect.unit, ix3]

/-- The operands of sequence 2 and head 1. -/
theorem Q_21 (s : Fin 4) (g : Fin 16) (d : Fin 256) : sl.v1429 (F := Ideal) c f0 s1 (ix4 0 s g d) = f0 (ix4 2 s ⟨16 * 1 + g.val, by omega⟩ d) := by
  unfold sl.v1429 sl.dma0_4
  rw [show View.write (Elt Ideal) (Memref.whole cc0_scratch1).view s1 (ReadAs.same.apply (View.read (Elt Ideal) (Memref.whole main_arg0).view f0)) Finset.univ = f0 from View.write_whole_univ ..]
  show f0 _ = _
  congr 1
  funext t; apply Fin.ext
  fin_cases t <;> simp [Rect.emb, Rect.unit, ix4]
/-- The new keys that the codes of sequence 2, head 1 are made of. -/
theorem KN_21 (t : Fin 4) (d : Fin 256) : sl.v447 (F := Ideal) c f1 s2 (ix4 0 t 0 d) = f1 (ix4 2 t 1 d) := by
  unfold sl.v447 sl.S8_1
  refine (congrFun (View.readCov_fill (off := ![0, 0, 0, 0]) (Memref.whole cc0_scratch8).view _ _ [] _ (by decide)) _).trans ?_
  refine (newK_apply c f1 s2 _).trans ?_
  congr 1
  funext t; apply Fin.ext
  fin_cases t <;> simp [Rect.emb, Rect.unit, ix4]
/-- The new values that the codes of sequence 2, head 1 are made of. -/
theorem VN_21 (t : Fin 4) (d : Fin 256) : sl.v460 (F := Ideal) c f2 s3 (ix4 0 t 0 d) = f2 (ix4 2 t 1 d) := by
  unfold sl.v460 sl.S9_1
  refine (congrFun (View.readCov_fill (off := ![0, 0, 0, 0]) (Memref.whole cc0_scratch9).view _ _ [] _ (by decide)) _).trans ?_
  refine (newV_apply c f2 s3 _).trans ?_
  congr 1
  funext t; apply Fin.ext
  fin_cases t <;> simp [Rect.emb, Rect.unit, ix4]
/-- The key scales of sequence 2, head 1. -/
theorem KS_21 (d : Fin 256) : sl.v445 (F := Ideal) c f4 s4 (ix3 0 0 d) = f4 (ix3 2 1 d) := by
  unfold sl.v445 sl.dma0_3
  rw [show View.write (Elt Ideal) (Memref.whole cc0_scratch4).view s4 (ReadAs.same.apply (View.read (Elt Ideal) (Memref.whole main_arg4).view f4)) Finset.univ = f4 from View.write_whole_univ ..]
  show f4 _ = _
  congr 1
  funext t; apply Fin.ext
  fin_cases t <;> simp [Rect.emb, Rect.unit, ix3]

/-- The operands of sequence 3 and head 0. -/
theorem Q_30 (s : Fin 4) (g : Fin 16) (d : Fin 256) : sl.v1623 (F := Ideal) c f0 s1 (ix4 0 s g d) = f0 (ix4 3 s ⟨16 * 0 + g.val, by omega⟩ d) := by
  unfold sl.v1623 sl.dma0_4
  rw [show View.write (Elt Ideal) (Memref.whole cc0_scratch1).view s1 (ReadAs.same.apply (View.read (Elt Ideal) (Memref.whole main_arg0).view f0)) Finset.univ = f0 from View.write_whole_univ ..]
  show f0 _ = _
  congr 1
  funext t; apply Fin.ext
  fin_cases t <;> simp [Rect.emb, Rect.unit, ix4]
/-- The new keys that the codes of sequence 3, head 0 are made of. -/
theorem KN_30 (t : Fin 4) (d : Fin 256) : sl.v496 (F := Ideal) c f1 s2 (ix4 0 t 0 d) = f1 (ix4 3 t 0 d) := by
  unfold sl.v496 sl.S8_1
  refine (congrFun (View.readCov_fill (off := ![0, 0, 0, 0]) (Memref.whole cc0_scratch8).view _ _ [] _ (by decide)) _).trans ?_
  refine (newK_apply c f1 s2 _).trans ?_
  congr 1
  funext t; apply Fin.ext
  fin_cases t <;> simp [Rect.emb, Rect.unit, ix4]
/-- The new values that the codes of sequence 3, head 0 are made of. -/
theorem VN_30 (t : Fin 4) (d : Fin 256) : sl.v509 (F := Ideal) c f2 s3 (ix4 0 t 0 d) = f2 (ix4 3 t 0 d) := by
  unfold sl.v509 sl.S9_1
  refine (congrFun (View.readCov_fill (off := ![0, 0, 0, 0]) (Memref.whole cc0_scratch9).view _ _ [] _ (by decide)) _).trans ?_
  refine (newV_apply c f2 s3 _).trans ?_
  congr 1
  funext t; apply Fin.ext
  fin_cases t <;> simp [Rect.emb, Rect.unit, ix4]
/-- The key scales of sequence 3, head 0. -/
theorem KS_30 (d : Fin 256) : sl.v494 (F := Ideal) c f4 s4 (ix3 0 0 d) = f4 (ix3 3 0 d) := by
  unfold sl.v494 sl.dma0_3
  rw [show View.write (Elt Ideal) (Memref.whole cc0_scratch4).view s4 (ReadAs.same.apply (View.read (Elt Ideal) (Memref.whole main_arg4).view f4)) Finset.univ = f4 from View.write_whole_univ ..]
  show f4 _ = _
  congr 1
  funext t; apply Fin.ext
  fin_cases t <;> simp [Rect.emb, Rect.unit, ix3]

/-- The operands of sequence 3 and head 1. -/
theorem Q_31 (s : Fin 4) (g : Fin 16) (d : Fin 256) : sl.v1737 (F := Ideal) c f0 s1 (ix4 0 s g d) = f0 (ix4 3 s ⟨16 * 1 + g.val, by omega⟩ d) := by
  unfold sl.v1737 sl.dma0_4
  rw [show View.write (Elt Ideal) (Memref.whole cc0_scratch1).view s1 (ReadAs.same.apply (View.read (Elt Ideal) (Memref.whole main_arg0).view f0)) Finset.univ = f0 from View.write_whole_univ ..]
  show f0 _ = _
  congr 1
  funext t; apply Fin.ext
  fin_cases t <;> simp [Rect.emb, Rect.unit, ix4]
/-- The new keys that the codes of sequence 3, head 1 are made of. -/
theorem KN_31 (t : Fin 4) (d : Fin 256) : sl.v545 (F := Ideal) c f1 s2 (ix4 0 t 0 d) = f1 (ix4 3 t 1 d) := by
  unfold sl.v545 sl.S8_1
  refine (congrFun (View.readCov_fill (off := ![0, 0, 0, 0]) (Memref.whole cc0_scratch8).view _ _ [] _ (by decide)) _).trans ?_
  refine (newK_apply c f1 s2 _).trans ?_
  congr 1
  funext t; apply Fin.ext
  fin_cases t <;> simp [Rect.emb, Rect.unit, ix4]
/-- The new values that the codes of sequence 3, head 1 are made of. -/
theorem VN_31 (t : Fin 4) (d : Fin 256) : sl.v558 (F := Ideal) c f2 s3 (ix4 0 t 0 d) = f2 (ix4 3 t 1 d) := by
  unfold sl.v558 sl.S9_1
  refine (congrFun (View.readCov_fill (off := ![0, 0, 0, 0]) (Memref.whole cc0_scratch9).view _ _ [] _ (by decide)) _).trans ?_
  refine (newV_apply c f2 s3 _).trans ?_
  congr 1
  funext t; apply Fin.ext
  fin_cases t <;> simp [Rect.emb, Rect.unit, ix4]
/-- The key scales of sequence 3, head 1. -/
theorem KS_31 (d : Fin 256) : sl.v1773 (F := Ideal) c f4 s4 (ix3 0 0 d) = f4 (ix3 3 1 d) := by
  unfold sl.v1773 sl.dma0_3
  rw [show View.write (Elt Ideal) (Memref.whole cc0_scratch4).view s4 (ReadAs.same.apply (View.read (Elt Ideal) (Memref.whole main_arg4).view f4)) Finset.univ = f4 from View.write_whole_univ ..]
  show f4 _ = _
  congr 1
  funext t; apply Fin.ext
  fin_cases t <;> simp [Rect.emb, Rect.unit, ix3]

/-- The column mask of sequence 0, read at one entry. -/
theorem ok_0 (i : Fin 64) (l : Fin 128) : sl.v694 (F := Ideal) c f7 s0 (ix2 i l) = okBit (sl.v8 c f7 s0) i l.val := by
  unfold sl.v694 sl.v692 sl.v691 sl.v689 sl.v688 sl.v687 sl.v686 sl.v690 sl.v693 sl.v684 sl.v683 sl.v681 sl.v680 sl.v679 sl.v678 sl.v666 sl.v665 sl.v675 sl.v664 sl.v674
  have ho : sl.v20 (F := Ideal) c f7 s0 = woff (sl.v8 c f7 s0) := by with_unfolding_all rfl
  have hb : sl.v14 (F := Ideal) c f7 s0 = wbase (sl.v8 c f7 s0) := by with_unfolding_all rfl
  rw [ho, hb]
  generalize sl.v8 c f7 s0 = w
  have hr := step_apply i
  revert hr
  generalize sl.v624 = r
  intro hr
  pointwise
  rw [hr]
  rfl

/-- The column mask of sequence 1, read at one entry. -/
theorem ok_1 (i : Fin 64) (l : Fin 128) : sl.v1002 (F := Ideal) c f7 s0 (ix2 i l) = okBit (sl.v52 c f7 s0) i l.val := by
  unfold sl.v1002 sl.v1000 sl.v999 sl.v997 sl.v688 sl.v995 sl.v994 sl.v998 sl.v1001 sl.v992 sl.v991 sl.v989 sl.v988 sl.v679 sl.v678 sl.v974 sl.v973 sl.v983 sl.v664 sl.v982
  have ho : sl.v64 (F := Ideal) c f7 s0 = woff (sl.v52 c f7 s0) := by with_unfolding_all rfl
  have hb : sl.v58 (F := Ideal) c f7 s0 = wbase (sl.v52 c f7 s0) := by with_unfolding_all rfl
  rw [ho, hb]
  generalize sl.v52 c f7 s0 = w
  have hr := step_apply i
  revert hr
  generalize sl.v624 = r
  intro hr
  pointwise
  rw [hr]
  rfl

/-- The column mask of sequence 2, read at one entry. -/
theorem ok_2 (i : Fin 64) (l : Fin 128) : sl.v1310 (F := Ideal) c f7 s0 (ix2 i l) = okBit (sl.v96 c f7 s0) i l.val := by
  unfold sl.v1310 sl.v1308 sl.v1307 sl.v1305 sl.v688 sl.v1303 sl.v1302 sl.v1306 sl.v1309 sl.v1300 sl.v1299 sl.v1297 sl.v1296 sl.v679 sl.v678 sl.v1282 sl.v1281 sl.v1291 sl.v664 sl.v1290
  have ho : sl.v108 (F := Ideal) c f7 s0 = woff (sl.v96 c f7 s0) := by with_unfolding_all rfl
  have hb : sl.v102 (F := Ideal) c f7 s0 = wbase (sl.v96 c f7 s0) := by with_unfolding_all rfl
  rw [ho, hb]
  generalize sl.v96 c f7 s0 = w
  have hr := step_apply i
  revert hr
  generalize sl.v624 = r
  intro hr
  pointwise
  rw [hr]
  rfl

/-- The column mask of sequence 3, read at one entry. -/
theorem ok_3 (i : Fin 64) (l : Fin 128) : sl.v1618 (F := Ideal) c f7 s0 (ix2 i l) = okBit (sl.v140 c f7 s0) i l.val := by
  unfold sl.v1618 sl.v1616 sl.v1615 sl.v1613 sl.v688 sl.v1611 sl.v1610 sl.v1614 sl.v1617 sl.v1608 sl.v1607 sl.v1605 sl.v1604 sl.v679 sl.v678 sl.v1590 sl.v1589 sl.v1599 sl.v664 sl.v1598
  have ho : sl.v152 (F := Ideal) c f7 s0 = woff (sl.v140 c f7 s0) := by with_unfolding_all rfl
  have hb : sl.v146 (F := Ideal) c f7 s0 = wbase (sl.v140 c f7 s0) := by with_unfolding_all rfl
  rw [ho, hb]
  generalize sl.v140 c f7 s0 = w
  have hr := step_apply i
  revert hr
  generalize sl.v624 = r
  intro hr
  pointwise
  rw [hr]
  rfl

end Cert.KernelIdeal.Hand
-- ==== Proof.Scales.lean ====
/-
  The value scales the run uses for each sequence's window: those of the window's cache rows.
-/
module

public import proofs.«01_k».proof.Proof.Units
public import proofs.«01_k».proof.Proof.Windows
public import proofs.«01_k».proof.Proof.Masks
public import Idealize.ShloMosaic.Lib.Pipeline.ReadBack

@[expose] public section

set_option maxRecDepth 16384

noncomputable section

namespace Cert.KernelIdeal.Hand

open Cert.KernelIdeal Cert.KernelIdeal.Gen Cert.Words Cert.Reads
open Idealize.ShloMosaic Idealize.ShloMosaic.TcCoe Idealize.SL.Sem
open kernelRun

variable (c : Dev nD)
variable (f7 : Bf (F := Ideal) c main_arg7) (f0 : Bf (F := Ideal) c main_arg0) (f1 : Bf (F := Ideal) c main_arg1) (f2 : Bf (F := Ideal) c main_arg2)
  (f4 : Bf (F := Ideal) c main_arg4) (g2 : Bf (F := Ideal) c main_v2)
  (s0 : Bf (F := Ideal) c cc0_scratch0) (s1 : Bf (F := Ideal) c cc0_scratch1) (s2 : Bf (F := Ideal) c cc0_scratch2) (s3 : Bf (F := Ideal) c cc0_scratch3)
  (s4 : Bf (F := Ideal) c cc0_scratch4) (s7 : Bf (F := Ideal) c cc0_scratch7)

/-- The fetched scales of sequence 0, read at one entry. -/
theorem raw_0 (k : Fin 2) (j : Fin 1152) : (sl.v651 c f7 g2 s0 s7) (ix2 k j) = g2 (ix3 0 k ⟨(wsbase (sl.v8 c f7 s0)).toNat + j.val, by have := wsbase_le (sl.v8 c f7 s0); omega⟩) := by
  have hd : (sl.dma1 c f7 g2 s0) (ix2 k j) = g2 (ix3 0 k ⟨(wsbase (sl.v8 c f7 s0)).toNat + j.val, by have := wsbase_le (sl.v8 c f7 s0); omega⟩) := by
    unfold sl.dma1
    exact read_slab3 (Val := Elt Ideal) (Memref.whole main_v2) _ 0 (wsbase (sl.v8 c f7 s0)).toNat rfl (by decide) _ _ _ g2 k j _
  rw [← hd]
  unfold sl.v651 sl.v650
  refine (squeeze3 _ _ k j).trans ?_
  exact slabs_read (F := Ideal) (Memref.whole cc0_scratch7) _ _ _ _ s7 (sl.dma1 c f7 g2 s0) (sl.dma2 c f7 g2 s0) (sl.dma3 c f7 g2 s0) (sl.dma4 c f7 g2 s0) k j 0 (by decide) _

/-- The rotation of the scales of sequence 0. -/
theorem amount_0 : sl.v662 (F := Ideal) c f7 s0 = rotWord (sl.v8 c f7 s0) := by
  refine Eq.trans ?_ (rot_fix _)
  unfold sl.v662 sl.v661 sl.v660 sl.v656 sl.v659 sl.v657 sl.v655 sl.v652
  have hs : sl.v21 (F := Ideal) c f7 s0 = wshift (sl.v8 c f7 s0) := by with_unfolding_all rfl
  rw [hs]
  rfl

/-- The value scales of sequence 0's window. -/
theorem tok_0 (k : Fin 2) (l : Fin 1024) : (sl.v673 c f7 g2 s0 s7) (ix2 k l) = g2 (ix3 0 k (rowOf (sl.v8 c f7 s0) l)) := by
  have hr : ∀ (j : Fin 1152), j.val = (slotOf (sl.v8 c f7 s0) l).val → (sl.v663 c f7 g2 s0 s7) (ix2 k j) = g2 (ix3 0 k (rowOf (sl.v8 c f7 s0) l)) := fun j hj => by
    unfold sl.v663
    rw [amount_0]
    refine (rotate_slot _ (sl.v8 c f7 s0) _ (rotWord_toNat _) _ k j l hj).trans ((raw_0 c f7 g2 s0 s7 k _).trans ?_)
    exact congrArg (fun r => g2 (ix3 0 k r)) (Fin.ext (tok_index _ l))
  revert hr
  unfold sl.v673 sl.v672 sl.v671 sl.v668 sl.v667 sl.v670 sl.v669 sl.v666 sl.v665 sl.v664
  have ho : sl.v20 (F := Ideal) c f7 s0 = woff (sl.v8 c f7 s0) := by with_unfolding_all rfl
  rw [ho]
  generalize sl.v663 c f7 g2 s0 s7 = x
  generalize sl.v8 c f7 s0 = w
  intro hr
  pointwise
  exact tok_pick x w k l _ hr

/-- The fetched scales of sequence 1, read at one entry. -/
theorem raw_1 (k : Fin 2) (j : Fin 1152) : (sl.v959 c f7 g2 s0 s7) (ix2 k j) = g2 (ix3 1 k ⟨(wsbase (sl.v52 c f7 s0)).toNat + j.val, by have := wsbase_le (sl.v52 c f7 s0); omega⟩) := by
  have hd : (sl.dma2 c f7 g2 s0) (ix2 k j) = g2 (ix3 1 k ⟨(wsbase (sl.v52 c f7 s0)).toNat + j.val, by have := wsbase_le (sl.v52 c f7 s0); omega⟩) := by
    unfold sl.dma2
    exact read_slab3 (Val := Elt Ideal) (Memref.whole main_v2) _ 1 (wsbase (sl.v52 c f7 s0)).toNat rfl (by decide) _ _ _ g2 k j _
  rw [← hd]
  unfold sl.v959 sl.v958
  refine (squeeze3 _ _ k j).trans ?_
  exact slabs_read (F := Ideal) (Memref.whole cc0_scratch7) _ _ _ _ s7 (sl.dma1 c f7 g2 s0) (sl.dma2 c f7 g2 s0) (sl.dma3 c f7 g2 s0) (sl.dma4 c f7 g2 s0) k j 1 (by decide) _

/-- The rotation of the scales of sequence 1. -/
theorem amount_1 : sl.v970 (F := Ideal) c f7 s0 = rotWord (sl.v52 c f7 s0) := by
  refine Eq.trans ?_ (rot_fix _)
  unfold sl.v970 sl.v969 sl.v968 sl.v964 sl.v967 sl.v965 sl.v963 sl.v960
  have hs : sl.v65 (F := Ideal) c f7 s0 = wshift (sl.v52 c f7 s0) := by with_unfolding_all rfl
  rw [hs]
  rfl

/-- The value scales of sequence 1's window. -/
theorem tok_1 (k : Fin 2) (l : Fin 1024) : (sl.v981 c f7 g2 s0 s7) (ix2 k l) = g2 (ix3 1 k (rowOf (sl.v52 c f7 s0) l)) := by
  have hr : ∀ (j : Fin 1152), j.val = (slotOf (sl.v52 c f7 s0) l).val → (sl.v971 c f7 g2 s0 s7) (ix2 k j) = g2 (ix3 1 k (rowOf (sl.v52 c f7 s0) l)) := fun j hj => by
    unfold sl.v971
    rw [amount_1]
    refine (rotate_slot _ (sl.v52 c f7 s0) _ (rotWord_toNat _) _ k j l hj).trans ((raw_1 c f7 g2 s0 s7 k _).trans ?_)
    exact congrArg (fun r => g2 (ix3 1 k r)) (Fin.ext (tok_index _ l))
  revert hr
  unfold sl.v981 sl.v980 sl.v979 sl.v976 sl.v975 sl.v978 sl.v977 sl.v974 sl.v973 sl.v664
  have ho : sl.v64 (F := Ideal) c f7 s0 = woff (sl.v52 c f7 s0) := by with_unfolding_all rfl
  rw [ho]
  generalize sl.v971 c f7 g2 s0 s7 = x
  generalize sl.v52 c f7 s0 = w
  intro hr
  pointwise
  exact tok_pick x w k l _ hr

/-- The fetched scales of sequence 2, read at one entry. -/
theorem raw_2 (k : Fin 2) (j : Fin 1152) : (sl.v1267 c f7 g2 s0 s7) (ix2 k j) = g2 (ix3 2 k ⟨(wsbase (sl.v96 c f7 s0)).toNat + j.val, by have := wsbase_le (sl.v96 c f7 s0); omega⟩) := by
  have hd : (sl.dma3 c f7 g2 s0) (ix2 k j) = g2 (ix3 2 k ⟨(wsbase (sl.v96 c f7 s0)).toNat + j.val, by have := wsbase_le (sl.v96 c f7 s0); omega⟩) := by
    unfold sl.dma3
    exact read_slab3 (Val := Elt Ideal) (Memref.whole main_v2) _ 2 (wsbase (sl.v96 c f7 s0)).toNat rfl (by decide) _ _ _ g2 k j _
  rw [← hd]
  unfold sl.v1267 sl.v1266
  refine (squeeze3 _ _ k j).trans ?_
  exact slabs_read (F := Ideal) (Memref.whole cc0_scratch7) _ _ _ _ s7 (sl.dma1 c f7 g2 s0) (sl.dma2 c f7 g2 s0) (sl.dma3 c f7 g2 s0) (sl.dma4 c f7 g2 s0) k j 2 (by decide) _

/-- The rotation of the scales of sequence 2. -/
theorem amount_2 : sl.v1278 (F := Ideal) c f7 s0 = rotWord (sl.v96 c f7 s0) := by
  refine Eq.trans ?_ (rot_fix _)
  unfold sl.v1278 sl.v1277 sl.v1276 sl.v1272 sl.v1275 sl.v1273 sl.v1271 sl.v1268
  have hs : sl.v109 (F := Ideal) c f7 s0 = wshift (sl.v96 c f7 s0) := by with_unfolding_all rfl
  rw [hs]
  rfl

/-- The value scales of sequence 2's window. -/
theorem tok_2 (k : Fin 2) (l : Fin 1024) : (sl.v1289 c f7 g2 s0 s7) (ix2 k l) = g2 (ix3 2 k (rowOf (sl.v96 c f7 s0) l)) := by
  have hr : ∀ (j : Fin 1152), j.val = (slotOf (sl.v96 c f7 s0) l).val → (sl.v1279 c f7 g2 s0 s7) (ix2 k j) = g2 (ix3 2 k (rowOf (sl.v96 c f7 s0) l)) := fun j hj => by
    unfold sl.v1279
    rw [amount_2]
    refine (rotate_slot _ (sl.v96 c f7 s0) _ (rotWord_toNat _) _ k j l hj).trans ((raw_2 c f7 g2 s0 s7 k _).trans ?_)
    exact congrArg (fun r => g2 (ix3 2 k r)) (Fin.ext (tok_index _ l))
  revert hr
  unfold sl.v1289 sl.v1288 sl.v1287 sl.v1284 sl.v1283 sl.v1286 sl.v1285 sl.v1282 sl.v1281 sl.v664
  have ho : sl.v108 (F := Ideal) c f7 s0 = woff (sl.v96 c f7 s0) := by with_unfolding_all rfl
  rw [ho]
  generalize sl.v1279 c f7 g2 s0 s7 = x
  generalize sl.v96 c f7 s0 = w
  intro hr
  pointwise
  exact tok_pick x w k l _ hr

/-- The fetched scales of sequence 3, read at one entry. -/
theorem raw_3 (k : Fin 2) (j : Fin 1152) : (sl.v1575 c f7 g2 s0 s7) (ix2 k j) = g2 (ix3 3 k ⟨(wsbase (sl.v140 c f7 s0)).toNat + j.val, by have := wsbase_le (sl.v140 c f7 s0); omega⟩) := by
  have hd : (sl.dma4 c f7 g2 s0) (ix2 k j) = g2 (ix3 3 k ⟨(wsbase (sl.v140 c f7 s0)).toNat + j.val, by have := wsbase_le (sl.v140 c f7 s0); omega⟩) := by
    unfold sl.dma4
    exact read_slab3 (Val := Elt Ideal) (Memref.whole main_v2) _ 3 (wsbase (sl.v140 c f7 s0)).toNat rfl (by decide) _ _ _ g2 k j _
  rw [← hd]
  unfold sl.v1575 sl.v1574
  refine (squeeze3 _ _ k j).trans ?_
  exact slabs_read (F := Ideal) (Memref.whole cc0_scratch7) _ _ _ _ s7 (sl.dma1 c f7 g2 s0) (sl.dma2 c f7 g2 s0) (sl.dma3 c f7 g2 s0) (sl.dma4 c f7 g2 s0) k j 3 (by decide) _

/-- The rotation of the scales of sequence 3. -/
theorem amount_3 : sl.v1586 (F := Ideal) c f7 s0 = rotWord (sl.v140 c f7 s0) := by
  refine Eq.trans ?_ (rot_fix _)
  unfold sl.v1586 sl.v1585 sl.v1584 sl.v1580 sl.v1583 sl.v1581 sl.v1579 sl.v1576
  have hs : sl.v153 (F := Ideal) c f7 s0 = wshift (sl.v140 c f7 s0) := by with_unfolding_all rfl
  rw [hs]
  rfl

/-- The value scales of sequence 3's window. -/
theorem tok_3 (k : Fin 2) (l : Fin 1024) : (sl.v1597 c f7 g2 s0 s7) (ix2 k l) = g2 (ix3 3 k (rowOf (sl.v140 c f7 s0) l)) := by
  have hr : ∀ (j : Fin 1152), j.val = (slotOf (sl.v140 c f7 s0) l).val → (sl.v1587 c f7 g2 s0 s7) (ix2 k j) = g2 (ix3 3 k (rowOf (sl.v140 c f7 s0) l)) := fun j hj => by
    unfold sl.v1587
    rw [amount_3]
    refine (rotate_slot _ (sl.v140 c f7 s0) _ (rotWord_toNat _) _ k j l hj).trans ((raw_3 c f7 g2 s0 s7 k _).trans ?_)
    exact congrArg (fun r => g2 (ix3 3 k r)) (Fin.ext (tok_index _ l))
  revert hr
  unfold sl.v1597 sl.v1596 sl.v1595 sl.v1592 sl.v1591 sl.v1594 sl.v1593 sl.v1590 sl.v1589 sl.v664
  have ho : sl.v152 (F := Ideal) c f7 s0 = woff (sl.v140 c f7 s0) := by with_unfolding_all rfl
  rw [ho]
  generalize sl.v1587 c f7 g2 s0 s7 = x
  generalize sl.v140 c f7 s0 = w
  intro hr
  pointwise
  exact tok_pick x w k l _ hr

end Cert.KernelIdeal.Hand
-- ==== Proof.Quants.lean ====
/-
  The codes and scales the run stores for each of the eight (sequence, head) pairs: functions of the new keys and values the run
  reads.
-/
module

public import proofs.«01_k».proof.Proof.Units

@[expose] public section

set_option maxRecDepth 16384

noncomputable section

namespace Cert.KernelIdeal.Hand

open Cert.KernelIdeal Cert.KernelIdeal.Gen
open Idealize.ShloMosaic Idealize.ShloMosaic.TcCoe Idealize.SL.Sem
open kernelRun

variable (c : Dev nD)
variable (f7 : Bf (F := Ideal) c main_arg7) (f0 : Bf (F := Ideal) c main_arg0) (f1 : Bf (F := Ideal) c main_arg1) (f2 : Bf (F := Ideal) c main_arg2)
  (f4 : Bf (F := Ideal) c main_arg4) (g0 : Bf (F := Ideal) c main_v0) (g1 : Bf (F := Ideal) c main_v1) (g2 : Bf (F := Ideal) c main_v2)
  (s0 : Bf (F := Ideal) c cc0_scratch0) (s1 : Bf (F := Ideal) c cc0_scratch1) (s2 : Bf (F := Ideal) c cc0_scratch2) (s3 : Bf (F := Ideal) c cc0_scratch3)
  (s4 : Bf (F := Ideal) c cc0_scratch4) (s5 : Bf (F := Ideal) c cc0_scratch5) (s6 : Bf (F := Ideal) c cc0_scratch6) (s7 : Bf (F := Ideal) c cc0_scratch7)

/-- The key codes stored for sequence 0 and head 0. -/
theorem q11_00 : sl.v214 (F := Ideal) c f1 f4 s2 s4 = k0_pay4 (k0_pay3 (sl.v200 c f4 s4) (sl.v202 c f1 s2)) := by
  unfold sl.v214 sl.v211 sl.v210 sl.v208 sl.v206 sl.v205 sl.v204 sl.v201 sl.v203 sl.v207 sl.cst sl.v209 sl.cst_224
  rfl

/-- The value codes stored for sequence 0 and head 0. -/
theorem q12_00 : sl.v236 (F := Ideal) c f2 s3 = k0_pay7 (sl.v215 c f2 s3) := by
  unfold sl.v236 sl.v233 sl.v232 sl.v230 sl.v228 sl.v227 sl.v226 sl.v225 sl.v223 sl.v222 sl.v224 sl.cst_236 sl.v221 sl.v220 sl.cst_234 sl.v219 sl.v218 sl.v217 sl.v216 sl.v207 sl.cst sl.v209 sl.cst_224
  rfl

/-- The value scales stored for sequence 0 and head 0. -/
theorem q13_00 : sl.v248 (F := Ideal) c f2 s3 = k0_pay9 (k0_pay8 (sl.v215 c f2 s3)) := by
  unfold sl.v248 sl.v245 sl.v244 sl.v243 sl.v242 sl.v241 sl.v240 sl.v225 sl.v223 sl.v222 sl.cst_224 sl.v224 sl.cst_236 sl.v221 sl.v220 sl.cst_234 sl.v219 sl.v218 sl.v217 sl.v216 sl.v238 sl.v237
  rfl

/-- The key codes stored for sequence 0 and head 1. -/
theorem q11_01 : sl.v263 (F := Ideal) c f1 f4 s2 s4 = k0_pay4 (k0_pay3 (sl.v249 c f4 s4) (sl.v251 c f1 s2)) := by
  unfold sl.v263 sl.v260 sl.v259 sl.v257 sl.v255 sl.v254 sl.v253 sl.v250 sl.v252 sl.v207 sl.cst sl.v209 sl.cst_224
  generalize sl.v249 c f4 s4 = r_v249
  generalize sl.v251 c f1 s2 = r_v251
  unfold k0_pay4 k0_pay3
  rfl

/-- The value codes stored for sequence 0 and head 1. -/
theorem q12_01 : sl.v285 (F := Ideal) c f2 s3 = k0_pay7 (sl.v264 c f2 s3) := by
  unfold sl.v285 sl.v282 sl.v281 sl.v279 sl.v277 sl.v276 sl.v275 sl.v274 sl.v272 sl.v222 sl.v224 sl.cst_236 sl.v270 sl.v220 sl.cst_234 sl.v268 sl.v267 sl.v266 sl.v265 sl.v207 sl.cst sl.v209 sl.cst_224
  generalize sl.v264 c f2 s3 = r_v264
  unfold k0_pay7 k0_pay6 k0_pay5
  rfl

/-- The value scales stored for sequence 0 and head 1. -/
theorem q13_01 : sl.v297 (F := Ideal) c f2 s3 = k0_pay9 (k0_pay8 (sl.v264 c f2 s3)) := by
  unfold sl.v297 sl.v294 sl.v293 sl.v292 sl.v242 sl.v290 sl.v289 sl.v274 sl.v272 sl.v222 sl.cst_224 sl.v224 sl.cst_236 sl.v270 sl.v220 sl.cst_234 sl.v268 sl.v267 sl.v266 sl.v265 sl.v238 sl.v237
  generalize sl.v264 c f2 s3 = r_v264
  unfold k0_pay9 k0_pay8 k0_pay6 k0_pay5
  rfl

/-- The key codes stored for sequence 1 and head 0. -/
theorem q11_10 : sl.v312 (F := Ideal) c f1 f4 s2 s4 = k0_pay4 (k0_pay3 (sl.v298 c f4 s4) (sl.v300 c f1 s2)) := by
  unfold sl.v312 sl.v309 sl.v308 sl.v306 sl.v304 sl.v303 sl.v302 sl.v299 sl.v301 sl.v207 sl.cst sl.v209 sl.cst_224
  generalize sl.v298 c f4 s4 = r_v298
  generalize sl.v300 c f1 s2 = r_v300
  unfold k0_pay4 k0_pay3
  rfl

/-- The value codes stored for sequence 1 and head 0. -/
theorem q12_10 : sl.v334 (F := Ideal) c f2 s3 = k0_pay7 (sl.v313 c f2 s3) := by
  unfold sl.v334 sl.v331 sl.v330 sl.v328 sl.v326 sl.v325 sl.v324 sl.v323 sl.v321 sl.v222 sl.v224 sl.cst_236 sl.v319 sl.v220 sl.cst_234 sl.v317 sl.v316 sl.v315 sl.v314 sl.v207 sl.cst sl.v209 sl.cst_224
  generalize sl.v313 c f2 s3 = r_v313
  unfold k0_pay7 k0_pay6 k0_pay5
  rfl

/-- The value scales stored for sequence 1 and head 0. -/
theorem q13_10 : sl.v346 (F := Ideal) c f2 s3 = k0_pay9 (k0_pay8 (sl.v313 c f2 s3)) := by
  unfold sl.v346 sl.v343 sl.v342 sl.v341 sl.v242 sl.v339 sl.v338 sl.v323 sl.v321 sl.v222 sl.cst_224 sl.v224 sl.cst_236 sl.v319 sl.v220 sl.cst_234 sl.v317 sl.v316 sl.v315 sl.v314 sl.v238 sl.v237
  generalize sl.v313 c f2 s3 = r_v313
  unfold k0_pay9 k0_pay8 k0_pay6 k0_pay5
  rfl

/-- The key scale read for the codes is the one read for the attention. -/
theorem ks_10 : sl.v298 (F := Ideal) c f4 s4 = (sl.v1043 c f4 s4) := rfl

/-- The key codes stored for sequence 1 and head 1. -/
theorem q11_11 : sl.v361 (F := Ideal) c f1 f4 s2 s4 = k0_pay4 (k0_pay3 (sl.v347 c f4 s4) (sl.v349 c f1 s2)) := by
  unfold sl.v361 sl.v358 sl.v357 sl.v355 sl.v353 sl.v352 sl.v351 sl.v348 sl.v350 sl.v207 sl.cst sl.v209 sl.cst_224
  generalize sl.v347 c f4 s4 = r_v347
  generalize sl.v349 c f1 s2 = r_v349
  unfold k0_pay4 k0_pay3
  rfl

/-- The value codes stored for sequence 1 and head 1. -/
theorem q12_11 : sl.v383 (F := Ideal) c f2 s3 = k0_pay7 (sl.v362 c f2 s3) := by
  unfold sl.v383 sl.v380 sl.v379 sl.v377 sl.v375 sl.v374 sl.v373 sl.v372 sl.v370 sl.v222 sl.v224 sl.cst_236 sl.v368 sl.v220 sl.cst_234 sl.v366 sl.v365 sl.v364 sl.v363 sl.v207 sl.cst sl.v209 sl.cst_224
  generalize sl.v362 c f2 s3 = r_v362
  unfold k0_pay7 k0_pay6 k0_pay5
  rfl

/-- The value scales stored for sequence 1 and head 1. -/
theorem q13_11 : sl.v395 (F := Ideal) c f2 s3 = k0_pay9 (k0_pay8 (sl.v362 c f2 s3)) := by
  unfold sl.v395 sl.v392 sl.v391 sl.v390 sl.v242 sl.v388 sl.v387 sl.v372 sl.v370 sl.v222 sl.cst_224 sl.v224 sl.cst_236 sl.v368 sl.v220 sl.cst_234 sl.v366 sl.v365 sl.v364 sl.v363 sl.v238 sl.v237
  generalize sl.v362 c f2 s3 = r_v362
  unfold k0_pay9 k0_pay8 k0_pay6 k0_pay5
  rfl

/-- The key codes stored for sequence 2 and head 0. -/
theorem q11_20 : sl.v410 (F := Ideal) c f1 f4 s2 s4 = k0_pay4 (k0_pay3 (sl.v396 c f4 s4) (sl.v398 c f1 s2)) := by
  unfold sl.v410 sl.v407 sl.v406 sl.v404 sl.v402 sl.v401 sl.v400 sl.v397 sl.v399 sl.v207 sl.cst sl.v209 sl.cst_224
  generalize sl.v396 c f4 s4 = r_v396
  generalize sl.v398 c f1 s2 = r_v398
  unfold k0_pay4 k0_pay3
  rfl

/-- The value codes stored for sequence 2 and head 0. -/
theorem q12_20 : sl.v432 (F := Ideal) c f2 s3 = k0_pay7 (sl.v411 c f2 s3) := by
  unfold sl.v432 sl.v429 sl.v428 sl.v426 sl.v424 sl.v423 sl.v422 sl.v421 sl.v419 sl.v222 sl.v224 sl.cst_236 sl.v417 sl.v220 sl.cst_234 sl.v415 sl.v414 sl.v413 sl.v412 sl.v207 sl.cst sl.v209 sl.cst_224
  generalize sl.v411 c f2 s3 = r_v411
  unfold k0_pay7 k0_pay6 k0_pay5
  rfl

/-- The value scales stored for sequence 2 and head 0. -/
theorem q13_20 : sl.v444 (F := Ideal) c f2 s3 = k0_pay9 (k0_pay8 (sl.v411 c f2 s3)) := by
  unfold sl.v444 sl.v441 sl.v440 sl.v439 sl.v242 sl.v437 sl.v436 sl.v421 sl.v419 sl.v222 sl.cst_224 sl.v224 sl.cst_236 sl.v417 sl.v220 sl.cst_234 sl.v415 sl.v414 sl.v413 sl.v412 sl.v238 sl.v237
  generalize sl.v411 c f2 s3 = r_v411
  unfold k0_pay9 k0_pay8 k0_pay6 k0_pay5
  rfl

/-- The key scale read for the codes is the one read for the attention. -/
theorem ks_20 : sl.v396 (F := Ideal) c f4 s4 = (sl.v1351 c f4 s4) := rfl

/-- The key codes stored for sequence 2 and head 1. -/
theorem q11_21 : sl.v459 (F := Ideal) c f1 f4 s2 s4 = k0_pay4 (k0_pay3 (sl.v445 c f4 s4) (sl.v447 c f1 s2)) := by
  unfold sl.v459 sl.v456 sl.v455 sl.v453 sl.v451 sl.v450 sl.v449 sl.v446 sl.v448 sl.v207 sl.cst sl.v209 sl.cst_224
  generalize sl.v445 c f4 s4 = r_v445
  generalize sl.v447 c f1 s2 = r_v447
  unfold k0_pay4 k0_pay3
  rfl

/-- The value codes stored for sequence 2 and head 1. -/
theorem q12_21 : sl.v481 (F := Ideal) c f2 s3 = k0_pay7 (sl.v460 c f2 s3) := by
  unfold sl.v481 sl.v478 sl.v477 sl.v475 sl.v473 sl.v472 sl.v471 sl.v470 sl.v468 sl.v222 sl.v224 sl.cst_236 sl.v466 sl.v220 sl.cst_234 sl.v464 sl.v463 sl.v462 sl.v461 sl.v207 sl.cst sl.v209 sl.cst_224
  generalize sl.v460 c f2 s3 = r_v460
  unfold k0_pay7 k0_pay6 k0_pay5
  rfl

/-- The value scales stored for sequence 2 and head 1. -/
theorem q13_21 : sl.v493 (F := Ideal) c f2 s3 = k0_pay9 (k0_pay8 (sl.v460 c f2 s3)) := by
  unfold sl.v493 sl.v490 sl.v489 sl.v488 sl.v242 sl.v486 sl.v485 sl.v470 sl.v468 sl.v222 sl.cst_224 sl.v224 sl.cst_236 sl.v466 sl.v220 sl.cst_234 sl.v464 sl.v463 sl.v462 sl.v461 sl.v238 sl.v237
  generalize sl.v460 c f2 s3 = r_v460
  unfold k0_pay9 k0_pay8 k0_pay6 k0_pay5
  rfl

/-- The key codes stored for sequence 3 and head 0. -/
theorem q11_30 : sl.v508 (F := Ideal) c f1 f4 s2 s4 = k0_pay4 (k0_pay3 (sl.v494 c f4 s4) (sl.v496 c f1 s2)) := by
  unfold sl.v508 sl.v505 sl.v504 sl.v502 sl.v500 sl.v499 sl.v498 sl.v495 sl.v497 sl.v207 sl.cst sl.v209 sl.cst_224
  generalize sl.v494 c f4 s4 = r_v494
  generalize sl.v496 c f1 s2 = r_v496
  unfold k0_pay4 k0_pay3
  rfl

/-- The value codes stored for sequence 3 and head 0. -/
theorem q12_30 : sl.v530 (F := Ideal) c f2 s3 = k0_pay7 (sl.v509 c f2 s3) := by
  unfold sl.v530 sl.v527 sl.v526 sl.v524 sl.v522 sl.v521 sl.v520 sl.v519 sl.v517 sl.v222 sl.v224 sl.cst_236 sl.v515 sl.v220 sl.cst_234 sl.v513 sl.v512 sl.v511 sl.v510 sl.v207 sl.cst sl.v209 sl.cst_224
  generalize sl.v509 c f2 s3 = r_v509
  unfold k0_pay7 k0_pay6 k0_pay5
  rfl

/-- The value scales stored for sequence 3 and head 0. -/
theorem q13_30 : sl.v542 (F := Ideal) c f2 s3 = k0_pay9 (k0_pay8 (sl.v509 c f2 s3)) := by
  unfold sl.v542 sl.v539 sl.v538 sl.v537 sl.v242 sl.v535 sl.v534 sl.v519 sl.v517 sl.v222 sl.cst_224 sl.v224 sl.cst_236 sl.v515 sl.v220 sl.cst_234 sl.v513 sl.v512 sl.v511 sl.v510 sl.v238 sl.v237
  generalize sl.v509 c f2 s3 = r_v509
  unfold k0_pay9 k0_pay8 k0_pay6 k0_pay5
  rfl

/-- The key codes stored for sequence 3 and head 1. -/
theorem q11_31 : sl.v557 (F := Ideal) c f1 f4 s2 s4 = k0_pay4 (k0_pay3 (sl.v543 c f4 s4) (sl.v545 c f1 s2)) := by
  unfold sl.v557 sl.v554 sl.v553 sl.v551 sl.v549 sl.v548 sl.v547 sl.v544 sl.v546 sl.v207 sl.cst sl.v209 sl.cst_224
  generalize sl.v543 c f4 s4 = r_v543
  generalize sl.v545 c f1 s2 = r_v545
  unfold k0_pay4 k0_pay3
  rfl

/-- The value codes stored for sequence 3 and head 1. -/
theorem q12_31 : sl.v579 (F := Ideal) c f2 s3 = k0_pay7 (sl.v558 c f2 s3) := by
  unfold sl.v579 sl.v576 sl.v575 sl.v573 sl.v571 sl.v570 sl.v569 sl.v568 sl.v566 sl.v222 sl.v224 sl.cst_236 sl.v564 sl.v220 sl.cst_234 sl.v562 sl.v561 sl.v560 sl.v559 sl.v207 sl.cst sl.v209 sl.cst_224
  generalize sl.v558 c f2 s3 = r_v558
  unfold k0_pay7 k0_pay6 k0_pay5
  rfl

/-- The value scales stored for sequence 3 and head 1. -/
theorem q13_31 : sl.v591 (F := Ideal) c f2 s3 = k0_pay9 (k0_pay8 (sl.v558 c f2 s3)) := by
  unfold sl.v591 sl.v588 sl.v587 sl.v586 sl.v242 sl.v584 sl.v583 sl.v568 sl.v566 sl.v222 sl.cst_224 sl.v224 sl.cst_236 sl.v564 sl.v220 sl.cst_234 sl.v562 sl.v561 sl.v560 sl.v559 sl.v238 sl.v237
  generalize sl.v558 c f2 s3 = r_v558
  unfold k0_pay9 k0_pay8 k0_pay6 k0_pay5
  rfl

/-- The key scale read for the codes is the one read for the attention. -/
theorem ks_31 : sl.v543 (F := Ideal) c f4 s4 = (sl.v1773 c f4 s4) := rfl

end Cert.KernelIdeal.Hand
-- ==== Proof.Quant.lean ====
/-
  The quantiser of one value, as mathematics on the extended reals: the code of a value divided by its scale, the scale of a row, and
  the theorem that reading the code off as a 32-bit or as an 8-bit integer is the same.
-/
module

public import Idealize.ShloMosaic.PureOps.Ideal
public import Idealize.ShloMosaic.Lib.Pointwise
public import Mathlib.Data.EReal.Operations

@[expose] public section

noncomputable section

namespace Cert.Quant

open Idealize.ShloMosaic Classical

/-- A value rounded to an integer and clipped to [-127, 127]. -/
def clipped (y : EReal) : EReal :=
  min (Ideal.ofBits .f32 1123942400#32) (max (Ideal.ofBits .f32 3271426048#32) (Ideal.liftRound Ideal.roundHalfEven y))

/-- The eight-bit code of a scaled value. -/
def code (y : EReal) : BitVec 8 := Ideal.fptosi 8 (clipped y)

/-- The scale of a row with largest magnitude `a`. -/
def scaleOf (a : EReal) : EReal := if a = 0 then 1 else Ideal.div a (Ideal.ofBits .f32 1123942400#32)

/-- The pattern of 127. -/
theorem top_bits : Ideal.ofBits .f32 1123942400#32 = ((127 : ℝ) : EReal) := by
  have h : ((16646144 : ℝ) : EReal) * (((2 ^ 17)⁻¹ : ℝ) : EReal) = ((127 : ℝ) : EReal) := by rw [← EReal.coe_mul]; norm_num
  simpa [Ideal.ofBits, Ideal.ieee] using h

/-- The pattern of -127. -/
theorem bot_bits : Ideal.ofBits .f32 3271426048#32 = ((-127 : ℝ) : EReal) := by
  have h : ((16646144 : ℝ) : EReal) * (((2 ^ 17)⁻¹ : ℝ) : EReal) = ((127 : ℝ) : EReal) := by rw [← EReal.coe_mul]; norm_num
  simpa [Ideal.ofBits, Ideal.ieee] using h

/-- A clipped value is a real between -127 and 127. -/
theorem clipped_real (y : EReal) : ∃ r : ℝ, clipped y = r ∧ -127 ≤ r ∧ r ≤ 127 := by
  unfold clipped
  rw [top_bits, bot_bits]
  generalize Ideal.liftRound Ideal.roundHalfEven y = z
  induction z with
  | bot => exact ⟨-127, by rw [max_eq_left bot_le, min_eq_right (by exact_mod_cast (by norm_num : (-127 : ℝ) ≤ 127))], by norm_num, by norm_num⟩
  | top => exact ⟨127, by rw [max_eq_right le_top, min_eq_left le_top], by norm_num, by norm_num⟩
  | coe x =>
      refine ⟨min 127 (max (-127) x), ?_, ?_, min_le_left _ _⟩
      · have hm : Monotone (fun x : ℝ => (x : EReal)) := fun a b h => EReal.coe_le_coe_iff.mpr h
        exact ((hm.map_min (a := 127) (b := max (-127) x)).trans (congrArg _ (hm.map_max (a := -127) (b := x)))).symm
      · exact le_min (by norm_num) (le_max_left _ _)

/-- The code read off through a 32-bit integer. -/
theorem code_eq (y : EReal) : (Ideal.fptosi 32 (clipped y)).setWidth 8 = code y := by
  obtain ⟨r, hr, h1, h2⟩ := clipped_real y
  unfold code
  rw [hr]
  obtain ⟨n, hn1, hn2, hn⟩ : ∃ n : Int, -127 ≤ n ∧ n ≤ 127 ∧ (if 0 ≤ r then ⌊r⌋ else ⌈r⌉) = n := by
    refine ⟨_, ?_, ?_, rfl⟩ <;> split
    · exact Int.le_floor.mpr (by push_cast; linarith)
    · exact Int.le_ceil_iff.mpr (by push_cast; linarith)
    · exact Int.floor_le_iff.mpr (by push_cast; linarith)
    · exact Int.ceil_le.mpr (by push_cast; linarith)
  have h32 : Ideal.fptosi 32 (r : EReal) = BitVec.ofInt 32 n := by
    show BitVec.ofInt 32 (max _ (min _ (if 0 ≤ r then ⌊r⌋ else ⌈r⌉))) = _
    rw [hn, min_eq_right (by norm_num; omega), max_eq_right (by norm_num; omega)]
  have h8 : Ideal.fptosi 8 (r : EReal) = BitVec.ofInt 8 n := by
    show BitVec.ofInt 8 (max _ (min _ (if 0 ≤ r then ⌊r⌋ else ⌈r⌉))) = _
    rw [hn, min_eq_right (by norm_num; omega), max_eq_right (by norm_num; omega)]
  rw [h32, h8]
  apply BitVec.eq_of_toNat_eq
  rw [BitVec.toNat_setWidth, BitVec.toNat_ofInt, BitVec.toNat_ofInt]
  omega

end Cert.Quant
-- ==== Proof.Blocks.lean ====
/-
  What the run stores for each (sequence, head) unit, as closed functions of the arguments: the attention's block, the codes and the
  scales.
-/
module

public import proofs.«01_k».proof.Proof.Operands
public import proofs.«01_k».proof.Proof.Scales
public import proofs.«01_k».proof.Proof.Quants
public import proofs.«01_k».proof.Proof.Quant

@[expose] public section

set_option maxRecDepth 16384

noncomputable section

namespace Cert.KernelIdeal.Hand

open Cert.KernelIdeal Cert.KernelIdeal.Gen
open Idealize.ShloMosaic Idealize.ShloMosaic.TcCoe Idealize.SL.Sem Classical
open kernelRun

/-- A row of a unit may attend to a slot: only the first hundred and twenty-eight slots are ever masked. -/
def okOf (w : BitVec 32) (i : Fin 64) (l : Fin 1024) : Prop := l.val < 128 → okBit w i l.val = 1#1

/-- One unit's output from its queries, new keys and values, key scale, cached codes and value scales. -/
def unitOut (w : BitVec 32) (q : Fin 4 → Fin 16 → Fin 256 → EReal) (kn vn : Fin 4 → Fin 256 → EReal) (ks : Fin 256 → EReal)
    (K V : Fin 1024 → Fin 256 → BitVec 8) (t : Fin 1024 → EReal) (i : Fin 64) (d : Fin 256) : EReal :=
  Attn.outK (fun i e => q ⟨i.val / 16, by omega⟩ ⟨i.val % 16, by omega⟩ e) (fun l e => FloatOps.sitofp (F := Ideal) .bf16 (K l e) * ks e)
    (fun l e => FloatOps.sitofp (F := Ideal) .bf16 (V l e)) kn vn t (okOf w) i d

/-- A row of a block with a leading axis of size one. -/
theorem block_apply (X : FVec Ideal S4x16x256 .bf16) (h) (s : Fin 4) (g : Fin 16) (d : Fin 256) :
    shapeCast S1x4x16x256 X h (ix4 0 s g d) = X (ix3 s g d) := by
  pointwise

/-- What a unit stores, read at one entry, is the attention of its operands. -/
theorem unit_value (k : Fin 2) (T : FVec Ideal S2x1024 .f32) (OK : IVec S64x128 1) (Q : FVec Ideal S1x4x16x256 .bf16)
    (KN VN : FVec Ideal S1x4x1x256 .f32) (KS : FVec Ideal S1x1x256 .f32) (kd vd : Vec Ideal S1x1x1024x256 .i8) (h)
    (w : BitVec 32) (q : Fin 4 → Fin 16 → Fin 256 → EReal) (kn vn : Fin 4 → Fin 256 → EReal) (ks : Fin 256 → EReal)
    (K V : Fin 1024 → Fin 256 → BitVec 8) (t : Fin 1024 → EReal)
    (hT : ∀ l, T (ix2 k l) = t l) (hOK : ∀ i l, OK (ix2 i l) = okBit w i l.val) (hQ : ∀ s g d, Q (ix4 0 s g d) = q s g d)
    (hKN : ∀ t d, KN (ix4 0 t 0 d) = kn t d) (hVN : ∀ t d, VN (ix4 0 t 0 d) = vn t d) (hKS : ∀ d, KS (ix3 0 0 d) = ks d)
    (hK : ∀ l d, kd (ix4 0 0 l d) = K l d) (hV : ∀ l d, vd (ix4 0 0 l d) = V l d) (s : Fin 4) (g : Fin 16) (d : Fin 256) :
    shapeCast S1x4x16x256 (core (tOf k T) OK sl.v698 (qOf Q) (nOf KN) (nOf VN) (sOf KS) kd vd) h (ix4 0 s g d)
      = unitOut w q kn vn ks K V t ⟨s.val * 16 + g.val, by omega⟩ d := by
  refine (block_apply _ _ s g d).trans ?_
  refine (core_apply _ _ _ _ _ _ _ _ _ (okOf w) ?_ ?_ newOk_apply s g d).trans ?_
  · intro i l hl
    rw [hOK]
    exact ⟨fun h _ => h, fun h => h hl⟩
  · intro i l hl h'
    exact absurd h' (by omega)
  · unfold unitOut
    have e1 : qF (qOf Q) = fun i e => q ⟨i.val / 16, by omega⟩ ⟨i.val % 16, by omega⟩ e := by
      funext i e; exact (qOf_apply Q i e).trans (hQ _ _ _)
    have e2 : kF (sOf KS) kd = fun l e => FloatOps.sitofp (F := Ideal) .bf16 (K l e) * ks e := by
      funext l e
      show FloatOps.sitofp (F := Ideal) .bf16 (kd (ix4 0 0 l e)) * sOf KS (ix2 0 e) = _
      rw [hK, sOf_apply, hKS]
    have e3 : vF vd = fun l e => FloatOps.sitofp (F := Ideal) .bf16 (V l e) := by
      funext l e; exact congrArg _ (hV l e)
    have e4 : nF (nOf KN) = kn := by funext t d; exact (nOf_apply KN t d).trans (hKN t d)
    have e5 : nF (nOf VN) = vn := by funext t d; exact (nOf_apply VN t d).trans (hVN t d)
    have e6 : (fun l : Fin 1024 => tOf k T (ix2 0 l)) = t := by funext l; exact hT l
    rw [e1, e2, e3, e4, e5, e6]

/-- The largest magnitude of a row. -/
def amaxOf (x : Fin 256 → EReal) : EReal :=
  Finset.fold max (Ideal.ofBits .f32 4286578688#32) (fun e => FloatOps.absf (F := Ideal) (φ := .f32) (x e)) Finset.univ

/-- The stored code of a new key is the rounded, clipped quotient by its channel's scale. -/
theorem kcode_value (N : Vec Ideal S1x4x1x256 .f32) (S : Vec Ideal S1x1x256 .f32) (t : Fin 4) (d : Fin 256) :
    k0_pay4 (k0_pay3 S N) (ix4 0 0 t d) = Quant.code (Ideal.div (N (ix4 0 t 0 d)) (S (ix3 0 0 d))) := by
  pointwise [k0_pay4, k0_pay3]
  rfl

/-- The stored code of a new value is the rounded, clipped quotient by its token's scale. -/
theorem vcode_value (N : Vec Ideal S1x4x1x256 .f32) (t : Fin 4) (d : Fin 256) :
    k0_pay7 N (ix4 0 0 t d) = Quant.code (Ideal.div (N (ix4 0 t 0 d)) (Quant.scaleOf (amaxOf fun e => N (ix4 0 t 0 e)))) := by
  pointwise [k0_pay7, k0_pay6, k0_pay5]
  rfl

/-- Summing a row's scales against the unit matrix picks the scale out. -/
theorem pick (f : Fin 4 → EReal) (t : Fin 4) :
    (∑ x : Fin 4, Scalar.select (IntOp.cmpi .eq (BitVec.ofNat 32 x.val) (BitVec.ofNat 32 t.val)) (f x) (0 : EReal)) = f t := by
  rw [Finset.sum_eq_single t]
  · rw [Scalar.select, if_pos]; revert t; decide
  · intro x _ hx
    rw [Scalar.select, if_neg]; revert x t; decide
  · intro h; exact absurd (Finset.mem_univ t) h

/-- The stored scale of a new value is its greatest magnitude over 127, or one if that is zero. -/
theorem vscale_value (N : Vec Ideal S1x4x1x256 .f32) (t : Fin 4) :
    k0_pay9 (k0_pay8 N) (ix3 0 0 t) = Quant.scaleOf (amaxOf fun e => N (ix4 0 t 0 e)) := by
  refine Eq.trans ?_ (pick (fun t => Quant.scaleOf (amaxOf fun e => N (ix4 0 t 0 e))) t)
  pointwise [k0_pay8, k0_pay9, k0_pay6, k0_pay5]
  rfl

variable (c : Dev nD)
variable (f7 : Bf (F := Ideal) c main_arg7) (f0 : Bf (F := Ideal) c main_arg0) (f1 : Bf (F := Ideal) c main_arg1) (f2 : Bf (F := Ideal) c main_arg2)
  (f4 : Bf (F := Ideal) c main_arg4) (g0 : Bf (F := Ideal) c main_v0) (g1 : Bf (F := Ideal) c main_v1) (g2 : Bf (F := Ideal) c main_v2)
  (s0 : Bf (F := Ideal) c cc0_scratch0) (s1 : Bf (F := Ideal) c cc0_scratch1) (s2 : Bf (F := Ideal) c cc0_scratch2) (s3 : Bf (F := Ideal) c cc0_scratch3)
  (s4 : Bf (F := Ideal) c cc0_scratch4) (s5 : Bf (F := Ideal) c cc0_scratch5) (s6 : Bf (F := Ideal) c cc0_scratch6) (s7 : Bf (F := Ideal) c cc0_scratch7)

/-- The block of sequence 0 and head 0. -/
theorem block_00 (s : Fin 4) (g : Fin 16) (d : Fin 256) : sl.v812 (F := Ideal) c f7 f0 f1 f2 f4 g0 g1 g2 s0 s1 s2 s3 s4 s5 s6 s7 (ix4 0 s g d)
    = unitOut (f7 (ix1 0)) (fun s g e => f0 (ix4 0 s ⟨16 * 0 + g.val, by omega⟩ e)) (fun t e => f1 (ix4 0 t 0 e)) (fun t e => f2 (ix4 0 t 0 e)) (fun e => f4 (ix3 0 0 e)) (fun l e => g0 (ix4 0 0 (rowOf (f7 (ix1 0)) l) e)) (fun l e => g1 (ix4 0 0 (rowOf (f7 (ix1 0)) l) e)) (fun l => g2 (ix3 0 0 (rowOf (f7 (ix1 0)) l))) ⟨s.val * 16 + g.val, by omega⟩ d := by
  rw [unit_00]
  refine unit_value 0 _ _ _ _ _ _ _ _ _ (f7 (ix1 0)) (fun s g e => f0 (ix4 0 s ⟨16 * 0 + g.val, by omega⟩ e)) (fun t e => f1 (ix4 0 t 0 e)) (fun t e => f2 (ix4 0 t 0 e)) (fun e => f4 (ix3 0 0 e)) (fun l e => g0 (ix4 0 0 (rowOf (f7 (ix1 0)) l) e)) (fun l e => g1 (ix4 0 0 (rowOf (f7 (ix1 0)) l) e)) (fun l => g2 (ix3 0 0 (rowOf (f7 (ix1 0)) l))) ?_ ?_ ?_ ?_ ?_ ?_ ?_ ?_ s g d
  · intro l; rw [tok_0, word_0]
  · intro i l; rw [ok_0, word_0]
  · intro s g d; exact Q_00 c f0 s1 s g d
  · intro t d; exact KN_00 c f1 s2 t d
  · intro t d; exact VN_00 c f2 s3 t d
  · intro d; exact KS_00 c f4 s4 d
  · intro l d; rw [winK_00, word_0]; rfl
  · intro l d; rw [winV_00, word_0]; rfl

/-- The key codes of sequence 0 and head 0. -/
theorem kcode_00 (t : Fin 4) (d : Fin 256) : sl.v214 (F := Ideal) c f1 f4 s2 s4 (ix4 0 0 t d) = Quant.code (Ideal.div (f1 (ix4 0 t 0 d)) (f4 (ix3 0 0 d))) := by
  rw [q11_00, kcode_value, KN_00, KS_00]

/-- The value codes of sequence 0 and head 0. -/
theorem vcode_00 (t : Fin 4) (d : Fin 256) : sl.v236 (F := Ideal) c f2 s3 (ix4 0 0 t d)
    = Quant.code (Ideal.div (f2 (ix4 0 t 0 d)) (Quant.scaleOf (amaxOf fun e => f2 (ix4 0 t 0 e)))) := by
  rw [q12_00, vcode_value, VN_00]
  simp only [VN_00]

/-- The value scales of sequence 0 and head 0. -/
theorem vscale_00 (t : Fin 4) : sl.v248 (F := Ideal) c f2 s3 (ix3 0 0 t) = Quant.scaleOf (amaxOf fun e => f2 (ix4 0 t 0 e)) := by
  rw [q13_00, vscale_value]
  simp only [VN_00]

/-- The block of sequence 0 and head 1. -/
theorem block_01 (s : Fin 4) (g : Fin 16) (d : Fin 256) : sl.v926 (F := Ideal) c f7 f0 f1 f2 f4 g0 g1 g2 s0 s1 s2 s3 s4 s5 s6 s7 (ix4 0 s g d)
    = unitOut (f7 (ix1 0)) (fun s g e => f0 (ix4 0 s ⟨16 * 1 + g.val, by omega⟩ e)) (fun t e => f1 (ix4 0 t 1 e)) (fun t e => f2 (ix4 0 t 1 e)) (fun e => f4 (ix3 0 1 e)) (fun l e => g0 (ix4 0 1 (rowOf (f7 (ix1 0)) l) e)) (fun l e => g1 (ix4 0 1 (rowOf (f7 (ix1 0)) l) e)) (fun l => g2 (ix3 0 1 (rowOf (f7 (ix1 0)) l))) ⟨s.val * 16 + g.val, by omega⟩ d := by
  rw [unit_01]
  refine unit_value 1 _ _ _ _ _ _ _ _ _ (f7 (ix1 0)) (fun s g e => f0 (ix4 0 s ⟨16 * 1 + g.val, by omega⟩ e)) (fun t e => f1 (ix4 0 t 1 e)) (fun t e => f2 (ix4 0 t 1 e)) (fun e => f4 (ix3 0 1 e)) (fun l e => g0 (ix4 0 1 (rowOf (f7 (ix1 0)) l) e)) (fun l e => g1 (ix4 0 1 (rowOf (f7 (ix1 0)) l) e)) (fun l => g2 (ix3 0 1 (rowOf (f7 (ix1 0)) l))) ?_ ?_ ?_ ?_ ?_ ?_ ?_ ?_ s g d
  · intro l; rw [tok_0, word_0]
  · intro i l; rw [ok_0, word_0]
  · intro s g d; exact Q_01 c f0 s1 s g d
  · intro t d; exact KN_01 c f1 s2 t d
  · intro t d; exact VN_01 c f2 s3 t d
  · intro d; exact KS_01 c f4 s4 d
  · intro l d; rw [winK_01, word_0]; rfl
  · intro l d; rw [winV_01, word_0]; rfl

/-- The key codes of sequence 0 and head 1. -/
theorem kcode_01 (t : Fin 4) (d : Fin 256) : sl.v263 (F := Ideal) c f1 f4 s2 s4 (ix4 0 0 t d) = Quant.code (Ideal.div (f1 (ix4 0 t 1 d)) (f4 (ix3 0 1 d))) := by
  rw [q11_01, kcode_value, KN_01, KS_01]

/-- The value codes of sequence 0 and head 1. -/
theorem vcode_01 (t : Fin 4) (d : Fin 256) : sl.v285 (F := Ideal) c f2 s3 (ix4 0 0 t d)
    = Quant.code (Ideal.div (f2 (ix4 0 t 1 d)) (Quant.scaleOf (amaxOf fun e => f2 (ix4 0 t 1 e)))) := by
  rw [q12_01, vcode_value, VN_01]
  simp only [VN_01]

/-- The value scales of sequence 0 and head 1. -/
theorem vscale_01 (t : Fin 4) : sl.v297 (F := Ideal) c f2 s3 (ix3 0 0 t) = Quant.scaleOf (amaxOf fun e => f2 (ix4 0 t 1 e)) := by
  rw [q13_01, vscale_value]
  simp only [VN_01]

/-- The block of sequence 1 and head 0. -/
theorem block_10 (s : Fin 4) (g : Fin 16) (d : Fin 256) : sl.v1120 (F := Ideal) c f7 f0 f1 f2 f4 g0 g1 g2 s0 s1 s2 s3 s4 s5 s6 s7 (ix4 0 s g d)
    = unitOut (f7 (ix1 1)) (fun s g e => f0 (ix4 1 s ⟨16 * 0 + g.val, by omega⟩ e)) (fun t e => f1 (ix4 1 t 0 e)) (fun t e => f2 (ix4 1 t 0 e)) (fun e => f4 (ix3 1 0 e)) (fun l e => g0 (ix4 1 0 (rowOf (f7 (ix1 1)) l) e)) (fun l e => g1 (ix4 1 0 (rowOf (f7 (ix1 1)) l) e)) (fun l => g2 (ix3 1 0 (rowOf (f7 (ix1 1)) l))) ⟨s.val * 16 + g.val, by omega⟩ d := by
  rw [unit_10]
  refine unit_value 0 _ _ _ _ _ _ _ _ _ (f7 (ix1 1)) (fun s g e => f0 (ix4 1 s ⟨16 * 0 + g.val, by omega⟩ e)) (fun t e => f1 (ix4 1 t 0 e)) (fun t e => f2 (ix4 1 t 0 e)) (fun e => f4 (ix3 1 0 e)) (fun l e => g0 (ix4 1 0 (rowOf (f7 (ix1 1)) l) e)) (fun l e => g1 (ix4 1 0 (rowOf (f7 (ix1 1)) l) e)) (fun l => g2 (ix3 1 0 (rowOf (f7 (ix1 1)) l))) ?_ ?_ ?_ ?_ ?_ ?_ ?_ ?_ s g d
  · intro l; rw [tok_1, word_1]
  · intro i l; rw [ok_1, word_1]
  · intro s g d; exact Q_10 c f0 s1 s g d
  · intro t d; exact KN_10 c f1 s2 t d
  · intro t d; exact VN_10 c f2 s3 t d
  · intro d; exact KS_10 c f4 s4 d
  · intro l d; rw [winK_10, word_1]; rfl
  · intro l d; rw [winV_10, word_1]; rfl

/-- The key codes of sequence 1 and head 0. -/
theorem kcode_10 (t : Fin 4) (d : Fin 256) : sl.v312 (F := Ideal) c f1 f4 s2 s4 (ix4 0 0 t d) = Quant.code (Ideal.div (f1 (ix4 1 t 0 d)) (f4 (ix3 1 0 d))) := by
  rw [q11_10, kcode_value, KN_10, ks_10, KS_10]

/-- The value codes of sequence 1 and head 0. -/
theorem vcode_10 (t : Fin 4) (d : Fin 256) : sl.v334 (F := Ideal) c f2 s3 (ix4 0 0 t d)
    = Quant.code (Ideal.div (f2 (ix4 1 t 0 d)) (Quant.scaleOf (amaxOf fun e => f2 (ix4 1 t 0 e)))) := by
  rw [q12_10, vcode_value, VN_10]
  simp only [VN_10]

/-- The value scales of sequence 1 and head 0. -/
theorem vscale_10 (t : Fin 4) : sl.v346 (F := Ideal) c f2 s3 (ix3 0 0 t) = Quant.scaleOf (amaxOf fun e => f2 (ix4 1 t 0 e)) := by
  rw [q13_10, vscale_value]
  simp only [VN_10]

/-- The block of sequence 1 and head 1. -/
theorem block_11 (s : Fin 4) (g : Fin 16) (d : Fin 256) : sl.v1234 (F := Ideal) c f7 f0 f1 f2 f4 g0 g1 g2 s0 s1 s2 s3 s4 s5 s6 s7 (ix4 0 s g d)
    = unitOut (f7 (ix1 1)) (fun s g e => f0 (ix4 1 s ⟨16 * 1 + g.val, by omega⟩ e)) (fun t e => f1 (ix4 1 t 1 e)) (fun t e => f2 (ix4 1 t 1 e)) (fun e => f4 (ix3 1 1 e)) (fun l e => g0 (ix4 1 1 (rowOf (f7 (ix1 1)) l) e)) (fun l e => g1 (ix4 1 1 (rowOf (f7 (ix1 1)) l) e)) (fun l => g2 (ix3 1 1 (rowOf (f7 (ix1 1)) l))) ⟨s.val * 16 + g.val, by omega⟩ d := by
  rw [unit_11]
  refine unit_value 1 _ _ _ _ _ _ _ _ _ (f7 (ix1 1)) (fun s g e => f0 (ix4 1 s ⟨16 * 1 + g.val, by omega⟩ e)) (fun t e => f1 (ix4 1 t 1 e)) (fun t e => f2 (ix4 1 t 1 e)) (fun e => f4 (ix3 1 1 e)) (fun l e => g0 (ix4 1 1 (rowOf (f7 (ix1 1)) l) e)) (fun l e => g1 (ix4 1 1 (rowOf (f7 (ix1 1)) l) e)) (fun l => g2 (ix3 1 1 (rowOf (f7 (ix1 1)) l))) ?_ ?_ ?_ ?_ ?_ ?_ ?_ ?_ s g d
  · intro l; rw [tok_1, word_1]
  · intro i l; rw [ok_1, word_1]
  · intro s g d; exact Q_11 c f0 s1 s g d
  · intro t d; exact KN_11 c f1 s2 t d
  · intro t d; exact VN_11 c f2 s3 t d
  · intro d; exact KS_11 c f4 s4 d
  · intro l d; rw [winK_11, word_1]; rfl
  · intro l d; rw [winV_11, word_1]; rfl

/-- The key codes of sequence 1 and head 1. -/
theorem kcode_11 (t : Fin 4) (d : Fin 256) : sl.v361 (F := Ideal) c f1 f4 s2 s4 (ix4 0 0 t d) = Quant.code (Ideal.div (f1 (ix4 1 t 1 d)) (f4 (ix3 1 1 d))) := by
  rw [q11_11, kcode_value, KN_11, KS_11]

/-- The value codes of sequence 1 and head 1. -/
theorem vcode_11 (t : Fin 4) (d : Fin 256) : sl.v383 (F := Ideal) c f2 s3 (ix4 0 0 t d)
    = Quant.code (Ideal.div (f2 (ix4 1 t 1 d)) (Quant.scaleOf (amaxOf fun e => f2 (ix4 1 t 1 e)))) := by
  rw [q12_11, vcode_value, VN_11]
  simp only [VN_11]

/-- The value scales of sequence 1 and head 1. -/
theorem vscale_11 (t : Fin 4) : sl.v395 (F := Ideal) c f2 s3 (ix3 0 0 t) = Quant.scaleOf (amaxOf fun e => f2 (ix4 1 t 1 e)) := by
  rw [q13_11, vscale_value]
  simp only [VN_11]

/-- The block of sequence 2 and head 0. -/
theorem block_20 (s : Fin 4) (g : Fin 16) (d : Fin 256) : sl.v1428 (F := Ideal) c f7 f0 f1 f2 f4 g0 g1 g2 s0 s1 s2 s3 s4 s5 s6 s7 (ix4 0 s g d)
    = unitOut (f7 (ix1 2)) (fun s g e => f0 (ix4 2 s ⟨16 * 0 + g.val, by omega⟩ e)) (fun t e => f1 (ix4 2 t 0 e)) (fun t e => f2 (ix4 2 t 0 e)) (fun e => f4 (ix3 2 0 e)) (fun l e => g0 (ix4 2 0 (rowOf (f7 (ix1 2)) l) e)) (fun l e => g1 (ix4 2 0 (rowOf (f7 (ix1 2)) l) e)) (fun l => g2 (ix3 2 0 (rowOf (f7 (ix1 2)) l))) ⟨s.val * 16 + g.val, by omega⟩ d := by
  rw [unit_20]
  refine unit_value 0 _ _ _ _ _ _ _ _ _ (f7 (ix1 2)) (fun s g e => f0 (ix4 2 s ⟨16 * 0 + g.val, by omega⟩ e)) (fun t e => f1 (ix4 2 t 0 e)) (fun t e => f2 (ix4 2 t 0 e)) (fun e => f4 (ix3 2 0 e)) (fun l e => g0 (ix4 2 0 (rowOf (f7 (ix1 2)) l) e)) (fun l e => g1 (ix4 2 0 (rowOf (f7 (ix1 2)) l) e)) (fun l => g2 (ix3 2 0 (rowOf (f7 (ix1 2)) l))) ?_ ?_ ?_ ?_ ?_ ?_ ?_ ?_ s g d
  · intro l; rw [tok_2, word_2]
  · intro i l; rw [ok_2, word_2]
  · intro s g d; exact Q_20 c f0 s1 s g d
  · intro t d; exact KN_20 c f1 s2 t d
  · intro t d; exact VN_20 c f2 s3 t d
  · intro d; exact KS_20 c f4 s4 d
  · intro l d; rw [winK_20, word_2]; rfl
  · intro l d; rw [winV_20, word_2]; rfl

/-- The key codes of sequence 2 and head 0. -/
theorem kcode_20 (t : Fin 4) (d : Fin 256) : sl.v410 (F := Ideal) c f1 f4 s2 s4 (ix4 0 0 t d) = Quant.code (Ideal.div (f1 (ix4 2 t 0 d)) (f4 (ix3 2 0 d))) := by
  rw [q11_20, kcode_value, KN_20, ks_20, KS_20]

/-- The value codes of sequence 2 and head 0. -/
theorem vcode_20 (t : Fin 4) (d : Fin 256) : sl.v432 (F := Ideal) c f2 s3 (ix4 0 0 t d)
    = Quant.code (Ideal.div (f2 (ix4 2 t 0 d)) (Quant.scaleOf (amaxOf fun e => f2 (ix4 2 t 0 e)))) := by
  rw [q12_20, vcode_value, VN_20]
  simp only [VN_20]

/-- The value scales of sequence 2 and head 0. -/
theorem vscale_20 (t : Fin 4) : sl.v444 (F := Ideal) c f2 s3 (ix3 0 0 t) = Quant.scaleOf (amaxOf fun e => f2 (ix4 2 t 0 e)) := by
  rw [q13_20, vscale_value]
  simp only [VN_20]

/-- The block of sequence 2 and head 1. -/
theorem block_21 (s : Fin 4) (g : Fin 16) (d : Fin 256) : sl.v1542 (F := Ideal) c f7 f0 f1 f2 f4 g0 g1 g2 s0 s1 s2 s3 s4 s5 s6 s7 (ix4 0 s g d)
    = unitOut (f7 (ix1 2)) (fun s g e => f0 (ix4 2 s ⟨16 * 1 + g.val, by omega⟩ e)) (fun t e => f1 (ix4 2 t 1 e)) (fun t e => f2 (ix4 2 t 1 e)) (fun e => f4 (ix3 2 1 e)) (fun l e => g0 (ix4 2 1 (rowOf (f7 (ix1 2)) l) e)) (fun l e => g1 (ix4 2 1 (rowOf (f7 (ix1 2)) l) e)) (fun l => g2 (ix3 2 1 (rowOf (f7 (ix1 2)) l))) ⟨s.val * 16 + g.val, by omega⟩ d := by
  rw [unit_21]
  refine unit_value 1 _ _ _ _ _ _ _ _ _ (f7 (ix1 2)) (fun s g e => f0 (ix4 2 s ⟨16 * 1 + g.val, by omega⟩ e)) (fun t e => f1 (ix4 2 t 1 e)) (fun t e => f2 (ix4 2 t 1 e)) (fun e => f4 (ix3 2 1 e)) (fun l e => g0 (ix4 2 1 (rowOf (f7 (ix1 2)) l) e)) (fun l e => g1 (ix4 2 1 (rowOf (f7 (ix1 2)) l) e)) (fun l => g2 (ix3 2 1 (rowOf (f7 (ix1 2)) l))) ?_ ?_ ?_ ?_ ?_ ?_ ?_ ?_ s g d
  · intro l; rw [tok_2, word_2]
  · intro i l; rw [ok_2, word_2]
  · intro s g d; exact Q_21 c f0 s1 s g d
  · intro t d; exact KN_21 c f1 s2 t d
  · intro t d; exact VN_21 c f2 s3 t d
  · intro d; exact KS_21 c f4 s4 d
  · intro l d; rw [winK_21, word_2]; rfl
  · intro l d; rw [winV_21, word_2]; rfl

/-- The key codes of sequence 2 and head 1. -/
theorem kcode_21 (t : Fin 4) (d : Fin 256) : sl.v459 (F := Ideal) c f1 f4 s2 s4 (ix4 0 0 t d) = Quant.code (Ideal.div (f1 (ix4 2 t 1 d)) (f4 (ix3 2 1 d))) := by
  rw [q11_21, kcode_value, KN_21, KS_21]

/-- The value codes of sequence 2 and head 1. -/
theorem vcode_21 (t : Fin 4) (d : Fin 256) : sl.v481 (F := Ideal) c f2 s3 (ix4 0 0 t d)
    = Quant.code (Ideal.div (f2 (ix4 2 t 1 d)) (Quant.scaleOf (amaxOf fun e => f2 (ix4 2 t 1 e)))) := by
  rw [q12_21, vcode_value, VN_21]
  simp only [VN_21]

/-- The value scales of sequence 2 and head 1. -/
theorem vscale_21 (t : Fin 4) : sl.v493 (F := Ideal) c f2 s3 (ix3 0 0 t) = Quant.scaleOf (amaxOf fun e => f2 (ix4 2 t 1 e)) := by
  rw [q13_21, vscale_value]
  simp only [VN_21]

/-- The block of sequence 3 and head 0. -/
theorem block_30 (s : Fin 4) (g : Fin 16) (d : Fin 256) : sl.v1736 (F := Ideal) c f7 f0 f1 f2 f4 g0 g1 g2 s0 s1 s2 s3 s4 s5 s6 s7 (ix4 0 s g d)
    = unitOut (f7 (ix1 3)) (fun s g e => f0 (ix4 3 s ⟨16 * 0 + g.val, by omega⟩ e)) (fun t e => f1 (ix4 3 t 0 e)) (fun t e => f2 (ix4 3 t 0 e)) (fun e => f4 (ix3 3 0 e)) (fun l e => g0 (ix4 3 0 (rowOf (f7 (ix1 3)) l) e)) (fun l e => g1 (ix4 3 0 (rowOf (f7 (ix1 3)) l) e)) (fun l => g2 (ix3 3 0 (rowOf (f7 (ix1 3)) l))) ⟨s.val * 16 + g.val, by omega⟩ d := by
  rw [unit_30]
  refine unit_value 0 _ _ _ _ _ _ _ _ _ (f7 (ix1 3)) (fun s g e => f0 (ix4 3 s ⟨16 * 0 + g.val, by omega⟩ e)) (fun t e => f1 (ix4 3 t 0 e)) (fun t e => f2 (ix4 3 t 0 e)) (fun e => f4 (ix3 3 0 e)) (fun l e => g0 (ix4 3 0 (rowOf (f7 (ix1 3)) l) e)) (fun l e => g1 (ix4 3 0 (rowOf (f7 (ix1 3)) l) e)) (fun l => g2 (ix3 3 0 (rowOf (f7 (ix1 3)) l))) ?_ ?_ ?_ ?_ ?_ ?_ ?_ ?_ s g d
  · intro l; rw [tok_3, word_3]
  · intro i l; rw [ok_3, word_3]
  · intro s g d; exact Q_30 c f0 s1 s g d
  · intro t d; exact KN_30 c f1 s2 t d
  · intro t d; exact VN_30 c f2 s3 t d
  · intro d; exact KS_30 c f4 s4 d
  · intro l d; rw [winK_30, word_3]; rfl
  · intro l d; rw [winV_30, word_3]; rfl

/-- The key codes of sequence 3 and head 0. -/
theorem kcode_30 (t : Fin 4) (d : Fin 256) : sl.v508 (F := Ideal) c f1 f4 s2 s4 (ix4 0 0 t d) = Quant.code (Ideal.div (f1 (ix4 3 t 0 d)) (f4 (ix3 3 0 d))) := by
  rw [q11_30, kcode_value, KN_30, KS_30]

/-- The value codes of sequence 3 and head 0. -/
theorem vcode_30 (t : Fin 4) (d : Fin 256) : sl.v530 (F := Ideal) c f2 s3 (ix4 0 0 t d)
    = Quant.code (Ideal.div (f2 (ix4 3 t 0 d)) (Quant.scaleOf (amaxOf fun e => f2 (ix4 3 t 0 e)))) := by
  rw [q12_30, vcode_value, VN_30]
  simp only [VN_30]

/-- The value scales of sequence 3 and head 0. -/
theorem vscale_30 (t : Fin 4) : sl.v542 (F := Ideal) c f2 s3 (ix3 0 0 t) = Quant.scaleOf (amaxOf fun e => f2 (ix4 3 t 0 e)) := by
  rw [q13_30, vscale_value]
  simp only [VN_30]

/-- The block of sequence 3 and head 1. -/
theorem block_31 (s : Fin 4) (g : Fin 16) (d : Fin 256) : sl.v1850 (F := Ideal) c f7 f0 f1 f2 f4 g0 g1 g2 s0 s1 s2 s3 s4 s5 s6 s7 (ix4 0 s g d)
    = unitOut (f7 (ix1 3)) (fun s g e => f0 (ix4 3 s ⟨16 * 1 + g.val, by omega⟩ e)) (fun t e => f1 (ix4 3 t 1 e)) (fun t e => f2 (ix4 3 t 1 e)) (fun e => f4 (ix3 3 1 e)) (fun l e => g0 (ix4 3 1 (rowOf (f7 (ix1 3)) l) e)) (fun l e => g1 (ix4 3 1 (rowOf (f7 (ix1 3)) l) e)) (fun l => g2 (ix3 3 1 (rowOf (f7 (ix1 3)) l))) ⟨s.val * 16 + g.val, by omega⟩ d := by
  rw [unit_31]
  refine unit_value 1 _ _ _ _ _ _ _ _ _ (f7 (ix1 3)) (fun s g e => f0 (ix4 3 s ⟨16 * 1 + g.val, by omega⟩ e)) (fun t e => f1 (ix4 3 t 1 e)) (fun t e => f2 (ix4 3 t 1 e)) (fun e => f4 (ix3 3 1 e)) (fun l e => g0 (ix4 3 1 (rowOf (f7 (ix1 3)) l) e)) (fun l e => g1 (ix4 3 1 (rowOf (f7 (ix1 3)) l) e)) (fun l => g2 (ix3 3 1 (rowOf (f7 (ix1 3)) l))) ?_ ?_ ?_ ?_ ?_ ?_ ?_ ?_ s g d
  · intro l; rw [tok_3, word_3]
  · intro i l; rw [ok_3, word_3]
  · intro s g d; exact Q_31 c f0 s1 s g d
  · intro t d; exact KN_31 c f1 s2 t d
  · intro t d; exact VN_31 c f2 s3 t d
  · intro d; exact KS_31 c f4 s4 d
  · intro l d; rw [winK_31, word_3]; rfl
  · intro l d; rw [winV_31, word_3]; rfl

/-- The key codes of sequence 3 and head 1. -/
theorem kcode_31 (t : Fin 4) (d : Fin 256) : sl.v557 (F := Ideal) c f1 f4 s2 s4 (ix4 0 0 t d) = Quant.code (Ideal.div (f1 (ix4 3 t 1 d)) (f4 (ix3 3 1 d))) := by
  rw [q11_31, kcode_value, KN_31, ks_31, KS_31]

/-- The value codes of sequence 3 and head 1. -/
theorem vcode_31 (t : Fin 4) (d : Fin 256) : sl.v579 (F := Ideal) c f2 s3 (ix4 0 0 t d)
    = Quant.code (Ideal.div (f2 (ix4 3 t 1 d)) (Quant.scaleOf (amaxOf fun e => f2 (ix4 3 t 1 e)))) := by
  rw [q12_31, vcode_value, VN_31]
  simp only [VN_31]

/-- The value scales of sequence 3 and head 1. -/
theorem vscale_31 (t : Fin 4) : sl.v591 (F := Ideal) c f2 s3 (ix3 0 0 t) = Quant.scaleOf (amaxOf fun e => f2 (ix4 3 t 1 e)) := by
  rw [q13_31, vscale_value]
  simp only [VN_31]

end Cert.KernelIdeal.Hand
-- ==== Proof.Store.lean ====
/-
  Writing a rank-four or rank-three buffer part by part, and moving a rank-four buffer slice by slice: each as a plain equation at a
  coordinate.
-/
module

public import proofs.«01_k».proof.Proof.Reads

@[expose] public section

set_option maxRecDepth 16384

namespace Cert.Reads

open Idealize.ShloMosaic

variable {sig : RefSig} {κ : Kind} {sp : Space} {e : EltTy} {Val : EltTy → Type}
variable {B S H D : Nat}

/-- A coordinate of a slice is that coordinate with a leading axis of size one. -/
theorem reshape_ix3 (h : (⟨4, ![1, S, H, D]⟩ : Shape).numel = (⟨3, ![S, H, D]⟩ : Shape).numel) (s : Fin S) (l : Fin H) (d : Fin D) :
    Shape.reshapeEquiv h.symm (ix3 s l d) = (ix4 0 s l d : (⟨4, ![1, S, H, D]⟩ : Shape).Idx) := by
  refine Shape.reshapeEquiv_eq_of_vals _ _ _ (s.val * (H * D) + l.val * D + d.val) (s.val * (H * D) + l.val * D + d.val) ?_ ?_ rfl
  · exact (rowMajor_val4 (d := ![1, S, H, D]) _ (S * (H * D)) (H * D) D rfl rfl rfl).trans (by simp)
  · exact (rowMajor_val3 (d := ![S, H, D]) _ (H * D) D rfl rfl).trans (by simp)

/-- After rows `r … r + W` of every page of slice `b` are written, those rows hold the payload and every other element what it held. -/
theorem read_writes_part {W : Nat} (m : Memref sig κ sp ⟨4, ![B, S, H, D]⟩ e) (b r : Nat)
    (inb : ∀ a, (![b, 0, r, 0] : Fin 4 → Nat) a + (⟨4, ![1, S, W, D]⟩ : Shape).size a ≤ (⟨4, ![B, S, H, D]⟩ : Shape).size a)
    (f : m.view.ty.Contents Val) (w : (⟨4, ![1, S, W, D]⟩ : Shape).Idx → Val e) (L : List (View.Piece Val ⟨4, ![B, S, H, D]⟩ e)) (a : Fin B) (s : Fin S) (l : Fin H) (d : Fin D) :
    m.view.read Val (m.view.writes Val f ((⟨Rect.unit ![b, 0, r, 0] (⟨4, ![1, S, W, D]⟩ : Shape).size inb, w⟩ : View.Piece Val ⟨4, ![B, S, H, D]⟩ e) :: L)) (ix4 a s l d)
      = if h : a.val = b ∧ r ≤ l.val ∧ l.val - r < W then w (ix4 0 s ⟨l.val - r, h.2.2⟩ d) else m.view.read Val (m.view.writes Val f L) (ix4 a s l d) := by
  refine (View.read_writes_cons_unit m.view f inb w L (ix4 a s l d) rfl).trans ?_
  by_cases hc : a.val = b ∧ r ≤ l.val ∧ l.val - r < W
  · rw [dif_pos hc, dif_pos]
    · congr 1
      funext t
      apply Fin.ext
      rw [Rect.unitLocal_val]
      fin_cases t
      · show a.val - b = 0; omega
      · show s.val - 0 = s.val; omega
      · rfl
      · show d.val - 0 = d.val; omega
    · intro t
      fin_cases t
      · show b ≤ a.val ∧ a.val < b + 1; omega
      · show 0 ≤ s.val ∧ s.val < 0 + S; omega
      · show r ≤ l.val ∧ l.val < r + W; omega
      · show 0 ≤ d.val ∧ d.val < 0 + D; omega
  · rw [dif_neg hc, dif_neg]
    intro hall
    have h0 : b ≤ a.val ∧ a.val < b + 1 := hall 0
    have h2 : r ≤ l.val ∧ l.val < r + W := hall 2
    omega

/-- Slice `b` of a buffer, read by a transfer. -/
theorem read_slice (m : Memref sig κ sp ⟨4, ![B, S, H, D]⟩ e) (b : Nat) (hb : b < B)
    (inb : ∀ a, (![b, 0, 0, 0] : Fin 4 → Nat) a + (⟨4, ![1, S, H, D]⟩ : Shape).size a ≤ (⟨4, ![B, S, H, D]⟩ : Shape).size a)
    (h1 : ∀ a, (Rect.unit (s := ⟨4, ![B, S, H, D]⟩) ![b, 0, 0, 0] (⟨4, ![1, S, H, D]⟩ : Shape).size inb).stride a = 1)
    (hs : (Rect.unit (s := ⟨4, ![B, S, H, D]⟩) ![b, 0, 0, 0] (⟨4, ![1, S, H, D]⟩ : Shape).size inb).shape.Squeezes ⟨3, ![S, H, D]⟩)
    (g : m.view.ty.Contents Val) (s : Fin S) (l : Fin H) (d : Fin D) :
    View.read Val ((m.slice (Rect.unit ![b, 0, 0, 0] (⟨4, ![1, S, H, D]⟩ : Shape).size inb) h1).squeeze ⟨3, ![S, H, D]⟩ hs).view g (ix3 s l d)
      = m.view.read Val g (ix4 ⟨b, hb⟩ s l d) := by
  show m.view.read Val g ((Rect.unit (s := ⟨4, ![B, S, H, D]⟩) ![b, 0, 0, 0] (⟨4, ![1, S, H, D]⟩ : Shape).size inb).emb (Shape.reshapeEquiv hs.numel_eq (ix3 s l d))) = _
  refine congrArg (m.view.read Val g) ?_
  refine (congrArg _ (reshape_ix3 hs.numel_eq.symm s l d)).trans ?_
  funext t
  apply Fin.ext
  fin_cases t
  · show b + 1 * 0 = b; omega
  · show 0 + 1 * s.val = s.val; omega
  · show 0 + 1 * l.val = l.val; omega
  · show 0 + 1 * d.val = d.val; omega

/-- After slice `b` of a buffer is written by a transfer, that slice holds the payload and every other element what it held. -/
theorem read_write_slice (m : Memref sig κ sp ⟨4, ![B, S, H, D]⟩ e) (b : Nat)
    (inb : ∀ a, (![b, 0, 0, 0] : Fin 4 → Nat) a + (⟨4, ![1, S, H, D]⟩ : Shape).size a ≤ (⟨4, ![B, S, H, D]⟩ : Shape).size a)
    (h1 : ∀ a, (Rect.unit (s := ⟨4, ![B, S, H, D]⟩) ![b, 0, 0, 0] (⟨4, ![1, S, H, D]⟩ : Shape).size inb).stride a = 1)
    (hs : (Rect.unit (s := ⟨4, ![B, S, H, D]⟩) ![b, 0, 0, 0] (⟨4, ![1, S, H, D]⟩ : Shape).size inb).shape.Squeezes ⟨3, ![S, H, D]⟩)
    (f : m.view.ty.Contents Val) (w : (⟨3, ![S, H, D]⟩ : Shape).Idx → Val e) (a : Fin B) (s : Fin S) (l : Fin H) (d : Fin D) :
    m.view.read Val (View.write Val ((m.slice (Rect.unit ![b, 0, 0, 0] (⟨4, ![1, S, H, D]⟩ : Shape).size inb) h1).squeeze ⟨3, ![S, H, D]⟩ hs).view f w Finset.univ) (ix4 a s l d)
      = if a.val = b then w (ix3 s l d) else m.view.read Val f (ix4 a s l d) := by
  refine (congrArg (fun g => m.view.read Val g (ix4 a s l d)) (View.write_reshape_univ (m.view.slice (Rect.unit ![b, 0, 0, 0] (⟨4, ![1, S, H, D]⟩ : Shape).size inb)) hs.numel_eq f w)).trans ?_
  refine (View.read_writes_cons_unit m.view f inb _ [] (ix4 a s l d) rfl).trans ?_
  by_cases hc : a.val = b
  · rw [if_pos hc, dif_pos]
    · show w ((Shape.reshapeEquiv hs.numel_eq).symm _) = _
      congr 1
      rw [Equiv.symm_apply_eq]
      refine Eq.trans ?_ (reshape_ix3 hs.numel_eq.symm s l d).symm
      funext t
      apply Fin.ext
      rw [Rect.unitLocal_val]
      fin_cases t
      · show a.val - b = 0; omega
      · show s.val - 0 = s.val; omega
      · show l.val - 0 = l.val; omega
      · show d.val - 0 = d.val; omega
    · intro t
      fin_cases t
      · show b ≤ a.val ∧ a.val < b + 1; omega
      · show 0 ≤ s.val ∧ s.val < 0 + S; omega
      · show 0 ≤ l.val ∧ l.val < 0 + H; omega
      · show 0 ≤ d.val ∧ d.val < 0 + D; omega
  · rw [if_neg hc, dif_neg]
    · rfl
    · intro hall
      have h0 : b ≤ a.val ∧ a.val < b + 1 := hall 0
      omega

/-- After row `[b, k]` of a rank-three buffer is written, that row holds the payload and every other element what it held. -/
theorem read_writes_row3 {K R : Nat} (m : Memref sig κ sp ⟨3, ![B, K, R]⟩ e) (b k : Nat)
    (inb : ∀ a, (![b, k, 0] : Fin 3 → Nat) a + (⟨3, ![1, 1, R]⟩ : Shape).size a ≤ (⟨3, ![B, K, R]⟩ : Shape).size a)
    (f : m.view.ty.Contents Val) (w : (⟨3, ![1, 1, R]⟩ : Shape).Idx → Val e) (L : List (View.Piece Val ⟨3, ![B, K, R]⟩ e)) (a : Fin B) (c : Fin K) (l : Fin R) :
    m.view.read Val (m.view.writes Val f ((⟨Rect.unit ![b, k, 0] (⟨3, ![1, 1, R]⟩ : Shape).size inb, w⟩ : View.Piece Val ⟨3, ![B, K, R]⟩ e) :: L)) (ix3 a c l)
      = if a.val = b ∧ c.val = k then w (ix3 0 0 l) else m.view.read Val (m.view.writes Val f L) (ix3 a c l) := by
  refine (View.read_writes_cons_unit m.view f inb w L (ix3 a c l) rfl).trans ?_
  by_cases hc : a.val = b ∧ c.val = k
  · rw [if_pos hc, dif_pos]
    · congr 1
      funext t
      apply Fin.ext
      rw [Rect.unitLocal_val]
      fin_cases t
      · show a.val - b = 0; omega
      · show c.val - k = 0; omega
      · show l.val - 0 = l.val; omega
    · intro t
      fin_cases t
      · show b ≤ a.val ∧ a.val < b + 1; omega
      · show k ≤ c.val ∧ c.val < k + 1; omega
      · show 0 ≤ l.val ∧ l.val < 0 + R; omega
  · rw [if_neg hc, dif_neg]
    intro hall
    have h0 : b ≤ a.val ∧ a.val < b + 1 := hall 0
    have h1 : k ≤ c.val ∧ c.val < k + 1 := hall 1
    omega

end Cert.Reads
-- ==== Proof.Results.lean ====
/-
  The four results of the run as closed functions of the arguments, whatever the results and the scratch buffers held before.
-/
module

public import proofs.«01_k».proof.Proof.Blocks
public import proofs.«01_k».proof.Proof.Store
public import proofs.«01_k».proof.Proof.BodyI

@[expose] public section

set_option maxRecDepth 16384

noncomputable section

namespace Cert.KernelIdeal.Hand

open Cert.KernelIdeal Cert.KernelIdeal.Gen
open Idealize.ShloMosaic Idealize.ShloMosaic.TcCoe Idealize.SL.Sem Classical
open kernelRun

variable (c : Dev nD)
variable (f7 : Bf (F := Ideal) c main_arg7) (f0 : Bf (F := Ideal) c main_arg0) (f1 : Bf (F := Ideal) c main_arg1) (f2 : Bf (F := Ideal) c main_arg2)
  (f4 : Bf (F := Ideal) c main_arg4) (g0 : Bf (F := Ideal) c main_v0) (g1 : Bf (F := Ideal) c main_v1) (g2 : Bf (F := Ideal) c main_v2)

/-- The output of sequence `b` and head `k` at a row of the unit. -/
def outAt (b : Fin 4) (k : Fin 2) (i : Fin 64) (d : Fin 256) : EReal :=
  unitOut (f7 (ix1 b)) (fun s g e => f0 (ix4 b s ⟨16 * k.val + g.val, by omega⟩ e)) (fun t e => f1 (ix4 b t k e)) (fun t e => f2 (ix4 b t k e))
    (fun e => f4 (ix3 b k e)) (fun l e => g0 (ix4 b k (rowOf (f7 (ix1 b)) l) e)) (fun l e => g1 (ix4 b k (rowOf (f7 (ix1 b)) l) e))
    (fun l => g2 (ix3 b k (rowOf (f7 (ix1 b)) l))) i d

/-- The attention's output. -/
def outFn : S4x4x32x256.Idx → EReal := fun j =>
  outAt c f7 f0 f1 f2 f4 g0 g1 g2 (j 0) ⟨(j 2).val / 16, by have := (j 2).isLt; simp at this; omega⟩
    ⟨(j 1).val * 16 + (j 2).val % 16, by have := (j 1).isLt; simp at this; omega⟩ (j 3)

/-- The output at an entry whose query head is given by key head and place in the group. -/
theorem outFn_apply (b : Fin 4) (k : Fin 2) (s : Fin 4) (g : Fin 16) (d : Fin 256) (l : Fin 32) (hl : l.val = 16 * k.val + g.val) :
    outFn c f7 f0 f1 f2 f4 g0 g1 g2 (ix4 b s l d) = outAt c f7 f0 f1 f2 f4 g0 g1 g2 b k ⟨s.val * 16 + g.val, by omega⟩ d := by
  have hk : (⟨l.val / 16, by omega⟩ : Fin 2) = k := Fin.ext (by simp only; omega)
  have hi : (⟨s.val * 16 + l.val % 16, by omega⟩ : Fin 64) = ⟨s.val * 16 + g.val, by omega⟩ := Fin.ext (by simp only; omega)
  show outAt c f7 f0 f1 f2 f4 g0 g1 g2 b ⟨l.val / 16, _⟩ ⟨s.val * 16 + l.val % 16, _⟩ d = _
  rw [hk, hi]

/-- The codes of the new keys. -/
def kcodeFn : S4x2x4x256.Idx → BitVec 8 := fun j => Quant.code (Ideal.div (f1 (ix4 (j 0) (j 2) (j 1) (j 3))) (f4 (ix3 (j 0) (j 1) (j 3))))

/-- The codes of the new values. -/
def vcodeFn : S4x2x4x256.Idx → BitVec 8 := fun j =>
  Quant.code (Ideal.div (f2 (ix4 (j 0) (j 2) (j 1) (j 3))) (Quant.scaleOf (amaxOf fun e => f2 (ix4 (j 0) (j 2) (j 1) e))))

/-- The scales of the new values. -/
def vscaleFn : S4x2x4.Idx → EReal := fun j => Quant.scaleOf (amaxOf fun e => f2 (ix4 (j 0) (j 2) (j 1) e))

variable (o0 : Bf (F := Ideal) c main_v3_0) (o1 : Bf (F := Ideal) c main_v3_1) (o2 : Bf (F := Ideal) c main_v3_2) (o3 : Bf (F := Ideal) c main_v3_3)
  (s0 : Bf (F := Ideal) c cc0_scratch0) (s1 : Bf (F := Ideal) c cc0_scratch1) (s2 : Bf (F := Ideal) c cc0_scratch2) (s3 : Bf (F := Ideal) c cc0_scratch3)
  (s4 : Bf (F := Ideal) c cc0_scratch4) (s5 : Bf (F := Ideal) c cc0_scratch5) (s6 : Bf (F := Ideal) c cc0_scratch6) (s7 : Bf (F := Ideal) c cc0_scratch7)
  (s8 : Bf (F := Ideal) c cc0_scratch8) (s9 : Bf (F := Ideal) c cc0_scratch9)
  (s10 : Bf (F := Ideal) c cc0_scratch10) (s11 : Bf (F := Ideal) c cc0_scratch11) (s12 : Bf (F := Ideal) c cc0_scratch12) (s13 : Bf (F := Ideal) c cc0_scratch13)

/-- The block moved out for sequence 0. -/
theorem moved_0 (s : Fin 4) (l : Fin 32) (d : Fin 256) : sl.dma117 (F := Ideal) c f7 f0 f1 f2 f4 g0 g1 g2 s0 s1 s2 s3 s4 s5 s6 s7 s10 (ix3 s l d) = outFn c f7 f0 f1 f2 f4 g0 g1 g2 (ix4 0 s l d) := by
  unfold sl.dma117 sl.S10_2 sl.S10_1
  refine (Reads.read_slice (Memref.whole cc0_scratch10) 0 (by decide) _ _ _ _ s l d).trans ?_
  refine (Reads.read_writes_part (Memref.whole cc0_scratch10) 0 16 _ _ _ _ _ s l d).trans ?_
  split
  · rename_i h
    exact (block_01 c f7 f0 f1 f2 f4 g0 g1 g2 s0 s1 s2 s3 s4 s5 s6 s7 s ⟨l.val - 16, h.2.2⟩ d).trans (outFn_apply c f7 f0 f1 f2 f4 g0 g1 g2 0 1 s ⟨l.val - 16, h.2.2⟩ d l (by have := h.2.1; show l.val = 16 * 1 + (l.val - 16); omega)).symm
  · rename_i h
    have hl : l.val < 16 := by
      by_contra hn; exact h ⟨rfl, by omega, by omega⟩
    refine (Reads.read_writes_part (Memref.whole cc0_scratch10) 0 0 _ _ _ _ _ s l d).trans ?_
    rw [dif_pos ⟨rfl, Nat.zero_le _, by omega⟩]
    exact (block_00 c f7 f0 f1 f2 f4 g0 g1 g2 s0 s1 s2 s3 s4 s5 s6 s7 s ⟨l.val - 0, by omega⟩ d).trans (outFn_apply c f7 f0 f1 f2 f4 g0 g1 g2 0 0 s ⟨l.val - 0, by omega⟩ d l (by show l.val = 16 * 0 + (l.val - 0); omega)).symm

/-- The block moved out for sequence 1. -/
theorem moved_1 (s : Fin 4) (l : Fin 32) (d : Fin 256) : sl.dma152 (F := Ideal) c f7 f0 f1 f2 f4 g0 g1 g2 s0 s1 s2 s3 s4 s5 s6 s7 s10 (ix3 s l d) = outFn c f7 f0 f1 f2 f4 g0 g1 g2 (ix4 1 s l d) := by
  unfold sl.dma152 sl.S10_4 sl.S10_3
  refine (Reads.read_slice (Memref.whole cc0_scratch10) 1 (by decide) _ _ _ _ s l d).trans ?_
  refine (Reads.read_writes_part (Memref.whole cc0_scratch10) 1 16 _ _ _ _ _ s l d).trans ?_
  split
  · rename_i h
    exact (block_11 c f7 f0 f1 f2 f4 g0 g1 g2 s0 s1 s2 s3 s4 s5 s6 s7 s ⟨l.val - 16, h.2.2⟩ d).trans (outFn_apply c f7 f0 f1 f2 f4 g0 g1 g2 1 1 s ⟨l.val - 16, h.2.2⟩ d l (by have := h.2.1; show l.val = 16 * 1 + (l.val - 16); omega)).symm
  · rename_i h
    have hl : l.val < 16 := by
      by_contra hn; exact h ⟨rfl, by omega, by omega⟩
    refine (Reads.read_writes_part (Memref.whole cc0_scratch10) 1 0 _ _ _ _ _ s l d).trans ?_
    rw [dif_pos ⟨rfl, Nat.zero_le _, by omega⟩]
    exact (block_10 c f7 f0 f1 f2 f4 g0 g1 g2 s0 s1 s2 s3 s4 s5 s6 s7 s ⟨l.val - 0, by omega⟩ d).trans (outFn_apply c f7 f0 f1 f2 f4 g0 g1 g2 1 0 s ⟨l.val - 0, by omega⟩ d l (by show l.val = 16 * 0 + (l.val - 0); omega)).symm

/-- The block moved out for sequence 2. -/
theorem moved_2 (s : Fin 4) (l : Fin 32) (d : Fin 256) : sl.dma187 (F := Ideal) c f7 f0 f1 f2 f4 g0 g1 g2 s0 s1 s2 s3 s4 s5 s6 s7 s10 (ix3 s l d) = outFn c f7 f0 f1 f2 f4 g0 g1 g2 (ix4 2 s l d) := by
  unfold sl.dma187 sl.S10_6 sl.S10_5
  refine (Reads.read_slice (Memref.whole cc0_scratch10) 2 (by decide) _ _ _ _ s l d).trans ?_
  refine (Reads.read_writes_part (Memref.whole cc0_scratch10) 2 16 _ _ _ _ _ s l d).trans ?_
  split
  · rename_i h
    exact (block_21 c f7 f0 f1 f2 f4 g0 g1 g2 s0 s1 s2 s3 s4 s5 s6 s7 s ⟨l.val - 16, h.2.2⟩ d).trans (outFn_apply c f7 f0 f1 f2 f4 g0 g1 g2 2 1 s ⟨l.val - 16, h.2.2⟩ d l (by have := h.2.1; show l.val = 16 * 1 + (l.val - 16); omega)).symm
  · rename_i h
    have hl : l.val < 16 := by
      by_contra hn; exact h ⟨rfl, by omega, by omega⟩
    refine (Reads.read_writes_part (Memref.whole cc0_scratch10) 2 0 _ _ _ _ _ s l d).trans ?_
    rw [dif_pos ⟨rfl, Nat.zero_le _, by omega⟩]
    exact (block_20 c f7 f0 f1 f2 f4 g0 g1 g2 s0 s1 s2 s3 s4 s5 s6 s7 s ⟨l.val - 0, by omega⟩ d).trans (outFn_apply c f7 f0 f1 f2 f4 g0 g1 g2 2 0 s ⟨l.val - 0, by omega⟩ d l (by show l.val = 16 * 0 + (l.val - 0); omega)).symm

/-- The block moved out for sequence 3. -/
theorem moved_3 (s : Fin 4) (l : Fin 32) (d : Fin 256) : sl.dma222 (F := Ideal) c f7 f0 f1 f2 f4 g0 g1 g2 s0 s1 s2 s3 s4 s5 s6 s7 s10 (ix3 s l d) = outFn c f7 f0 f1 f2 f4 g0 g1 g2 (ix4 3 s l d) := by
  unfold sl.dma222 sl.S10_8 sl.S10_7
  refine (Reads.read_slice (Memref.whole cc0_scratch10) 3 (by decide) _ _ _ _ s l d).trans ?_
  refine (Reads.read_writes_part (Memref.whole cc0_scratch10) 3 16 _ _ _ _ _ s l d).trans ?_
  split
  · rename_i h
    exact (block_31 c f7 f0 f1 f2 f4 g0 g1 g2 s0 s1 s2 s3 s4 s5 s6 s7 s ⟨l.val - 16, h.2.2⟩ d).trans (outFn_apply c f7 f0 f1 f2 f4 g0 g1 g2 3 1 s ⟨l.val - 16, h.2.2⟩ d l (by have := h.2.1; show l.val = 16 * 1 + (l.val - 16); omega)).symm
  · rename_i h
    have hl : l.val < 16 := by
      by_contra hn; exact h ⟨rfl, by omega, by omega⟩
    refine (Reads.read_writes_part (Memref.whole cc0_scratch10) 3 0 _ _ _ _ _ s l d).trans ?_
    rw [dif_pos ⟨rfl, Nat.zero_le _, by omega⟩]
    exact (block_30 c f7 f0 f1 f2 f4 g0 g1 g2 s0 s1 s2 s3 s4 s5 s6 s7 s ⟨l.val - 0, by omega⟩ d).trans (outFn_apply c f7 f0 f1 f2 f4 g0 g1 g2 3 0 s ⟨l.val - 0, by omega⟩ d l (by show l.val = 16 * 0 + (l.val - 0); omega)).symm

/-- The first result of the run. -/
theorem run_out : (kernelRun c f7 f0 f1 f2 f4 g0 g1 g2 o0 o1 o2 o3 s0 s1 s2 s3 s4 s5 s6 s7 s8 s9 s10 s11 s12 s13).1.1 = outFn c f7 f0 f1 f2 f4 g0 g1 g2 := by
  funext j
  obtain ⟨a, s, l, d, rfl⟩ : ∃ a s l d, j = ix4 a s l d := ⟨j 0, j 1, j 2, j 3, by funext t; fin_cases t <;> rfl⟩
  refine (Reads.read_write_slice (Memref.whole main_v3_0) 3 _ _ _ _ (sl.dma222 c f7 f0 f1 f2 f4 g0 g1 g2 s0 s1 s2 s3 s4 s5 s6 s7 s10) a s l d).trans ?_
  by_cases h3 : a.val = 3
  · obtain rfl : a = 3 := Fin.ext h3
    exact (if_pos rfl).trans (moved_3 c f7 f0 f1 f2 f4 g0 g1 g2 s0 s1 s2 s3 s4 s5 s6 s7 s10 s l d)
  rw [if_neg h3]
  refine (Reads.read_write_slice (Memref.whole main_v3_0) 2 _ _ _ _ (sl.dma187 c f7 f0 f1 f2 f4 g0 g1 g2 s0 s1 s2 s3 s4 s5 s6 s7 s10) a s l d).trans ?_
  by_cases h2 : a.val = 2
  · obtain rfl : a = 2 := Fin.ext h2
    exact (if_pos rfl).trans (moved_2 c f7 f0 f1 f2 f4 g0 g1 g2 s0 s1 s2 s3 s4 s5 s6 s7 s10 s l d)
  rw [if_neg h2]
  refine (Reads.read_write_slice (Memref.whole main_v3_0) 1 _ _ _ _ (sl.dma152 c f7 f0 f1 f2 f4 g0 g1 g2 s0 s1 s2 s3 s4 s5 s6 s7 s10) a s l d).trans ?_
  by_cases h1 : a.val = 1
  · obtain rfl : a = 1 := Fin.ext h1
    exact (if_pos rfl).trans (moved_1 c f7 f0 f1 f2 f4 g0 g1 g2 s0 s1 s2 s3 s4 s5 s6 s7 s10 s l d)
  rw [if_neg h1]
  refine (Reads.read_write_slice (Memref.whole main_v3_0) 0 _ _ _ _ (sl.dma117 c f7 f0 f1 f2 f4 g0 g1 g2 s0 s1 s2 s3 s4 s5 s6 s7 s10) a s l d).trans ?_
  by_cases h0 : a.val = 0
  · obtain rfl : a = 0 := Fin.ext h0
    exact (if_pos rfl).trans (moved_0 c f7 f0 f1 f2 f4 g0 g1 g2 s0 s1 s2 s3 s4 s5 s6 s7 s10 s l d)
  rw [if_neg h0]
  omega

/-- The key codes of the run. -/
theorem run_kcode_moved : sl.dma82 (F := Ideal) c f1 f4 s2 s4 s11 = kcodeFn c f1 f4 := by
  funext j
  obtain ⟨a, k, t, d, rfl⟩ : ∃ a k t d, j = ix4 a k t d := ⟨j 0, j 1, j 2, j 3, by funext t; fin_cases t <;> rfl⟩
  unfold sl.dma82 sl.S11_8 sl.S11_7 sl.S11_6 sl.S11_5 sl.S11_4 sl.S11_3 sl.S11_2 sl.S11_1
  refine (Reads.read_writes_rows (Memref.whole cc0_scratch11) 3 1 _ _ _ _ a k t d).trans ?_
  by_cases h31 : a.val = 3 ∧ k.val = 1
  · obtain rfl : a = 3 := Fin.ext h31.1
    obtain rfl : k = 1 := Fin.ext h31.2
    exact (dif_pos ⟨rfl, rfl, t.isLt⟩).trans (kcode_31 c f1 f4 s2 s4 t d)
  rw [dif_neg fun h => h31 ⟨h.1, h.2.1⟩]
  refine (Reads.read_writes_rows (Memref.whole cc0_scratch11) 3 0 _ _ _ _ a k t d).trans ?_
  by_cases h30 : a.val = 3 ∧ k.val = 0
  · obtain rfl : a = 3 := Fin.ext h30.1
    obtain rfl : k = 0 := Fin.ext h30.2
    exact (dif_pos ⟨rfl, rfl, t.isLt⟩).trans (kcode_30 c f1 f4 s2 s4 t d)
  rw [dif_neg fun h => h30 ⟨h.1, h.2.1⟩]
  refine (Reads.read_writes_rows (Memref.whole cc0_scratch11) 2 1 _ _ _ _ a k t d).trans ?_
  by_cases h21 : a.val = 2 ∧ k.val = 1
  · obtain rfl : a = 2 := Fin.ext h21.1
    obtain rfl : k = 1 := Fin.ext h21.2
    exact (dif_pos ⟨rfl, rfl, t.isLt⟩).trans (kcode_21 c f1 f4 s2 s4 t d)
  rw [dif_neg fun h => h21 ⟨h.1, h.2.1⟩]
  refine (Reads.read_writes_rows (Memref.whole cc0_scratch11) 2 0 _ _ _ _ a k t d).trans ?_
  by_cases h20 : a.val = 2 ∧ k.val = 0
  · obtain rfl : a = 2 := Fin.ext h20.1
    obtain rfl : k = 0 := Fin.ext h20.2
    exact (dif_pos ⟨rfl, rfl, t.isLt⟩).trans (kcode_20 c f1 f4 s2 s4 t d)
  rw [dif_neg fun h => h20 ⟨h.1, h.2.1⟩]
  refine (Reads.read_writes_rows (Memref.whole cc0_scratch11) 1 1 _ _ _ _ a k t d).trans ?_
  by_cases h11 : a.val = 1 ∧ k.val = 1
  · obtain rfl : a = 1 := Fin.ext h11.1
    obtain rfl : k = 1 := Fin.ext h11.2
    exact (dif_pos ⟨rfl, rfl, t.isLt⟩).trans (kcode_11 c f1 f4 s2 s4 t d)
  rw [dif_neg fun h => h11 ⟨h.1, h.2.1⟩]
  refine (Reads.read_writes_rows (Memref.whole cc0_scratch11) 1 0 _ _ _ _ a k t d).trans ?_
  by_cases h10 : a.val = 1 ∧ k.val = 0
  · obtain rfl : a = 1 := Fin.ext h10.1
    obtain rfl : k = 0 := Fin.ext h10.2
    exact (dif_pos ⟨rfl, rfl, t.isLt⟩).trans (kcode_10 c f1 f4 s2 s4 t d)
  rw [dif_neg fun h => h10 ⟨h.1, h.2.1⟩]
  refine (Reads.read_writes_rows (Memref.whole cc0_scratch11) 0 1 _ _ _ _ a k t d).trans ?_
  by_cases h01 : a.val = 0 ∧ k.val = 1
  · obtain rfl : a = 0 := Fin.ext h01.1
    obtain rfl : k = 1 := Fin.ext h01.2
    exact (dif_pos ⟨rfl, rfl, t.isLt⟩).trans (kcode_01 c f1 f4 s2 s4 t d)
  rw [dif_neg fun h => h01 ⟨h.1, h.2.1⟩]
  refine (Reads.read_writes_rows (Memref.whole cc0_scratch11) 0 0 _ _ _ _ a k t d).trans ?_
  by_cases h00 : a.val = 0 ∧ k.val = 0
  · obtain rfl : a = 0 := Fin.ext h00.1
    obtain rfl : k = 0 := Fin.ext h00.2
    exact (dif_pos ⟨rfl, rfl, t.isLt⟩).trans (kcode_00 c f1 f4 s2 s4 t d)
  rw [dif_neg fun h => h00 ⟨h.1, h.2.1⟩]
  omega

/-- The codes of the new keys at the end of the body. -/
theorem run_kcode : (kernelRun c f7 f0 f1 f2 f4 g0 g1 g2 o0 o1 o2 o3 s0 s1 s2 s3 s4 s5 s6 s7 s8 s9 s10 s11 s12 s13).1.2.1 = kcodeFn c f1 f4 := by
  show View.write (Elt Ideal) (Memref.whole main_v3_1).view o1 (sl.dma82 (F := Ideal) c f1 f4 s2 s4 s11) Finset.univ = _
  exact (View.write_whole_univ ..).trans (run_kcode_moved c f1 f4 s2 s4 s11)

/-- The value codes of the run. -/
theorem run_vcode_moved : sl.dma82_1 (F := Ideal) c f2 s3 s12 = vcodeFn c f2 := by
  funext j
  obtain ⟨a, k, t, d, rfl⟩ : ∃ a k t d, j = ix4 a k t d := ⟨j 0, j 1, j 2, j 3, by funext t; fin_cases t <;> rfl⟩
  unfold sl.dma82_1 sl.S12_8 sl.S12_7 sl.S12_6 sl.S12_5 sl.S12_4 sl.S12_3 sl.S12_2 sl.S12_1
  refine (Reads.read_writes_rows (Memref.whole cc0_scratch12) 3 1 _ _ _ _ a k t d).trans ?_
  by_cases h31 : a.val = 3 ∧ k.val = 1
  · obtain rfl : a = 3 := Fin.ext h31.1
    obtain rfl : k = 1 := Fin.ext h31.2
    exact (dif_pos ⟨rfl, rfl, t.isLt⟩).trans (vcode_31 c f2 s3 t d)
  rw [dif_neg fun h => h31 ⟨h.1, h.2.1⟩]
  refine (Reads.read_writes_rows (Memref.whole cc0_scratch12) 3 0 _ _ _ _ a k t d).trans ?_
  by_cases h30 : a.val = 3 ∧ k.val = 0
  · obtain rfl : a = 3 := Fin.ext h30.1
    obtain rfl : k = 0 := Fin.ext h30.2
    exact (dif_pos ⟨rfl, rfl, t.isLt⟩).trans (vcode_30 c f2 s3 t d)
  rw [dif_neg fun h => h30 ⟨h.1, h.2.1⟩]
  refine (Reads.read_writes_rows (Memref.whole cc0_scratch12) 2 1 _ _ _ _ a k t d).trans ?_
  by_cases h21 : a.val = 2 ∧ k.val = 1
  · obtain rfl : a = 2 := Fin.ext h21.1
    obtain rfl : k = 1 := Fin.ext h21.2
    exact (dif_pos ⟨rfl, rfl, t.isLt⟩).trans (vcode_21 c f2 s3 t d)
  rw [dif_neg fun h => h21 ⟨h.1, h.2.1⟩]
  refine (Reads.read_writes_rows (Memref.whole cc0_scratch12) 2 0 _ _ _ _ a k t d).trans ?_
  by_cases h20 : a.val = 2 ∧ k.val = 0
  · obtain rfl : a = 2 := Fin.ext h20.1
    obtain rfl : k = 0 := Fin.ext h20.2
    exact (dif_pos ⟨rfl, rfl, t.isLt⟩).trans (vcode_20 c f2 s3 t d)
  rw [dif_neg fun h => h20 ⟨h.1, h.2.1⟩]
  refine (Reads.read_writes_rows (Memref.whole cc0_scratch12) 1 1 _ _ _ _ a k t d).trans ?_
  by_cases h11 : a.val = 1 ∧ k.val = 1
  · obtain rfl : a = 1 := Fin.ext h11.1
    obtain rfl : k = 1 := Fin.ext h11.2
    exact (dif_pos ⟨rfl, rfl, t.isLt⟩).trans (vcode_11 c f2 s3 t d)
  rw [dif_neg fun h => h11 ⟨h.1, h.2.1⟩]
  refine (Reads.read_writes_rows (Memref.whole cc0_scratch12) 1 0 _ _ _ _ a k t d).trans ?_
  by_cases h10 : a.val = 1 ∧ k.val = 0
  · obtain rfl : a = 1 := Fin.ext h10.1
    obtain rfl : k = 0 := Fin.ext h10.2
    exact (dif_pos ⟨rfl, rfl, t.isLt⟩).trans (vcode_10 c f2 s3 t d)
  rw [dif_neg fun h => h10 ⟨h.1, h.2.1⟩]
  refine (Reads.read_writes_rows (Memref.whole cc0_scratch12) 0 1 _ _ _ _ a k t d).trans ?_
  by_cases h01 : a.val = 0 ∧ k.val = 1
  · obtain rfl : a = 0 := Fin.ext h01.1
    obtain rfl : k = 1 := Fin.ext h01.2
    exact (dif_pos ⟨rfl, rfl, t.isLt⟩).trans (vcode_01 c f2 s3 t d)
  rw [dif_neg fun h => h01 ⟨h.1, h.2.1⟩]
  refine (Reads.read_writes_rows (Memref.whole cc0_scratch12) 0 0 _ _ _ _ a k t d).trans ?_
  by_cases h00 : a.val = 0 ∧ k.val = 0
  · obtain rfl : a = 0 := Fin.ext h00.1
    obtain rfl : k = 0 := Fin.ext h00.2
    exact (dif_pos ⟨rfl, rfl, t.isLt⟩).trans (vcode_00 c f2 s3 t d)
  rw [dif_neg fun h => h00 ⟨h.1, h.2.1⟩]
  omega

/-- The codes of the new values at the end of the body. -/
theorem run_vcode : (kernelRun c f7 f0 f1 f2 f4 g0 g1 g2 o0 o1 o2 o3 s0 s1 s2 s3 s4 s5 s6 s7 s8 s9 s10 s11 s12 s13).1.2.2.1 = vcodeFn c f2 := by
  show View.write (Elt Ideal) (Memref.whole main_v3_2).view o2 (sl.dma82_1 (F := Ideal) c f2 s3 s12) Finset.univ = _
  exact (View.write_whole_univ ..).trans (run_vcode_moved c f2 s3 s12)

/-- The value scales of the run. -/
theorem run_vscale_moved : sl.dma82_2 (F := Ideal) c f2 s3 s13 = vscaleFn c f2 := by
  funext j
  obtain ⟨a, k, t, rfl⟩ : ∃ a k t, j = ix3 a k t := ⟨j 0, j 1, j 2, by funext t; fin_cases t <;> rfl⟩
  unfold sl.dma82_2 sl.S13_8 sl.S13_7 sl.S13_6 sl.S13_5 sl.S13_4 sl.S13_3 sl.S13_2 sl.S13_1
  refine (Reads.read_writes_row3 (Memref.whole cc0_scratch13) 3 1 _ _ _ _ a k t).trans ?_
  by_cases h31 : a.val = 3 ∧ k.val = 1
  · obtain rfl : a = 3 := Fin.ext h31.1
    obtain rfl : k = 1 := Fin.ext h31.2
    exact (if_pos ⟨rfl, rfl⟩).trans (vscale_31 c f2 s3 t)
  rw [if_neg h31]
  refine (Reads.read_writes_row3 (Memref.whole cc0_scratch13) 3 0 _ _ _ _ a k t).trans ?_
  by_cases h30 : a.val = 3 ∧ k.val = 0
  · obtain rfl : a = 3 := Fin.ext h30.1
    obtain rfl : k = 0 := Fin.ext h30.2
    exact (if_pos ⟨rfl, rfl⟩).trans (vscale_30 c f2 s3 t)
  rw [if_neg h30]
  refine (Reads.read_writes_row3 (Memref.whole cc0_scratch13) 2 1 _ _ _ _ a k t).trans ?_
  by_cases h21 : a.val = 2 ∧ k.val = 1
  · obtain rfl : a = 2 := Fin.ext h21.1
    obtain rfl : k = 1 := Fin.ext h21.2
    exact (if_pos ⟨rfl, rfl⟩).trans (vscale_21 c f2 s3 t)
  rw [if_neg h21]
  refine (Reads.read_writes_row3 (Memref.whole cc0_scratch13) 2 0 _ _ _ _ a k t).trans ?_
  by_cases h20 : a.val = 2 ∧ k.val = 0
  · obtain rfl : a = 2 := Fin.ext h20.1
    obtain rfl : k = 0 := Fin.ext h20.2
    exact (if_pos ⟨rfl, rfl⟩).trans (vscale_20 c f2 s3 t)
  rw [if_neg h20]
  refine (Reads.read_writes_row3 (Memref.whole cc0_scratch13) 1 1 _ _ _ _ a k t).trans ?_
  by_cases h11 : a.val = 1 ∧ k.val = 1
  · obtain rfl : a = 1 := Fin.ext h11.1
    obtain rfl : k = 1 := Fin.ext h11.2
    exact (if_pos ⟨rfl, rfl⟩).trans (vscale_11 c f2 s3 t)
  rw [if_neg h11]
  refine (Reads.read_writes_row3 (Memref.whole cc0_scratch13) 1 0 _ _ _ _ a k t).trans ?_
  by_cases h10 : a.val = 1 ∧ k.val = 0
  · obtain rfl : a = 1 := Fin.ext h10.1
    obtain rfl : k = 0 := Fin.ext h10.2
    exact (if_pos ⟨rfl, rfl⟩).trans (vscale_10 c f2 s3 t)
  rw [if_neg h10]
  refine (Reads.read_writes_row3 (Memref.whole cc0_scratch13) 0 1 _ _ _ _ a k t).trans ?_
  by_cases h01 : a.val = 0 ∧ k.val = 1
  · obtain rfl : a = 0 := Fin.ext h01.1
    obtain rfl : k = 1 := Fin.ext h01.2
    exact (if_pos ⟨rfl, rfl⟩).trans (vscale_01 c f2 s3 t)
  rw [if_neg h01]
  refine (Reads.read_writes_row3 (Memref.whole cc0_scratch13) 0 0 _ _ _ _ a k t).trans ?_
  by_cases h00 : a.val = 0 ∧ k.val = 0
  · obtain rfl : a = 0 := Fin.ext h00.1
    obtain rfl : k = 0 := Fin.ext h00.2
    exact (if_pos ⟨rfl, rfl⟩).trans (vscale_00 c f2 s3 t)
  rw [if_neg h00]
  omega

/-- The scales of the new values at the end of the body. -/
theorem run_vscale : (kernelRun c f7 f0 f1 f2 f4 g0 g1 g2 o0 o1 o2 o3 s0 s1 s2 s3 s4 s5 s6 s7 s8 s9 s10 s11 s12 s13).1.2.2.2 = vscaleFn c f2 := by
  show View.write (Elt Ideal) (Memref.whole main_v3_3).view o3 (sl.dma82_2 (F := Ideal) c f2 s3 s13) Finset.univ = _
  exact (View.write_whole_univ ..).trans (run_vscale_moved c f2 s3 s13)

/-- The run's four results. -/
theorem run_eq : (kernelRun c f7 f0 f1 f2 f4 g0 g1 g2 o0 o1 o2 o3 s0 s1 s2 s3 s4 s5 s6 s7 s8 s9 s10 s11 s12 s13).1 = (outFn c f7 f0 f1 f2 f4 g0 g1 g2, kcodeFn c f1 f4, vcodeFn c f2, vscaleFn c f2) :=
  Prod.ext (run_out c f7 f0 f1 f2 f4 g0 g1 g2 o0 o1 o2 o3 s0 s1 s2 s3 s4 s5 s6 s7 s8 s9 s10 s11 s12 s13) (Prod.ext (run_kcode c f7 f0 f1 f2 f4 g0 g1 g2 o0 o1 o2 o3 s0 s1 s2 s3 s4 s5 s6 s7 s8 s9 s10 s11 s12 s13) (Prod.ext (run_vcode c f7 f0 f1 f2 f4 g0 g1 g2 o0 o1 o2 o3 s0 s1 s2 s3 s4 s5 s6 s7 s8 s9 s10 s11 s12 s13) (run_vscale c f7 f0 f1 f2 f4 g0 g1 g2 o0 o1 o2 o3 s0 s1 s2 s3 s4 s5 s6 s7 s8 s9 s10 s11 s12 s13)))

end Cert.KernelIdeal.Hand
-- ==== Proof.LaunchV.lean ====
/-
  The launch of the kernel with its results named: the whole program's run, what it leaves in its four results as closed functions of
  its arguments, its arguments as they were.
-/
module

public import proofs.«01_k».proof.Proof.LaunchI
public import proofs.«01_k».proof.Proof.Results

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (Pipeline.UD sig nD τ) ℕ

variable (m : (ℓ : Loc nD τ sig) → Buf (Elt Ideal) ℓ) (ρ : Dev nD → PrngReg)

/-- What the run leaves in the attention's output, from the contents the region finds. -/
def out0 (c : Dev nD) : Bf (F := Ideal) c main_v3_0 :=
  outFn c (V m c main_arg7) (V m c main_arg0) (V m c main_arg1) (V m c main_arg2) (V m c main_arg4) (V m c main_v0) (V m c main_v1) (V m c main_v2)
/-- The codes of the new keys as the kernel leaves them. -/
def out1 (c : Dev nD) : Bf (F := Ideal) c main_v3_1 := kcodeFn c (V m c main_arg1) (V m c main_arg4)
/-- The codes of the new values as the kernel leaves them. -/
def out2 (c : Dev nD) : Bf (F := Ideal) c main_v3_2 := vcodeFn c (V m c main_arg2)
/-- The scales of the new values as the kernel leaves them. -/
def out3 (c : Dev nD) : Bf (F := Ideal) c main_v3_3 := vscaleFn c (V m c main_arg2)

/-- The contents of the kernel's results when the region ends. -/
def G (c : Dev nD) : (b : Ref sig .tc) → Buf (Elt Ideal) ((c : Thread nD τ).loc b) :=
  Function.update (Function.update (Function.update (Function.update (V m c) main_v3_0 (out0 m c)) main_v3_1 (out1 m c)) main_v3_2 (out2 m c)) main_v3_3 (out3 m c)

/-- After the launch, result 3 of the kernel holds its value. -/
theorem G_3 (c : Dev nD) : G m c main_v3_3 = out3 m c := Function.update_self ..
/-- After the launch, result 2 of the kernel holds its value. -/
theorem G_2 (c : Dev nD) : G m c main_v3_2 = out2 m c := (Function.update_of_ne (by decide) ..).trans (Function.update_self ..)
/-- After the launch, result 1 of the kernel holds its value. -/
theorem G_1 (c : Dev nD) : G m c main_v3_1 = out1 m c :=
  (Function.update_of_ne (by decide) ..).trans ((Function.update_of_ne (by decide) ..).trans (Function.update_self ..))
/-- After the launch, result 0 of the kernel holds its value. -/
theorem G_0 (c : Dev nD) : G m c main_v3_0 = out0 m c :=
  (Function.update_of_ne (by decide) ..).trans ((Function.update_of_ne (by decide) ..).trans ((Function.update_of_ne (by decide) ..).trans (Function.update_self ..)))

/-- The results as the body leaves them are the named ones. -/
theorem outs_G (c : Dev nD) : (outs m c : sProp 𝕄) ⊢ bigSep R0 (fun b => ((c : Thread nD τ).loc b) ↦{fullShare} G m c b) := by
  unfold outs
  rw [resPts_eq, G_0, G_1, G_2, G_3]
  iintro ⟨%o0, %o1, %o2, %o3, %s0, %s1, %s2, %s3, %s4, %s5, %s6, %s7, %s8, %s9, %s10, %s11, %s12, %s13, O0, O1, O2, O3⟩
  rw [show runAt m c o0 o1 o2 o3 s0 s1 s2 s3 s4 s5 s6 s7 s8 s9 s10 s11 s12 s13 = (out0 m c, out1 m c, out2 m c, out3 m c) from
    run_eq c _ _ _ _ _ _ _ _ o0 o1 o2 o3 s0 s1 s2 s3 s4 s5 s6 s7 s8 s9 s10 s11 s12 s13]
  isplitl [O0]; · iexact O0
  isplitl [O1]; · iexact O1
  isplitl [O2]; · iexact O2
  iexact O3

/-- What is held between points: the results as found before the body, the named ones after it. -/
def phi (c : Dev nD) (n : ℕ) : sProp 𝕄 :=
  if n = 0 then Pipeline.ΦDRV osem0 cfg0.spec H0 R0 (V m) (V m) c else Pipeline.ΦDRV osem0 cfg0.spec H0 R0 (V m) (G m) c
/-- What is held before the body. -/
theorem phi_zero (c : Dev nD) (n : ℕ) (h : n = 0) : phi m c n = Pipeline.ΦDRV osem0 cfg0.spec H0 R0 (V m) (V m) c := by
  unfold phi; rw [if_pos h]
/-- What is held after the body. -/
theorem phi_pos (c : Dev nD) (n : ℕ) (h : n ≠ 0) : phi m c n = Pipeline.ΦDRV osem0 cfg0.spec H0 R0 (V m) (G m) c := by
  unfold phi; rw [if_neg h]

/-- The proof data: before the body the results as found, after it the named ones. -/
def datsV (_ : Fin 1) (c : Dev nD) : Dat τ (Elt Ideal) Unit ℕ (Pipeline.UD sig nD τ) ℕ cfg0 c where
  A w := w.elim0
  after w t := w.elim0
  Φ t := phi m c t.val
  q _ := fullShare
  owed _ := 0

/-- What is held before the body. -/
theorem Φ_first (c : Dev nD) : (datsV m 0 c).Φ 0 = Pipeline.ΦDRV osem0 cfg0.spec H0 R0 (V m) (V m) c := phi_zero m c (0 : Fin (cfg0.N + 1)).val rfl
/-- What is held after the body. -/
theorem Φ_last (c : Dev nD) : (datsV m 0 c).Φ (Fin.last cfg0.N) = Pipeline.ΦDRV osem0 cfg0.spec H0 R0 (V m) (G m) c :=
  phi_pos m c (Fin.last cfg0.N).val (by decide)

/-- The body runs from what is held before it to what is held after it. -/
theorem sound_bodyV (c : Dev nD) (t : Fin cfg0.N) :
    iprop((datsV m 0 c).Φ t.castSucc ∗ (datsV m 0 c).owesAt () t.castSucc ∗ BI.emp) ⊢ wp Idealize.ShloMosaic.frame (wpE (defs₀ (F := Ideal)) Variants.none c none) Set.univ (bodyAt0 t)
      (fun _ => iprop((datsV m 0 c).Φ t.succ ∗ (datsV m 0 c).owesAt () t.succ ∗ BI.emp)) := by
  rw [show (datsV m 0 c).Φ t.succ = Pipeline.ΦDRV osem0 cfg0.spec H0 R0 (V m) (G m) c from phi_pos m c t.succ.val (Nat.succ_ne_zero _),
    show (datsV m 0 c).Φ t.castSucc = Pipeline.ΦDRV osem0 cfg0.spec H0 R0 (V m) (V m) c from phi_zero m c t.castSucc.val (by have h : t.val < 1 := t.isLt; show t.val = 0; omega)]
  unfold Dat.owesAt Pipeline.owesWithin Pipeline.ΦDRV
  rw [show (datsV m 0 c).owed t.castSucc = 0 from rfl, show (datsV m 0 c).owed t.succ = 0 from rfl]
  iintro ⟨⟨HS, HQ, HH, HR⟩, ⟨%W, -, HW⟩, -⟩
  iapply (body_wp m c t W _)
  isplitl [HS]; · iexact HS
  isplitl [HQ]; · iexact HQ
  isplitl [HH]; · iexact HH
  isplitl [HR]
  · iapply (show (bigSep R0 (fun b => ((c : Thread nD τ).loc b) ↦{fullShare} V m c b) : sProp 𝕄) ⊢ Pipeline.owned R0 c from by
      rw [resPts_eq, owned_eq]
      iintro ⟨O0, O1, O2, O3⟩
      isplitl [O0]; · iexists _; iexact O0
      isplitl [O1]; · iexists _; iexact O1
      isplitl [O2]; · iexists _; iexact O2
      iexists _; iexact O3)
    iexact HR
  isplitl [HW]; · iexact HW
  iintro ⟨HS, HQ, HH, HO, ⟨%W', HW⟩⟩
  isplitl [HS HQ HH HO]
  · isplitl [HS]; · iexact HS
    isplitl [HQ]; · iexact HQ
    isplitl [HH]; · iexact HH
    iapply (outs_G m c); iexact HO
  isplitl [HW]
  · iexists W'; isplitr; · ipureintro; exact fun _ _ => Or.inl trivial
    iexact HW
  iempintro

/-- The obligation of the launch on its body. -/
theorem body_obligationV (c : Dev nD) : BodyObligation (datsV m 0 c) (defs₀ (F := Ideal)) Variants.none () Set.univ := fun t => by
  rw [bigSep_W, bigSep_W, defs₀_row]
  exact triple_restated (sound_bodyV m c t) rfl .rfl fun _ => .rfl

/-- What a buffer holds when the program ends: what the host lines after the kernel leave, from the named results. -/
abbrev endAt (c : Dev nD) (b : Ref sig .tc) : Buf (Elt Ideal) ((c : Thread nD τ).loc b) :=
  StableHlo.after (List.flatten [hostOps1]) (Pipeline.withArrays cfg0.spec c (Pipeline.withR (V0 m c) R0 c (G m c)) fun w => (datsV m 0 c).arrAt w cfg0.N) (Proc.devRef .tc b)

set_option backward.isDefEq.respectTransparency.types false in
/-- The whole program runs and each array ends with the contents given above. -/
theorem run_mainV : θ_run defs (onTc (τ := τ) (main (F := Ideal))) (s₀ m ρ)
    (fun r => ∀ c : Dev nD, ∀ b ∈ Pipeline.restRefs sig cfg0.spec, r.2.mem ((c.tc : Thread nD τ).loc b) = endAt m c b) :=
  Pipeline.θ_run_frame_dmaR_aroundV (Q' := _) cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := fun _ w => w.elim0)
    (hin := fun c => Entails.of_eq (Φ_first m c).symm) (hout := fun c => Entails.of_eq (Φ_last m c))
    (hQ' := fun r h c b hb => (h.1 c).2 b hb)

/-- A buffer before the host lines after the kernel. -/
theorem exit_res (c : Dev nD) (A) (b : Ref sig .tc) (hb : b ∈ R0) :
    Pipeline.withArrays cfg0.spec c (Pipeline.withR (V0 m c) R0 c (G m c)) A (Proc.devRef .tc b) = G m c b :=
  (Pipeline.withArrays_of_ne _ c _ A b (fun w => w.elim0)).trans (Pipeline.withR_of_mem _ _ c _ b hb)
/-- An array the kernel does not write leaves the launch as it entered. -/
theorem exit_rest (c : Dev nD) (A) (b : Ref sig .tc) (hb : b ∉ R0) :
    Pipeline.withArrays cfg0.spec c (Pipeline.withR (V0 m c) R0 c (G m c)) A (Proc.devRef .tc b) = V m c b :=
  (Pipeline.withArrays_of_ne _ c _ A b (fun w => w.elim0)).trans (Pipeline.withR_of_not_mem _ _ c _ b hb)

section Lines
variable (W : Valuation τ sig (Elt Ideal))
/-- The lines after the launch leave argument 0 alone. -/
theorem tail_main_arg0 : StableHlo.after (List.flatten [hostOps1 (F := Ideal)]) W (Proc.devRef .tc main_arg0) = W (Proc.devRef .tc main_arg0) := by
  simp only [List.flatten_cons, List.flatten_nil, List.append_nil]
  after_results
/-- The lines after the launch leave argument 1 alone. -/
theorem tail_main_arg1 : StableHlo.after (List.flatten [hostOps1 (F := Ideal)]) W (Proc.devRef .tc main_arg1) = W (Proc.devRef .tc main_arg1) := by
  simp only [List.flatten_cons, List.flatten_nil, List.append_nil]
  after_results
/-- The lines after the launch leave argument 2 alone. -/
theorem tail_main_arg2 : StableHlo.after (List.flatten [hostOps1 (F := Ideal)]) W (Proc.devRef .tc main_arg2) = W (Proc.devRef .tc main_arg2) := by
  simp only [List.flatten_cons, List.flatten_nil, List.append_nil]
  after_results
/-- The lines after the launch leave argument 3 alone. -/
theorem tail_main_arg3 : StableHlo.after (List.flatten [hostOps1 (F := Ideal)]) W (Proc.devRef .tc main_arg3) = W (Proc.devRef .tc main_arg3) := by
  simp only [List.flatten_cons, List.flatten_nil, List.append_nil]
  after_results
/-- The lines after the launch leave argument 4 alone. -/
theorem tail_main_arg4 : StableHlo.after (List.flatten [hostOps1 (F := Ideal)]) W (Proc.devRef .tc main_arg4) = W (Proc.devRef .tc main_arg4) := by
  simp only [List.flatten_cons, List.flatten_nil, List.append_nil]
  after_results
/-- The lines after the launch leave argument 5 alone. -/
theorem tail_main_arg5 : StableHlo.after (List.flatten [hostOps1 (F := Ideal)]) W (Proc.devRef .tc main_arg5) = W (Proc.devRef .tc main_arg5) := by
  simp only [List.flatten_cons, List.flatten_nil, List.append_nil]
  after_results
/-- The lines after the launch leave argument 6 alone. -/
theorem tail_main_arg6 : StableHlo.after (List.flatten [hostOps1 (F := Ideal)]) W (Proc.devRef .tc main_arg6) = W (Proc.devRef .tc main_arg6) := by
  simp only [List.flatten_cons, List.flatten_nil, List.append_nil]
  after_results
/-- The lines after the launch leave argument 7 alone. -/
theorem tail_main_arg7 : StableHlo.after (List.flatten [hostOps1 (F := Ideal)]) W (Proc.devRef .tc main_arg7) = W (Proc.devRef .tc main_arg7) := by
  simp only [List.flatten_cons, List.flatten_nil, List.append_nil]
  after_results
/-- The lines after the launch leave the output alone. -/
theorem tail_main_v3_0 : StableHlo.after (List.flatten [hostOps1 (F := Ideal)]) W (Proc.devRef .tc main_v3_0) = W (Proc.devRef .tc main_v3_0) := by
  simp only [List.flatten_cons, List.flatten_nil, List.append_nil]
  after_results
/-- The lines after the launch transpose the codes of the new keys. -/
theorem tail_main_v4 : StableHlo.after (List.flatten [hostOps1 (F := Ideal)]) W (Proc.devRef .tc main_v4) = transpose S4x4x2x256 [0, 2, 1, 3] (W (Proc.devRef .tc main_v3_1)) transposes_S4x2x4x256_S4x4x2x256_0_2_1_3 := by
  simp only [List.flatten_cons, List.flatten_nil, List.append_nil]
  after_results
/-- The lines after the launch transpose the codes of the new values. -/
theorem tail_main_v5 : StableHlo.after (List.flatten [hostOps1 (F := Ideal)]) W (Proc.devRef .tc main_v5) = transpose S4x4x2x256 [0, 2, 1, 3] (W (Proc.devRef .tc main_v3_2)) transposes_S4x2x4x256_S4x4x2x256_0_2_1_3 := by
  simp only [List.flatten_cons, List.flatten_nil, List.append_nil]
  after_results
/-- The lines after the launch transpose the scales of the new values. -/
theorem tail_main_v6 : StableHlo.after (List.flatten [hostOps1 (F := Ideal)]) W (Proc.devRef .tc main_v6) = transpose S4x4x2 [0, 2, 1] (W (Proc.devRef .tc main_v3_3)) transposes_S4x2x4_S4x4x2_0_2_1 := by
  simp only [List.flatten_cons, List.flatten_nil, List.append_nil]
  after_results
/-- The lines before the launch transpose the cached keys. -/
theorem head_main_v0 : StableHlo.after (List.flatten [hostOps0 (F := Ideal)]) W (Proc.devRef .tc main_v0) = transpose S4x2x16384x256 [0, 2, 1, 3] (W (Proc.devRef .tc main_arg3)) transposes_S4x16384x2x256_S4x2x16384x256_0_2_1_3 := by
  simp only [List.flatten_cons, List.flatten_nil, List.append_nil]
  after_results
/-- The lines before the launch transpose the cached values. -/
theorem head_main_v1 : StableHlo.after (List.flatten [hostOps0 (F := Ideal)]) W (Proc.devRef .tc main_v1) = transpose S4x2x16384x256 [0, 2, 1, 3] (W (Proc.devRef .tc main_arg5)) transposes_S4x16384x2x256_S4x2x16384x256_0_2_1_3 := by
  simp only [List.flatten_cons, List.flatten_nil, List.append_nil]
  after_results
/-- The lines before the launch transpose the scales of the cached values. -/
theorem head_main_v2 : StableHlo.after (List.flatten [hostOps0 (F := Ideal)]) W (Proc.devRef .tc main_v2) = transpose S4x2x16384 [0, 2, 1] (W (Proc.devRef .tc main_arg6)) transposes_S4x16384x2_S4x2x16384_0_2_1 := by
  simp only [List.flatten_cons, List.flatten_nil, List.append_nil]
  after_results
end Lines

variable (c : Dev nD)
/-- An argument of the program, at launch. -/
abbrev arg (b : Ref sig .tc) : Buf (Elt Ideal) ((c : Thread nD τ).loc b) := m ((c : Thread nD τ).loc b)

/-- The transposed caches the kernel reads. -/
theorem V_main_v0 (b : Fin 4) (k : Fin 2) (r : Fin 16384) (d : Fin 256) : V m c main_v0 (ix4 b k r d) = arg m c main_arg3 (ix4 b r k d) := by
  show StableHlo.after (List.flatten [hostOps0]) _ (Proc.devRef .tc main_v0) _ = _
  rw [head_main_v0]
  pointwise
/-- The cached values the kernel sees are those of the argument, head before row. -/
theorem V_main_v1 (b : Fin 4) (k : Fin 2) (r : Fin 16384) (d : Fin 256) : V m c main_v1 (ix4 b k r d) = arg m c main_arg5 (ix4 b r k d) := by
  show StableHlo.after (List.flatten [hostOps0]) _ (Proc.devRef .tc main_v1) _ = _
  rw [head_main_v1]
  pointwise
/-- The scales the kernel sees are those of the argument, head before row. -/
theorem V_main_v2 (b : Fin 4) (k : Fin 2) (r : Fin 16384) : V m c main_v2 (ix3 b k r) = arg m c main_arg6 (ix3 b r k) := by
  show StableHlo.after (List.flatten [hostOps0]) _ (Proc.devRef .tc main_v2) _ = _
  rw [head_main_v2]
  pointwise

/-- The program's four results. -/
theorem end_out : endAt m c main_v3_0 = out0 m c := by
  unfold endAt
  rw [tail_main_v3_0, exit_res m c _ main_v3_0 (by decide), G_0]
/-- The second result at the end, read at one entry. -/
theorem end_kcode (b t : Fin 4) (k : Fin 2) (d : Fin 256) : endAt m c main_v4 (ix4 b t k d) = out1 m c (ix4 b k t d) := by
  unfold endAt
  rw [tail_main_v4, exit_res m c _ main_v3_1 (by decide), G_1]
  generalize out1 m c = g
  pointwise
/-- The third result at the end, read at one entry. -/
theorem end_vcode (b t : Fin 4) (k : Fin 2) (d : Fin 256) : endAt m c main_v5 (ix4 b t k d) = out2 m c (ix4 b k t d) := by
  unfold endAt
  rw [tail_main_v5, exit_res m c _ main_v3_2 (by decide), G_2]
  generalize out2 m c = g
  pointwise
/-- The fourth result at the end, read at one entry. -/
theorem end_vscale (b t : Fin 4) (k : Fin 2) : endAt m c main_v6 (ix3 b t k) = out3 m c (ix3 b k t) := by
  unfold endAt
  rw [tail_main_v6, exit_res m c _ main_v3_3 (by decide), G_3]
  generalize out3 m c = g
  pointwise
/-- Argument 0 ends as it began. -/
theorem end_arg0 : endAt m c main_arg0 = arg m c main_arg0 := by
  unfold endAt
  rw [tail_main_arg0, exit_rest m c _ main_arg0 (by decide), V_main_arg0]
/-- Argument 1 ends as it began. -/
theorem end_arg1 : endAt m c main_arg1 = arg m c main_arg1 := by
  unfold endAt
  rw [tail_main_arg1, exit_rest m c _ main_arg1 (by decide), V_main_arg1]
/-- Argument 2 ends as it began. -/
theorem end_arg2 : endAt m c main_arg2 = arg m c main_arg2 := by
  unfold endAt
  rw [tail_main_arg2, exit_rest m c _ main_arg2 (by decide), V_main_arg2]
/-- Argument 3 ends as it began. -/
theorem end_arg3 : endAt m c main_arg3 = arg m c main_arg3 := by
  unfold endAt
  rw [tail_main_arg3, exit_rest m c _ main_arg3 (by decide), V_main_arg3]
/-- Argument 4 ends as it began. -/
theorem end_arg4 : endAt m c main_arg4 = arg m c main_arg4 := by
  unfold endAt
  rw [tail_main_arg4, exit_rest m c _ main_arg4 (by decide), V_main_arg4]
/-- Argument 5 ends as it began. -/
theorem end_arg5 : endAt m c main_arg5 = arg m c main_arg5 := by
  unfold endAt
  rw [tail_main_arg5, exit_rest m c _ main_arg5 (by decide), V_main_arg5]
/-- Argument 6 ends as it began. -/
theorem end_arg6 : endAt m c main_arg6 = arg m c main_arg6 := by
  unfold endAt
  rw [tail_main_arg6, exit_rest m c _ main_arg6 (by decide), V_main_arg6]
/-- Argument 7 ends as it began. -/
theorem end_arg7 : endAt m c main_arg7 = arg m c main_arg7 := by
  unfold endAt
  rw [tail_main_arg7, exit_rest m c _ main_arg7 (by decide), V_main_arg7]

/-- The program's run: the four results at the named contents, the eight arguments as they were. -/
theorem run_values : θ_run defs (onTc (τ := τ) (main (F := Ideal))) ⟨m, fun _ => 0, ρ⟩ (fun r => ∀ c : Dev nD,
      r.2.mem ((c.tc : Thread nD τ).loc main_v3_0) = endAt m c main_v3_0
      ∧ r.2.mem ((c.tc : Thread nD τ).loc main_v4) = endAt m c main_v4
      ∧ r.2.mem ((c.tc : Thread nD τ).loc main_v5) = endAt m c main_v5
      ∧ r.2.mem ((c.tc : Thread nD τ).loc main_v6) = endAt m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c main_v3_0 (Pipeline.mem_restRefs_of main_v3_0 (by decide) (by decide)),
      h c main_v4 (Pipeline.mem_restRefs_of main_v4 (by decide) (by decide)),
      h c main_v5 (Pipeline.mem_restRefs_of main_v5 (by decide) (by decide)),
      h c main_v6 (Pipeline.mem_restRefs_of main_v6 (by decide) (by decide)),
      (h c main_arg0 (Pipeline.mem_restRefs_of main_arg0 (by decide) (by decide))).trans (end_arg0 m c),
      (h c main_arg1 (Pipeline.mem_restRefs_of main_arg1 (by decide) (by decide))).trans (end_arg1 m c),
      (h c main_arg2 (Pipeline.mem_restRefs_of main_arg2 (by decide) (by decide))).trans (end_arg2 m c),
      (h c main_arg3 (Pipeline.mem_restRefs_of main_arg3 (by decide) (by decide))).trans (end_arg3 m c),
      (h c main_arg4 (Pipeline.mem_restRefs_of main_arg4 (by decide) (by decide))).trans (end_arg4 m c),
      (h c main_arg5 (Pipeline.mem_restRefs_of main_arg5 (by decide) (by decide))).trans (end_arg5 m c),
      (h c main_arg6 (Pipeline.mem_restRefs_of main_arg6 (by decide) (by decide))).trans (end_arg6 m c),
      (h c main_arg7 (Pipeline.mem_restRefs_of main_arg7 (by decide) (by decide))).trans (end_arg7 m c)⟩) (run_mainV m ρ)

end Cert.KernelIdeal.Hand

end
-- ==== Proof.RefWin.lean ====
/-
  A block of 1024 rows taken at a computed start, read at an index.
-/
module

public import proofs.«01_k».proof.Proof.Gen.ReferenceIdeal
public import Idealize.ShloMosaic.Lib.DynamicIndex
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe

/-- A block of 1024 cache rows from row `n` holds at row `l` the row `n + l`. -/
theorem rows_apply {α : Type} (x : S1x16384x2x256.Idx → α) (st : Fin S1x16384x2x256.rank → Int) (h : S1x16384x2x256.Slices (fun _ => 0) S1x1024x2x256) (n : Nat) (hn : n ≤ 15360)
    (hs : ∀ a, st a = ((![0, n, 0, 0] : Fin 4 → Nat) a : Int)) (l : Fin 1024) (k : Fin 2) (d : Fin 256) :
    Host.dynamicSlice S1x1024x2x256 x st h (ix4 0 l k d) = x (ix4 0 ⟨n + l.val, by omega⟩ k d) := by
  have hoff : S1x16384x2x256.Slices ![0, n, 0, 0] S1x1024x2x256 := ⟨rfl, fun a => by fin_cases a <;> simp <;> omega⟩
  rw [Host.dynamicSlice_eq_extractStridedSlice S1x1024x2x256 x st ![0, n, 0, 0] h hoff hs]
  pointwise

/-- A block of 1024 rows of scales from row `n` holds at row `l` the row `n + l`. -/
theorem scales_apply {α : Type} (x : S1x16384x2.Idx → α) (st : Fin S1x16384x2.rank → Int) (h : S1x16384x2.Slices (fun _ => 0) S1x1024x2) (n : Nat) (hn : n ≤ 15360)
    (hs : ∀ a, st a = ((![0, n, 0] : Fin 3 → Nat) a : Int)) (l : Fin 1024) (k : Fin 2) :
    Host.dynamicSlice S1x1024x2 x st h (ix3 0 l k) = x (ix3 0 ⟨n + l.val, by omega⟩ k) := by
  have hoff : S1x16384x2.Slices ![0, n, 0] S1x1024x2 := ⟨rfl, fun a => by fin_cases a <;> simp <;> omega⟩
  rw [Host.dynamicSlice_eq_extractStridedSlice S1x1024x2 x st ![0, n, 0] h hoff hs]
  pointwise

end Cert.ReferenceIdeal.Hand
-- ==== Proof.RefRead.lean ====
/-
  The reference's four results at an index: the codes and the scales as the quantiser writes them, the window of cache rows, the masks,
  the scores, and the attention.
-/
module

public import proofs.«01_k».proof.Proof.Gen.ReferenceIdeal.Read
public import proofs.«01_k».proof.Proof.RefWin
public import proofs.«01_k».proof.Proof.Quant
public import proofs.«01_k».proof.Proof.Words

@[expose] public section

noncomputable section

namespace Cert.ReferenceIdeal.Hand

open Cert.ReferenceIdeal Cert.ReferenceIdeal.Gen Cert.ReferenceIdeal.Read Cert.Words
open Idealize.ShloMosaic Idealize.ShloMosaic.TcCoe

variable (b s t : Fin 4) (k : Fin 2) (g : Fin 16) (l : Fin 1024) (d : Fin 256)

/-- The largest magnitude of row `(b, s, k)` of the new values. -/
def amax (x : S4x4x2x256.Idx → EReal) : EReal :=
  Finset.fold max (Ideal.ofBits FTy.f32 4286578688#32) (fun e => FloatOps.absf (F := Ideal) (φ := .f32) (x (ix4 b s k e))) Finset.univ

/-- The key codes. -/
theorem kcode_apply  (x1 : (⟨S4x4x2x256, .bf16⟩ : BufTy).Contents (Elt Ideal)) (x4 : (⟨S4x2x256, .f32⟩ : BufTy).Contents (Elt Ideal)) : val_main_v7 (F := Ideal) x1 x4 (ix4 b s k d) = Quant.code (Ideal.div (x1 (ix4 b s k d)) (x4 (ix3 b k d))) := by
  rw [← Quant.code_eq]
  pointwise [val_main_v7, val_main_v6, val_main_v5, val_main_call1_v2, val_main_v4, val_main_v3, val_main_v2, val_main_v1, val_main_v0, val_main_call1_v1, val_main_call1_v0, val_main_cst, val_main_call1_v4, val_main_call1_v3, val_main_cst_0]
  rfl

/-- The scales of the new values. -/
theorem vscale_apply  (x2 : (⟨S4x4x2x256, .bf16⟩ : BufTy).Contents (Elt Ideal)) : val_main_v15 (F := Ideal) x2 (ix3 b s k) = Quant.scaleOf (amax b s k x2) := by
  have h1 : Ideal.ofBits .f32 1065353216#32 = 1 := by
    have h : ((8388608 : ℝ) : EReal) * (((2 ^ 23)⁻¹ : ℝ) : EReal) = 1 := by rw [← EReal.coe_mul]; norm_num
    simpa [Ideal.ofBits, Ideal.ieee] using h
  pointwise [val_main_v15, val_main_v14, val_main_v13, val_main_cst_3, val_main_call2_v1, val_main_call2_v0, val_main_cst_4, val_main_v12, val_main_v11, val_main_cst_2, val_main_v10, val_main_cst_1, val_main_v9, val_main_v8]
  exact if_congr Iff.rfl h1 rfl

/-- The value codes. -/
theorem vcode_apply  (x2 : (⟨S4x4x2x256, .bf16⟩ : BufTy).Contents (Elt Ideal)) : val_main_v22 (F := Ideal) x2 (ix4 b s k d) = Quant.code (Ideal.div (x2 (ix4 b s k d)) (Quant.scaleOf (amax b s k x2))) := by
  rw [← Quant.code_eq, ← vscale_apply]
  pointwise [val_main_v22, val_main_v21, val_main_v20, val_main_call4_v2, val_main_v19, val_main_v18, val_main_v17, val_main_v16, val_main_v8, val_main_call4_v1, val_main_call4_v0, val_main_cst_5, val_main_call4_v4, val_main_call4_v3, val_main_cst_6]
  rfl

/-- The start of a sequence's window. -/
theorem start_apply  (x7 : (⟨S4, .i32⟩ : BufTy).Contents (Elt Ideal)) : val_main_v25 x7 (ix1 b) = wstart (x7 (ix1 b)) := by
  pointwise [val_main_v25, val_main_call5_v2, val_main_v24, val_main_v23, val_main_c, val_main_call5_v1, val_main_call5_v0, val_main_c_7, val_main_call5_v4, val_main_call5_v3, val_main_c_8]
  rfl

/-- A row of the window is a row of the cache. -/
theorem start_bound (w : BitVec 32) (l : Fin 1024) : (wstart w).toNat + l.val < 16384 := by
  have := wstart_le w; omega

/-- The start of the window of sequence 0. -/
private theorem win3_start0 (x7 : (⟨S4, .i32⟩ : BufTy).Contents (Elt Ideal)) (i : S_.Idx) : (val_main_v28 (F := Ideal) x7 i).toInt = ((wstart (x7 (ix1 0))).toNat : Int) := by
  have h : val_main_v28 (F := Ideal) x7 i = val_main_v25 (F := Ideal) x7 (ix1 0) := by
    obtain rfl : i = ix0 := funext fun a => a.elim0
    pointwise [val_main_v28, val_main_v27]
  rw [h, start_apply]
  have := wstart_le (x7 (ix1 0))
  rw [BitVec.toInt_eq_toNat_cond]; split <;> omega

/-- The start of the window of sequence 1. -/
private theorem win3_start1 (x7 : (⟨S4, .i32⟩ : BufTy).Contents (Elt Ideal)) (i : S_.Idx) : (val_main_v32 (F := Ideal) x7 i).toInt = ((wstart (x7 (ix1 1))).toNat : Int) := by
  have h : val_main_v32 (F := Ideal) x7 i = val_main_v25 (F := Ideal) x7 (ix1 1) := by
    obtain rfl : i = ix0 := funext fun a => a.elim0
    pointwise [val_main_v32, val_main_v31]
  rw [h, start_apply]
  have := wstart_le (x7 (ix1 1))
  rw [BitVec.toInt_eq_toNat_cond]; split <;> omega

/-- The start of the window of sequence 2. -/
private theorem win3_start2 (x7 : (⟨S4, .i32⟩ : BufTy).Contents (Elt Ideal)) (i : S_.Idx) : (val_main_v36 (F := Ideal) x7 i).toInt = ((wstart (x7 (ix1 2))).toNat : Int) := by
  have h : val_main_v36 (F := Ideal) x7 i = val_main_v25 (F := Ideal) x7 (ix1 2) := by
    obtain rfl : i = ix0 := funext fun a => a.elim0
    pointwise [val_main_v36, val_main_v35]
  rw [h, start_apply]
  have := wstart_le (x7 (ix1 2))
  rw [BitVec.toInt_eq_toNat_cond]; split <;> omega

/-- The start of the window of sequence 3. -/
private theorem win3_start3 (x7 : (⟨S4, .i32⟩ : BufTy).Contents (Elt Ideal)) (i : S_.Idx) : (val_main_v40 (F := Ideal) x7 i).toInt = ((wstart (x7 (ix1 3))).toNat : Int) := by
  have h : val_main_v40 (F := Ideal) x7 i = val_main_v25 (F := Ideal) x7 (ix1 3) := by
    obtain rfl : i = ix0 := funext fun a => a.elim0
    pointwise [val_main_v40, val_main_v39]
  rw [h, start_apply]
  have := wstart_le (x7 (ix1 3))
  rw [BitVec.toInt_eq_toNat_cond]; split <;> omega

/-- The window of key codes. -/
theorem win3 (x3 : (⟨S4x16384x2x256, .i8⟩ : BufTy).Contents (Elt Ideal)) (x7 : (⟨S4, .i32⟩ : BufTy).Contents (Elt Ideal)) : val_main_v42 (F := Ideal) x3 x7 (ix4 b l k d) = x3 (ix4 b ⟨(wstart (x7 (ix1 b))).toNat + l.val, start_bound _ l⟩ k d) := by
  fin_cases b
  · have e : val_main_v42 (F := Ideal) x3 x7 (ix4 0 l k d) = val_main_v29 (F := Ideal) x3 x7 (ix4 0 l k d) := by
      pointwise [val_main_v42]
    refine e.trans ?_
    unfold val_main_v29
    refine (rows_apply _ _ _ (wstart (x7 (ix1 0))).toNat (wstart_le _) ?_ l k d).trans ?_
    · intro a; fin_cases a
      · rfl
      · exact win3_start0 x7 _
      · rfl
      · rfl
    · pointwise [val_main_v26]
  · have e : val_main_v42 (F := Ideal) x3 x7 (ix4 1 l k d) = val_main_v33 (F := Ideal) x3 x7 (ix4 0 l k d) := by
      pointwise [val_main_v42]
    refine e.trans ?_
    unfold val_main_v33
    refine (rows_apply _ _ _ (wstart (x7 (ix1 1))).toNat (wstart_le _) ?_ l k d).trans ?_
    · intro a; fin_cases a
      · rfl
      · exact win3_start1 x7 _
      · rfl
      · rfl
    · pointwise [val_main_v30]
  · have e : val_main_v42 (F := Ideal) x3 x7 (ix4 2 l k d) = val_main_v37 (F := Ideal) x3 x7 (ix4 0 l k d) := by
      pointwise [val_main_v42]
    refine e.trans ?_
    unfold val_main_v37
    refine (rows_apply _ _ _ (wstart (x7 (ix1 2))).toNat (wstart_le _) ?_ l k d).trans ?_
    · intro a; fin_cases a
      · rfl
      · exact win3_start2 x7 _
      · rfl
      · rfl
    · pointwise [val_main_v34]
  · have e : val_main_v42 (F := Ideal) x3 x7 (ix4 3 l k d) = val_main_v41 (F := Ideal) x3 x7 (ix4 0 l k d) := by
      pointwise [val_main_v42]
    refine e.trans ?_
    unfold val_main_v41
    refine (rows_apply _ _ _ (wstart (x7 (ix1 3))).toNat (wstart_le _) ?_ l k d).trans ?_
    · intro a; fin_cases a
      · rfl
      · exact win3_start3 x7 _
      · rfl
      · rfl
    · pointwise [val_main_v38]

/-- The start of the window of sequence 0. -/
private theorem win5_start0 (x7 : (⟨S4, .i32⟩ : BufTy).Contents (Elt Ideal)) (i : S_.Idx) : (val_main_v45 (F := Ideal) x7 i).toInt = ((wstart (x7 (ix1 0))).toNat : Int) := by
  have h : val_main_v45 (F := Ideal) x7 i = val_main_v25 (F := Ideal) x7 (ix1 0) := by
    obtain rfl : i = ix0 := funext fun a => a.elim0
    pointwise [val_main_v45, val_main_v44]
  rw [h, start_apply]
  have := wstart_le (x7 (ix1 0))
  rw [BitVec.toInt_eq_toNat_cond]; split <;> omega

/-- The start of the window of sequence 1. -/
private theorem win5_start1 (x7 : (⟨S4, .i32⟩ : BufTy).Contents (Elt Ideal)) (i : S_.Idx) : (val_main_v49 (F := Ideal) x7 i).toInt = ((wstart (x7 (ix1 1))).toNat : Int) := by
  have h : val_main_v49 (F := Ideal) x7 i = val_main_v25 (F := Ideal) x7 (ix1 1) := by
    obtain rfl : i = ix0 := funext fun a => a.elim0
    pointwise [val_main_v49, val_main_v48]
  rw [h, start_apply]
  have := wstart_le (x7 (ix1 1))
  rw [BitVec.toInt_eq_toNat_cond]; split <;> omega

/-- The start of the window of sequence 2. -/
private theorem win5_start2 (x7 : (⟨S4, .i32⟩ : BufTy).Contents (Elt Ideal)) (i : S_.Idx) : (val_main_v53 (F := Ideal) x7 i).toInt = ((wstart (x7 (ix1 2))).toNat : Int) := by
  have h : val_main_v53 (F := Ideal) x7 i = val_main_v25 (F := Ideal) x7 (ix1 2) := by
    obtain rfl : i = ix0 := funext fun a => a.elim0
    pointwise [val_main_v53, val_main_v52]
  rw [h, start_apply]
  have := wstart_le (x7 (ix1 2))
  rw [BitVec.toInt_eq_toNat_cond]; split <;> omega

/-- The start of the window of sequence 3. -/
private theorem win5_start3 (x7 : (⟨S4, .i32⟩ : BufTy).Contents (Elt Ideal)) (i : S_.Idx) : (val_main_v57 (F := Ideal) x7 i).toInt = ((wstart (x7 (ix1 3))).toNat : Int) := by
  have h : val_main_v57 (F := Ideal) x7 i = val_main_v25 (F := Ideal) x7 (ix1 3) := by
    obtain rfl : i = ix0 := funext fun a => a.elim0
    pointwise [val_main_v57, val_main_v56]
  rw [h, start_apply]
  have := wstart_le (x7 (ix1 3))
  rw [BitVec.toInt_eq_toNat_cond]; split <;> omega

/-- The window of value codes. -/
theorem win5 (x5 : (⟨S4x16384x2x256, .i8⟩ : BufTy).Contents (Elt Ideal)) (x7 : (⟨S4, .i32⟩ : BufTy).Contents (Elt Ideal)) : val_main_v59 (F := Ideal) x5 x7 (ix4 b l k d) = x5 (ix4 b ⟨(wstart (x7 (ix1 b))).toNat + l.val, start_bound _ l⟩ k d) := by
  fin_cases b
  · have e : val_main_v59 (F := Ideal) x5 x7 (ix4 0 l k d) = val_main_v46 (F := Ideal) x5 x7 (ix4 0 l k d) := by
      pointwise [val_main_v59]
    refine e.trans ?_
    unfold val_main_v46
    refine (rows_apply _ _ _ (wstart (x7 (ix1 0))).toNat (wstart_le _) ?_ l k d).trans ?_
    · intro a; fin_cases a
      · rfl
      · exact win5_start0 x7 _
      · rfl
      · rfl
    · pointwise [val_main_v43]
  · have e : val_main_v59 (F := Ideal) x5 x7 (ix4 1 l k d) = val_main_v50 (F := Ideal) x5 x7 (ix4 0 l k d) := by
      pointwise [val_main_v59]
    refine e.trans ?_
    unfold val_main_v50
    refine (rows_apply _ _ _ (wstart (x7 (ix1 1))).toNat (wstart_le _) ?_ l k d).trans ?_
    · intro a; fin_cases a
      · rfl
      · exact win5_start1 x7 _
      · rfl
      · rfl
    · pointwise [val_main_v47]
  · have e : val_main_v59 (F := Ideal) x5 x7 (ix4 2 l k d) = val_main_v54 (F := Ideal) x5 x7 (ix4 0 l k d) := by
      pointwise [val_main_v59]
    refine e.trans ?_
    unfold val_main_v54
    refine (rows_apply _ _ _ (wstart (x7 (ix1 2))).toNat (wstart_le _) ?_ l k d).trans ?_
    · intro a; fin_cases a
      · rfl
      · exact win5_start2 x7 _
      · rfl
      · rfl
    · pointwise [val_main_v51]
  · have e : val_main_v59 (F := Ideal) x5 x7 (ix4 3 l k d) = val_main_v58 (F := Ideal) x5 x7 (ix4 0 l k d) := by
      pointwise [val_main_v59]
    refine e.trans ?_
    unfold val_main_v58
    refine (rows_apply _ _ _ (wstart (x7 (ix1 3))).toNat (wstart_le _) ?_ l k d).trans ?_
    · intro a; fin_cases a
      · rfl
      · exact win5_start3 x7 _
      · rfl
      · rfl
    · pointwise [val_main_v55]

/-- The start of the window of sequence 0. -/
private theorem win6_start0 (x7 : (⟨S4, .i32⟩ : BufTy).Contents (Elt Ideal)) (i : S_.Idx) : (val_main_v62 (F := Ideal) x7 i).toInt = ((wstart (x7 (ix1 0))).toNat : Int) := by
  have h : val_main_v62 (F := Ideal) x7 i = val_main_v25 (F := Ideal) x7 (ix1 0) := by
    obtain rfl : i = ix0 := funext fun a => a.elim0
    pointwise [val_main_v62, val_main_v61]
  rw [h, start_apply]
  have := wstart_le (x7 (ix1 0))
  rw [BitVec.toInt_eq_toNat_cond]; split <;> omega

/-- The start of the window of sequence 1. -/
private theorem win6_start1 (x7 : (⟨S4, .i32⟩ : BufTy).Contents (Elt Ideal)) (i : S_.Idx) : (val_main_v66 (F := Ideal) x7 i).toInt = ((wstart (x7 (ix1 1))).toNat : Int) := by
  have h : val_main_v66 (F := Ideal) x7 i = val_main_v25 (F := Ideal) x7 (ix1 1) := by
    obtain rfl : i = ix0 := funext fun a => a.elim0
    pointwise [val_main_v66, val_main_v65]
  rw [h, start_apply]
  have := wstart_le (x7 (ix1 1))
  rw [BitVec.toInt_eq_toNat_cond]; split <;> omega

/-- The start of the window of sequence 2. -/
private theorem win6_start2 (x7 : (⟨S4, .i32⟩ : BufTy).Contents (Elt Ideal)) (i : S_.Idx) : (val_main_v70 (F := Ideal) x7 i).toInt = ((wstart (x7 (ix1 2))).toNat : Int) := by
  have h : val_main_v70 (F := Ideal) x7 i = val_main_v25 (F := Ideal) x7 (ix1 2) := by
    obtain rfl : i = ix0 := funext fun a => a.elim0
    pointwise [val_main_v70, val_main_v69]
  rw [h, start_apply]
  have := wstart_le (x7 (ix1 2))
  rw [BitVec.toInt_eq_toNat_cond]; split <;> omega

/-- The start of the window of sequence 3. -/
private theorem win6_start3 (x7 : (⟨S4, .i32⟩ : BufTy).Contents (Elt Ideal)) (i : S_.Idx) : (val_main_v74 (F := Ideal) x7 i).toInt = ((wstart (x7 (ix1 3))).toNat : Int) := by
  have h : val_main_v74 (F := Ideal) x7 i = val_main_v25 (F := Ideal) x7 (ix1 3) := by
    obtain rfl : i = ix0 := funext fun a => a.elim0
    pointwise [val_main_v74, val_main_v73]
  rw [h, start_apply]
  have := wstart_le (x7 (ix1 3))
  rw [BitVec.toInt_eq_toNat_cond]; split <;> omega

/-- The window of value scales. -/
theorem win6 (x6 : (⟨S4x16384x2, .f32⟩ : BufTy).Contents (Elt Ideal)) (x7 : (⟨S4, .i32⟩ : BufTy).Contents (Elt Ideal)) : val_main_v76 (F := Ideal) x6 x7 (ix3 b l k) = x6 (ix3 b ⟨(wstart (x7 (ix1 b))).toNat + l.val, start_bound _ l⟩ k) := by
  fin_cases b
  · have e : val_main_v76 (F := Ideal) x6 x7 (ix3 0 l k) = val_main_v63 (F := Ideal) x6 x7 (ix3 0 l k) := by
      pointwise [val_main_v76]
    refine e.trans ?_
    unfold val_main_v63
    refine (scales_apply _ _ _ (wstart (x7 (ix1 0))).toNat (wstart_le _) ?_ l k).trans ?_
    · intro a; fin_cases a
      · rfl
      · exact win6_start0 x7 _
      · rfl
    · pointwise [val_main_v60]
  · have e : val_main_v76 (F := Ideal) x6 x7 (ix3 1 l k) = val_main_v67 (F := Ideal) x6 x7 (ix3 0 l k) := by
      pointwise [val_main_v76]
    refine e.trans ?_
    unfold val_main_v67
    refine (scales_apply _ _ _ (wstart (x7 (ix1 1))).toNat (wstart_le _) ?_ l k).trans ?_
    · intro a; fin_cases a
      · rfl
      · exact win6_start1 x7 _
      · rfl
    · pointwise [val_main_v64]
  · have e : val_main_v76 (F := Ideal) x6 x7 (ix3 2 l k) = val_main_v71 (F := Ideal) x6 x7 (ix3 0 l k) := by
      pointwise [val_main_v76]
    refine e.trans ?_
    unfold val_main_v71
    refine (scales_apply _ _ _ (wstart (x7 (ix1 2))).toNat (wstart_le _) ?_ l k).trans ?_
    · intro a; fin_cases a
      · rfl
      · exact win6_start2 x7 _
      · rfl
    · pointwise [val_main_v68]
  · have e : val_main_v76 (F := Ideal) x6 x7 (ix3 3 l k) = val_main_v75 (F := Ideal) x6 x7 (ix3 0 l k) := by
      pointwise [val_main_v76]
    refine e.trans ?_
    unfold val_main_v75
    refine (scales_apply _ _ _ (wstart (x7 (ix1 3))).toNat (wstart_le _) ?_ l k).trans ?_
    · intro a; fin_cases a
      · rfl
      · exact win6_start3 x7 _
      · rfl
    · pointwise [val_main_v72]

end Cert.ReferenceIdeal.Hand
-- ==== Proof.RefAttn.lean ====
/-
  The reference's attention at an index: the softmax of the scaled scores over the window and the new tokens, applied to the values.
-/
module

public import proofs.«01_k».proof.Proof.RefRead
public import proofs.«01_k».proof.Proof.Attn
public import proofs.«01_k».proof.Proof.Masks

@[expose] public section

noncomputable section

namespace Cert.ReferenceIdeal.Hand

open Cert.ReferenceIdeal Cert.ReferenceIdeal.Gen Cert.ReferenceIdeal.Read Cert.Words
open Cert.KernelIdeal.Hand (attends slt_iff sgt_iff andi_iff start_of)
open Idealize.ShloMosaic Idealize.ShloMosaic.TcCoe

variable (x0 : (⟨S4x4x32x256, .bf16⟩ : BufTy).Contents (Elt Ideal)) (x1 x2 : (⟨S4x4x2x256, .bf16⟩ : BufTy).Contents (Elt Ideal))
  (x3 : (⟨S4x16384x2x256, .i8⟩ : BufTy).Contents (Elt Ideal)) (x4 : (⟨S4x2x256, .f32⟩ : BufTy).Contents (Elt Ideal))
  (x5 : (⟨S4x16384x2x256, .i8⟩ : BufTy).Contents (Elt Ideal)) (x6 : (⟨S4x16384x2, .f32⟩ : BufTy).Contents (Elt Ideal))
  (x7 : (⟨S4, .i32⟩ : BufTy).Contents (Elt Ideal))
variable (b s t : Fin 4) (k : Fin 2) (g : Fin 16) (l : Fin 1024) (d : Fin 256)

/-- The cache row at place `l` of the window of a sequence of length `w`. -/
def wrow (w : BitVec 32) (l : Fin 1024) : Fin 16384 := ⟨(wstart w).toNat + l.val, start_bound w l⟩

/-- The queries of head group `k` of sequence `b`, one row per step and head. -/
def qR (i : Fin 64) (e : Fin 256) : EReal := x0 (ix4 b ⟨i.val / 16, by omega⟩ ⟨k.val * 16 + i.val % 16, by omega⟩ e)
/-- The new keys or values of head `k` of sequence `b`. -/
def nR (x : S4x4x2x256.Idx → EReal) (t : Fin 4) (e : Fin 256) : EReal := x (ix4 b t k e)
/-- The decoded key of cache row `r`. -/
def kR (r : Fin 16384) (e : Fin 256) : EReal := FloatOps.sitofp (F := Ideal) .f32 (BitVec.signExtend 32 (x3 (ix4 b r k e))) * x4 (ix3 b k e)
/-- The decoded value of cache row `r`, before its scale. -/
def vR (r : Fin 16384) (e : Fin 256) : EReal := FloatOps.sitofp (F := Ideal) .f32 (BitVec.signExtend 32 (x5 (ix4 b r k e)))
/-- Row `s * 16 + g`. -/
def rowI (s : Fin 4) (g : Fin 16) : Fin 64 := ⟨s.val * 16 + g.val, by omega⟩

/-- The token of a query row. -/
theorem rowI_div : (rowI s g).val / 16 = s.val := by unfold rowI; simp only; omega
/-- The query head in the group of a query row. -/
theorem rowI_mod : (rowI s g).val % 16 = g.val := by unfold rowI; simp only; omega

/-- The pattern of minus infinity denotes minus infinity. -/
theorem bot_bits' : Ideal.ofBits .f32 4286578688#32 = ⊥ := by simp [Ideal.ofBits, Ideal.ieee]
/-- The pattern of the score scale, 1/16. -/
theorem sixteenth : Ideal.ofBits .f32 1031798784#32 = ((1 / 16 : ℝ) : EReal) := by
  have h : ((8388608 : ℝ) : EReal) * (((2 ^ 27)⁻¹ : ℝ) : EReal) = ((1 / 16 : ℝ) : EReal) := by rw [← EReal.coe_mul]; norm_num
  simpa [Ideal.ofBits, Ideal.ieee] using h

variable (hw : ∀ b : Fin 4, 1024 ≤ (x7 (ix1 b)).toNat ∧ (x7 (ix1 b)).toNat ≤ 16384)

/-- A small word is the same number signed and unsigned. -/
theorem toInt_of_le (w : BitVec 32) (h : w.toNat < 2 ^ 31) : w.toInt = (w.toNat : Int) := by
  rw [BitVec.toInt_eq_toNat_cond]; split <;> omega

include hw in
/-- The mask on cached rows: a row of the window is attended to exactly when it is filled and fewer than 1024 tokens back. -/
theorem okC : val_main_v133 (F := Ideal) x7 (ix5 b k g s l) = 1#1 ↔ attends (x7 (ix1 b)) (rowI s g) (wrow (x7 (ix1 b)) l).val := by
  have e : val_main_v133 (F := Ideal) x7 (ix5 b k g s l)
      = IntOp.andi (IntOp.cmpi CmpIPredicate.slt (IntOp.addi (wstart (x7 (ix1 b))) (BitVec.ofNat 32 l.val)) (x7 (ix1 b)))
          (IntOp.cmpi CmpIPredicate.sgt (IntOp.addi (wstart (x7 (ix1 b))) (BitVec.ofNat 32 l.val))
            (IntOp.subi (IntOp.addi (x7 (ix1 b)) (BitVec.ofNat 32 s.val)) 1024#32)) := by
    rw [← start_apply]
    pointwise [val_main_v133, val_main_v132, val_main_v120, val_main_v118, val_main_v117, val_main_v115, val_main_v109, val_main_v108, val_main_c_43, val_main_v101, val_main_v100, val_main_v98, val_main_v97, val_main_v99, val_main_v96, val_main_v116, val_main_v114, val_main_v119, val_main_v113, val_main_v112, val_main_v111, val_main_v110, val_main_v107, val_main_v106, val_main_v104, val_main_v103, val_main_v105, val_main_v102]
  obtain ⟨h1, h2⟩ := hw b
  rw [e, andi_iff, slt_iff, sgt_iff]
  have hs := start_of _ (hw b)
  generalize x7 (ix1 b) = w at *
  have a1 : (IntOp.addi (wstart w) (BitVec.ofNat 32 l.val)).toNat = (wstart w).toNat + l.val := by
    show (wstart w + BitVec.ofNat 32 l.val).toNat = _
    rw [BitVec.toNat_add, BitVec.toNat_ofNat]; omega
  have a2 : (IntOp.subi (IntOp.addi w (BitVec.ofNat 32 s.val)) 1024#32).toNat = w.toNat + s.val - 1024 := by
    show (w + BitVec.ofNat 32 s.val - 1024#32).toNat = _
    rw [BitVec.toNat_sub, BitVec.toNat_add, BitVec.toNat_ofNat]; simp; omega
  rw [toInt_of_le _ (by omega), toInt_of_le _ (by omega), toInt_of_le _ (by omega), a1, a2]
  unfold attends wrow
  rw [rowI_div]
  simp only
  omega

include hw in
/-- The mask on new tokens: a step sees the tokens up to its own. -/
theorem okN : val_main_v137 (F := Ideal) x7 (ix5 b k g s t) = 1#1 ↔ t.val ≤ (rowI s g).val / 16 := by
  have e : val_main_v137 (F := Ideal) x7 (ix5 b k g s t)
      = IntOp.andi (IntOp.cmpi CmpIPredicate.sle (IntOp.addi (x7 (ix1 b)) (BitVec.ofNat 32 t.val)) (IntOp.addi (x7 (ix1 b)) (BitVec.ofNat 32 s.val)))
          (IntOp.cmpi CmpIPredicate.sgt (IntOp.addi (x7 (ix1 b)) (BitVec.ofNat 32 t.val))
            (IntOp.subi (IntOp.addi (x7 (ix1 b)) (BitVec.ofNat 32 s.val)) 1024#32)) := by
    pointwise [val_main_v137, val_main_v136, val_main_v131, val_main_v130, val_main_v129, val_main_v127, val_main_v109, val_main_v108, val_main_c_43, val_main_v128, val_main_v126, val_main_v125, val_main_v124, val_main_v122, val_main_v123, val_main_v121, val_main_v101, val_main_v100, val_main_v98, val_main_v97, val_main_v99, val_main_v96]
  obtain ⟨h1, h2⟩ := hw b
  rw [e, andi_iff, sgt_iff, rowI_div]
  generalize x7 (ix1 b) = w at *
  have a1 : ∀ n : Fin 4, (IntOp.addi w (BitVec.ofNat 32 n.val)).toNat = w.toNat + n.val := fun n => by
    show (w + BitVec.ofNat 32 n.val).toNat = _
    rw [BitVec.toNat_add, BitVec.toNat_ofNat]; omega
  have a2 : (IntOp.subi (IntOp.addi w (BitVec.ofNat 32 s.val)) 1024#32).toNat = w.toNat + s.val - 1024 := by
    show (w + BitVec.ofNat 32 s.val - 1024#32).toNat = _
    rw [BitVec.toNat_sub, BitVec.toNat_add, BitVec.toNat_ofNat]; simp; omega
  have a3 : IntOp.cmpi CmpIPredicate.sle (IntOp.addi w (BitVec.ofNat 32 t.val)) (IntOp.addi w (BitVec.ofNat 32 s.val)) = 1#1 ↔ w.toNat + t.val ≤ w.toNat + s.val := by
    have h3 : IntOp.cmpi CmpIPredicate.sle (IntOp.addi w (BitVec.ofNat 32 t.val)) (IntOp.addi w (BitVec.ofNat 32 s.val)) = 1#1
        ↔ (IntOp.addi w (BitVec.ofNat 32 t.val)).toInt ≤ (IntOp.addi w (BitVec.ofNat 32 s.val)).toInt := by
      show BitVec.ofBool (BitVec.sle _ _) = 1#1 ↔ _
      rw [← BitVec.sle_iff_toInt_le]
      cases BitVec.sle (IntOp.addi w (BitVec.ofNat 32 t.val)) (IntOp.addi w (BitVec.ofNat 32 s.val)) <;> simp
    rw [h3, toInt_of_le _ (by rw [a1]; omega), toInt_of_le _ (by rw [a1]; omega), a1, a1]; omega
  rw [a3, toInt_of_le _ (by omega), toInt_of_le _ (by rw [a1]; omega), a1, a2]
  omega

/-- The query of a row, as an entry of the argument. -/
theorem q_row : qR x0 b k (rowI s g) d = x0 (ix4 b s ⟨k.val * 16 + g.val, by omega⟩ d) := by
  unfold qR
  congr 1
  funext a; apply Fin.ext
  fin_cases a
  · rfl
  · exact rowI_div s g
  · show k.val * 16 + (rowI s g).val % 16 = _; rw [rowI_mod]; rfl
  · rfl

include hw in
/-- The masked score against a cached row. -/
theorem scoreC : val_main_v135 (F := Ideal) x0 x3 x4 x7 (ix5 b k g s l) = Attn.rC (qR x0 b k) (fun l => kR x3 x4 b k (wrow (x7 (ix1 b)) l)) (fun i l => attends (x7 (ix1 b)) i (wrow (x7 (ix1 b)) l).val) (rowI s g) l := by
  have e : val_main_v91 (F := Ideal) x0 x3 x4 x7 (ix5 b k g s l) = (∑ x, val_main_v87 (F := Ideal) x3 x4 x7 (ix4 b l k x) * x0 (ix4 b s ⟨k.val * 16 + g.val, by omega⟩ x)) * Ideal.ofBits .f32 1031798784#32 := by
    pointwise [val_main_v91, val_main_v90, val_main_cst_41, val_main_v89, val_main_v88, val_main_v83]
  have e' : ∀ x, val_main_v87 (F := Ideal) x3 x4 x7 (ix4 b l k x) = kR x3 x4 b k (wrow (x7 (ix1 b)) l) x := fun x => by
    have : val_main_v87 (F := Ideal) x3 x4 x7 (ix4 b l k x) = FloatOps.sitofp (F := Ideal) .f32 (BitVec.signExtend 32 (val_main_v42 (F := Ideal) x3 x7 (ix4 b l k x))) * x4 (ix3 b k x) := by
      pointwise [val_main_v87, val_main_v86, val_main_v85, val_main_v84, val_main_v79, val_main_v78, val_main_v77]
    rw [this, win3]; rfl
  have h0 : val_main_v134 (F := Ideal) (ix5 b k g s l) = ⊥ := by
    refine Eq.trans ?_ bot_bits'
    pointwise [val_main_v134, val_main_cst_44]
  show Scalar.select (val_main_v133 (F := Ideal) x7 (ix5 b k g s l)) (val_main_v91 (F := Ideal) x0 x3 x4 x7 (ix5 b k g s l)) (val_main_v134 (F := Ideal)  (ix5 b k g s l)) = _
  rw [e, h0, sixteenth]
  unfold Attn.rC
  by_cases h : attends (x7 (ix1 b)) (rowI s g) (wrow (x7 (ix1 b)) l).val
  · rw [if_pos h, (okC x7 b s k g l hw).mpr h]
    show (∑ x, _) * _ = _
    refine congrArg (· * _) (Finset.sum_congr rfl fun x _ => ?_)
    rw [e', q_row, mul_comm]
  · rw [if_neg h]
    exact if_neg fun h' => h ((okC x7 b s k g l hw).mp h')

include hw in
/-- The masked score against a new token. -/
theorem scoreN : val_main_v139 (F := Ideal) x0 x1 x7 (ix5 b k g s t) = Attn.rN (qR x0 b k) (nR b k x1) (rowI s g) t := by
  have e : val_main_v95 (F := Ideal) x0 x1 (ix5 b k g s t) = (∑ x, x1 (ix4 b t k x) * x0 (ix4 b s ⟨k.val * 16 + g.val, by omega⟩ x)) * Ideal.ofBits .f32 1031798784#32 := by
    pointwise [val_main_v95, val_main_v94, val_main_cst_42, val_main_v93, val_main_v92, val_main_v83]
  have h0 : val_main_v138 (F := Ideal)  (ix5 b k g s t) = ⊥ := by
    refine Eq.trans ?_ bot_bits'
    pointwise [val_main_v138, val_main_cst_45]
  show Scalar.select (val_main_v137 (F := Ideal) x7 (ix5 b k g s t)) (val_main_v95 (F := Ideal) x0 x1 (ix5 b k g s t)) (val_main_v138 (F := Ideal)  (ix5 b k g s t)) = _
  rw [e, h0, sixteenth]
  unfold Attn.rN
  by_cases h : t.val ≤ (rowI s g).val / 16
  · rw [if_pos h, (okN x7 b s t k g hw).mpr h]
    show (∑ x, _) * _ = _
    refine congrArg (· * _) (Finset.sum_congr rfl fun x _ => ?_)
    rw [q_row, mul_comm]; rfl
  · rw [if_neg h]
    exact if_neg fun h' => h ((okN x7 b s t k g hw).mp h')

include hw in
/-- The largest score. -/
theorem scoreM : val_main_v144 (F := Ideal) x0 x1 x3 x4 x7 (ix5 b k g s 0) = Attn.rmx (qR x0 b k) (fun l => kR x3 x4 b k (wrow (x7 (ix1 b)) l)) (nR b k x1) (fun i l => attends (x7 (ix1 b)) i (wrow (x7 (ix1 b)) l).val) (rowI s g) := by
  have e : val_main_v144 (F := Ideal) x0 x1 x3 x4 x7 (ix5 b k g s 0) = max (Finset.fold max (Ideal.ofBits .f32 4286578688#32) (fun l => val_main_v135 (F := Ideal) x0 x3 x4 x7 (ix5 b k g s l)) Finset.univ)
      (Finset.fold max (Ideal.ofBits .f32 4286578688#32) (fun t => val_main_v139 (F := Ideal) x0 x1 x7 (ix5 b k g s t)) Finset.univ) := by
    pointwise [val_main_v144, val_main_v143, val_main_v142, val_main_cst_47, val_main_v141, val_main_v140, val_main_cst_46]
  rw [e, bot_bits']
  unfold Attn.rmx
  exact congrArg₂ max (congrArg (fun f => Finset.fold max ⊥ f Finset.univ) (funext fun l => scoreC x0 x3 x4 x7 b s k g l hw))
    (congrArg (fun f => Finset.fold max ⊥ f Finset.univ) (funext fun t => scoreN x0 x1 x7 b s t k g hw))

include hw in
/-- The weight of a cached row. -/
theorem weightC : val_main_v147 (F := Ideal) x0 x1 x3 x4 x7 (ix5 b k g s l) = Attn.xC (qR x0 b k) (fun l => kR x3 x4 b k (wrow (x7 (ix1 b)) l)) (nR b k x1) (fun i l => attends (x7 (ix1 b)) i (wrow (x7 (ix1 b)) l).val) (rowI s g) l := by
  have e : val_main_v147 (F := Ideal) x0 x1 x3 x4 x7 (ix5 b k g s l) = Ideal.exp (val_main_v135 (F := Ideal) x0 x3 x4 x7 (ix5 b k g s l) - val_main_v144 (F := Ideal) x0 x1 x3 x4 x7 (ix5 b k g s 0)) := by
    pointwise [val_main_v147, val_main_v146, val_main_v145]
  rw [e, scoreC x0 x3 x4 x7 b s k g l hw, scoreM x0 x1 x3 x4 x7 b s k g hw]; rfl

include hw in
/-- The weight of a new token. -/
theorem weightN : val_main_v150 (F := Ideal) x0 x1 x3 x4 x7 (ix5 b k g s t) = Attn.xN (qR x0 b k) (fun l => kR x3 x4 b k (wrow (x7 (ix1 b)) l)) (nR b k x1) (fun i l => attends (x7 (ix1 b)) i (wrow (x7 (ix1 b)) l).val) (rowI s g) t := by
  have e : val_main_v150 (F := Ideal) x0 x1 x3 x4 x7 (ix5 b k g s t) = Ideal.exp (val_main_v139 (F := Ideal) x0 x1 x7 (ix5 b k g s t) - val_main_v144 (F := Ideal) x0 x1 x3 x4 x7 (ix5 b k g s 0)) := by
    pointwise [val_main_v150, val_main_v149, val_main_v148]
  rw [e, scoreN x0 x1 x7 b s t k g hw, scoreM x0 x1 x3 x4 x7 b s k g hw]; rfl

include hw in
/-- The sum of the weights. -/
theorem weightS : val_main_v155 (F := Ideal) x0 x1 x3 x4 x7 (ix5 b k g s 0) = Attn.rden (qR x0 b k) (fun l => kR x3 x4 b k (wrow (x7 (ix1 b)) l)) (nR b k x1) (fun i l => attends (x7 (ix1 b)) i (wrow (x7 (ix1 b)) l).val) (rowI s g) := by
  have e : val_main_v155 (F := Ideal) x0 x1 x3 x4 x7 (ix5 b k g s 0) = (∑ l, val_main_v147 (F := Ideal) x0 x1 x3 x4 x7 (ix5 b k g s l)) + ∑ t, val_main_v150 (F := Ideal) x0 x1 x3 x4 x7 (ix5 b k g s t) := by
    pointwise [val_main_v155, val_main_v154, val_main_v153, val_main_cst_49, val_main_v152, val_main_v151, val_main_cst_48]
  rw [e]
  unfold Attn.rden
  exact congrArg₂ (· + ·) (Finset.sum_congr rfl fun l _ => weightC x0 x1 x3 x4 x7 b s k g l hw) (Finset.sum_congr rfl fun t _ => weightN x0 x1 x3 x4 x7 b s t k g hw)

include hw in
/-- The reference's first result is the attention. -/
theorem out_apply : val_main_v172 (F := Ideal) x0 x1 x2 x3 x4 x5 x6 x7 (ix4 b s ⟨k.val * 16 + g.val, by omega⟩ d) = Attn.outR (qR x0 b k) (fun l => kR x3 x4 b k (wrow (x7 (ix1 b)) l)) (fun l => vR x5 b k (wrow (x7 (ix1 b)) l)) (nR b k x1) (nR b k x2) (fun l => x6 (ix3 b (wrow (x7 (ix1 b)) l) k)) (fun i l => attends (x7 (ix1 b)) i (wrow (x7 (ix1 b)) l).val) (rowI s g) d := by
  have e : val_main_v172 (F := Ideal) x0 x1 x2 x3 x4 x5 x6 x7 (ix4 b s ⟨k.val * 16 + g.val, by omega⟩ d) = (∑ l, val_main_v82 (F := Ideal) x5 x7 (ix4 b l k d) * (Ideal.div (val_main_v147 (F := Ideal) x0 x1 x3 x4 x7 (ix5 b k g s l)) (val_main_v155 (F := Ideal) x0 x1 x3 x4 x7 (ix5 b k g s 0)) * val_main_v76 (F := Ideal) x6 x7 (ix3 b l k)))
      + ∑ t, x2 (ix4 b t k d) * Ideal.div (val_main_v150 (F := Ideal) x0 x1 x3 x4 x7 (ix5 b k g s t)) (val_main_v155 (F := Ideal) x0 x1 x3 x4 x7 (ix5 b k g s 0)) := by
    pointwise [val_main_v172, val_main_v171, val_main_v170, val_main_v169, val_main_v168, val_main_v167, val_main_v159, val_main_v158, val_main_v166, val_main_v165, val_main_v164, val_main_v163, val_main_v162, val_main_v161, val_main_v160, val_main_v157, val_main_v156]
  have e' : ∀ l, val_main_v82 (F := Ideal) x5 x7 (ix4 b l k d) = vR x5 b k (wrow (x7 (ix1 b)) l) d := fun l => by
    have : val_main_v82 (F := Ideal) x5 x7 (ix4 b l k d) = FloatOps.sitofp (F := Ideal) .f32 (BitVec.signExtend 32 (val_main_v59 (F := Ideal) x5 x7 (ix4 b l k d))) := by
      pointwise [val_main_v82, val_main_v81, val_main_v80]
    rw [this, win5]; rfl
  rw [e, weightS x0 x1 x3 x4 x7 b s k g hw]
  unfold Attn.outR
  refine congrArg₂ (· + ·) (Finset.sum_congr rfl fun l _ => ?_) (Finset.sum_congr rfl fun t _ => ?_)
  · rw [weightC x0 x1 x3 x4 x7 b s k g l hw, e', win6, mul_comm]; rfl
  · rw [weightN x0 x1 x3 x4 x7 b s t k g hw, mul_comm]; rfl

end Cert.ReferenceIdeal.Hand
-- ==== Proof.Match.lean ====
/-
  The kernel's attention over the slots of its window is the reference's over the window's rows in order: the slots are a permutation
  of the rows, the weights agree, and the masked slots are the masked rows.
-/
module

public import proofs.«01_k».proof.Proof.RefAttn
public import proofs.«01_k».proof.Proof.Blocks

@[expose] public section

noncomputable section

namespace Cert.KernelIdeal.Hand

open Cert.Words Cert.ReferenceIdeal.Hand
open Idealize.ShloMosaic Classical

/-- The place in the window of the row a slot holds. -/
def slotPerm (w : BitVec 32) : Fin 1024 ≃ Fin 1024 where
  toFun l := ⟨if l.val < (woff w).toNat then 1024 + l.val - (woff w).toNat else l.val - (woff w).toNat, by have := woff_le w; split <;> omega⟩
  invFun r := ⟨if r.val + (woff w).toNat < 1024 then r.val + (woff w).toNat else r.val + (woff w).toNat - 1024, by have := woff_le w; split <;> omega⟩
  left_inv l := by have := woff_le w; apply Fin.ext; simp only; split <;> split <;> omega
  right_inv r := by have := woff_le w; apply Fin.ext; simp only; split <;> split <;> omega

/-- The row of a slot is a row of the window, by the rotation of the slots. -/
theorem rowOf_eq (w : BitVec 32) (l : Fin 1024) : rowOf w l = wrow w (slotPerm w l) := by
  apply Fin.ext
  rw [rowOf_val]
  show _ = (wstart w).toNat + (if l.val < (woff w).toNat then 1024 + l.val - (woff w).toNat else l.val - (woff w).toNat)
  have h1 := woff_toNat w
  have h2 := woff_le w
  have h3 : (wbase w).toNat ≤ (wstart w).toNat := by rw [wbase_toNat]; omega
  split <;> omega

/-- The kernel's mask lets through the rows the reference attends to. -/
theorem okOf_eq (w : BitVec 32) (h : 1024 ≤ w.toNat ∧ w.toNat ≤ 16384) : okOf w = fun i l => attends w i (rowOf w l).val := by
  funext i l
  apply propext
  unfold okOf
  by_cases hl : l.val < 128
  · exact ⟨fun hk => (okBit_iff w h i l).mp (hk hl), fun ha _ => (okBit_iff w h i l).mpr ha⟩
  · exact ⟨fun _ => attends_late w h i l (by omega), fun _ hl' => absurd hl' hl⟩

/-- The two outputs agree. -/
theorem match_out (w : BitVec 32) (h : 1024 ≤ w.toNat ∧ w.toNat ≤ 16384) (q : Fin 64 → Fin 256 → EReal) (K V : Fin 16384 → Fin 256 → EReal)
    (kn vn : Fin 4 → Fin 256 → EReal) (ts : Fin 16384 → EReal) (hq : ∀ i d, ∃ r : ℝ, q i d = r) (hK : ∀ l d, ∃ r : ℝ, K l d = r)
    (hkn : ∀ t d, ∃ r : ℝ, kn t d = r) (i : Fin 64) (d : Fin 256) :
    Attn.outK q (fun l => K (rowOf w l)) (fun l => V (rowOf w l)) kn vn (fun l => ts (rowOf w l)) (okOf w) i d
      = Attn.outR q (fun l => K (wrow w l)) (fun l => V (wrow w l)) kn vn (fun l => ts (wrow w l)) (fun i l => attends w i (wrow w l).val) i d := by
  rw [Attn.outK_eq_outR q _ _ kn vn _ (okOf w) hq (fun l d => hK _ d) hkn i d, okOf_eq w h]
  simp only [rowOf_eq]
  exact Attn.outR_perm q (fun l => K (wrow w l)) (fun l => V (wrow w l)) kn vn (fun l => ts (wrow w l)) (fun i l => attends w i (wrow w l).val) (slotPerm w) i d

/-- A code is a real number, and read through thirty-two bits the same one. -/
theorem dec_real (x : BitVec 8) : ∃ r : ℝ, FloatOps.sitofp (F := Ideal) .bf16 x = r := ⟨_, rfl⟩
/-- A code decodes to the same value directly and through a wider integer. -/
theorem dec_eq (x : BitVec 8) : (FloatOps.sitofp (F := Ideal) .bf16 x : EReal) = FloatOps.sitofp (F := Ideal) .f32 (BitVec.signExtend 32 x) := by
  show (((x.toInt : ℝ)) : EReal) = (((BitVec.signExtend 32 x).toInt : ℝ) : EReal)
  rw [BitVec.toInt_signExtend_of_le (by decide)]

end Cert.KernelIdeal.Hand

end
-- ==== Proof.Equal.lean ====
/-
  The four results of the kernel's program are the four results of the reference, at the same arguments.
-/
module

public import proofs.«01_k».proof.Proof.LaunchV
public import proofs.«01_k».proof.Proof.Match

@[expose] public section

noncomputable section

namespace Cert.KernelIdeal.Hand

open Cert.KernelIdeal Cert.KernelIdeal.Gen Cert.Words
open Cert.ReferenceIdeal.Read
open Cert.ReferenceIdeal.Hand (qR nR kR vR rowI wrow out_apply kcode_apply vcode_apply vscale_apply)
open Idealize.ShloMosaic Idealize.ShloMosaic.TcCoe Idealize.SL.Sem Classical

section Out

variable (c : Dev nD) (x0 : (⟨S4x4x32x256, .bf16⟩ : BufTy).Contents (Elt Ideal)) (x1 x2 : (⟨S4x4x2x256, .bf16⟩ : BufTy).Contents (Elt Ideal))
  (x3 x5 : (⟨S4x16384x2x256, .i8⟩ : BufTy).Contents (Elt Ideal)) (x4 : (⟨S4x2x256, .f32⟩ : BufTy).Contents (Elt Ideal))
  (x6 : (⟨S4x16384x2, .f32⟩ : BufTy).Contents (Elt Ideal)) (x7 : (⟨S4, .i32⟩ : BufTy).Contents (Elt Ideal))
  (g0 : Bf (F := Ideal) c main_v0) (g1 : Bf (F := Ideal) c main_v1) (g2 : Bf (F := Ideal) c main_v2)

/-- The kernel's formula for one entry of the output, at the caches as the program turned them, is the reference's. -/
theorem outAt_eq (hw : ∀ b : Fin 4, 1024 ≤ (x7 (ix1 b)).toNat ∧ (x7 (ix1 b)).toNat ≤ 16384)
    (hx : ∀ i, ∃ r : ℝ, x0 i = (r : EReal)) (hn : ∀ i, ∃ r : ℝ, x1 i = (r : EReal)) (hs : ∀ i, ∃ r : ℝ, x4 i = (r : EReal))
    (h0 : ∀ b k r d, g0 (ix4 b k r d) = x3 (ix4 b r k d)) (h1 : ∀ b k r d, g1 (ix4 b k r d) = x5 (ix4 b r k d))
    (h2 : ∀ b k r, g2 (ix3 b k r) = x6 (ix3 b r k)) (a s : Fin 4) (k : Fin 2) (g : Fin 16) (d : Fin 256) :
    outAt c x7 x0 x1 x2 x4 g0 g1 g2 a k ⟨s.val * 16 + g.val, by omega⟩ d
      = val_main_v172 (F := Ideal) x0 x1 x2 x3 x4 x5 x6 x7 (ix4 a s ⟨k.val * 16 + g.val, by omega⟩ d) := by
  refine Eq.trans ?_ (out_apply x0 x1 x2 x3 x4 x5 x6 x7 a s k g d hw).symm
  refine Eq.trans ?_ (match_out (x7 (ix1 a)) (hw a) (qR x0 a k) (kR x3 x4 a k) (vR x5 a k) (nR a k x1) (nR a k x2) (fun r => x6 (ix3 a r k))
    (fun i e => hx _) (fun l e => ?_) (fun t e => hn _) (rowI s g) d)
  · have hq : (fun (i : Fin 64) (e : Fin 256) => x0 (ix4 a ⟨i.val / 16, by omega⟩ ⟨16 * k.val + i.val % 16, by omega⟩ e)) = qR x0 a k := by
      funext i e
      unfold qR
      have h : (⟨16 * k.val + i.val % 16, by omega⟩ : Fin 32) = ⟨k.val * 16 + i.val % 16, by omega⟩ := Fin.ext (by simp only; omega)
      rw [h]
    have hK : (fun (l : Fin 1024) (e : Fin 256) => FloatOps.sitofp (F := Ideal) .bf16 (g0 (ix4 a k (rowOf (x7 (ix1 a)) l) e)) * x4 (ix3 a k e))
        = fun l => kR x3 x4 a k (rowOf (x7 (ix1 a)) l) := by
      funext l e
      exact (congrArg (fun z => FloatOps.sitofp (F := Ideal) .bf16 z * x4 (ix3 a k e)) (h0 a k _ e)).trans
        (congrArg (fun z : EReal => z * x4 (ix3 a k e)) (dec_eq _))
    have hV : (fun (l : Fin 1024) (e : Fin 256) => FloatOps.sitofp (F := Ideal) .bf16 (g1 (ix4 a k (rowOf (x7 (ix1 a)) l) e)))
        = fun l => vR x5 a k (rowOf (x7 (ix1 a)) l) := by
      funext l e
      exact (congrArg (fun z => FloatOps.sitofp (F := Ideal) .bf16 z) (h1 a k _ e)).trans (dec_eq _)
    have hT : (fun (l : Fin 1024) => g2 (ix3 a k (rowOf (x7 (ix1 a)) l))) = fun l => x6 (ix3 a (rowOf (x7 (ix1 a)) l) k) := by
      funext l
      exact h2 a k _
    have hI : (⟨s.val * 16 + g.val, by omega⟩ : Fin 64) = rowI s g := rfl
    rw [hI, ← hq, ← hK, ← hV, ← hT]
    rfl
  · obtain ⟨r, hr⟩ := hs (ix3 a k e)
    obtain ⟨t, ht⟩ := dec_real (x3 (ix4 a l k e))
    refine ⟨t * r, ?_⟩
    unfold kR
    rw [← dec_eq, ht, hr, EReal.coe_mul]

/-- So is the whole output. -/
theorem outFn_eq (hw : ∀ b : Fin 4, 1024 ≤ (x7 (ix1 b)).toNat ∧ (x7 (ix1 b)).toNat ≤ 16384)
    (hx : ∀ i, ∃ r : ℝ, x0 i = (r : EReal)) (hn : ∀ i, ∃ r : ℝ, x1 i = (r : EReal)) (hs : ∀ i, ∃ r : ℝ, x4 i = (r : EReal))
    (h0 : ∀ b k r d, g0 (ix4 b k r d) = x3 (ix4 b r k d)) (h1 : ∀ b k r d, g1 (ix4 b k r d) = x5 (ix4 b r k d))
    (h2 : ∀ b k r, g2 (ix3 b k r) = x6 (ix3 b r k)) :
    outFn c x7 x0 x1 x2 x4 g0 g1 g2 = val_main_v172 (F := Ideal) x0 x1 x2 x3 x4 x5 x6 x7 := by
  funext j
  obtain ⟨a, s, l, d, rfl⟩ : ∃ a s l d, j = ix4 a s l d := ⟨j 0, j 1, j 2, j 3, by funext t; fin_cases t <;> rfl⟩
  obtain ⟨k, g, hl⟩ : ∃ (k : Fin 2) (g : Fin 16), l.val = 16 * k.val + g.val := by
    have h : l.val < 32 := l.isLt
    exact ⟨⟨l.val / 16, by omega⟩, ⟨l.val % 16, by omega⟩, by simp only; omega⟩
  have hl' : l = ⟨k.val * 16 + g.val, by omega⟩ := Fin.ext (by simp only; omega)
  refine (outFn_apply c _ _ _ _ _ _ _ _ a k s g d l hl).trans ?_
  rw [hl']
  exact outAt_eq c x0 x1 x2 x3 x5 x4 x6 x7 g0 g1 g2 hw hx hn hs h0 h1 h2 a s k g d

end Out

variable (m : (ℓ : Loc nD τ sig) → Buf (Elt Ideal) ℓ) (c : Dev nD)

/-- The attention's output. -/
theorem out_match (hw : ∀ b : Fin 4, 1024 ≤ (arg m c main_arg7 (ix1 b)).toNat ∧ (arg m c main_arg7 (ix1 b)).toNat ≤ 16384)
    (hx : ∀ i, ∃ r : ℝ, arg m c main_arg0 i = (r : EReal)) (hn : ∀ i, ∃ r : ℝ, arg m c main_arg1 i = (r : EReal))
    (hs : ∀ i, ∃ r : ℝ, arg m c main_arg4 i = (r : EReal)) :
    endAt m c main_v3_0 = val_main_v172 (F := Ideal) (arg m c main_arg0) (arg m c main_arg1) (arg m c main_arg2) (arg m c main_arg3)
      (arg m c main_arg4) (arg m c main_arg5) (arg m c main_arg6) (arg m c main_arg7) := by
  refine (end_out m c).trans ?_
  unfold out0
  rw [V_main_arg0, V_main_arg1, V_main_arg2, V_main_arg4, V_main_arg7]
  exact outFn_eq c _ _ _ _ _ _ _ _ _ _ _ hw hx hn hs (V_main_v0 m c) (V_main_v1 m c) (V_main_v2 m c)

/-- The codes of the new keys. -/
theorem kcode_match : endAt m c main_v4 = val_main_v7 (F := Ideal) (arg m c main_arg1) (arg m c main_arg4) := by
  funext j
  obtain ⟨b, s, k, d, rfl⟩ : ∃ b s k d, j = ix4 b s k d := ⟨j 0, j 1, j 2, j 3, by funext t; fin_cases t <;> rfl⟩
  refine (end_kcode m c b s k d).trans (Eq.trans ?_ (kcode_apply b s k d (arg m c main_arg1) (arg m c main_arg4)).symm)
  unfold out1 kcodeFn
  rw [V_main_arg1, V_main_arg4]
  rfl

/-- The codes of the new values. -/
theorem vcode_match : endAt m c main_v5 = val_main_v22 (F := Ideal) (arg m c main_arg2) := by
  funext j
  obtain ⟨b, s, k, d, rfl⟩ : ∃ b s k d, j = ix4 b s k d := ⟨j 0, j 1, j 2, j 3, by funext t; fin_cases t <;> rfl⟩
  refine (end_vcode m c b s k d).trans (Eq.trans ?_ (vcode_apply b s k d (arg m c main_arg2)).symm)
  unfold out2 vcodeFn
  rw [V_main_arg2]
  rfl

/-- The scales of the new values. -/
theorem vscale_match : endAt m c main_v6 = val_main_v15 (F := Ideal) (arg m c main_arg2) := by
  funext j
  obtain ⟨b, s, k, rfl⟩ : ∃ b s k, j = ix3 b s k := ⟨j 0, j 1, j 2, by funext t; fin_cases t <;> rfl⟩
  refine (end_vscale m c b s k).trans (Eq.trans ?_ (vscale_apply b s k (arg m c main_arg2)).symm)
  unfold out3 vscaleFn
  rw [V_main_arg2]
  rfl

end Cert.KernelIdeal.Hand

end
-- ==== Proof.Pre.lean ====
/-
  What the precondition says: every sequence's length lies between 1024 and 16384, and the queries, the new keys and the key scales
  are real numbers.
-/
module

public import proofs.«01_k».proof.Proof.Gen.Pre_pre
public import proofs.«01_k».proof.Proof.Masks
public import Idealize.ShloMosaic.PureOps.Ideal

@[expose] public section

noncomputable section

namespace Cert.Pre_pre.Hand

open Cert.Pre_pre Cert.Pre_pre.Gen
open Cert.KernelIdeal.Hand (andi_iff)
open Idealize.ShloMosaic Idealize.ShloMosaic.TcCoe

/-- A value whose magnitude is below infinity is a real number. -/
theorem real_of_lt (x y : EReal) (hy : y = ⊤) (h : Ideal.cmp .olt (max x (-x)) y = 1#1) : ∃ r : ℝ, x = r := by
  have h' : max x (-x) < ⊤ := by
    rw [hy] at h
    by_contra hn
    have : Ideal.cmp .olt (max x (-x)) ⊤ = 0#1 := by
      unfold Ideal.cmp; simp only [hn, decide_false]; rfl
    rw [this] at h
    exact absurd h (by decide)
  induction x with
  | bot => exact absurd h' (by simp)
  | top => exact absurd h' (by simp)
  | coe r => exact ⟨r, rfl⟩

/-- The f32 pattern of infinity denotes infinity. -/
theorem top32 : Ideal.ofBits .f32 0x7F800000#32 = ⊤ := by simp [Ideal.ofBits, Ideal.ieee]
/-- The bf16 pattern of infinity denotes infinity. -/
theorem top16 : Ideal.ofBits .bf16 0x7F80#16 = ⊤ := by simp [Ideal.ofBits, Ideal.ieee]

/-- The test of a length, passed, bounds it. -/
theorem bounds (w : BitVec 32) (h : IntOp.andi (IntOp.cmpi .sge w 1024#32) (IntOp.cmpi .sle w 16384#32) = 1#1) :
    1024 ≤ w.toNat ∧ w.toNat ≤ 16384 := by
  obtain ⟨h1, h2⟩ := (andi_iff _ _).mp h
  have h1' : (1024#32).sle w = true := by
    by_contra hn
    have : IntOp.cmpi .sge w 1024#32 = BitVec.ofBool ((1024#32).sle w) := rfl
    rw [this, Bool.eq_false_iff.mpr hn] at h1
    exact absurd h1 (by decide)
  have h2' : w.sle 16384#32 = true := by
    by_contra hn
    have : IntOp.cmpi .sle w 16384#32 = BitVec.ofBool (w.sle 16384#32) := rfl
    rw [this, Bool.eq_false_iff.mpr hn] at h2
    exact absurd h2 (by decide)
  rw [BitVec.sle_iff_toInt_le] at h1' h2'
  have e1 : (1024#32 : BitVec 32).toInt = 1024 := by decide
  have e2 : (16384#32 : BitVec 32).toInt = 16384 := by decide
  rw [e1] at h1'
  rw [e2] at h2'
  have := BitVec.toInt_eq_toNat_cond w
  split at this <;> omega

variable (x0 : FVec Ideal S4x4x32x256 .bf16) (x1 x2 : FVec Ideal S4x4x2x256 .bf16) (x3 : IVec S4x16384x2x256 8) (x4 : FVec Ideal S4x2x256 .f32)
  (x5 : IVec S4x16384x2x256 8) (x6 : FVec Ideal S4x16384x2 .f32) (x7 : IVec S4 32)

/-- The precondition bounds the lengths. -/
theorem len_of (h : (Cert.Pre_pre.fn (F := Ideal) x0 x1 x2 x3 x4 x5 x6 x7).1 = fun _ => 1#1) (b : Fin 4) :
    1024 ≤ (x7 (ix1 b)).toNat ∧ (x7 (ix1 b)).toNat ≤ 16384 := bounds _ (congrFun h (ix1 b))
/-- The precondition makes the queries finite. -/
theorem x_of (h : (Cert.Pre_pre.fn (F := Ideal) x0 x1 x2 x3 x4 x5 x6 x7).2.1 = fun _ => 1#1) (i) : ∃ r : ℝ, x0 i = r :=
  real_of_lt _ _ top16 (congrFun h i)
/-- The precondition makes the new keys finite. -/
theorem kn_of (h : (Cert.Pre_pre.fn (F := Ideal) x0 x1 x2 x3 x4 x5 x6 x7).2.2.1 = fun _ => 1#1) (i) : ∃ r : ℝ, x1 i = r :=
  real_of_lt _ _ top16 (congrFun h i)
/-- The precondition makes the key scales finite. -/
theorem ks_of (h : (Cert.Pre_pre.fn (F := Ideal) x0 x1 x2 x3 x4 x5 x6 x7).2.2.2 = fun _ => 1#1) (i) : ∃ r : ℝ, x4 i = r :=
  real_of_lt _ _ top32 (congrFun h i)

end Cert.Pre_pre.Hand

end
-- ==== Proof.lean ====
/-
  The claims: the three programs run and leave their arguments and semaphores alone, the ideal program is the program
  with its one constant given its real value, and over the extended reals the program and the reference agree on all
  four results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.LaunchI
public import proofs.«01_k».proof.Proof.LaunchK
public import proofs.«01_k».proof.Proof.Equal
public import proofs.«01_k».proof.Proof.Pre
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_pre
public import Idealize.ShloMosaic.Adequacy
public import Idealize.ShloMosaic.Init

@[expose] public section

noncomputable section

namespace Cert.Proof

open Idealize.ShloMosaic Idealize.SL.Sem
open Cert.KernelIdeal.Hand (endAt arg)

/-- The reference runs, keeps its arguments and leaves every semaphore at zero. -/
theorem reference_frame : @Cert.quiescent_ReferenceIdeal Cert.ReferenceIdeal.Gen.facts := fun m g _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- The same under the precondition. -/
theorem reference_frame_pre : @Cert.quiescent_ReferenceIdeal_pre_pre Cert.ReferenceIdeal.Gen.facts Cert.Pre_pre.Gen.facts := fun m g _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- The ideal program is the program with its constant read as the real number it stands for. -/
theorem preserves : Cert.preserves_Kernel_KernelIdeal :=
  IdealRules.named_const.statement Cert.KernelIdeal.κ "exp2_scale" .f32 0x3DB8AA3B#32 (((1 / 16) * (Real.log 2)⁻¹ : ℝ) : EReal) rfl

/-- Over the extended reals the program and the reference end with the same four results. -/
theorem algebraic : @Cert.algebraic_KernelIdeal_ReferenceIdeal_pre_pre Cert.KernelIdeal.Gen.facts Cert.ReferenceIdeal.Gen.facts
    Cert.Pre_pre.Gen.facts := by
  intro m g m' g' hpre hargs
  refine ⟨fun c => endAt m c Cert.KernelIdeal.main_v3_0, fun c => endAt m c Cert.KernelIdeal.main_v4,
    fun c => endAt m c Cert.KernelIdeal.main_v5, fun c => endAt m c Cert.KernelIdeal.main_v6,
    Cert.KernelIdeal.Hand.run_values m g, ?_⟩
  refine (θ_run Cert.ReferenceIdeal.defs _ _).mono (fun r h c => ?_) (Cert.ReferenceIdeal.Value.run (F := Ideal) m' g')
  obtain ⟨a0, a1, a2, a3, a4, a5, a6, a7⟩ := hargs c
  obtain ⟨h0, h1, h2, h3, hf⟩ := h c
  refine ⟨h0.trans ?_, h1.trans ?_, h2.trans ?_, h3.trans ?_, hf⟩
  · refine (Cert.ReferenceIdeal.Read.val_main_v172_eq _).trans (Eq.trans ?_ (Cert.KernelIdeal.Hand.out_match m c
      (fun b => Cert.Pre_pre.Hand.len_of _ _ _ _ _ _ _ _ (hpre c).1 b) (fun i => Cert.Pre_pre.Hand.x_of _ _ _ _ _ _ _ _ (hpre c).2.1 i)
      (fun i => Cert.Pre_pre.Hand.kn_of _ _ _ _ _ _ _ _ (hpre c).2.2.1 i) (fun i => Cert.Pre_pre.Hand.ks_of _ _ _ _ _ _ _ _ (hpre c).2.2.2 i)).symm)
    exact congr (congr (congr (congr (congr (congr (congr (congrArg _ a0) a1) a2) a3) a4) a5) a6) a7
  · refine (Cert.ReferenceIdeal.Read.val_main_v7_eq _).trans (Eq.trans ?_ (Cert.KernelIdeal.Hand.kcode_match m c).symm)
    exact congr (congrArg _ a1) a4
  · refine (Cert.ReferenceIdeal.Read.val_main_v22_eq _).trans (Eq.trans ?_ (Cert.KernelIdeal.Hand.vcode_match m c).symm)
    exact congrArg _ a2
  · refine (Cert.ReferenceIdeal.Read.val_main_v15_eq _).trans (Eq.trans ?_ (Cert.KernelIdeal.Hand.vscale_match m c).symm)
    exact congrArg _ a2

/-- Everything claimed. -/
theorem claim : Cert.Claim := ⟨Cert.Kernel.Gen.facts, Cert.KernelIdeal.Gen.facts, Cert.ReferenceIdeal.Gen.facts, Cert.Pre_pre.Gen.facts,
  fun m g _ => Cert.Kernel.Hand.frame m g, fun m g _ => Cert.KernelIdeal.Hand.frame m g, fun m g _ => Cert.KernelIdeal.Hand.frame m g,
  reference_frame, reference_frame_pre, preserves, algebraic⟩

end Cert.Proof

end
